-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_v0_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x48x2560 : Shape := ⟨3, ![2, 48, 2560]⟩
abbrev S2x2560x10240 : Shape := ⟨3, ![2, 2560, 10240]⟩
abbrev S2x10240 : Shape := ⟨2, ![2, 10240]⟩
abbrev S2x10240x2560 : Shape := ⟨3, ![2, 10240, 2560]⟩
abbrev S2x2560 : Shape := ⟨2, ![2, 2560]⟩
abbrev S48x2560 : Shape := ⟨2, ![48, 2560]⟩
abbrev S1x48 : Shape := ⟨2, ![1, 48]⟩
abbrev S48x10240 : Shape := ⟨2, ![48, 10240]⟩
abbrev S8x2560x1024 : Shape := ⟨3, ![8, 2560, 1024]⟩
abbrev S48x128 : Shape := ⟨2, ![48, 128]⟩
abbrev S2x1x48 : Shape := ⟨3, ![2, 1, 48]⟩
abbrev S_ : Shape := ⟨0, ![]⟩
abbrev S8 : Shape := ⟨1, ![8]⟩
abbrev S1 : Shape := ⟨1, ![1]⟩
abbrev S1x2560x1024 : Shape := ⟨3, ![1, 2560, 1024]⟩
abbrev S2560x1024 : Shape := ⟨2, ![2560, 1024]⟩
abbrev S1x2560x512 : Shape := ⟨3, ![1, 2560, 512]⟩
abbrev S2560x512 : Shape := ⟨2, ![2560, 512]⟩
abbrev S1x48x2560 : Shape := ⟨3, ![1, 48, 2560]⟩
abbrev S16x2560 : Shape := ⟨2, ![16, 2560]⟩
abbrev S1x2560 : Shape := ⟨2, ![1, 2560]⟩
abbrev S16 : Shape := ⟨1, ![16]⟩
abbrev S16x1 : Shape := ⟨2, ![16, 1]⟩
abbrev S16x128 : Shape := ⟨2, ![16, 128]⟩
abbrev S48x1 : Shape := ⟨2, ![48, 1]⟩
abbrev S80x128 : Shape := ⟨2, ![80, 128]⟩
abbrev S128x128 : Shape := ⟨2, ![128, 128]⟩
abbrev S1x1x48 : Shape := ⟨3, ![1, 1, 48]⟩
abbrev S1x2560x256 : Shape := ⟨3, ![1, 2560, 256]⟩
abbrev S2560x256 : Shape := ⟨2, ![2560, 256]⟩
abbrev S48x256 : Shape := ⟨2, ![48, 256]⟩
abbrev S1x256 : Shape := ⟨2, ![1, 256]⟩
abbrev S48 : Shape := ⟨1, ![48]⟩

abbrev nBuf : Space → Nat
  | .hbm => 19
  | .vmem => 18
  | .smem => 0
  | _ => 0

abbrev bufTy : (tb : Table) → Fin (tcTables nBuf tb) → BufTy
  | .hbm, ⟨0, _⟩ => ⟨S2x48x2560, .f32⟩
  | .hbm, ⟨1, _⟩ => ⟨S2x2560x10240, .i8⟩
  | .hbm, ⟨2, _⟩ => ⟨S2x10240, .f32⟩
  | .hbm, ⟨3, _⟩ => ⟨S2x2560x10240, .i8⟩
  | .hbm, ⟨4, _⟩ => ⟨S2x10240, .f32⟩
  | .hbm, ⟨5, _⟩ => ⟨S2x10240x2560, .i8⟩
  | .hbm, ⟨6, _⟩ => ⟨S2x2560, .f32⟩
  | .hbm, ⟨7, _⟩ => ⟨S2x2560, .f32⟩
  | .hbm, ⟨8, _⟩ => ⟨S2x2560, .f32⟩
  | .hbm, ⟨9, _⟩ => ⟨S48x2560, .bf16⟩
  | .hbm, ⟨10, _⟩ => ⟨S48x2560, .bf16⟩
  | .hbm, ⟨11, _⟩ => ⟨S48x2560, .i8⟩
  | .hbm, ⟨12, _⟩ => ⟨S1x48, .f32⟩
  | .hbm, ⟨13, _⟩ => ⟨S48x10240, .i8⟩
  | .hbm, ⟨14, _⟩ => ⟨S1x48, .f32⟩
  | .hbm, ⟨15, _⟩ => ⟨S48x2560, .i8⟩
  | .hbm, ⟨16, _⟩ => ⟨S1x48, .f32⟩
  | .hbm, ⟨17, _⟩ => ⟨S48x10240, .i8⟩
  | .hbm, ⟨18, _⟩ => ⟨S1x48, .f32⟩
  | .local _ .vmem, ⟨0, _⟩ => ⟨S2x48x2560, .f32⟩
  | .local _ .vmem, ⟨1, _⟩ => ⟨S2x10240, .f32⟩
  | .local _ .vmem, ⟨2, _⟩ => ⟨S2x10240, .f32⟩
  | .local _ .vmem, ⟨3, _⟩ => ⟨S2x2560, .f32⟩
  | .local _ .vmem, ⟨4, _⟩ => ⟨S2x2560, .f32⟩
  | .local _ .vmem, ⟨5, _⟩ => ⟨S2x2560, .f32⟩
  | .local _ .vmem, ⟨6, _⟩ => ⟨S8x2560x1024, .i8⟩
  | .local _ .vmem, ⟨7, _⟩ => ⟨S48x2560, .f32⟩
  | .local _ .vmem, ⟨8, _⟩ => ⟨S48x2560, .bf16⟩
  | .local _ .vmem, ⟨9, _⟩ => ⟨S48x128, .f32⟩
  | .local _ .vmem, ⟨10, _⟩ => ⟨S48x2560, .f32⟩
  | .local _ .vmem, ⟨11, _⟩ => ⟨S48x10240, .f32⟩
  | .local _ .vmem, ⟨12, _⟩ => ⟨S48x10240, .bf16⟩
  | .local _ .vmem, ⟨13, _⟩ => ⟨S48x128, .f32⟩
  | .local _ .vmem, ⟨14, _⟩ => ⟨S48x2560, .i8⟩
  | .local _ .vmem, ⟨15, _⟩ => ⟨S48x10240, .i8⟩
  | .local _ .vmem, ⟨16, _⟩ => ⟨S2x1x48, .f32⟩
  | .local _ .vmem, ⟨17, _⟩ => ⟨S48x2560, .bf16⟩
  | _, _ => ⟨S2x48x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩

abbrev nD : Nat := 1
abbrev τ : Topo := Topo.v7x

variable {F : FTy → Type} [FloatOps F]

abbrev grid0 : Pipeline.Grid := .none

def k0_cond1 : BitVec 1 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32 : BitVec 32 := 20#32
  let v8 : BitVec 1 := Scalar.cmpi .slt v3 c20_i32
  let c0_i32_4 : BitVec 32 := 0#32
  let v5 : BitVec 32 := Scalar.subi v3 c0_i32_4
  let c1_i32_6 : BitVec 32 := 1#32
  let v9 : BitVec 32 := Scalar.andi v5 c1_i32_6
  let c1_i32_7 : BitVec 32 := 1#32
  let v10 : BitVec 1 := Scalar.cmpi .eq v9 c1_i32_7
  let v_true : BitVec 1 := 1#1
  let v11 : BitVec 1 := Scalar.xori v10 v_true
  let v12 : BitVec 1 := Scalar.andi v8 v11
  let c0_i32_10 : BitVec 32 := 0#32
  let c60_i32 : BitVec 32 := 60#32
  let v16 : BitVec 1 := Scalar.cmpi .slt c0_i32_10 c60_i32
  let v17 : BitVec 1 := Scalar.andi v12 v16
  let v18 : BitVec 32 := Scalar.extui v17
  let c0_i32_11 : BitVec 32 := 0#32
  let v19 : BitVec 1 := Scalar.cmpi .ne v18 c0_i32_11
  v19

def k0_mult1 : BitVec 32 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c0_i32_4 : BitVec 32 := 0#32
  let v5 : BitVec 32 := Scalar.subi v3 c0_i32_4
  let c1_i32_5 : BitVec 32 := 1#32
  let v6 : BitVec 32 := Scalar.shrui v5 c1_i32_5
  let c1024_i32 : BitVec 32 := 1024#32
  let v7 : BitVec 32 := Scalar.muli v6 c1024_i32
  v7
def k0_off1 : Fin 1 → Nat :=
  let c0_i32_3 : BitVec 32 := 0#32
  let c7_i32 : BitVec 32 := 7#32
  let v4 : BitVec 32 := Scalar.andi c0_i32_3 c7_i32
  ![v4.toNat]
def k0_off2 : Fin 3 → Nat :=
  let c0_i32_3 : BitVec 32 := 0#32
  let c7_i32 : BitVec 32 := 7#32
  let v4 : BitVec 32 := Scalar.andi c0_i32_3 c7_i32
  let c0_i32_194 : BitVec 32 := 0#32
  let c0_i32_195 : BitVec 32 := 0#32
  ![v4.toNat, 0, 0]
def k0_off3 : Fin 3 → Nat :=
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c0_i32_196 : BitVec 32 := 0#32
  let c0_i32_2 : BitVec 32 := 0#32
  let c30_i32_1 : BitVec 32 := 30#32
  let v2 : BitVec 32 := Scalar.muli v1 c30_i32_1
  let v3 : BitVec 32 := Scalar.subi c0_i32_2 v2
  let c0_i32_4 : BitVec 32 := 0#32
  let v5 : BitVec 32 := Scalar.subi v3 c0_i32_4
  let c1_i32_5 : BitVec 32 := 1#32
  let v6 : BitVec 32 := Scalar.shrui v5 c1_i32_5
  let c1024_i32 : BitVec 32 := 1024#32
  let v7 : BitVec 32 := Scalar.muli v6 c1024_i32
  let v225 : BitVec 32 := v7
  ![v1.toNat, 0, v225.toNat]
def k0_cond2 : BitVec 1 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32 : BitVec 32 := 20#32
  let v8 : BitVec 1 := Scalar.cmpi .slt v3 c20_i32
  let c0_i32_4 : BitVec 32 := 0#32
  let v5 : BitVec 32 := Scalar.subi v3 c0_i32_4
  let c1_i32_6 : BitVec 32 := 1#32
  let v9 : BitVec 32 := Scalar.andi v5 c1_i32_6
  let c1_i32_7 : BitVec 32 := 1#32
  let v10 : BitVec 1 := Scalar.cmpi .eq v9 c1_i32_7
  let v13 : BitVec 1 := Scalar.andi v8 v10
  let c0_i32_12 : BitVec 32 := 0#32
  let c60_i32_13 : BitVec 32 := 60#32
  let v20 : BitVec 1 := Scalar.cmpi .slt c0_i32_12 c60_i32_13
  let v21 : BitVec 1 := Scalar.andi v13 v20
  let v22 : BitVec 32 := Scalar.extui v21
  let c0_i32_14 : BitVec 32 := 0#32
  let v23 : BitVec 1 := Scalar.cmpi .ne v22 c0_i32_14
  v23

def k0_mult2 : BitVec 32 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c0_i32_4 : BitVec 32 := 0#32
  let v5 : BitVec 32 := Scalar.subi v3 c0_i32_4
  let c1_i32_5 : BitVec 32 := 1#32
  let v6 : BitVec 32 := Scalar.shrui v5 c1_i32_5
  let c1024_i32 : BitVec 32 := 1024#32
  let v7 : BitVec 32 := Scalar.muli v6 c1024_i32
  v7
def k0_off4 : Fin 1 → Nat :=
  let c0_i32_3 : BitVec 32 := 0#32
  let c7_i32 : BitVec 32 := 7#32
  let v4 : BitVec 32 := Scalar.andi c0_i32_3 c7_i32
  ![v4.toNat]
def k0_off5 : Fin 3 → Nat :=
  let c0_i32_3 : BitVec 32 := 0#32
  let c7_i32 : BitVec 32 := 7#32
  let v4 : BitVec 32 := Scalar.andi c0_i32_3 c7_i32
  let c0_i32_194 : BitVec 32 := 0#32
  let c0_i32_195 : BitVec 32 := 0#32
  ![v4.toNat, 0, 0]
def k0_off6 : Fin 3 → Nat :=
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c0_i32_196 : BitVec 32 := 0#32
  let c0_i32_2 : BitVec 32 := 0#32
  let c30_i32_1 : BitVec 32 := 30#32
  let v2 : BitVec 32 := Scalar.muli v1 c30_i32_1
  let v3 : BitVec 32 := Scalar.subi c0_i32_2 v2
  let c0_i32_4 : BitVec 32 := 0#32
  let v5 : BitVec 32 := Scalar.subi v3 c0_i32_4
  let c1_i32_5 : BitVec 32 := 1#32
  let v6 : BitVec 32 := Scalar.shrui v5 c1_i32_5
  let c1024_i32 : BitVec 32 := 1024#32
  let v7 : BitVec 32 := Scalar.muli v6 c1024_i32
  let v225 : BitVec 32 := v7
  ![v1.toNat, 0, v225.toNat]
def k0_cond3 : BitVec 1 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32_8 : BitVec 32 := 20#32
  let v14 : BitVec 1 := Scalar.cmpi .sge v3 c20_i32_8
  let c0_i32_15 : BitVec 32 := 0#32
  let c60_i32_16 : BitVec 32 := 60#32
  let v24 : BitVec 1 := Scalar.cmpi .slt c0_i32_15 c60_i32_16
  let v25 : BitVec 1 := Scalar.andi v14 v24
  let v26 : BitVec 32 := Scalar.extui v25
  let c0_i32_17 : BitVec 32 := 0#32
  let v27 : BitVec 1 := Scalar.cmpi .ne v26 c0_i32_17
  v27

def k0_mult3 : BitVec 32 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32_194 : BitVec 32 := 20#32
  let v225 : BitVec 32 := Scalar.subi v3 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult4 : BitVec 32 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32_194 : BitVec 32 := 20#32
  let v225 : BitVec 32 := Scalar.subi v3 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off7 : Fin 1 → Nat :=
  let c0_i32_3 : BitVec 32 := 0#32
  let c7_i32 : BitVec 32 := 7#32
  let v4 : BitVec 32 := Scalar.andi c0_i32_3 c7_i32
  ![v4.toNat]
def k0_off8 : Fin 3 → Nat :=
  let c0_i32_3 : BitVec 32 := 0#32
  let c7_i32 : BitVec 32 := 7#32
  let v4 : BitVec 32 := Scalar.andi c0_i32_3 c7_i32
  let c0_i32_199 : BitVec 32 := 0#32
  let c0_i32_200 : BitVec 32 := 0#32
  ![v4.toNat, 0, 0]
def k0_off9 : Fin 3 → Nat :=
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c0_i32_2 : BitVec 32 := 0#32
  let c30_i32_1 : BitVec 32 := 30#32
  let v2 : BitVec 32 := Scalar.muli v1 c30_i32_1
  let v3 : BitVec 32 := Scalar.subi c0_i32_2 v2
  let c20_i32_194 : BitVec 32 := 20#32
  let v225 : BitVec 32 := Scalar.subi v3 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v1.toNat, v231.toNat, v233.toNat]
def k0_cond4 : BitVec 1 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32_9 : BitVec 32 := 20#32
  let v15 : BitVec 1 := Scalar.cmpi .sge v3 c20_i32_9
  let c0_i32_18 : BitVec 32 := 0#32
  let c60_i32_19 : BitVec 32 := 60#32
  let v28 : BitVec 1 := Scalar.cmpi .slt c0_i32_18 c60_i32_19
  let v29 : BitVec 1 := Scalar.andi v15 v28
  let v30 : BitVec 32 := Scalar.extui v29
  let c0_i32_20 : BitVec 32 := 0#32
  let v31 : BitVec 1 := Scalar.cmpi .ne v30 c0_i32_20
  v31

def k0_mult5 : BitVec 32 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32_194 : BitVec 32 := 20#32
  let v225 : BitVec 32 := Scalar.subi v3 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult6 : BitVec 32 :=
  let c0_i32_2 : BitVec 32 := 0#32
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c30_i32_1 : BitVec 32 := 30#32
  let v2 : BitVec 32 := Scalar.muli v1 c30_i32_1
  let v3 : BitVec 32 := Scalar.subi c0_i32_2 v2
  let c20_i32_194 : BitVec 32 := 20#32
  let v225 : BitVec 32 := Scalar.subi v3 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off10 : Fin 1 → Nat :=
  let c0_i32_3 : BitVec 32 := 0#32
  let c7_i32 : BitVec 32 := 7#32
  let v4 : BitVec 32 := Scalar.andi c0_i32_3 c7_i32
  ![v4.toNat]
def k0_off11 : Fin 3 → Nat :=
  let c0_i32_3 : BitVec 32 := 0#32
  let c7_i32 : BitVec 32 := 7#32
  let v4 : BitVec 32 := Scalar.andi c0_i32_3 c7_i32
  let c0_i32_199 : BitVec 32 := 0#32
  let c512_i32_200 : BitVec 32 := 512#32
  ![v4.toNat, 0, 512]
def k0_off12 : Fin 3 → Nat :=
  let c0_i32 : BitVec 32 := 0#32
  let c30_i32 : BitVec 32 := 30#32
  let v0 : BitVec 1 := Scalar.cmpi .sge c0_i32 c30_i32
  let c1_i32 : BitVec 32 := 1#32
  let c0_i32_0 : BitVec 32 := 0#32
  let v1 : BitVec 32 := Scalar.select v0 c1_i32 c0_i32_0
  let c0_i32_2 : BitVec 32 := 0#32
  let c30_i32_1 : BitVec 32 := 30#32
  let v2 : BitVec 32 := Scalar.muli v1 c30_i32_1
  let v3 : BitVec 32 := Scalar.subi c0_i32_2 v2
  let c20_i32_194 : BitVec 32 := 20#32
  let v225 : BitVec 32 := Scalar.subi v3 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v1.toNat, v231.toNat, v233.toNat]
def k0_cond5 : BitVec 1 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_32 : BitVec 32 := 20#32
  let v40 : BitVec 1 := Scalar.cmpi .slt v35 c20_i32_32
  let c0_i32_29 : BitVec 32 := 0#32
  let v37 : BitVec 32 := Scalar.subi v35 c0_i32_29
  let c1_i32_33 : BitVec 32 := 1#32
  let v41 : BitVec 32 := Scalar.andi v37 c1_i32_33
  let c1_i32_34 : BitVec 32 := 1#32
  let v42 : BitVec 1 := Scalar.cmpi .eq v41 c1_i32_34
  let true_35 : BitVec 1 := 1#1
  let v43 : BitVec 1 := Scalar.xori v42 true_35
  let v44 : BitVec 1 := Scalar.andi v40 v43
  let c1_i32_38 : BitVec 32 := 1#32
  let c60_i32_39 : BitVec 32 := 60#32
  let v48 : BitVec 1 := Scalar.cmpi .slt c1_i32_38 c60_i32_39
  let v49 : BitVec 1 := Scalar.andi v44 v48
  let v50 : BitVec 32 := Scalar.extui v49
  let c0_i32_40 : BitVec 32 := 0#32
  let v51 : BitVec 1 := Scalar.cmpi .ne v50 c0_i32_40
  v51

def k0_mult7 : BitVec 32 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c0_i32_29 : BitVec 32 := 0#32
  let v37 : BitVec 32 := Scalar.subi v35 c0_i32_29
  let c1_i32_30 : BitVec 32 := 1#32
  let v38 : BitVec 32 := Scalar.shrui v37 c1_i32_30
  let c1024_i32_31 : BitVec 32 := 1024#32
  let v39 : BitVec 32 := Scalar.muli v38 c1024_i32_31
  v39
def k0_off13 : Fin 1 → Nat :=
  let c1_i32_27 : BitVec 32 := 1#32
  let c7_i32_28 : BitVec 32 := 7#32
  let v36 : BitVec 32 := Scalar.andi c1_i32_27 c7_i32_28
  ![v36.toNat]
def k0_off14 : Fin 3 → Nat :=
  let c1_i32_27 : BitVec 32 := 1#32
  let c7_i32_28 : BitVec 32 := 7#32
  let v36 : BitVec 32 := Scalar.andi c1_i32_27 c7_i32_28
  let c0_i32_194 : BitVec 32 := 0#32
  let c0_i32_195 : BitVec 32 := 0#32
  ![v36.toNat, 0, 0]
def k0_off15 : Fin 3 → Nat :=
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c0_i32_196 : BitVec 32 := 0#32
  let c1_i32_26 : BitVec 32 := 1#32
  let c30_i32_25 : BitVec 32 := 30#32
  let v34 : BitVec 32 := Scalar.muli v33 c30_i32_25
  let v35 : BitVec 32 := Scalar.subi c1_i32_26 v34
  let c0_i32_29 : BitVec 32 := 0#32
  let v37 : BitVec 32 := Scalar.subi v35 c0_i32_29
  let c1_i32_30 : BitVec 32 := 1#32
  let v38 : BitVec 32 := Scalar.shrui v37 c1_i32_30
  let c1024_i32_31 : BitVec 32 := 1024#32
  let v39 : BitVec 32 := Scalar.muli v38 c1024_i32_31
  let v225 : BitVec 32 := v39
  ![v33.toNat, 0, v225.toNat]
def k0_cond6 : BitVec 1 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_32 : BitVec 32 := 20#32
  let v40 : BitVec 1 := Scalar.cmpi .slt v35 c20_i32_32
  let c0_i32_29 : BitVec 32 := 0#32
  let v37 : BitVec 32 := Scalar.subi v35 c0_i32_29
  let c1_i32_33 : BitVec 32 := 1#32
  let v41 : BitVec 32 := Scalar.andi v37 c1_i32_33
  let c1_i32_34 : BitVec 32 := 1#32
  let v42 : BitVec 1 := Scalar.cmpi .eq v41 c1_i32_34
  let v45 : BitVec 1 := Scalar.andi v40 v42
  let c1_i32_41 : BitVec 32 := 1#32
  let c60_i32_42 : BitVec 32 := 60#32
  let v52 : BitVec 1 := Scalar.cmpi .slt c1_i32_41 c60_i32_42
  let v53 : BitVec 1 := Scalar.andi v45 v52
  let v54 : BitVec 32 := Scalar.extui v53
  let c0_i32_43 : BitVec 32 := 0#32
  let v55 : BitVec 1 := Scalar.cmpi .ne v54 c0_i32_43
  v55

def k0_mult8 : BitVec 32 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c0_i32_29 : BitVec 32 := 0#32
  let v37 : BitVec 32 := Scalar.subi v35 c0_i32_29
  let c1_i32_30 : BitVec 32 := 1#32
  let v38 : BitVec 32 := Scalar.shrui v37 c1_i32_30
  let c1024_i32_31 : BitVec 32 := 1024#32
  let v39 : BitVec 32 := Scalar.muli v38 c1024_i32_31
  v39
def k0_off16 : Fin 1 → Nat :=
  let c1_i32_27 : BitVec 32 := 1#32
  let c7_i32_28 : BitVec 32 := 7#32
  let v36 : BitVec 32 := Scalar.andi c1_i32_27 c7_i32_28
  ![v36.toNat]
def k0_off17 : Fin 3 → Nat :=
  let c1_i32_27 : BitVec 32 := 1#32
  let c7_i32_28 : BitVec 32 := 7#32
  let v36 : BitVec 32 := Scalar.andi c1_i32_27 c7_i32_28
  let c0_i32_194 : BitVec 32 := 0#32
  let c0_i32_195 : BitVec 32 := 0#32
  ![v36.toNat, 0, 0]
def k0_off18 : Fin 3 → Nat :=
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c0_i32_196 : BitVec 32 := 0#32
  let c1_i32_26 : BitVec 32 := 1#32
  let c30_i32_25 : BitVec 32 := 30#32
  let v34 : BitVec 32 := Scalar.muli v33 c30_i32_25
  let v35 : BitVec 32 := Scalar.subi c1_i32_26 v34
  let c0_i32_29 : BitVec 32 := 0#32
  let v37 : BitVec 32 := Scalar.subi v35 c0_i32_29
  let c1_i32_30 : BitVec 32 := 1#32
  let v38 : BitVec 32 := Scalar.shrui v37 c1_i32_30
  let c1024_i32_31 : BitVec 32 := 1024#32
  let v39 : BitVec 32 := Scalar.muli v38 c1024_i32_31
  let v225 : BitVec 32 := v39
  ![v33.toNat, 0, v225.toNat]
def k0_cond7 : BitVec 1 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_36 : BitVec 32 := 20#32
  let v46 : BitVec 1 := Scalar.cmpi .sge v35 c20_i32_36
  let c1_i32_44 : BitVec 32 := 1#32
  let c60_i32_45 : BitVec 32 := 60#32
  let v56 : BitVec 1 := Scalar.cmpi .slt c1_i32_44 c60_i32_45
  let v57 : BitVec 1 := Scalar.andi v46 v56
  let v58 : BitVec 32 := Scalar.extui v57
  let c0_i32_46 : BitVec 32 := 0#32
  let v59 : BitVec 1 := Scalar.cmpi .ne v58 c0_i32_46
  v59

def k0_mult9 : BitVec 32 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_194 : BitVec 32 := 20#32
  let v225 : BitVec 32 := Scalar.subi v35 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult10 : BitVec 32 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_194 : BitVec 32 := 20#32
  let v225 : BitVec 32 := Scalar.subi v35 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off19 : Fin 1 → Nat :=
  let c1_i32_27 : BitVec 32 := 1#32
  let c7_i32_28 : BitVec 32 := 7#32
  let v36 : BitVec 32 := Scalar.andi c1_i32_27 c7_i32_28
  ![v36.toNat]
def k0_off20 : Fin 3 → Nat :=
  let c1_i32_27 : BitVec 32 := 1#32
  let c7_i32_28 : BitVec 32 := 7#32
  let v36 : BitVec 32 := Scalar.andi c1_i32_27 c7_i32_28
  let c0_i32_199 : BitVec 32 := 0#32
  let c0_i32_200 : BitVec 32 := 0#32
  ![v36.toNat, 0, 0]
def k0_off21 : Fin 3 → Nat :=
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c1_i32_26 : BitVec 32 := 1#32
  let c30_i32_25 : BitVec 32 := 30#32
  let v34 : BitVec 32 := Scalar.muli v33 c30_i32_25
  let v35 : BitVec 32 := Scalar.subi c1_i32_26 v34
  let c20_i32_194 : BitVec 32 := 20#32
  let v225 : BitVec 32 := Scalar.subi v35 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v33.toNat, v231.toNat, v233.toNat]
def k0_cond8 : BitVec 1 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_37 : BitVec 32 := 20#32
  let v47 : BitVec 1 := Scalar.cmpi .sge v35 c20_i32_37
  let c1_i32_47 : BitVec 32 := 1#32
  let c60_i32_48 : BitVec 32 := 60#32
  let v60 : BitVec 1 := Scalar.cmpi .slt c1_i32_47 c60_i32_48
  let v61 : BitVec 1 := Scalar.andi v47 v60
  let v62 : BitVec 32 := Scalar.extui v61
  let c0_i32_49 : BitVec 32 := 0#32
  let v63 : BitVec 1 := Scalar.cmpi .ne v62 c0_i32_49
  v63

def k0_mult11 : BitVec 32 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_194 : BitVec 32 := 20#32
  let v225 : BitVec 32 := Scalar.subi v35 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult12 : BitVec 32 :=
  let c1_i32_26 : BitVec 32 := 1#32
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c30_i32_25 : BitVec 32 := 30#32
  let v34 : BitVec 32 := Scalar.muli v33 c30_i32_25
  let v35 : BitVec 32 := Scalar.subi c1_i32_26 v34
  let c20_i32_194 : BitVec 32 := 20#32
  let v225 : BitVec 32 := Scalar.subi v35 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off22 : Fin 1 → Nat :=
  let c1_i32_27 : BitVec 32 := 1#32
  let c7_i32_28 : BitVec 32 := 7#32
  let v36 : BitVec 32 := Scalar.andi c1_i32_27 c7_i32_28
  ![v36.toNat]
def k0_off23 : Fin 3 → Nat :=
  let c1_i32_27 : BitVec 32 := 1#32
  let c7_i32_28 : BitVec 32 := 7#32
  let v36 : BitVec 32 := Scalar.andi c1_i32_27 c7_i32_28
  let c0_i32_199 : BitVec 32 := 0#32
  let c512_i32_200 : BitVec 32 := 512#32
  ![v36.toNat, 0, 512]
def k0_off24 : Fin 3 → Nat :=
  let c1_i32_21 : BitVec 32 := 1#32
  let c30_i32_22 : BitVec 32 := 30#32
  let v32 : BitVec 1 := Scalar.cmpi .sge c1_i32_21 c30_i32_22
  let c1_i32_23 : BitVec 32 := 1#32
  let c0_i32_24 : BitVec 32 := 0#32
  let v33 : BitVec 32 := Scalar.select v32 c1_i32_23 c0_i32_24
  let c1_i32_26 : BitVec 32 := 1#32
  let c30_i32_25 : BitVec 32 := 30#32
  let v34 : BitVec 32 := Scalar.muli v33 c30_i32_25
  let v35 : BitVec 32 := Scalar.subi c1_i32_26 v34
  let c20_i32_194 : BitVec 32 := 20#32
  let v225 : BitVec 32 := Scalar.subi v35 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v33.toNat, v231.toNat, v233.toNat]
def k0_cond9 : BitVec 1 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_60 : BitVec 32 := 20#32
  let v72 : BitVec 1 := Scalar.cmpi .slt v67 c20_i32_60
  let c0_i32_57 : BitVec 32 := 0#32
  let v69 : BitVec 32 := Scalar.subi v67 c0_i32_57
  let c1_i32_61 : BitVec 32 := 1#32
  let v73 : BitVec 32 := Scalar.andi v69 c1_i32_61
  let c1_i32_62 : BitVec 32 := 1#32
  let v74 : BitVec 1 := Scalar.cmpi .eq v73 c1_i32_62
  let true_63 : BitVec 1 := 1#1
  let v75 : BitVec 1 := Scalar.xori v74 true_63
  let v76 : BitVec 1 := Scalar.andi v72 v75
  let c2_i32_66 : BitVec 32 := 2#32
  let c60_i32_67 : BitVec 32 := 60#32
  let v80 : BitVec 1 := Scalar.cmpi .slt c2_i32_66 c60_i32_67
  let v81 : BitVec 1 := Scalar.andi v76 v80
  let v82 : BitVec 32 := Scalar.extui v81
  let c0_i32_68 : BitVec 32 := 0#32
  let v83 : BitVec 1 := Scalar.cmpi .ne v82 c0_i32_68
  v83

def k0_mult13 : BitVec 32 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c0_i32_57 : BitVec 32 := 0#32
  let v69 : BitVec 32 := Scalar.subi v67 c0_i32_57
  let c1_i32_58 : BitVec 32 := 1#32
  let v70 : BitVec 32 := Scalar.shrui v69 c1_i32_58
  let c1024_i32_59 : BitVec 32 := 1024#32
  let v71 : BitVec 32 := Scalar.muli v70 c1024_i32_59
  v71
def k0_off25 : Fin 1 → Nat :=
  let c2_i32_55 : BitVec 32 := 2#32
  let c7_i32_56 : BitVec 32 := 7#32
  let v68 : BitVec 32 := Scalar.andi c2_i32_55 c7_i32_56
  ![v68.toNat]
def k0_off26 : Fin 3 → Nat :=
  let c2_i32_55 : BitVec 32 := 2#32
  let c7_i32_56 : BitVec 32 := 7#32
  let v68 : BitVec 32 := Scalar.andi c2_i32_55 c7_i32_56
  let c0_i32_194 : BitVec 32 := 0#32
  let c0_i32_195 : BitVec 32 := 0#32
  ![v68.toNat, 0, 0]
def k0_off27 : Fin 3 → Nat :=
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c0_i32_196 : BitVec 32 := 0#32
  let c2_i32_54 : BitVec 32 := 2#32
  let c30_i32_53 : BitVec 32 := 30#32
  let v66 : BitVec 32 := Scalar.muli v65 c30_i32_53
  let v67 : BitVec 32 := Scalar.subi c2_i32_54 v66
  let c0_i32_57 : BitVec 32 := 0#32
  let v69 : BitVec 32 := Scalar.subi v67 c0_i32_57
  let c1_i32_58 : BitVec 32 := 1#32
  let v70 : BitVec 32 := Scalar.shrui v69 c1_i32_58
  let c1024_i32_59 : BitVec 32 := 1024#32
  let v71 : BitVec 32 := Scalar.muli v70 c1024_i32_59
  let v225 : BitVec 32 := v71
  ![v65.toNat, 0, v225.toNat]
def k0_cond10 : BitVec 1 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_60 : BitVec 32 := 20#32
  let v72 : BitVec 1 := Scalar.cmpi .slt v67 c20_i32_60
  let c0_i32_57 : BitVec 32 := 0#32
  let v69 : BitVec 32 := Scalar.subi v67 c0_i32_57
  let c1_i32_61 : BitVec 32 := 1#32
  let v73 : BitVec 32 := Scalar.andi v69 c1_i32_61
  let c1_i32_62 : BitVec 32 := 1#32
  let v74 : BitVec 1 := Scalar.cmpi .eq v73 c1_i32_62
  let v77 : BitVec 1 := Scalar.andi v72 v74
  let c2_i32_69 : BitVec 32 := 2#32
  let c60_i32_70 : BitVec 32 := 60#32
  let v84 : BitVec 1 := Scalar.cmpi .slt c2_i32_69 c60_i32_70
  let v85 : BitVec 1 := Scalar.andi v77 v84
  let v86 : BitVec 32 := Scalar.extui v85
  let c0_i32_71 : BitVec 32 := 0#32
  let v87 : BitVec 1 := Scalar.cmpi .ne v86 c0_i32_71
  v87

def k0_mult14 : BitVec 32 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c0_i32_57 : BitVec 32 := 0#32
  let v69 : BitVec 32 := Scalar.subi v67 c0_i32_57
  let c1_i32_58 : BitVec 32 := 1#32
  let v70 : BitVec 32 := Scalar.shrui v69 c1_i32_58
  let c1024_i32_59 : BitVec 32 := 1024#32
  let v71 : BitVec 32 := Scalar.muli v70 c1024_i32_59
  v71
def k0_off28 : Fin 1 → Nat :=
  let c2_i32_55 : BitVec 32 := 2#32
  let c7_i32_56 : BitVec 32 := 7#32
  let v68 : BitVec 32 := Scalar.andi c2_i32_55 c7_i32_56
  ![v68.toNat]
def k0_off29 : Fin 3 → Nat :=
  let c2_i32_55 : BitVec 32 := 2#32
  let c7_i32_56 : BitVec 32 := 7#32
  let v68 : BitVec 32 := Scalar.andi c2_i32_55 c7_i32_56
  let c0_i32_194 : BitVec 32 := 0#32
  let c0_i32_195 : BitVec 32 := 0#32
  ![v68.toNat, 0, 0]
def k0_off30 : Fin 3 → Nat :=
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c0_i32_196 : BitVec 32 := 0#32
  let c2_i32_54 : BitVec 32 := 2#32
  let c30_i32_53 : BitVec 32 := 30#32
  let v66 : BitVec 32 := Scalar.muli v65 c30_i32_53
  let v67 : BitVec 32 := Scalar.subi c2_i32_54 v66
  let c0_i32_57 : BitVec 32 := 0#32
  let v69 : BitVec 32 := Scalar.subi v67 c0_i32_57
  let c1_i32_58 : BitVec 32 := 1#32
  let v70 : BitVec 32 := Scalar.shrui v69 c1_i32_58
  let c1024_i32_59 : BitVec 32 := 1024#32
  let v71 : BitVec 32 := Scalar.muli v70 c1024_i32_59
  let v225 : BitVec 32 := v71
  ![v65.toNat, 0, v225.toNat]
def k0_cond11 : BitVec 1 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_64 : BitVec 32 := 20#32
  let v78 : BitVec 1 := Scalar.cmpi .sge v67 c20_i32_64
  let c2_i32_72 : BitVec 32 := 2#32
  let c60_i32_73 : BitVec 32 := 60#32
  let v88 : BitVec 1 := Scalar.cmpi .slt c2_i32_72 c60_i32_73
  let v89 : BitVec 1 := Scalar.andi v78 v88
  let v90 : BitVec 32 := Scalar.extui v89
  let c0_i32_74 : BitVec 32 := 0#32
  let v91 : BitVec 1 := Scalar.cmpi .ne v90 c0_i32_74
  v91

def k0_mult15 : BitVec 32 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_194 : BitVec 32 := 20#32
  let v225 : BitVec 32 := Scalar.subi v67 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult16 : BitVec 32 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_194 : BitVec 32 := 20#32
  let v225 : BitVec 32 := Scalar.subi v67 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off31 : Fin 1 → Nat :=
  let c2_i32_55 : BitVec 32 := 2#32
  let c7_i32_56 : BitVec 32 := 7#32
  let v68 : BitVec 32 := Scalar.andi c2_i32_55 c7_i32_56
  ![v68.toNat]
def k0_off32 : Fin 3 → Nat :=
  let c2_i32_55 : BitVec 32 := 2#32
  let c7_i32_56 : BitVec 32 := 7#32
  let v68 : BitVec 32 := Scalar.andi c2_i32_55 c7_i32_56
  let c0_i32_199 : BitVec 32 := 0#32
  let c0_i32_200 : BitVec 32 := 0#32
  ![v68.toNat, 0, 0]
def k0_off33 : Fin 3 → Nat :=
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c2_i32_54 : BitVec 32 := 2#32
  let c30_i32_53 : BitVec 32 := 30#32
  let v66 : BitVec 32 := Scalar.muli v65 c30_i32_53
  let v67 : BitVec 32 := Scalar.subi c2_i32_54 v66
  let c20_i32_194 : BitVec 32 := 20#32
  let v225 : BitVec 32 := Scalar.subi v67 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v65.toNat, v231.toNat, v233.toNat]
def k0_cond12 : BitVec 1 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_65 : BitVec 32 := 20#32
  let v79 : BitVec 1 := Scalar.cmpi .sge v67 c20_i32_65
  let c2_i32_75 : BitVec 32 := 2#32
  let c60_i32_76 : BitVec 32 := 60#32
  let v92 : BitVec 1 := Scalar.cmpi .slt c2_i32_75 c60_i32_76
  let v93 : BitVec 1 := Scalar.andi v79 v92
  let v94 : BitVec 32 := Scalar.extui v93
  let c0_i32_77 : BitVec 32 := 0#32
  let v95 : BitVec 1 := Scalar.cmpi .ne v94 c0_i32_77
  v95

def k0_mult17 : BitVec 32 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_194 : BitVec 32 := 20#32
  let v225 : BitVec 32 := Scalar.subi v67 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult18 : BitVec 32 :=
  let c2_i32_54 : BitVec 32 := 2#32
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c30_i32_53 : BitVec 32 := 30#32
  let v66 : BitVec 32 := Scalar.muli v65 c30_i32_53
  let v67 : BitVec 32 := Scalar.subi c2_i32_54 v66
  let c20_i32_194 : BitVec 32 := 20#32
  let v225 : BitVec 32 := Scalar.subi v67 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off34 : Fin 1 → Nat :=
  let c2_i32_55 : BitVec 32 := 2#32
  let c7_i32_56 : BitVec 32 := 7#32
  let v68 : BitVec 32 := Scalar.andi c2_i32_55 c7_i32_56
  ![v68.toNat]
def k0_off35 : Fin 3 → Nat :=
  let c2_i32_55 : BitVec 32 := 2#32
  let c7_i32_56 : BitVec 32 := 7#32
  let v68 : BitVec 32 := Scalar.andi c2_i32_55 c7_i32_56
  let c0_i32_199 : BitVec 32 := 0#32
  let c512_i32_200 : BitVec 32 := 512#32
  ![v68.toNat, 0, 512]
def k0_off36 : Fin 3 → Nat :=
  let c2_i32 : BitVec 32 := 2#32
  let c30_i32_50 : BitVec 32 := 30#32
  let v64 : BitVec 1 := Scalar.cmpi .sge c2_i32 c30_i32_50
  let c1_i32_51 : BitVec 32 := 1#32
  let c0_i32_52 : BitVec 32 := 0#32
  let v65 : BitVec 32 := Scalar.select v64 c1_i32_51 c0_i32_52
  let c2_i32_54 : BitVec 32 := 2#32
  let c30_i32_53 : BitVec 32 := 30#32
  let v66 : BitVec 32 := Scalar.muli v65 c30_i32_53
  let v67 : BitVec 32 := Scalar.subi c2_i32_54 v66
  let c20_i32_194 : BitVec 32 := 20#32
  let v225 : BitVec 32 := Scalar.subi v67 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v65.toNat, v231.toNat, v233.toNat]
def k0_cond13 : BitVec 1 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_88 : BitVec 32 := 20#32
  let v104 : BitVec 1 := Scalar.cmpi .slt v99 c20_i32_88
  let c0_i32_85 : BitVec 32 := 0#32
  let v101 : BitVec 32 := Scalar.subi v99 c0_i32_85
  let c1_i32_89 : BitVec 32 := 1#32
  let v105 : BitVec 32 := Scalar.andi v101 c1_i32_89
  let c1_i32_90 : BitVec 32 := 1#32
  let v106 : BitVec 1 := Scalar.cmpi .eq v105 c1_i32_90
  let true_91 : BitVec 1 := 1#1
  let v107 : BitVec 1 := Scalar.xori v106 true_91
  let v108 : BitVec 1 := Scalar.andi v104 v107
  let c3_i32_94 : BitVec 32 := 3#32
  let c60_i32_95 : BitVec 32 := 60#32
  let v112 : BitVec 1 := Scalar.cmpi .slt c3_i32_94 c60_i32_95
  let v113 : BitVec 1 := Scalar.andi v108 v112
  let v114 : BitVec 32 := Scalar.extui v113
  let c0_i32_96 : BitVec 32 := 0#32
  let v115 : BitVec 1 := Scalar.cmpi .ne v114 c0_i32_96
  v115

def k0_mult19 : BitVec 32 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c0_i32_85 : BitVec 32 := 0#32
  let v101 : BitVec 32 := Scalar.subi v99 c0_i32_85
  let c1_i32_86 : BitVec 32 := 1#32
  let v102 : BitVec 32 := Scalar.shrui v101 c1_i32_86
  let c1024_i32_87 : BitVec 32 := 1024#32
  let v103 : BitVec 32 := Scalar.muli v102 c1024_i32_87
  v103
def k0_off37 : Fin 1 → Nat :=
  let c3_i32_83 : BitVec 32 := 3#32
  let c7_i32_84 : BitVec 32 := 7#32
  let v100 : BitVec 32 := Scalar.andi c3_i32_83 c7_i32_84
  ![v100.toNat]
def k0_off38 : Fin 3 → Nat :=
  let c3_i32_83 : BitVec 32 := 3#32
  let c7_i32_84 : BitVec 32 := 7#32
  let v100 : BitVec 32 := Scalar.andi c3_i32_83 c7_i32_84
  let c0_i32_194 : BitVec 32 := 0#32
  let c0_i32_195 : BitVec 32 := 0#32
  ![v100.toNat, 0, 0]
def k0_off39 : Fin 3 → Nat :=
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c0_i32_196 : BitVec 32 := 0#32
  let c3_i32_82 : BitVec 32 := 3#32
  let c30_i32_81 : BitVec 32 := 30#32
  let v98 : BitVec 32 := Scalar.muli v97 c30_i32_81
  let v99 : BitVec 32 := Scalar.subi c3_i32_82 v98
  let c0_i32_85 : BitVec 32 := 0#32
  let v101 : BitVec 32 := Scalar.subi v99 c0_i32_85
  let c1_i32_86 : BitVec 32 := 1#32
  let v102 : BitVec 32 := Scalar.shrui v101 c1_i32_86
  let c1024_i32_87 : BitVec 32 := 1024#32
  let v103 : BitVec 32 := Scalar.muli v102 c1024_i32_87
  let v225 : BitVec 32 := v103
  ![v97.toNat, 0, v225.toNat]
def k0_cond14 : BitVec 1 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_88 : BitVec 32 := 20#32
  let v104 : BitVec 1 := Scalar.cmpi .slt v99 c20_i32_88
  let c0_i32_85 : BitVec 32 := 0#32
  let v101 : BitVec 32 := Scalar.subi v99 c0_i32_85
  let c1_i32_89 : BitVec 32 := 1#32
  let v105 : BitVec 32 := Scalar.andi v101 c1_i32_89
  let c1_i32_90 : BitVec 32 := 1#32
  let v106 : BitVec 1 := Scalar.cmpi .eq v105 c1_i32_90
  let v109 : BitVec 1 := Scalar.andi v104 v106
  let c3_i32_97 : BitVec 32 := 3#32
  let c60_i32_98 : BitVec 32 := 60#32
  let v116 : BitVec 1 := Scalar.cmpi .slt c3_i32_97 c60_i32_98
  let v117 : BitVec 1 := Scalar.andi v109 v116
  let v118 : BitVec 32 := Scalar.extui v117
  let c0_i32_99 : BitVec 32 := 0#32
  let v119 : BitVec 1 := Scalar.cmpi .ne v118 c0_i32_99
  v119

def k0_mult20 : BitVec 32 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c0_i32_85 : BitVec 32 := 0#32
  let v101 : BitVec 32 := Scalar.subi v99 c0_i32_85
  let c1_i32_86 : BitVec 32 := 1#32
  let v102 : BitVec 32 := Scalar.shrui v101 c1_i32_86
  let c1024_i32_87 : BitVec 32 := 1024#32
  let v103 : BitVec 32 := Scalar.muli v102 c1024_i32_87
  v103
def k0_off40 : Fin 1 → Nat :=
  let c3_i32_83 : BitVec 32 := 3#32
  let c7_i32_84 : BitVec 32 := 7#32
  let v100 : BitVec 32 := Scalar.andi c3_i32_83 c7_i32_84
  ![v100.toNat]
def k0_off41 : Fin 3 → Nat :=
  let c3_i32_83 : BitVec 32 := 3#32
  let c7_i32_84 : BitVec 32 := 7#32
  let v100 : BitVec 32 := Scalar.andi c3_i32_83 c7_i32_84
  let c0_i32_194 : BitVec 32 := 0#32
  let c0_i32_195 : BitVec 32 := 0#32
  ![v100.toNat, 0, 0]
def k0_off42 : Fin 3 → Nat :=
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c0_i32_196 : BitVec 32 := 0#32
  let c3_i32_82 : BitVec 32 := 3#32
  let c30_i32_81 : BitVec 32 := 30#32
  let v98 : BitVec 32 := Scalar.muli v97 c30_i32_81
  let v99 : BitVec 32 := Scalar.subi c3_i32_82 v98
  let c0_i32_85 : BitVec 32 := 0#32
  let v101 : BitVec 32 := Scalar.subi v99 c0_i32_85
  let c1_i32_86 : BitVec 32 := 1#32
  let v102 : BitVec 32 := Scalar.shrui v101 c1_i32_86
  let c1024_i32_87 : BitVec 32 := 1024#32
  let v103 : BitVec 32 := Scalar.muli v102 c1024_i32_87
  let v225 : BitVec 32 := v103
  ![v97.toNat, 0, v225.toNat]
def k0_cond15 : BitVec 1 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_92 : BitVec 32 := 20#32
  let v110 : BitVec 1 := Scalar.cmpi .sge v99 c20_i32_92
  let c3_i32_100 : BitVec 32 := 3#32
  let c60_i32_101 : BitVec 32 := 60#32
  let v120 : BitVec 1 := Scalar.cmpi .slt c3_i32_100 c60_i32_101
  let v121 : BitVec 1 := Scalar.andi v110 v120
  let v122 : BitVec 32 := Scalar.extui v121
  let c0_i32_102 : BitVec 32 := 0#32
  let v123 : BitVec 1 := Scalar.cmpi .ne v122 c0_i32_102
  v123

def k0_mult21 : BitVec 32 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_194 : BitVec 32 := 20#32
  let v225 : BitVec 32 := Scalar.subi v99 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult22 : BitVec 32 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_194 : BitVec 32 := 20#32
  let v225 : BitVec 32 := Scalar.subi v99 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off43 : Fin 1 → Nat :=
  let c3_i32_83 : BitVec 32 := 3#32
  let c7_i32_84 : BitVec 32 := 7#32
  let v100 : BitVec 32 := Scalar.andi c3_i32_83 c7_i32_84
  ![v100.toNat]
def k0_off44 : Fin 3 → Nat :=
  let c3_i32_83 : BitVec 32 := 3#32
  let c7_i32_84 : BitVec 32 := 7#32
  let v100 : BitVec 32 := Scalar.andi c3_i32_83 c7_i32_84
  let c0_i32_199 : BitVec 32 := 0#32
  let c0_i32_200 : BitVec 32 := 0#32
  ![v100.toNat, 0, 0]
def k0_off45 : Fin 3 → Nat :=
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c3_i32_82 : BitVec 32 := 3#32
  let c30_i32_81 : BitVec 32 := 30#32
  let v98 : BitVec 32 := Scalar.muli v97 c30_i32_81
  let v99 : BitVec 32 := Scalar.subi c3_i32_82 v98
  let c20_i32_194 : BitVec 32 := 20#32
  let v225 : BitVec 32 := Scalar.subi v99 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v97.toNat, v231.toNat, v233.toNat]
def k0_cond16 : BitVec 1 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_93 : BitVec 32 := 20#32
  let v111 : BitVec 1 := Scalar.cmpi .sge v99 c20_i32_93
  let c3_i32_103 : BitVec 32 := 3#32
  let c60_i32_104 : BitVec 32 := 60#32
  let v124 : BitVec 1 := Scalar.cmpi .slt c3_i32_103 c60_i32_104
  let v125 : BitVec 1 := Scalar.andi v111 v124
  let v126 : BitVec 32 := Scalar.extui v125
  let c0_i32_105 : BitVec 32 := 0#32
  let v127 : BitVec 1 := Scalar.cmpi .ne v126 c0_i32_105
  v127

def k0_mult23 : BitVec 32 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_194 : BitVec 32 := 20#32
  let v225 : BitVec 32 := Scalar.subi v99 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult24 : BitVec 32 :=
  let c3_i32_82 : BitVec 32 := 3#32
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c30_i32_81 : BitVec 32 := 30#32
  let v98 : BitVec 32 := Scalar.muli v97 c30_i32_81
  let v99 : BitVec 32 := Scalar.subi c3_i32_82 v98
  let c20_i32_194 : BitVec 32 := 20#32
  let v225 : BitVec 32 := Scalar.subi v99 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off46 : Fin 1 → Nat :=
  let c3_i32_83 : BitVec 32 := 3#32
  let c7_i32_84 : BitVec 32 := 7#32
  let v100 : BitVec 32 := Scalar.andi c3_i32_83 c7_i32_84
  ![v100.toNat]
def k0_off47 : Fin 3 → Nat :=
  let c3_i32_83 : BitVec 32 := 3#32
  let c7_i32_84 : BitVec 32 := 7#32
  let v100 : BitVec 32 := Scalar.andi c3_i32_83 c7_i32_84
  let c0_i32_199 : BitVec 32 := 0#32
  let c512_i32_200 : BitVec 32 := 512#32
  ![v100.toNat, 0, 512]
def k0_off48 : Fin 3 → Nat :=
  let c3_i32 : BitVec 32 := 3#32
  let c30_i32_78 : BitVec 32 := 30#32
  let v96 : BitVec 1 := Scalar.cmpi .sge c3_i32 c30_i32_78
  let c1_i32_79 : BitVec 32 := 1#32
  let c0_i32_80 : BitVec 32 := 0#32
  let v97 : BitVec 32 := Scalar.select v96 c1_i32_79 c0_i32_80
  let c3_i32_82 : BitVec 32 := 3#32
  let c30_i32_81 : BitVec 32 := 30#32
  let v98 : BitVec 32 := Scalar.muli v97 c30_i32_81
  let v99 : BitVec 32 := Scalar.subi c3_i32_82 v98
  let c20_i32_194 : BitVec 32 := 20#32
  let v225 : BitVec 32 := Scalar.subi v99 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v97.toNat, v231.toNat, v233.toNat]
def k0_cond17 : BitVec 1 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_116 : BitVec 32 := 20#32
  let v136 : BitVec 1 := Scalar.cmpi .slt v131 c20_i32_116
  let c0_i32_113 : BitVec 32 := 0#32
  let v133 : BitVec 32 := Scalar.subi v131 c0_i32_113
  let c1_i32_117 : BitVec 32 := 1#32
  let v137 : BitVec 32 := Scalar.andi v133 c1_i32_117
  let c1_i32_118 : BitVec 32 := 1#32
  let v138 : BitVec 1 := Scalar.cmpi .eq v137 c1_i32_118
  let true_119 : BitVec 1 := 1#1
  let v139 : BitVec 1 := Scalar.xori v138 true_119
  let v140 : BitVec 1 := Scalar.andi v136 v139
  let c4_i32_122 : BitVec 32 := 4#32
  let c60_i32_123 : BitVec 32 := 60#32
  let v144 : BitVec 1 := Scalar.cmpi .slt c4_i32_122 c60_i32_123
  let v145 : BitVec 1 := Scalar.andi v140 v144
  let v146 : BitVec 32 := Scalar.extui v145
  let c0_i32_124 : BitVec 32 := 0#32
  let v147 : BitVec 1 := Scalar.cmpi .ne v146 c0_i32_124
  v147

def k0_mult25 : BitVec 32 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c0_i32_113 : BitVec 32 := 0#32
  let v133 : BitVec 32 := Scalar.subi v131 c0_i32_113
  let c1_i32_114 : BitVec 32 := 1#32
  let v134 : BitVec 32 := Scalar.shrui v133 c1_i32_114
  let c1024_i32_115 : BitVec 32 := 1024#32
  let v135 : BitVec 32 := Scalar.muli v134 c1024_i32_115
  v135
def k0_off49 : Fin 1 → Nat :=
  let c4_i32_111 : BitVec 32 := 4#32
  let c7_i32_112 : BitVec 32 := 7#32
  let v132 : BitVec 32 := Scalar.andi c4_i32_111 c7_i32_112
  ![v132.toNat]
def k0_off50 : Fin 3 → Nat :=
  let c4_i32_111 : BitVec 32 := 4#32
  let c7_i32_112 : BitVec 32 := 7#32
  let v132 : BitVec 32 := Scalar.andi c4_i32_111 c7_i32_112
  let c0_i32_194 : BitVec 32 := 0#32
  let c0_i32_195 : BitVec 32 := 0#32
  ![v132.toNat, 0, 0]
def k0_off51 : Fin 3 → Nat :=
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c0_i32_196 : BitVec 32 := 0#32
  let c4_i32_110 : BitVec 32 := 4#32
  let c30_i32_109 : BitVec 32 := 30#32
  let v130 : BitVec 32 := Scalar.muli v129 c30_i32_109
  let v131 : BitVec 32 := Scalar.subi c4_i32_110 v130
  let c0_i32_113 : BitVec 32 := 0#32
  let v133 : BitVec 32 := Scalar.subi v131 c0_i32_113
  let c1_i32_114 : BitVec 32 := 1#32
  let v134 : BitVec 32 := Scalar.shrui v133 c1_i32_114
  let c1024_i32_115 : BitVec 32 := 1024#32
  let v135 : BitVec 32 := Scalar.muli v134 c1024_i32_115
  let v225 : BitVec 32 := v135
  ![v129.toNat, 0, v225.toNat]
def k0_cond18 : BitVec 1 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_116 : BitVec 32 := 20#32
  let v136 : BitVec 1 := Scalar.cmpi .slt v131 c20_i32_116
  let c0_i32_113 : BitVec 32 := 0#32
  let v133 : BitVec 32 := Scalar.subi v131 c0_i32_113
  let c1_i32_117 : BitVec 32 := 1#32
  let v137 : BitVec 32 := Scalar.andi v133 c1_i32_117
  let c1_i32_118 : BitVec 32 := 1#32
  let v138 : BitVec 1 := Scalar.cmpi .eq v137 c1_i32_118
  let v141 : BitVec 1 := Scalar.andi v136 v138
  let c4_i32_125 : BitVec 32 := 4#32
  let c60_i32_126 : BitVec 32 := 60#32
  let v148 : BitVec 1 := Scalar.cmpi .slt c4_i32_125 c60_i32_126
  let v149 : BitVec 1 := Scalar.andi v141 v148
  let v150 : BitVec 32 := Scalar.extui v149
  let c0_i32_127 : BitVec 32 := 0#32
  let v151 : BitVec 1 := Scalar.cmpi .ne v150 c0_i32_127
  v151

def k0_mult26 : BitVec 32 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c0_i32_113 : BitVec 32 := 0#32
  let v133 : BitVec 32 := Scalar.subi v131 c0_i32_113
  let c1_i32_114 : BitVec 32 := 1#32
  let v134 : BitVec 32 := Scalar.shrui v133 c1_i32_114
  let c1024_i32_115 : BitVec 32 := 1024#32
  let v135 : BitVec 32 := Scalar.muli v134 c1024_i32_115
  v135
def k0_off52 : Fin 1 → Nat :=
  let c4_i32_111 : BitVec 32 := 4#32
  let c7_i32_112 : BitVec 32 := 7#32
  let v132 : BitVec 32 := Scalar.andi c4_i32_111 c7_i32_112
  ![v132.toNat]
def k0_off53 : Fin 3 → Nat :=
  let c4_i32_111 : BitVec 32 := 4#32
  let c7_i32_112 : BitVec 32 := 7#32
  let v132 : BitVec 32 := Scalar.andi c4_i32_111 c7_i32_112
  let c0_i32_194 : BitVec 32 := 0#32
  let c0_i32_195 : BitVec 32 := 0#32
  ![v132.toNat, 0, 0]
def k0_off54 : Fin 3 → Nat :=
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c0_i32_196 : BitVec 32 := 0#32
  let c4_i32_110 : BitVec 32 := 4#32
  let c30_i32_109 : BitVec 32 := 30#32
  let v130 : BitVec 32 := Scalar.muli v129 c30_i32_109
  let v131 : BitVec 32 := Scalar.subi c4_i32_110 v130
  let c0_i32_113 : BitVec 32 := 0#32
  let v133 : BitVec 32 := Scalar.subi v131 c0_i32_113
  let c1_i32_114 : BitVec 32 := 1#32
  let v134 : BitVec 32 := Scalar.shrui v133 c1_i32_114
  let c1024_i32_115 : BitVec 32 := 1024#32
  let v135 : BitVec 32 := Scalar.muli v134 c1024_i32_115
  let v225 : BitVec 32 := v135
  ![v129.toNat, 0, v225.toNat]
def k0_cond19 : BitVec 1 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_120 : BitVec 32 := 20#32
  let v142 : BitVec 1 := Scalar.cmpi .sge v131 c20_i32_120
  let c4_i32_128 : BitVec 32 := 4#32
  let c60_i32_129 : BitVec 32 := 60#32
  let v152 : BitVec 1 := Scalar.cmpi .slt c4_i32_128 c60_i32_129
  let v153 : BitVec 1 := Scalar.andi v142 v152
  let v154 : BitVec 32 := Scalar.extui v153
  let c0_i32_130 : BitVec 32 := 0#32
  let v155 : BitVec 1 := Scalar.cmpi .ne v154 c0_i32_130
  v155

def k0_mult27 : BitVec 32 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_194 : BitVec 32 := 20#32
  let v225 : BitVec 32 := Scalar.subi v131 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult28 : BitVec 32 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_194 : BitVec 32 := 20#32
  let v225 : BitVec 32 := Scalar.subi v131 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off55 : Fin 1 → Nat :=
  let c4_i32_111 : BitVec 32 := 4#32
  let c7_i32_112 : BitVec 32 := 7#32
  let v132 : BitVec 32 := Scalar.andi c4_i32_111 c7_i32_112
  ![v132.toNat]
def k0_off56 : Fin 3 → Nat :=
  let c4_i32_111 : BitVec 32 := 4#32
  let c7_i32_112 : BitVec 32 := 7#32
  let v132 : BitVec 32 := Scalar.andi c4_i32_111 c7_i32_112
  let c0_i32_199 : BitVec 32 := 0#32
  let c0_i32_200 : BitVec 32 := 0#32
  ![v132.toNat, 0, 0]
def k0_off57 : Fin 3 → Nat :=
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c4_i32_110 : BitVec 32 := 4#32
  let c30_i32_109 : BitVec 32 := 30#32
  let v130 : BitVec 32 := Scalar.muli v129 c30_i32_109
  let v131 : BitVec 32 := Scalar.subi c4_i32_110 v130
  let c20_i32_194 : BitVec 32 := 20#32
  let v225 : BitVec 32 := Scalar.subi v131 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v129.toNat, v231.toNat, v233.toNat]
def k0_cond20 : BitVec 1 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_121 : BitVec 32 := 20#32
  let v143 : BitVec 1 := Scalar.cmpi .sge v131 c20_i32_121
  let c4_i32_131 : BitVec 32 := 4#32
  let c60_i32_132 : BitVec 32 := 60#32
  let v156 : BitVec 1 := Scalar.cmpi .slt c4_i32_131 c60_i32_132
  let v157 : BitVec 1 := Scalar.andi v143 v156
  let v158 : BitVec 32 := Scalar.extui v157
  let c0_i32_133 : BitVec 32 := 0#32
  let v159 : BitVec 1 := Scalar.cmpi .ne v158 c0_i32_133
  v159

def k0_mult29 : BitVec 32 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_194 : BitVec 32 := 20#32
  let v225 : BitVec 32 := Scalar.subi v131 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult30 : BitVec 32 :=
  let c4_i32_110 : BitVec 32 := 4#32
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c30_i32_109 : BitVec 32 := 30#32
  let v130 : BitVec 32 := Scalar.muli v129 c30_i32_109
  let v131 : BitVec 32 := Scalar.subi c4_i32_110 v130
  let c20_i32_194 : BitVec 32 := 20#32
  let v225 : BitVec 32 := Scalar.subi v131 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off58 : Fin 1 → Nat :=
  let c4_i32_111 : BitVec 32 := 4#32
  let c7_i32_112 : BitVec 32 := 7#32
  let v132 : BitVec 32 := Scalar.andi c4_i32_111 c7_i32_112
  ![v132.toNat]
def k0_off59 : Fin 3 → Nat :=
  let c4_i32_111 : BitVec 32 := 4#32
  let c7_i32_112 : BitVec 32 := 7#32
  let v132 : BitVec 32 := Scalar.andi c4_i32_111 c7_i32_112
  let c0_i32_199 : BitVec 32 := 0#32
  let c512_i32_200 : BitVec 32 := 512#32
  ![v132.toNat, 0, 512]
def k0_off60 : Fin 3 → Nat :=
  let c4_i32 : BitVec 32 := 4#32
  let c30_i32_106 : BitVec 32 := 30#32
  let v128 : BitVec 1 := Scalar.cmpi .sge c4_i32 c30_i32_106
  let c1_i32_107 : BitVec 32 := 1#32
  let c0_i32_108 : BitVec 32 := 0#32
  let v129 : BitVec 32 := Scalar.select v128 c1_i32_107 c0_i32_108
  let c4_i32_110 : BitVec 32 := 4#32
  let c30_i32_109 : BitVec 32 := 30#32
  let v130 : BitVec 32 := Scalar.muli v129 c30_i32_109
  let v131 : BitVec 32 := Scalar.subi c4_i32_110 v130
  let c20_i32_194 : BitVec 32 := 20#32
  let v225 : BitVec 32 := Scalar.subi v131 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v129.toNat, v231.toNat, v233.toNat]
def k0_cond21 : BitVec 1 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_144 : BitVec 32 := 20#32
  let v168 : BitVec 1 := Scalar.cmpi .slt v163 c20_i32_144
  let c0_i32_141 : BitVec 32 := 0#32
  let v165 : BitVec 32 := Scalar.subi v163 c0_i32_141
  let c1_i32_145 : BitVec 32 := 1#32
  let v169 : BitVec 32 := Scalar.andi v165 c1_i32_145
  let c1_i32_146 : BitVec 32 := 1#32
  let v170 : BitVec 1 := Scalar.cmpi .eq v169 c1_i32_146
  let true_147 : BitVec 1 := 1#1
  let v171 : BitVec 1 := Scalar.xori v170 true_147
  let v172 : BitVec 1 := Scalar.andi v168 v171
  let c5_i32_150 : BitVec 32 := 5#32
  let c60_i32_151 : BitVec 32 := 60#32
  let v176 : BitVec 1 := Scalar.cmpi .slt c5_i32_150 c60_i32_151
  let v177 : BitVec 1 := Scalar.andi v172 v176
  let v178 : BitVec 32 := Scalar.extui v177
  let c0_i32_152 : BitVec 32 := 0#32
  let v179 : BitVec 1 := Scalar.cmpi .ne v178 c0_i32_152
  v179

def k0_mult31 : BitVec 32 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c0_i32_141 : BitVec 32 := 0#32
  let v165 : BitVec 32 := Scalar.subi v163 c0_i32_141
  let c1_i32_142 : BitVec 32 := 1#32
  let v166 : BitVec 32 := Scalar.shrui v165 c1_i32_142
  let c1024_i32_143 : BitVec 32 := 1024#32
  let v167 : BitVec 32 := Scalar.muli v166 c1024_i32_143
  v167
def k0_off61 : Fin 1 → Nat :=
  let c5_i32_139 : BitVec 32 := 5#32
  let c7_i32_140 : BitVec 32 := 7#32
  let v164 : BitVec 32 := Scalar.andi c5_i32_139 c7_i32_140
  ![v164.toNat]
def k0_off62 : Fin 3 → Nat :=
  let c5_i32_139 : BitVec 32 := 5#32
  let c7_i32_140 : BitVec 32 := 7#32
  let v164 : BitVec 32 := Scalar.andi c5_i32_139 c7_i32_140
  let c0_i32_194 : BitVec 32 := 0#32
  let c0_i32_195 : BitVec 32 := 0#32
  ![v164.toNat, 0, 0]
def k0_off63 : Fin 3 → Nat :=
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c0_i32_196 : BitVec 32 := 0#32
  let c5_i32_138 : BitVec 32 := 5#32
  let c30_i32_137 : BitVec 32 := 30#32
  let v162 : BitVec 32 := Scalar.muli v161 c30_i32_137
  let v163 : BitVec 32 := Scalar.subi c5_i32_138 v162
  let c0_i32_141 : BitVec 32 := 0#32
  let v165 : BitVec 32 := Scalar.subi v163 c0_i32_141
  let c1_i32_142 : BitVec 32 := 1#32
  let v166 : BitVec 32 := Scalar.shrui v165 c1_i32_142
  let c1024_i32_143 : BitVec 32 := 1024#32
  let v167 : BitVec 32 := Scalar.muli v166 c1024_i32_143
  let v225 : BitVec 32 := v167
  ![v161.toNat, 0, v225.toNat]
def k0_cond22 : BitVec 1 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_144 : BitVec 32 := 20#32
  let v168 : BitVec 1 := Scalar.cmpi .slt v163 c20_i32_144
  let c0_i32_141 : BitVec 32 := 0#32
  let v165 : BitVec 32 := Scalar.subi v163 c0_i32_141
  let c1_i32_145 : BitVec 32 := 1#32
  let v169 : BitVec 32 := Scalar.andi v165 c1_i32_145
  let c1_i32_146 : BitVec 32 := 1#32
  let v170 : BitVec 1 := Scalar.cmpi .eq v169 c1_i32_146
  let v173 : BitVec 1 := Scalar.andi v168 v170
  let c5_i32_153 : BitVec 32 := 5#32
  let c60_i32_154 : BitVec 32 := 60#32
  let v180 : BitVec 1 := Scalar.cmpi .slt c5_i32_153 c60_i32_154
  let v181 : BitVec 1 := Scalar.andi v173 v180
  let v182 : BitVec 32 := Scalar.extui v181
  let c0_i32_155 : BitVec 32 := 0#32
  let v183 : BitVec 1 := Scalar.cmpi .ne v182 c0_i32_155
  v183

def k0_mult32 : BitVec 32 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c0_i32_141 : BitVec 32 := 0#32
  let v165 : BitVec 32 := Scalar.subi v163 c0_i32_141
  let c1_i32_142 : BitVec 32 := 1#32
  let v166 : BitVec 32 := Scalar.shrui v165 c1_i32_142
  let c1024_i32_143 : BitVec 32 := 1024#32
  let v167 : BitVec 32 := Scalar.muli v166 c1024_i32_143
  v167
def k0_off64 : Fin 1 → Nat :=
  let c5_i32_139 : BitVec 32 := 5#32
  let c7_i32_140 : BitVec 32 := 7#32
  let v164 : BitVec 32 := Scalar.andi c5_i32_139 c7_i32_140
  ![v164.toNat]
def k0_off65 : Fin 3 → Nat :=
  let c5_i32_139 : BitVec 32 := 5#32
  let c7_i32_140 : BitVec 32 := 7#32
  let v164 : BitVec 32 := Scalar.andi c5_i32_139 c7_i32_140
  let c0_i32_194 : BitVec 32 := 0#32
  let c0_i32_195 : BitVec 32 := 0#32
  ![v164.toNat, 0, 0]
def k0_off66 : Fin 3 → Nat :=
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c0_i32_196 : BitVec 32 := 0#32
  let c5_i32_138 : BitVec 32 := 5#32
  let c30_i32_137 : BitVec 32 := 30#32
  let v162 : BitVec 32 := Scalar.muli v161 c30_i32_137
  let v163 : BitVec 32 := Scalar.subi c5_i32_138 v162
  let c0_i32_141 : BitVec 32 := 0#32
  let v165 : BitVec 32 := Scalar.subi v163 c0_i32_141
  let c1_i32_142 : BitVec 32 := 1#32
  let v166 : BitVec 32 := Scalar.shrui v165 c1_i32_142
  let c1024_i32_143 : BitVec 32 := 1024#32
  let v167 : BitVec 32 := Scalar.muli v166 c1024_i32_143
  let v225 : BitVec 32 := v167
  ![v161.toNat, 0, v225.toNat]
def k0_cond23 : BitVec 1 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_148 : BitVec 32 := 20#32
  let v174 : BitVec 1 := Scalar.cmpi .sge v163 c20_i32_148
  let c5_i32_156 : BitVec 32 := 5#32
  let c60_i32_157 : BitVec 32 := 60#32
  let v184 : BitVec 1 := Scalar.cmpi .slt c5_i32_156 c60_i32_157
  let v185 : BitVec 1 := Scalar.andi v174 v184
  let v186 : BitVec 32 := Scalar.extui v185
  let c0_i32_158 : BitVec 32 := 0#32
  let v187 : BitVec 1 := Scalar.cmpi .ne v186 c0_i32_158
  v187

def k0_mult33 : BitVec 32 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_194 : BitVec 32 := 20#32
  let v225 : BitVec 32 := Scalar.subi v163 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult34 : BitVec 32 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_194 : BitVec 32 := 20#32
  let v225 : BitVec 32 := Scalar.subi v163 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off67 : Fin 1 → Nat :=
  let c5_i32_139 : BitVec 32 := 5#32
  let c7_i32_140 : BitVec 32 := 7#32
  let v164 : BitVec 32 := Scalar.andi c5_i32_139 c7_i32_140
  ![v164.toNat]
def k0_off68 : Fin 3 → Nat :=
  let c5_i32_139 : BitVec 32 := 5#32
  let c7_i32_140 : BitVec 32 := 7#32
  let v164 : BitVec 32 := Scalar.andi c5_i32_139 c7_i32_140
  let c0_i32_199 : BitVec 32 := 0#32
  let c0_i32_200 : BitVec 32 := 0#32
  ![v164.toNat, 0, 0]
def k0_off69 : Fin 3 → Nat :=
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c5_i32_138 : BitVec 32 := 5#32
  let c30_i32_137 : BitVec 32 := 30#32
  let v162 : BitVec 32 := Scalar.muli v161 c30_i32_137
  let v163 : BitVec 32 := Scalar.subi c5_i32_138 v162
  let c20_i32_194 : BitVec 32 := 20#32
  let v225 : BitVec 32 := Scalar.subi v163 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v161.toNat, v231.toNat, v233.toNat]
def k0_cond24 : BitVec 1 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_149 : BitVec 32 := 20#32
  let v175 : BitVec 1 := Scalar.cmpi .sge v163 c20_i32_149
  let c5_i32_159 : BitVec 32 := 5#32
  let c60_i32_160 : BitVec 32 := 60#32
  let v188 : BitVec 1 := Scalar.cmpi .slt c5_i32_159 c60_i32_160
  let v189 : BitVec 1 := Scalar.andi v175 v188
  let v190 : BitVec 32 := Scalar.extui v189
  let c0_i32_161 : BitVec 32 := 0#32
  let v191 : BitVec 1 := Scalar.cmpi .ne v190 c0_i32_161
  v191

def k0_mult35 : BitVec 32 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_194 : BitVec 32 := 20#32
  let v225 : BitVec 32 := Scalar.subi v163 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult36 : BitVec 32 :=
  let c5_i32_138 : BitVec 32 := 5#32
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c30_i32_137 : BitVec 32 := 30#32
  let v162 : BitVec 32 := Scalar.muli v161 c30_i32_137
  let v163 : BitVec 32 := Scalar.subi c5_i32_138 v162
  let c20_i32_194 : BitVec 32 := 20#32
  let v225 : BitVec 32 := Scalar.subi v163 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off70 : Fin 1 → Nat :=
  let c5_i32_139 : BitVec 32 := 5#32
  let c7_i32_140 : BitVec 32 := 7#32
  let v164 : BitVec 32 := Scalar.andi c5_i32_139 c7_i32_140
  ![v164.toNat]
def k0_off71 : Fin 3 → Nat :=
  let c5_i32_139 : BitVec 32 := 5#32
  let c7_i32_140 : BitVec 32 := 7#32
  let v164 : BitVec 32 := Scalar.andi c5_i32_139 c7_i32_140
  let c0_i32_199 : BitVec 32 := 0#32
  let c512_i32_200 : BitVec 32 := 512#32
  ![v164.toNat, 0, 512]
def k0_off72 : Fin 3 → Nat :=
  let c5_i32 : BitVec 32 := 5#32
  let c30_i32_134 : BitVec 32 := 30#32
  let v160 : BitVec 1 := Scalar.cmpi .sge c5_i32 c30_i32_134
  let c1_i32_135 : BitVec 32 := 1#32
  let c0_i32_136 : BitVec 32 := 0#32
  let v161 : BitVec 32 := Scalar.select v160 c1_i32_135 c0_i32_136
  let c5_i32_138 : BitVec 32 := 5#32
  let c30_i32_137 : BitVec 32 := 30#32
  let v162 : BitVec 32 := Scalar.muli v161 c30_i32_137
  let v163 : BitVec 32 := Scalar.subi c5_i32_138 v162
  let c20_i32_194 : BitVec 32 := 20#32
  let v225 : BitVec 32 := Scalar.subi v163 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v161.toNat, v231.toNat, v233.toNat]
def k0_cond25 : BitVec 1 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_172 : BitVec 32 := 20#32
  let v200 : BitVec 1 := Scalar.cmpi .slt v195 c20_i32_172
  let c0_i32_169 : BitVec 32 := 0#32
  let v197 : BitVec 32 := Scalar.subi v195 c0_i32_169
  let c1_i32_173 : BitVec 32 := 1#32
  let v201 : BitVec 32 := Scalar.andi v197 c1_i32_173
  let c1_i32_174 : BitVec 32 := 1#32
  let v202 : BitVec 1 := Scalar.cmpi .eq v201 c1_i32_174
  let true_175 : BitVec 1 := 1#1
  let v203 : BitVec 1 := Scalar.xori v202 true_175
  let v204 : BitVec 1 := Scalar.andi v200 v203
  let c6_i32_178 : BitVec 32 := 6#32
  let c60_i32_179 : BitVec 32 := 60#32
  let v208 : BitVec 1 := Scalar.cmpi .slt c6_i32_178 c60_i32_179
  let v209 : BitVec 1 := Scalar.andi v204 v208
  let v210 : BitVec 32 := Scalar.extui v209
  let c0_i32_180 : BitVec 32 := 0#32
  let v211 : BitVec 1 := Scalar.cmpi .ne v210 c0_i32_180
  v211

def k0_mult37 : BitVec 32 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c0_i32_169 : BitVec 32 := 0#32
  let v197 : BitVec 32 := Scalar.subi v195 c0_i32_169
  let c1_i32_170 : BitVec 32 := 1#32
  let v198 : BitVec 32 := Scalar.shrui v197 c1_i32_170
  let c1024_i32_171 : BitVec 32 := 1024#32
  let v199 : BitVec 32 := Scalar.muli v198 c1024_i32_171
  v199
def k0_off73 : Fin 1 → Nat :=
  let c6_i32_167 : BitVec 32 := 6#32
  let c7_i32_168 : BitVec 32 := 7#32
  let v196 : BitVec 32 := Scalar.andi c6_i32_167 c7_i32_168
  ![v196.toNat]
def k0_off74 : Fin 3 → Nat :=
  let c6_i32_167 : BitVec 32 := 6#32
  let c7_i32_168 : BitVec 32 := 7#32
  let v196 : BitVec 32 := Scalar.andi c6_i32_167 c7_i32_168
  let c0_i32_194 : BitVec 32 := 0#32
  let c0_i32_195 : BitVec 32 := 0#32
  ![v196.toNat, 0, 0]
def k0_off75 : Fin 3 → Nat :=
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c0_i32_196 : BitVec 32 := 0#32
  let c6_i32_166 : BitVec 32 := 6#32
  let c30_i32_165 : BitVec 32 := 30#32
  let v194 : BitVec 32 := Scalar.muli v193 c30_i32_165
  let v195 : BitVec 32 := Scalar.subi c6_i32_166 v194
  let c0_i32_169 : BitVec 32 := 0#32
  let v197 : BitVec 32 := Scalar.subi v195 c0_i32_169
  let c1_i32_170 : BitVec 32 := 1#32
  let v198 : BitVec 32 := Scalar.shrui v197 c1_i32_170
  let c1024_i32_171 : BitVec 32 := 1024#32
  let v199 : BitVec 32 := Scalar.muli v198 c1024_i32_171
  let v225 : BitVec 32 := v199
  ![v193.toNat, 0, v225.toNat]
def k0_cond26 : BitVec 1 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_172 : BitVec 32 := 20#32
  let v200 : BitVec 1 := Scalar.cmpi .slt v195 c20_i32_172
  let c0_i32_169 : BitVec 32 := 0#32
  let v197 : BitVec 32 := Scalar.subi v195 c0_i32_169
  let c1_i32_173 : BitVec 32 := 1#32
  let v201 : BitVec 32 := Scalar.andi v197 c1_i32_173
  let c1_i32_174 : BitVec 32 := 1#32
  let v202 : BitVec 1 := Scalar.cmpi .eq v201 c1_i32_174
  let v205 : BitVec 1 := Scalar.andi v200 v202
  let c6_i32_181 : BitVec 32 := 6#32
  let c60_i32_182 : BitVec 32 := 60#32
  let v212 : BitVec 1 := Scalar.cmpi .slt c6_i32_181 c60_i32_182
  let v213 : BitVec 1 := Scalar.andi v205 v212
  let v214 : BitVec 32 := Scalar.extui v213
  let c0_i32_183 : BitVec 32 := 0#32
  let v215 : BitVec 1 := Scalar.cmpi .ne v214 c0_i32_183
  v215

def k0_mult38 : BitVec 32 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c0_i32_169 : BitVec 32 := 0#32
  let v197 : BitVec 32 := Scalar.subi v195 c0_i32_169
  let c1_i32_170 : BitVec 32 := 1#32
  let v198 : BitVec 32 := Scalar.shrui v197 c1_i32_170
  let c1024_i32_171 : BitVec 32 := 1024#32
  let v199 : BitVec 32 := Scalar.muli v198 c1024_i32_171
  v199
def k0_off76 : Fin 1 → Nat :=
  let c6_i32_167 : BitVec 32 := 6#32
  let c7_i32_168 : BitVec 32 := 7#32
  let v196 : BitVec 32 := Scalar.andi c6_i32_167 c7_i32_168
  ![v196.toNat]
def k0_off77 : Fin 3 → Nat :=
  let c6_i32_167 : BitVec 32 := 6#32
  let c7_i32_168 : BitVec 32 := 7#32
  let v196 : BitVec 32 := Scalar.andi c6_i32_167 c7_i32_168
  let c0_i32_194 : BitVec 32 := 0#32
  let c0_i32_195 : BitVec 32 := 0#32
  ![v196.toNat, 0, 0]
def k0_off78 : Fin 3 → Nat :=
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c0_i32_196 : BitVec 32 := 0#32
  let c6_i32_166 : BitVec 32 := 6#32
  let c30_i32_165 : BitVec 32 := 30#32
  let v194 : BitVec 32 := Scalar.muli v193 c30_i32_165
  let v195 : BitVec 32 := Scalar.subi c6_i32_166 v194
  let c0_i32_169 : BitVec 32 := 0#32
  let v197 : BitVec 32 := Scalar.subi v195 c0_i32_169
  let c1_i32_170 : BitVec 32 := 1#32
  let v198 : BitVec 32 := Scalar.shrui v197 c1_i32_170
  let c1024_i32_171 : BitVec 32 := 1024#32
  let v199 : BitVec 32 := Scalar.muli v198 c1024_i32_171
  let v225 : BitVec 32 := v199
  ![v193.toNat, 0, v225.toNat]
def k0_cond27 : BitVec 1 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_176 : BitVec 32 := 20#32
  let v206 : BitVec 1 := Scalar.cmpi .sge v195 c20_i32_176
  let c6_i32_184 : BitVec 32 := 6#32
  let c60_i32_185 : BitVec 32 := 60#32
  let v216 : BitVec 1 := Scalar.cmpi .slt c6_i32_184 c60_i32_185
  let v217 : BitVec 1 := Scalar.andi v206 v216
  let v218 : BitVec 32 := Scalar.extui v217
  let c0_i32_186 : BitVec 32 := 0#32
  let v219 : BitVec 1 := Scalar.cmpi .ne v218 c0_i32_186
  v219

def k0_mult39 : BitVec 32 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_194 : BitVec 32 := 20#32
  let v225 : BitVec 32 := Scalar.subi v195 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  v230
def k0_mult40 : BitVec 32 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_194 : BitVec 32 := 20#32
  let v225 : BitVec 32 := Scalar.subi v195 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off79 : Fin 1 → Nat :=
  let c6_i32_167 : BitVec 32 := 6#32
  let c7_i32_168 : BitVec 32 := 7#32
  let v196 : BitVec 32 := Scalar.andi c6_i32_167 c7_i32_168
  ![v196.toNat]
def k0_off80 : Fin 3 → Nat :=
  let c6_i32_167 : BitVec 32 := 6#32
  let c7_i32_168 : BitVec 32 := 7#32
  let v196 : BitVec 32 := Scalar.andi c6_i32_167 c7_i32_168
  let c0_i32_199 : BitVec 32 := 0#32
  let c0_i32_200 : BitVec 32 := 0#32
  ![v196.toNat, 0, 0]
def k0_off81 : Fin 3 → Nat :=
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c6_i32_166 : BitVec 32 := 6#32
  let c30_i32_165 : BitVec 32 := 30#32
  let v194 : BitVec 32 := Scalar.muli v193 c30_i32_165
  let v195 : BitVec 32 := Scalar.subi c6_i32_166 v194
  let c20_i32_194 : BitVec 32 := 20#32
  let v225 : BitVec 32 := Scalar.subi v195 c20_i32_194
  let c1_i32_196 : BitVec 32 := 1#32
  let v227 : BitVec 32 := Scalar.andi v225 c1_i32_196
  let c2_i32_197 : BitVec 32 := 2#32
  let v228 : BitVec 32 := Scalar.muli v227 c2_i32_197
  let c0_i32_198 : BitVec 32 := 0#32
  let v229 : BitVec 32 := Scalar.addi v228 c0_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v193.toNat, v231.toNat, v233.toNat]
def k0_cond28 : BitVec 1 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_177 : BitVec 32 := 20#32
  let v207 : BitVec 1 := Scalar.cmpi .sge v195 c20_i32_177
  let c6_i32_187 : BitVec 32 := 6#32
  let c60_i32_188 : BitVec 32 := 60#32
  let v220 : BitVec 1 := Scalar.cmpi .slt c6_i32_187 c60_i32_188
  let v221 : BitVec 1 := Scalar.andi v207 v220
  let v222 : BitVec 32 := Scalar.extui v221
  let c0_i32_189 : BitVec 32 := 0#32
  let v223 : BitVec 1 := Scalar.cmpi .ne v222 c0_i32_189
  v223

def k0_mult41 : BitVec 32 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_194 : BitVec 32 := 20#32
  let v225 : BitVec 32 := Scalar.subi v195 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  v230
def k0_mult42 : BitVec 32 :=
  let c6_i32_166 : BitVec 32 := 6#32
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c30_i32_165 : BitVec 32 := 30#32
  let v194 : BitVec 32 := Scalar.muli v193 c30_i32_165
  let v195 : BitVec 32 := Scalar.subi c6_i32_166 v194
  let c20_i32_194 : BitVec 32 := 20#32
  let v225 : BitVec 32 := Scalar.subi v195 c20_i32_194
  let c1_i32_195 : BitVec 32 := 1#32
  let v226 : BitVec 32 := Scalar.shrui v225 c1_i32_195
  let c512_i32 : BitVec 32 := 512#32
  let v232 : BitVec 32 := Scalar.muli v226 c512_i32
  v232
def k0_off82 : Fin 1 → Nat :=
  let c6_i32_167 : BitVec 32 := 6#32
  let c7_i32_168 : BitVec 32 := 7#32
  let v196 : BitVec 32 := Scalar.andi c6_i32_167 c7_i32_168
  ![v196.toNat]
def k0_off83 : Fin 3 → Nat :=
  let c6_i32_167 : BitVec 32 := 6#32
  let c7_i32_168 : BitVec 32 := 7#32
  let v196 : BitVec 32 := Scalar.andi c6_i32_167 c7_i32_168
  let c0_i32_199 : BitVec 32 := 0#32
  let c512_i32_200 : BitVec 32 := 512#32
  ![v196.toNat, 0, 512]
def k0_off84 : Fin 3 → Nat :=
  let c6_i32 : BitVec 32 := 6#32
  let c30_i32_162 : BitVec 32 := 30#32
  let v192 : BitVec 1 := Scalar.cmpi .sge c6_i32 c30_i32_162
  let c1_i32_163 : BitVec 32 := 1#32
  let c0_i32_164 : BitVec 32 := 0#32
  let v193 : BitVec 32 := Scalar.select v192 c1_i32_163 c0_i32_164
  let c6_i32_166 : BitVec 32 := 6#32
  let c30_i32_165 : BitVec 32 := 30#32
  let v194 : BitVec 32 := Scalar.muli v193 c30_i32_165
  let v195 : BitVec 32 := Scalar.subi c6_i32_166 v194
  let c20_i32_194 : BitVec 32 := 20#32
  let v225 : BitVec 32 := Scalar.subi v195 c20_i32_194
  let c1_i32_196 : BitVec 32 := 1#32
  let v227 : BitVec 32 := Scalar.andi v225 c1_i32_196
  let c2_i32_197 : BitVec 32 := 2#32
  let v228 : BitVec 32 := Scalar.muli v227 c2_i32_197
  let c1_i32_198 : BitVec 32 := 1#32
  let v229 : BitVec 32 := Scalar.addi v228 c1_i32_198
  let c2560_i32 : BitVec 32 := 2560#32
  let v230 : BitVec 32 := Scalar.muli v229 c2560_i32
  let v231 : BitVec 32 := v230
  let c1_i32_195 : BitVec 32 := 1#32
  let v226 : BitVec 32 := Scalar.shrui v225 c1_i32_195
  let c512_i32 : BitVec 32 := 512#32
  let v232 : BitVec 32 := Scalar.muli v226 c512_i32
  let v233 : BitVec 32 := v232
  ![v193.toNat, v231.toNat, v233.toNat]
@[reducible] def k0_t1_loop : Scf.Loop 32 :=
  let c0_i32_190 : BitVec 32 := 0#32
  let c2_i32_191 : BitVec 32 := 2#32
  let v224 : BitVec 32 := Scalar.addi c0_i32_190 c2_i32_191
  let c1_i32_192 : BitVec 32 := 1#32
  ⟨c0_i32_190, v224, c1_i32_192⟩
def k0_off85 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let v226 : Index := Scalar.indexCast arg44
  let c0 : Index := 0#32
  let c0_195 : Index := 0#32
  ![v226.toNat, 0, 0]
def k0_off86 (k0_t1 : Fin k0_t1_loop.trips) : Fin 2 → Nat :=
  let c0_i32_190 : BitVec 32 := 0#32
  let c1_i32_192 : BitVec 32 := 1#32
  let arg44 : BitVec 32 := Scf.iv c0_i32_190 c1_i32_192 k0_t1
  let v233 : Index := Scalar.indexCast arg44
  let c0_200 : Index := 0#32
  ![v233.toNat, 0]
@[reducible] def k0_t2_loop : Scf.Loop 32 :=
  let c0_i32_269 : BitVec 32 := 0#32
  let c10_i32 : BitVec 32 := 10#32
  let v405 : BitVec 32 := Scalar.addi c0_i32_269 c10_i32
  let c1_i32_270 : BitVec 32 := 1#32
  ⟨c0_i32_269, v405, c1_i32_270⟩
def k0_off87 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v567 : BitVec 32 := Scalar.addi v225 v566
  let c7_i32_374 : BitVec 32 := 7#32
  let v568 : BitVec 32 := Scalar.andi v567 c7_i32_374
  ![v568.toNat]
def k0_off88 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v567 : BitVec 32 := Scalar.addi v225 v566
  let c7_i32_374 : BitVec 32 := 7#32
  let v568 : BitVec 32 := Scalar.andi v567 c7_i32_374
  let c0_i32_376 : BitVec 32 := 0#32
  let c0_i32_377 : BitVec 32 := 0#32
  ![v568.toNat, 0, 0]
def k0_off89 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v575 : BitVec 32 := Scalar.addi v225 v566
  let c1_i32_380 : BitVec 32 := 1#32
  let v576 : BitVec 32 := Scalar.addi v575 c1_i32_380
  let c7_i32_381 : BitVec 32 := 7#32
  let v577 : BitVec 32 := Scalar.andi v576 c7_i32_381
  ![v577.toNat]
def k0_off90 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v575 : BitVec 32 := Scalar.addi v225 v566
  let c1_i32_380 : BitVec 32 := 1#32
  let v576 : BitVec 32 := Scalar.addi v575 c1_i32_380
  let c7_i32_381 : BitVec 32 := 7#32
  let v577 : BitVec 32 := Scalar.andi v576 c7_i32_381
  let c0_i32_383 : BitVec 32 := 0#32
  let c0_i32_384 : BitVec 32 := 0#32
  ![v577.toNat, 0, 0]
def k0_cond33 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_397 : BitVec 32 := 20#32
  let v595 : BitVec 1 := Scalar.cmpi .slt v590 c20_i32_397
  let c0_i32_394 : BitVec 32 := 0#32
  let v592 : BitVec 32 := Scalar.subi v590 c0_i32_394
  let c1_i32_398 : BitVec 32 := 1#32
  let v596 : BitVec 32 := Scalar.andi v592 c1_i32_398
  let c1_i32_399 : BitVec 32 := 1#32
  let v597 : BitVec 1 := Scalar.cmpi .eq v596 c1_i32_399
  let true_400 : BitVec 1 := 1#1
  let v598 : BitVec 1 := Scalar.xori v597 true_400
  let v599 : BitVec 1 := Scalar.andi v595 v598
  let c60_i32_403 : BitVec 32 := 60#32
  let v603 : BitVec 1 := Scalar.cmpi .slt v586 c60_i32_403
  let v604 : BitVec 1 := Scalar.andi v599 v603
  let v605 : BitVec 32 := Scalar.extui v604
  let c0_i32_404 : BitVec 32 := 0#32
  let v606 : BitVec 1 := Scalar.cmpi .ne v605 c0_i32_404
  v606

def k0_mult43 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  v594
def k0_off91 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off92 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_507 : BitVec 32 := 0#32
  let c0_i32_508 : BitVec 32 := 0#32
  ![v591.toNat, 0, 0]
def k0_off93 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c0_i32_509 : BitVec 32 := 0#32
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  let v862 : BitVec 32 := v594
  ![v588.toNat, 0, v862.toNat]
def k0_cond34 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_397 : BitVec 32 := 20#32
  let v595 : BitVec 1 := Scalar.cmpi .slt v590 c20_i32_397
  let c0_i32_394 : BitVec 32 := 0#32
  let v592 : BitVec 32 := Scalar.subi v590 c0_i32_394
  let c1_i32_398 : BitVec 32 := 1#32
  let v596 : BitVec 32 := Scalar.andi v592 c1_i32_398
  let c1_i32_399 : BitVec 32 := 1#32
  let v597 : BitVec 1 := Scalar.cmpi .eq v596 c1_i32_399
  let v600 : BitVec 1 := Scalar.andi v595 v597
  let c60_i32_405 : BitVec 32 := 60#32
  let v607 : BitVec 1 := Scalar.cmpi .slt v586 c60_i32_405
  let v608 : BitVec 1 := Scalar.andi v600 v607
  let v609 : BitVec 32 := Scalar.extui v608
  let c0_i32_406 : BitVec 32 := 0#32
  let v610 : BitVec 1 := Scalar.cmpi .ne v609 c0_i32_406
  v610

def k0_mult44 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  v594
def k0_off94 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off95 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_507 : BitVec 32 := 0#32
  let c0_i32_508 : BitVec 32 := 0#32
  ![v591.toNat, 0, 0]
def k0_off96 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c0_i32_509 : BitVec 32 := 0#32
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  let v862 : BitVec 32 := v594
  ![v588.toNat, 0, v862.toNat]
def k0_cond35 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_401 : BitVec 32 := 20#32
  let v601 : BitVec 1 := Scalar.cmpi .sge v590 c20_i32_401
  let c60_i32_407 : BitVec 32 := 60#32
  let v611 : BitVec 1 := Scalar.cmpi .slt v586 c60_i32_407
  let v612 : BitVec 1 := Scalar.andi v601 v611
  let v613 : BitVec 32 := Scalar.extui v612
  let c0_i32_408 : BitVec 32 := 0#32
  let v614 : BitVec 1 := Scalar.cmpi .ne v613 c0_i32_408
  v614

def k0_mult45 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_507 : BitVec 32 := 20#32
  let v862 : BitVec 32 := Scalar.subi v590 c20_i32_507
  let c1_i32_509 : BitVec 32 := 1#32
  let v864 : BitVec 32 := Scalar.andi v862 c1_i32_509
  let c2_i32_510 : BitVec 32 := 2#32
  let v865 : BitVec 32 := Scalar.muli v864 c2_i32_510
  let c0_i32_511 : BitVec 32 := 0#32
  let v866 : BitVec 32 := Scalar.addi v865 c0_i32_511
  let c2560_i32 : BitVec 32 := 2560#32
  let v867 : BitVec 32 := Scalar.muli v866 c2560_i32
  v867
def k0_mult46 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_507 : BitVec 32 := 20#32
  let v862 : BitVec 32 := Scalar.subi v590 c20_i32_507
  let c1_i32_508 : BitVec 32 := 1#32
  let v863 : BitVec 32 := Scalar.shrui v862 c1_i32_508
  let c512_i32_512 : BitVec 32 := 512#32
  let v869 : BitVec 32 := Scalar.muli v863 c512_i32_512
  v869
def k0_off97 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off98 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_513 : BitVec 32 := 0#32
  let c0_i32_514 : BitVec 32 := 0#32
  ![v591.toNat, 0, 0]
def k0_off99 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_507 : BitVec 32 := 20#32
  let v862 : BitVec 32 := Scalar.subi v590 c20_i32_507
  let c1_i32_509 : BitVec 32 := 1#32
  let v864 : BitVec 32 := Scalar.andi v862 c1_i32_509
  let c2_i32_510 : BitVec 32 := 2#32
  let v865 : BitVec 32 := Scalar.muli v864 c2_i32_510
  let c0_i32_511 : BitVec 32 := 0#32
  let v866 : BitVec 32 := Scalar.addi v865 c0_i32_511
  let c2560_i32 : BitVec 32 := 2560#32
  let v867 : BitVec 32 := Scalar.muli v866 c2560_i32
  let v868 : BitVec 32 := v867
  let c1_i32_508 : BitVec 32 := 1#32
  let v863 : BitVec 32 := Scalar.shrui v862 c1_i32_508
  let c512_i32_512 : BitVec 32 := 512#32
  let v869 : BitVec 32 := Scalar.muli v863 c512_i32_512
  let v870 : BitVec 32 := v869
  ![v588.toNat, v868.toNat, v870.toNat]
def k0_cond36 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_402 : BitVec 32 := 20#32
  let v602 : BitVec 1 := Scalar.cmpi .sge v590 c20_i32_402
  let c60_i32_409 : BitVec 32 := 60#32
  let v615 : BitVec 1 := Scalar.cmpi .slt v586 c60_i32_409
  let v616 : BitVec 1 := Scalar.andi v602 v615
  let v617 : BitVec 32 := Scalar.extui v616
  let c0_i32_410 : BitVec 32 := 0#32
  let v618 : BitVec 1 := Scalar.cmpi .ne v617 c0_i32_410
  v618

def k0_mult47 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_507 : BitVec 32 := 20#32
  let v862 : BitVec 32 := Scalar.subi v590 c20_i32_507
  let c1_i32_509 : BitVec 32 := 1#32
  let v864 : BitVec 32 := Scalar.andi v862 c1_i32_509
  let c2_i32_510 : BitVec 32 := 2#32
  let v865 : BitVec 32 := Scalar.muli v864 c2_i32_510
  let c1_i32_511 : BitVec 32 := 1#32
  let v866 : BitVec 32 := Scalar.addi v865 c1_i32_511
  let c2560_i32 : BitVec 32 := 2560#32
  let v867 : BitVec 32 := Scalar.muli v866 c2560_i32
  v867
def k0_mult48 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_507 : BitVec 32 := 20#32
  let v862 : BitVec 32 := Scalar.subi v590 c20_i32_507
  let c1_i32_508 : BitVec 32 := 1#32
  let v863 : BitVec 32 := Scalar.shrui v862 c1_i32_508
  let c512_i32_512 : BitVec 32 := 512#32
  let v869 : BitVec 32 := Scalar.muli v863 c512_i32_512
  v869
def k0_off100 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off101 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_513 : BitVec 32 := 0#32
  let c512_i32_514 : BitVec 32 := 512#32
  ![v591.toNat, 0, 512]
def k0_off102 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c1_i32_387 : BitVec 32 := 1#32
  let v584 : BitVec 32 := Scalar.subi v566 c1_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_507 : BitVec 32 := 20#32
  let v862 : BitVec 32 := Scalar.subi v590 c20_i32_507
  let c1_i32_509 : BitVec 32 := 1#32
  let v864 : BitVec 32 := Scalar.andi v862 c1_i32_509
  let c2_i32_510 : BitVec 32 := 2#32
  let v865 : BitVec 32 := Scalar.muli v864 c2_i32_510
  let c1_i32_511 : BitVec 32 := 1#32
  let v866 : BitVec 32 := Scalar.addi v865 c1_i32_511
  let c2560_i32 : BitVec 32 := 2560#32
  let v867 : BitVec 32 := Scalar.muli v866 c2560_i32
  let v868 : BitVec 32 := v867
  let c1_i32_508 : BitVec 32 := 1#32
  let v863 : BitVec 32 := Scalar.shrui v862 c1_i32_508
  let c512_i32_512 : BitVec 32 := 512#32
  let v869 : BitVec 32 := Scalar.muli v863 c512_i32_512
  let v870 : BitVec 32 := v869
  ![v588.toNat, v868.toNat, v870.toNat]
def k0_cond37 (k0_t2 : Fin k0_t2_loop.trips) : BitVec 1 :=
  let c0_i32_269 : BitVec 32 := 0#32
  let c1_i32_270 : BitVec 32 := 1#32
  let arg45 : BitVec 32 := Scf.iv c0_i32_269 c1_i32_270 k0_t2
  let c0_i32_411 : BitVec 32 := 0#32
  let v619 : BitVec 1 := Scalar.cmpi .sgt arg45 c0_i32_411
  let v620 : BitVec 32 := Scalar.extui v619
  let c0_i32_412 : BitVec 32 := 0#32
  let v621 : BitVec 1 := Scalar.cmpi .ne v620 c0_i32_412
  v621

def k0_cond38 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_517 : BitVec 32 := 20#32
  let v873 : BitVec 1 := Scalar.cmpi .slt v868 c20_i32_517
  let c0_i32_514 : BitVec 32 := 0#32
  let v870 : BitVec 32 := Scalar.subi v868 c0_i32_514
  let c1_i32_518 : BitVec 32 := 1#32
  let v874 : BitVec 32 := Scalar.andi v870 c1_i32_518
  let c1_i32_519 : BitVec 32 := 1#32
  let v875 : BitVec 1 := Scalar.cmpi .eq v874 c1_i32_519
  let true_520 : BitVec 1 := 1#1
  let v876 : BitVec 1 := Scalar.xori v875 true_520
  let v877 : BitVec 1 := Scalar.andi v873 v876
  let c60_i32_523 : BitVec 32 := 60#32
  let v881 : BitVec 1 := Scalar.cmpi .slt v864 c60_i32_523
  let v882 : BitVec 1 := Scalar.andi v877 v881
  let v883 : BitVec 32 := Scalar.extui v882
  let c0_i32_524 : BitVec 32 := 0#32
  let v884 : BitVec 1 := Scalar.cmpi .ne v883 c0_i32_524
  v884

def k0_mult49 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c0_i32_514 : BitVec 32 := 0#32
  let v870 : BitVec 32 := Scalar.subi v868 c0_i32_514
  let c1_i32_515 : BitVec 32 := 1#32
  let v871 : BitVec 32 := Scalar.shrui v870 c1_i32_515
  let c1024_i32_516 : BitVec 32 := 1024#32
  let v872 : BitVec 32 := Scalar.muli v871 c1024_i32_516
  v872
def k0_off103 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  ![v869.toNat]
def k0_off104 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  let c0_i32_531 : BitVec 32 := 0#32
  let c0_i32_532 : BitVec 32 := 0#32
  ![v869.toNat, 0, 0]
def k0_off105 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c0_i32_533 : BitVec 32 := 0#32
  let c30_i32_512 : BitVec 32 := 30#32
  let v867 : BitVec 32 := Scalar.muli v866 c30_i32_512
  let v868 : BitVec 32 := Scalar.subi v864 v867
  let c0_i32_514 : BitVec 32 := 0#32
  let v870 : BitVec 32 := Scalar.subi v868 c0_i32_514
  let c1_i32_515 : BitVec 32 := 1#32
  let v871 : BitVec 32 := Scalar.shrui v870 c1_i32_515
  let c1024_i32_516 : BitVec 32 := 1024#32
  let v872 : BitVec 32 := Scalar.muli v871 c1024_i32_516
  let v897 : BitVec 32 := v872
  ![v866.toNat, 0, v897.toNat]
def k0_cond39 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_517 : BitVec 32 := 20#32
  let v873 : BitVec 1 := Scalar.cmpi .slt v868 c20_i32_517
  let c0_i32_514 : BitVec 32 := 0#32
  let v870 : BitVec 32 := Scalar.subi v868 c0_i32_514
  let c1_i32_518 : BitVec 32 := 1#32
  let v874 : BitVec 32 := Scalar.andi v870 c1_i32_518
  let c1_i32_519 : BitVec 32 := 1#32
  let v875 : BitVec 1 := Scalar.cmpi .eq v874 c1_i32_519
  let v878 : BitVec 1 := Scalar.andi v873 v875
  let c60_i32_525 : BitVec 32 := 60#32
  let v885 : BitVec 1 := Scalar.cmpi .slt v864 c60_i32_525
  let v886 : BitVec 1 := Scalar.andi v878 v885
  let v887 : BitVec 32 := Scalar.extui v886
  let c0_i32_526 : BitVec 32 := 0#32
  let v888 : BitVec 1 := Scalar.cmpi .ne v887 c0_i32_526
  v888

def k0_mult50 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c0_i32_514 : BitVec 32 := 0#32
  let v870 : BitVec 32 := Scalar.subi v868 c0_i32_514
  let c1_i32_515 : BitVec 32 := 1#32
  let v871 : BitVec 32 := Scalar.shrui v870 c1_i32_515
  let c1024_i32_516 : BitVec 32 := 1024#32
  let v872 : BitVec 32 := Scalar.muli v871 c1024_i32_516
  v872
def k0_off106 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  ![v869.toNat]
def k0_off107 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  let c0_i32_531 : BitVec 32 := 0#32
  let c0_i32_532 : BitVec 32 := 0#32
  ![v869.toNat, 0, 0]
def k0_off108 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c0_i32_533 : BitVec 32 := 0#32
  let c30_i32_512 : BitVec 32 := 30#32
  let v867 : BitVec 32 := Scalar.muli v866 c30_i32_512
  let v868 : BitVec 32 := Scalar.subi v864 v867
  let c0_i32_514 : BitVec 32 := 0#32
  let v870 : BitVec 32 := Scalar.subi v868 c0_i32_514
  let c1_i32_515 : BitVec 32 := 1#32
  let v871 : BitVec 32 := Scalar.shrui v870 c1_i32_515
  let c1024_i32_516 : BitVec 32 := 1024#32
  let v872 : BitVec 32 := Scalar.muli v871 c1024_i32_516
  let v897 : BitVec 32 := v872
  ![v866.toNat, 0, v897.toNat]
def k0_cond40 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_521 : BitVec 32 := 20#32
  let v879 : BitVec 1 := Scalar.cmpi .sge v868 c20_i32_521
  let c60_i32_527 : BitVec 32 := 60#32
  let v889 : BitVec 1 := Scalar.cmpi .slt v864 c60_i32_527
  let v890 : BitVec 1 := Scalar.andi v879 v889
  let v891 : BitVec 32 := Scalar.extui v890
  let c0_i32_528 : BitVec 32 := 0#32
  let v892 : BitVec 1 := Scalar.cmpi .ne v891 c0_i32_528
  v892

def k0_mult51 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_531 : BitVec 32 := 20#32
  let v897 : BitVec 32 := Scalar.subi v868 c20_i32_531
  let c1_i32_533 : BitVec 32 := 1#32
  let v899 : BitVec 32 := Scalar.andi v897 c1_i32_533
  let c2_i32_534 : BitVec 32 := 2#32
  let v900 : BitVec 32 := Scalar.muli v899 c2_i32_534
  let c0_i32_535 : BitVec 32 := 0#32
  let v901 : BitVec 32 := Scalar.addi v900 c0_i32_535
  let c2560_i32 : BitVec 32 := 2560#32
  let v902 : BitVec 32 := Scalar.muli v901 c2560_i32
  v902
def k0_mult52 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_531 : BitVec 32 := 20#32
  let v897 : BitVec 32 := Scalar.subi v868 c20_i32_531
  let c1_i32_532 : BitVec 32 := 1#32
  let v898 : BitVec 32 := Scalar.shrui v897 c1_i32_532
  let c512_i32_536 : BitVec 32 := 512#32
  let v904 : BitVec 32 := Scalar.muli v898 c512_i32_536
  v904
def k0_off109 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  ![v869.toNat]
def k0_off110 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  let c0_i32_537 : BitVec 32 := 0#32
  let c0_i32_538 : BitVec 32 := 0#32
  ![v869.toNat, 0, 0]
def k0_off111 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_531 : BitVec 32 := 20#32
  let v897 : BitVec 32 := Scalar.subi v868 c20_i32_531
  let c1_i32_533 : BitVec 32 := 1#32
  let v899 : BitVec 32 := Scalar.andi v897 c1_i32_533
  let c2_i32_534 : BitVec 32 := 2#32
  let v900 : BitVec 32 := Scalar.muli v899 c2_i32_534
  let c0_i32_535 : BitVec 32 := 0#32
  let v901 : BitVec 32 := Scalar.addi v900 c0_i32_535
  let c2560_i32 : BitVec 32 := 2560#32
  let v902 : BitVec 32 := Scalar.muli v901 c2560_i32
  let v903 : BitVec 32 := v902
  let c1_i32_532 : BitVec 32 := 1#32
  let v898 : BitVec 32 := Scalar.shrui v897 c1_i32_532
  let c512_i32_536 : BitVec 32 := 512#32
  let v904 : BitVec 32 := Scalar.muli v898 c512_i32_536
  let v905 : BitVec 32 := v904
  ![v866.toNat, v903.toNat, v905.toNat]
def k0_cond41 (k0_t1 : Fin k0_t1_loop.trips) (k0_t2 : Fin k0_t2_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_522 : BitVec 32 := 20#32
  let v880 : BitVec 1 := Scalar.cmpi .sge v868 c20_i32_522
  let c60_i32_529 : BitVec 32 := 60#32
  let v893 : BitVec 1 := Scalar.cmpi .slt v864 c60_i32_529
  let v894 : BitVec 1 := Scalar.andi v880 v893
  let v895 : BitVec 32 := Scalar.extui v894
  let c0_i32_530 : BitVec 32 := 0#32
  let v896 : BitVec 1 := Scalar.cmpi .ne v895 c0_i32_530
  v896

def k0_mult53 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_531 : BitVec 32 := 20#32
  let v897 : BitVec 32 := Scalar.subi v868 c20_i32_531
  let c1_i32_533 : BitVec 32 := 1#32
  let v899 : BitVec 32 := Scalar.andi v897 c1_i32_533
  let c2_i32_534 : BitVec 32 := 2#32
  let v900 : BitVec 32 := Scalar.muli v899 c2_i32_534
  let c1_i32_535 : BitVec 32 := 1#32
  let v901 : BitVec 32 := Scalar.addi v900 c1_i32_535
  let c2560_i32 : BitVec 32 := 2560#32
  let v902 : BitVec 32 := Scalar.muli v901 c2560_i32
  v902
def k0_mult54 (k0_t1 : Fin k0_t1_loop.trips) (k0_t2 : Fin k0_t2_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_531 : BitVec 32 := 20#32
  let v897 : BitVec 32 := Scalar.subi v868 c20_i32_531
  let c1_i32_532 : BitVec 32 := 1#32
  let v898 : BitVec 32 := Scalar.shrui v897 c1_i32_532
  let c512_i32_536 : BitVec 32 := 512#32
  let v904 : BitVec 32 := Scalar.muli v898 c512_i32_536
  v904
def k0_off112 (k0_t1 : Fin k0_t1_loop.trips) (k0_t2 : Fin k0_t2_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  ![v869.toNat]
def k0_off113 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c7_i32_513 : BitVec 32 := 7#32
  let v869 : BitVec 32 := Scalar.andi v864 c7_i32_513
  let c0_i32_537 : BitVec 32 := 0#32
  let c512_i32_538 : BitVec 32 := 512#32
  ![v869.toNat, 0, 512]
def k0_off114 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let c2_i32_507 : BitVec 32 := 2#32
  let v862 : BitVec 32 := Scalar.subi v566 c2_i32_507
  let v863 : BitVec 32 := Scalar.addi v225 v862
  let c8_i32_508 : BitVec 32 := 8#32
  let v864 : BitVec 32 := Scalar.addi v863 c8_i32_508
  let c30_i32_509 : BitVec 32 := 30#32
  let v865 : BitVec 1 := Scalar.cmpi .sge v864 c30_i32_509
  let c1_i32_510 : BitVec 32 := 1#32
  let c0_i32_511 : BitVec 32 := 0#32
  let v866 : BitVec 32 := Scalar.select v865 c1_i32_510 c0_i32_511
  let c30_i32_512 : BitVec 32 := 30#32
  let v867 : BitVec 32 := Scalar.muli v866 c30_i32_512
  let v868 : BitVec 32 := Scalar.subi v864 v867
  let c20_i32_531 : BitVec 32 := 20#32
  let v897 : BitVec 32 := Scalar.subi v868 c20_i32_531
  let c1_i32_533 : BitVec 32 := 1#32
  let v899 : BitVec 32 := Scalar.andi v897 c1_i32_533
  let c2_i32_534 : BitVec 32 := 2#32
  let v900 : BitVec 32 := Scalar.muli v899 c2_i32_534
  let c1_i32_535 : BitVec 32 := 1#32
  let v901 : BitVec 32 := Scalar.addi v900 c1_i32_535
  let c2560_i32 : BitVec 32 := 2560#32
  let v902 : BitVec 32 := Scalar.muli v901 c2560_i32
  let v903 : BitVec 32 := v902
  let c1_i32_532 : BitVec 32 := 1#32
  let v898 : BitVec 32 := Scalar.shrui v897 c1_i32_532
  let c512_i32_536 : BitVec 32 := 512#32
  let v904 : BitVec 32 := Scalar.muli v898 c512_i32_536
  let v905 : BitVec 32 := v904
  ![v866.toNat, v903.toNat, v905.toNat]
def k0_mult55 (k0_t2 : Fin k0_t2_loop.trips) : BitVec 32 :=
  let c0_i32_269 : BitVec 32 := 0#32
  let c1_i32_270 : BitVec 32 := 1#32
  let arg45 : BitVec 32 := Scf.iv c0_i32_269 c1_i32_270 k0_t2
  let c1024_i32_415 : BitVec 32 := 1024#32
  let v623 : BitVec 32 := Scalar.muli arg45 c1024_i32_415
  let c0_i32_416 : BitVec 32 := 0#32
  let v624 : BitVec 32 := Scalar.addi v623 c0_i32_416
  v624
def k0_off115 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v627 : BitVec 32 := Scalar.addi v225 v566
  let c7_i32_419 : BitVec 32 := 7#32
  let v628 : BitVec 32 := Scalar.andi v627 c7_i32_419
  let v629 : Index := Scalar.indexCast v628
  let c0_420 : Index := 0#32
  let c0_421 : Index := 0#32
  ![v629.toNat, 0, 0]
def k0_off116 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v635 : BitVec 32 := Scalar.addi v225 v566
  let c1_i32_425 : BitVec 32 := 1#32
  let v636 : BitVec 32 := Scalar.addi v635 c1_i32_425
  let c7_i32_426 : BitVec 32 := 7#32
  let v637 : BitVec 32 := Scalar.andi v636 c7_i32_426
  let v638 : Index := Scalar.indexCast v637
  let c0_427 : Index := 0#32
  let c0_428 : Index := 0#32
  ![v638.toNat, 0, 0]
def k0_off117 (k0_t1 : Fin k0_t1_loop.trips) (k0_t2 : Fin k0_t2_loop.trips) (c0_i32_416 : BitVec 32) : Fin 2 → Nat :=
  let c0_i32_190 : BitVec 32 := 0#32
  let c1_i32_192 : BitVec 32 := 1#32
  let arg44 : BitVec 32 := Scf.iv c0_i32_190 c1_i32_192 k0_t1
  let v646 : Index := Scalar.indexCast arg44
  let c0_i32_269 : BitVec 32 := 0#32
  let c1_i32_270 : BitVec 32 := 1#32
  let arg45 : BitVec 32 := Scf.iv c0_i32_269 c1_i32_270 k0_t2
  let c1024_i32_415 : BitVec 32 := 1024#32
  let v623 : BitVec 32 := Scalar.muli arg45 c1024_i32_415
  let v624 : BitVec 32 := Scalar.addi v623 c0_i32_416
  let v625 : BitVec 32 := v624
  let v647 : Index := Scalar.indexCast v625
  ![v646.toNat, v647.toNat]
def k0_off118 (k0_t2 : Fin k0_t2_loop.trips) (c0_i32_416 : BitVec 32) : Fin 2 → Nat :=
  let c0_438 : Index := 0#32
  let c0_i32_269 : BitVec 32 := 0#32
  let c1_i32_270 : BitVec 32 := 1#32
  let arg45 : BitVec 32 := Scf.iv c0_i32_269 c1_i32_270 k0_t2
  let c1024_i32_415 : BitVec 32 := 1024#32
  let v623 : BitVec 32 := Scalar.muli arg45 c1024_i32_415
  let v624 : BitVec 32 := Scalar.addi v623 c0_i32_416
  let v625 : BitVec 32 := v624
  let v673 : Index := Scalar.indexCast v625
  ![0, v673.toNat]
def k0_mult56 (k0_t2 : Fin k0_t2_loop.trips) : BitVec 32 :=
  let c0_i32_269 : BitVec 32 := 0#32
  let c1_i32_270 : BitVec 32 := 1#32
  let arg45 : BitVec 32 := Scf.iv c0_i32_269 c1_i32_270 k0_t2
  let c1024_i32_439 : BitVec 32 := 1024#32
  let v682 : BitVec 32 := Scalar.muli arg45 c1024_i32_439
  let c256_i32 : BitVec 32 := 256#32
  let v683 : BitVec 32 := Scalar.addi v682 c256_i32
  v683
def k0_off119 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v686 : BitVec 32 := Scalar.addi v225 v566
  let c7_i32_442 : BitVec 32 := 7#32
  let v687 : BitVec 32 := Scalar.andi v686 c7_i32_442
  let v688 : Index := Scalar.indexCast v687
  let c0_443 : Index := 0#32
  let c256 : Index := 256#32
  ![v688.toNat, 0, 256]
def k0_off120 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v694 : BitVec 32 := Scalar.addi v225 v566
  let c1_i32_447 : BitVec 32 := 1#32
  let v695 : BitVec 32 := Scalar.addi v694 c1_i32_447
  let c7_i32_448 : BitVec 32 := 7#32
  let v696 : BitVec 32 := Scalar.andi v695 c7_i32_448
  let v697 : Index := Scalar.indexCast v696
  let c0_449 : Index := 0#32
  let c256_450 : Index := 256#32
  ![v697.toNat, 0, 256]
def k0_mult57 (k0_t2 : Fin k0_t2_loop.trips) : BitVec 32 :=
  let c0_i32_269 : BitVec 32 := 0#32
  let c1_i32_270 : BitVec 32 := 1#32
  let arg45 : BitVec 32 := Scf.iv c0_i32_269 c1_i32_270 k0_t2
  let c1024_i32_461 : BitVec 32 := 1024#32
  let v741 : BitVec 32 := Scalar.muli arg45 c1024_i32_461
  let c512_i32 : BitVec 32 := 512#32
  let v742 : BitVec 32 := Scalar.addi v741 c512_i32
  v742
def k0_off121 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v745 : BitVec 32 := Scalar.addi v225 v566
  let c7_i32_464 : BitVec 32 := 7#32
  let v746 : BitVec 32 := Scalar.andi v745 c7_i32_464
  let v747 : Index := Scalar.indexCast v746
  let c0_465 : Index := 0#32
  let c512 : Index := 512#32
  ![v747.toNat, 0, 512]
def k0_off122 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v753 : BitVec 32 := Scalar.addi v225 v566
  let c1_i32_469 : BitVec 32 := 1#32
  let v754 : BitVec 32 := Scalar.addi v753 c1_i32_469
  let c7_i32_470 : BitVec 32 := 7#32
  let v755 : BitVec 32 := Scalar.andi v754 c7_i32_470
  let v756 : Index := Scalar.indexCast v755
  let c0_471 : Index := 0#32
  let c512_472 : Index := 512#32
  ![v756.toNat, 0, 512]
def k0_mult58 (k0_t2 : Fin k0_t2_loop.trips) : BitVec 32 :=
  let c0_i32_269 : BitVec 32 := 0#32
  let c1_i32_270 : BitVec 32 := 1#32
  let arg45 : BitVec 32 := Scf.iv c0_i32_269 c1_i32_270 k0_t2
  let c1024_i32_483 : BitVec 32 := 1024#32
  let v800 : BitVec 32 := Scalar.muli arg45 c1024_i32_483
  let c768_i32 : BitVec 32 := 768#32
  let v801 : BitVec 32 := Scalar.addi v800 c768_i32
  v801
def k0_off123 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v804 : BitVec 32 := Scalar.addi v225 v566
  let c7_i32_486 : BitVec 32 := 7#32
  let v805 : BitVec 32 := Scalar.andi v804 c7_i32_486
  let v806 : Index := Scalar.indexCast v805
  let c0_487 : Index := 0#32
  let c768 : Index := 768#32
  ![v806.toNat, 0, 768]
def k0_off124 (k0_t1 : Fin k0_t1_loop.trips) (k0_t2 : Fin k0_t2_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c0_i32_373 : BitVec 32 := 0#32
  let c2_i32_372 : BitVec 32 := 2#32
  let c0_i32_269 : BitVec 32 := 0#32
  let c1_i32_270 : BitVec 32 := 1#32
  let arg45 : BitVec 32 := Scf.iv c0_i32_269 c1_i32_270 k0_t2
  let v565 : BitVec 32 := Scalar.muli c2_i32_372 arg45
  let v566 : BitVec 32 := Scalar.addi c0_i32_373 v565
  let v812 : BitVec 32 := Scalar.addi v225 v566
  let c1_i32_491 : BitVec 32 := 1#32
  let v813 : BitVec 32 := Scalar.addi v812 c1_i32_491
  let c7_i32_492 : BitVec 32 := 7#32
  let v814 : BitVec 32 := Scalar.andi v813 c7_i32_492
  let v815 : Index := Scalar.indexCast v814
  let c0_493 : Index := 0#32
  let c768_494 : Index := 768#32
  ![v815.toNat, 0, 768]
@[reducible] def k0_t3_loop : Scf.Loop 32 :=
  let c0_i32_283 : BitVec 32 := 0#32
  let c10_i32_284 : BitVec 32 := 10#32
  let v429 : BitVec 32 := Scalar.addi c0_i32_283 c10_i32_284
  let c1_i32_285 : BitVec 32 := 1#32
  ⟨c0_i32_283, v429, c1_i32_285⟩
def k0_mult59 (k0_t3 : Fin k0_t3_loop.trips) : BitVec 32 :=
  let c0_i32_373 : BitVec 32 := 0#32
  let c0_i32_283 : BitVec 32 := 0#32
  let c1_i32_285 : BitVec 32 := 1#32
  let arg45 : BitVec 32 := Scf.iv c0_i32_283 c1_i32_285 k0_t3
  let c1_i32_372 : BitVec 32 := 1#32
  let v565 : BitVec 32 := Scalar.muli arg45 c1_i32_372
  let v566 : BitVec 32 := Scalar.addi c0_i32_373 v565
  let c1024_i32_374 : BitVec 32 := 1024#32
  let v567 : BitVec 32 := Scalar.muli v566 c1024_i32_374
  let c0_i32_375 : BitVec 32 := 0#32
  let v568 : BitVec 32 := Scalar.addi v567 c0_i32_375
  v568
def k0_off125 (k0_t3 : Fin k0_t3_loop.trips) (c0_i32_375 : BitVec 32) : Fin 2 → Nat :=
  let c0_376 : Index := 0#32
  let c0_i32_373 : BitVec 32 := 0#32
  let c0_i32_283 : BitVec 32 := 0#32
  let c1_i32_285 : BitVec 32 := 1#32
  let arg45 : BitVec 32 := Scf.iv c0_i32_283 c1_i32_285 k0_t3
  let c1_i32_372 : BitVec 32 := 1#32
  let v565 : BitVec 32 := Scalar.muli arg45 c1_i32_372
  let v566 : BitVec 32 := Scalar.addi c0_i32_373 v565
  let c1024_i32_374 : BitVec 32 := 1024#32
  let v567 : BitVec 32 := Scalar.muli v566 c1024_i32_374
  let v568 : BitVec 32 := Scalar.addi v567 c0_i32_375
  let v569 : BitVec 32 := v568
  let v570 : Index := Scalar.indexCast v569
  ![0, v570.toNat]
def k0_mult60 (k0_t3 : Fin k0_t3_loop.trips) : BitVec 32 :=
  let c0_i32_373 : BitVec 32 := 0#32
  let c0_i32_283 : BitVec 32 := 0#32
  let c1_i32_285 : BitVec 32 := 1#32
  let arg45 : BitVec 32 := Scf.iv c0_i32_283 c1_i32_285 k0_t3
  let c1_i32_372 : BitVec 32 := 1#32
  let v565 : BitVec 32 := Scalar.muli arg45 c1_i32_372
  let v566 : BitVec 32 := Scalar.addi c0_i32_373 v565
  let c1024_i32_383 : BitVec 32 := 1024#32
  let v593 : BitVec 32 := Scalar.muli v566 c1024_i32_383
  let c256_i32 : BitVec 32 := 256#32
  let v594 : BitVec 32 := Scalar.addi v593 c256_i32
  v594
def k0_mult61 (k0_t3 : Fin k0_t3_loop.trips) : BitVec 32 :=
  let c0_i32_373 : BitVec 32 := 0#32
  let c0_i32_283 : BitVec 32 := 0#32
  let c1_i32_285 : BitVec 32 := 1#32
  let arg45 : BitVec 32 := Scf.iv c0_i32_283 c1_i32_285 k0_t3
  let c1_i32_372 : BitVec 32 := 1#32
  let v565 : BitVec 32 := Scalar.muli arg45 c1_i32_372
  let v566 : BitVec 32 := Scalar.addi c0_i32_373 v565
  let c1024_i32_391 : BitVec 32 := 1024#32
  let v619 : BitVec 32 := Scalar.muli v566 c1024_i32_391
  let c512_i32 : BitVec 32 := 512#32
  let v620 : BitVec 32 := Scalar.addi v619 c512_i32
  v620
def k0_mult62 (k0_t3 : Fin k0_t3_loop.trips) : BitVec 32 :=
  let c0_i32_373 : BitVec 32 := 0#32
  let c0_i32_283 : BitVec 32 := 0#32
  let c1_i32_285 : BitVec 32 := 1#32
  let arg45 : BitVec 32 := Scf.iv c0_i32_283 c1_i32_285 k0_t3
  let c1_i32_372 : BitVec 32 := 1#32
  let v565 : BitVec 32 := Scalar.muli arg45 c1_i32_372
  let v566 : BitVec 32 := Scalar.addi c0_i32_373 v565
  let c1024_i32_399 : BitVec 32 := 1024#32
  let v645 : BitVec 32 := Scalar.muli v566 c1024_i32_399
  let c768_i32 : BitVec 32 := 768#32
  let v646 : BitVec 32 := Scalar.addi v645 c768_i32
  v646
@[reducible] def k0_t4_loop : Scf.Loop 32 :=
  let c0_i32_297 : BitVec 32 := 0#32
  let c5_i32_298 : BitVec 32 := 5#32
  let v442 : BitVec 32 := Scalar.addi c0_i32_297 c5_i32_298
  let c1_i32_299 : BitVec 32 := 1#32
  ⟨c0_i32_297, v442, c1_i32_299⟩
def k0_off126 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v567 : BitVec 32 := Scalar.addi v225 v566
  let c7_i32_374 : BitVec 32 := 7#32
  let v568 : BitVec 32 := Scalar.andi v567 c7_i32_374
  ![v568.toNat]
def k0_off127 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v567 : BitVec 32 := Scalar.addi v225 v566
  let c7_i32_374 : BitVec 32 := 7#32
  let v568 : BitVec 32 := Scalar.andi v567 c7_i32_374
  let c0_i32_376 : BitVec 32 := 0#32
  let c0_i32_377 : BitVec 32 := 0#32
  ![v568.toNat, 0, 0]
def k0_off128 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v575 : BitVec 32 := Scalar.addi v225 v566
  let c1_i32_380 : BitVec 32 := 1#32
  let v576 : BitVec 32 := Scalar.addi v575 c1_i32_380
  let c7_i32_381 : BitVec 32 := 7#32
  let v577 : BitVec 32 := Scalar.andi v576 c7_i32_381
  ![v577.toNat]
def k0_off129 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v575 : BitVec 32 := Scalar.addi v225 v566
  let c1_i32_380 : BitVec 32 := 1#32
  let v576 : BitVec 32 := Scalar.addi v575 c1_i32_380
  let c7_i32_381 : BitVec 32 := 7#32
  let v577 : BitVec 32 := Scalar.andi v576 c7_i32_381
  let c0_i32_383 : BitVec 32 := 0#32
  let c0_i32_384 : BitVec 32 := 0#32
  ![v577.toNat, 0, 0]
def k0_cond46 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_397 : BitVec 32 := 20#32
  let v595 : BitVec 1 := Scalar.cmpi .slt v590 c20_i32_397
  let c0_i32_394 : BitVec 32 := 0#32
  let v592 : BitVec 32 := Scalar.subi v590 c0_i32_394
  let c1_i32_398 : BitVec 32 := 1#32
  let v596 : BitVec 32 := Scalar.andi v592 c1_i32_398
  let c1_i32_399 : BitVec 32 := 1#32
  let v597 : BitVec 1 := Scalar.cmpi .eq v596 c1_i32_399
  let true_400 : BitVec 1 := 1#1
  let v598 : BitVec 1 := Scalar.xori v597 true_400
  let v599 : BitVec 1 := Scalar.andi v595 v598
  let c60_i32_403 : BitVec 32 := 60#32
  let v603 : BitVec 1 := Scalar.cmpi .slt v586 c60_i32_403
  let v604 : BitVec 1 := Scalar.andi v599 v603
  let v605 : BitVec 32 := Scalar.extui v604
  let c0_i32_404 : BitVec 32 := 0#32
  let v606 : BitVec 1 := Scalar.cmpi .ne v605 c0_i32_404
  v606

def k0_mult63 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  v594
def k0_off130 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off131 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_495 : BitVec 32 := 0#32
  let c0_i32_496 : BitVec 32 := 0#32
  ![v591.toNat, 0, 0]
def k0_off132 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c0_i32_497 : BitVec 32 := 0#32
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  let v766 : BitVec 32 := v594
  ![v588.toNat, 0, v766.toNat]
def k0_cond47 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_397 : BitVec 32 := 20#32
  let v595 : BitVec 1 := Scalar.cmpi .slt v590 c20_i32_397
  let c0_i32_394 : BitVec 32 := 0#32
  let v592 : BitVec 32 := Scalar.subi v590 c0_i32_394
  let c1_i32_398 : BitVec 32 := 1#32
  let v596 : BitVec 32 := Scalar.andi v592 c1_i32_398
  let c1_i32_399 : BitVec 32 := 1#32
  let v597 : BitVec 1 := Scalar.cmpi .eq v596 c1_i32_399
  let v600 : BitVec 1 := Scalar.andi v595 v597
  let c60_i32_405 : BitVec 32 := 60#32
  let v607 : BitVec 1 := Scalar.cmpi .slt v586 c60_i32_405
  let v608 : BitVec 1 := Scalar.andi v600 v607
  let v609 : BitVec 32 := Scalar.extui v608
  let c0_i32_406 : BitVec 32 := 0#32
  let v610 : BitVec 1 := Scalar.cmpi .ne v609 c0_i32_406
  v610

def k0_mult64 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  v594
def k0_off133 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off134 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_495 : BitVec 32 := 0#32
  let c0_i32_496 : BitVec 32 := 0#32
  ![v591.toNat, 0, 0]
def k0_off135 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c0_i32_497 : BitVec 32 := 0#32
  let c30_i32_392 : BitVec 32 := 30#32
  let v589 : BitVec 32 := Scalar.muli v588 c30_i32_392
  let v590 : BitVec 32 := Scalar.subi v586 v589
  let c0_i32_394 : BitVec 32 := 0#32
  let v592 : BitVec 32 := Scalar.subi v590 c0_i32_394
  let c1_i32_395 : BitVec 32 := 1#32
  let v593 : BitVec 32 := Scalar.shrui v592 c1_i32_395
  let c1024_i32_396 : BitVec 32 := 1024#32
  let v594 : BitVec 32 := Scalar.muli v593 c1024_i32_396
  let v766 : BitVec 32 := v594
  ![v588.toNat, 0, v766.toNat]
def k0_cond48 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_401 : BitVec 32 := 20#32
  let v601 : BitVec 1 := Scalar.cmpi .sge v590 c20_i32_401
  let c60_i32_407 : BitVec 32 := 60#32
  let v611 : BitVec 1 := Scalar.cmpi .slt v586 c60_i32_407
  let v612 : BitVec 1 := Scalar.andi v601 v611
  let v613 : BitVec 32 := Scalar.extui v612
  let c0_i32_408 : BitVec 32 := 0#32
  let v614 : BitVec 1 := Scalar.cmpi .ne v613 c0_i32_408
  v614

def k0_mult65 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_495 : BitVec 32 := 20#32
  let v766 : BitVec 32 := Scalar.subi v590 c20_i32_495
  let c1_i32_497 : BitVec 32 := 1#32
  let v768 : BitVec 32 := Scalar.andi v766 c1_i32_497
  let c2_i32_498 : BitVec 32 := 2#32
  let v769 : BitVec 32 := Scalar.muli v768 c2_i32_498
  let c0_i32_499 : BitVec 32 := 0#32
  let v770 : BitVec 32 := Scalar.addi v769 c0_i32_499
  let c2560_i32 : BitVec 32 := 2560#32
  let v771 : BitVec 32 := Scalar.muli v770 c2560_i32
  v771
def k0_mult66 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_495 : BitVec 32 := 20#32
  let v766 : BitVec 32 := Scalar.subi v590 c20_i32_495
  let c1_i32_496 : BitVec 32 := 1#32
  let v767 : BitVec 32 := Scalar.shrui v766 c1_i32_496
  let c512_i32_500 : BitVec 32 := 512#32
  let v773 : BitVec 32 := Scalar.muli v767 c512_i32_500
  v773
def k0_off136 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off137 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_501 : BitVec 32 := 0#32
  let c0_i32_502 : BitVec 32 := 0#32
  ![v591.toNat, 0, 0]
def k0_off138 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_495 : BitVec 32 := 20#32
  let v766 : BitVec 32 := Scalar.subi v590 c20_i32_495
  let c1_i32_497 : BitVec 32 := 1#32
  let v768 : BitVec 32 := Scalar.andi v766 c1_i32_497
  let c2_i32_498 : BitVec 32 := 2#32
  let v769 : BitVec 32 := Scalar.muli v768 c2_i32_498
  let c0_i32_499 : BitVec 32 := 0#32
  let v770 : BitVec 32 := Scalar.addi v769 c0_i32_499
  let c2560_i32 : BitVec 32 := 2560#32
  let v771 : BitVec 32 := Scalar.muli v770 c2560_i32
  let v772 : BitVec 32 := v771
  let c1_i32_496 : BitVec 32 := 1#32
  let v767 : BitVec 32 := Scalar.shrui v766 c1_i32_496
  let c512_i32_500 : BitVec 32 := 512#32
  let v773 : BitVec 32 := Scalar.muli v767 c512_i32_500
  let v774 : BitVec 32 := v773
  ![v588.toNat, v772.toNat, v774.toNat]
def k0_cond49 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_402 : BitVec 32 := 20#32
  let v602 : BitVec 1 := Scalar.cmpi .sge v590 c20_i32_402
  let c60_i32_409 : BitVec 32 := 60#32
  let v615 : BitVec 1 := Scalar.cmpi .slt v586 c60_i32_409
  let v616 : BitVec 1 := Scalar.andi v602 v615
  let v617 : BitVec 32 := Scalar.extui v616
  let c0_i32_410 : BitVec 32 := 0#32
  let v618 : BitVec 1 := Scalar.cmpi .ne v617 c0_i32_410
  v618

def k0_mult67 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_495 : BitVec 32 := 20#32
  let v766 : BitVec 32 := Scalar.subi v590 c20_i32_495
  let c1_i32_497 : BitVec 32 := 1#32
  let v768 : BitVec 32 := Scalar.andi v766 c1_i32_497
  let c2_i32_498 : BitVec 32 := 2#32
  let v769 : BitVec 32 := Scalar.muli v768 c2_i32_498
  let c1_i32_499 : BitVec 32 := 1#32
  let v770 : BitVec 32 := Scalar.addi v769 c1_i32_499
  let c2560_i32 : BitVec 32 := 2560#32
  let v771 : BitVec 32 := Scalar.muli v770 c2560_i32
  v771
def k0_mult68 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_495 : BitVec 32 := 20#32
  let v766 : BitVec 32 := Scalar.subi v590 c20_i32_495
  let c1_i32_496 : BitVec 32 := 1#32
  let v767 : BitVec 32 := Scalar.shrui v766 c1_i32_496
  let c512_i32_500 : BitVec 32 := 512#32
  let v773 : BitVec 32 := Scalar.muli v767 c512_i32_500
  v773
def k0_off139 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  ![v591.toNat]
def k0_off140 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c7_i32_393 : BitVec 32 := 7#32
  let v591 : BitVec 32 := Scalar.andi v586 c7_i32_393
  let c0_i32_501 : BitVec 32 := 0#32
  let c512_i32_502 : BitVec 32 := 512#32
  ![v591.toNat, 0, 512]
def k0_off141 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c2_i32_387 : BitVec 32 := 2#32
  let v584 : BitVec 32 := Scalar.subi v566 c2_i32_387
  let v585 : BitVec 32 := Scalar.addi v225 v584
  let c8_i32_388 : BitVec 32 := 8#32
  let v586 : BitVec 32 := Scalar.addi v585 c8_i32_388
  let c30_i32_389 : BitVec 32 := 30#32
  let v587 : BitVec 1 := Scalar.cmpi .sge v586 c30_i32_389
  let c1_i32_390 : BitVec 32 := 1#32
  let c0_i32_391 : BitVec 32 := 0#32
  let v588 : BitVec 32 := Scalar.select v587 c1_i32_390 c0_i32_391
  let c30_i32_392 : BitVec 32 := 30#32
  let v589 : BitVec 32 := Scalar.muli v588 c30_i32_392
  let v590 : BitVec 32 := Scalar.subi v586 v589
  let c20_i32_495 : BitVec 32 := 20#32
  let v766 : BitVec 32 := Scalar.subi v590 c20_i32_495
  let c1_i32_497 : BitVec 32 := 1#32
  let v768 : BitVec 32 := Scalar.andi v766 c1_i32_497
  let c2_i32_498 : BitVec 32 := 2#32
  let v769 : BitVec 32 := Scalar.muli v768 c2_i32_498
  let c1_i32_499 : BitVec 32 := 1#32
  let v770 : BitVec 32 := Scalar.addi v769 c1_i32_499
  let c2560_i32 : BitVec 32 := 2560#32
  let v771 : BitVec 32 := Scalar.muli v770 c2560_i32
  let v772 : BitVec 32 := v771
  let c1_i32_496 : BitVec 32 := 1#32
  let v767 : BitVec 32 := Scalar.shrui v766 c1_i32_496
  let c512_i32_500 : BitVec 32 := 512#32
  let v773 : BitVec 32 := Scalar.muli v767 c512_i32_500
  let v774 : BitVec 32 := v773
  ![v588.toNat, v772.toNat, v774.toNat]
def k0_cond50 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_421 : BitVec 32 := 20#32
  let v630 : BitVec 1 := Scalar.cmpi .slt v625 c20_i32_421
  let c0_i32_418 : BitVec 32 := 0#32
  let v627 : BitVec 32 := Scalar.subi v625 c0_i32_418
  let c1_i32_422 : BitVec 32 := 1#32
  let v631 : BitVec 32 := Scalar.andi v627 c1_i32_422
  let c1_i32_423 : BitVec 32 := 1#32
  let v632 : BitVec 1 := Scalar.cmpi .eq v631 c1_i32_423
  let true_424 : BitVec 1 := 1#1
  let v633 : BitVec 1 := Scalar.xori v632 true_424
  let v634 : BitVec 1 := Scalar.andi v630 v633
  let c60_i32_427 : BitVec 32 := 60#32
  let v638 : BitVec 1 := Scalar.cmpi .slt v621 c60_i32_427
  let v639 : BitVec 1 := Scalar.andi v634 v638
  let v640 : BitVec 32 := Scalar.extui v639
  let c0_i32_428 : BitVec 32 := 0#32
  let v641 : BitVec 1 := Scalar.cmpi .ne v640 c0_i32_428
  v641

def k0_mult69 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c0_i32_418 : BitVec 32 := 0#32
  let v627 : BitVec 32 := Scalar.subi v625 c0_i32_418
  let c1_i32_419 : BitVec 32 := 1#32
  let v628 : BitVec 32 := Scalar.shrui v627 c1_i32_419
  let c1024_i32_420 : BitVec 32 := 1024#32
  let v629 : BitVec 32 := Scalar.muli v628 c1024_i32_420
  v629
def k0_off142 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  ![v626.toNat]
def k0_off143 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  let c0_i32_495 : BitVec 32 := 0#32
  let c0_i32_496 : BitVec 32 := 0#32
  ![v626.toNat, 0, 0]
def k0_off144 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c0_i32_497 : BitVec 32 := 0#32
  let c30_i32_416 : BitVec 32 := 30#32
  let v624 : BitVec 32 := Scalar.muli v623 c30_i32_416
  let v625 : BitVec 32 := Scalar.subi v621 v624
  let c0_i32_418 : BitVec 32 := 0#32
  let v627 : BitVec 32 := Scalar.subi v625 c0_i32_418
  let c1_i32_419 : BitVec 32 := 1#32
  let v628 : BitVec 32 := Scalar.shrui v627 c1_i32_419
  let c1024_i32_420 : BitVec 32 := 1024#32
  let v629 : BitVec 32 := Scalar.muli v628 c1024_i32_420
  let v766 : BitVec 32 := v629
  ![v623.toNat, 0, v766.toNat]
def k0_cond51 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_421 : BitVec 32 := 20#32
  let v630 : BitVec 1 := Scalar.cmpi .slt v625 c20_i32_421
  let c0_i32_418 : BitVec 32 := 0#32
  let v627 : BitVec 32 := Scalar.subi v625 c0_i32_418
  let c1_i32_422 : BitVec 32 := 1#32
  let v631 : BitVec 32 := Scalar.andi v627 c1_i32_422
  let c1_i32_423 : BitVec 32 := 1#32
  let v632 : BitVec 1 := Scalar.cmpi .eq v631 c1_i32_423
  let v635 : BitVec 1 := Scalar.andi v630 v632
  let c60_i32_429 : BitVec 32 := 60#32
  let v642 : BitVec 1 := Scalar.cmpi .slt v621 c60_i32_429
  let v643 : BitVec 1 := Scalar.andi v635 v642
  let v644 : BitVec 32 := Scalar.extui v643
  let c0_i32_430 : BitVec 32 := 0#32
  let v645 : BitVec 1 := Scalar.cmpi .ne v644 c0_i32_430
  v645

def k0_mult70 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c0_i32_418 : BitVec 32 := 0#32
  let v627 : BitVec 32 := Scalar.subi v625 c0_i32_418
  let c1_i32_419 : BitVec 32 := 1#32
  let v628 : BitVec 32 := Scalar.shrui v627 c1_i32_419
  let c1024_i32_420 : BitVec 32 := 1024#32
  let v629 : BitVec 32 := Scalar.muli v628 c1024_i32_420
  v629
def k0_off145 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  ![v626.toNat]
def k0_off146 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  let c0_i32_495 : BitVec 32 := 0#32
  let c0_i32_496 : BitVec 32 := 0#32
  ![v626.toNat, 0, 0]
def k0_off147 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c0_i32_497 : BitVec 32 := 0#32
  let c30_i32_416 : BitVec 32 := 30#32
  let v624 : BitVec 32 := Scalar.muli v623 c30_i32_416
  let v625 : BitVec 32 := Scalar.subi v621 v624
  let c0_i32_418 : BitVec 32 := 0#32
  let v627 : BitVec 32 := Scalar.subi v625 c0_i32_418
  let c1_i32_419 : BitVec 32 := 1#32
  let v628 : BitVec 32 := Scalar.shrui v627 c1_i32_419
  let c1024_i32_420 : BitVec 32 := 1024#32
  let v629 : BitVec 32 := Scalar.muli v628 c1024_i32_420
  let v766 : BitVec 32 := v629
  ![v623.toNat, 0, v766.toNat]
def k0_cond52 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_425 : BitVec 32 := 20#32
  let v636 : BitVec 1 := Scalar.cmpi .sge v625 c20_i32_425
  let c60_i32_431 : BitVec 32 := 60#32
  let v646 : BitVec 1 := Scalar.cmpi .slt v621 c60_i32_431
  let v647 : BitVec 1 := Scalar.andi v636 v646
  let v648 : BitVec 32 := Scalar.extui v647
  let c0_i32_432 : BitVec 32 := 0#32
  let v649 : BitVec 1 := Scalar.cmpi .ne v648 c0_i32_432
  v649

def k0_mult71 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_495 : BitVec 32 := 20#32
  let v766 : BitVec 32 := Scalar.subi v625 c20_i32_495
  let c1_i32_497 : BitVec 32 := 1#32
  let v768 : BitVec 32 := Scalar.andi v766 c1_i32_497
  let c2_i32_498 : BitVec 32 := 2#32
  let v769 : BitVec 32 := Scalar.muli v768 c2_i32_498
  let c0_i32_499 : BitVec 32 := 0#32
  let v770 : BitVec 32 := Scalar.addi v769 c0_i32_499
  let c2560_i32 : BitVec 32 := 2560#32
  let v771 : BitVec 32 := Scalar.muli v770 c2560_i32
  v771
def k0_mult72 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_495 : BitVec 32 := 20#32
  let v766 : BitVec 32 := Scalar.subi v625 c20_i32_495
  let c1_i32_496 : BitVec 32 := 1#32
  let v767 : BitVec 32 := Scalar.shrui v766 c1_i32_496
  let c512_i32_500 : BitVec 32 := 512#32
  let v773 : BitVec 32 := Scalar.muli v767 c512_i32_500
  v773
def k0_off148 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  ![v626.toNat]
def k0_off149 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  let c0_i32_501 : BitVec 32 := 0#32
  let c0_i32_502 : BitVec 32 := 0#32
  ![v626.toNat, 0, 0]
def k0_off150 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_495 : BitVec 32 := 20#32
  let v766 : BitVec 32 := Scalar.subi v625 c20_i32_495
  let c1_i32_497 : BitVec 32 := 1#32
  let v768 : BitVec 32 := Scalar.andi v766 c1_i32_497
  let c2_i32_498 : BitVec 32 := 2#32
  let v769 : BitVec 32 := Scalar.muli v768 c2_i32_498
  let c0_i32_499 : BitVec 32 := 0#32
  let v770 : BitVec 32 := Scalar.addi v769 c0_i32_499
  let c2560_i32 : BitVec 32 := 2560#32
  let v771 : BitVec 32 := Scalar.muli v770 c2560_i32
  let v772 : BitVec 32 := v771
  let c1_i32_496 : BitVec 32 := 1#32
  let v767 : BitVec 32 := Scalar.shrui v766 c1_i32_496
  let c512_i32_500 : BitVec 32 := 512#32
  let v773 : BitVec 32 := Scalar.muli v767 c512_i32_500
  let v774 : BitVec 32 := v773
  ![v623.toNat, v772.toNat, v774.toNat]
def k0_cond53 (k0_t1 : Fin k0_t1_loop.trips) (k0_t4 : Fin k0_t4_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_426 : BitVec 32 := 20#32
  let v637 : BitVec 1 := Scalar.cmpi .sge v625 c20_i32_426
  let c60_i32_433 : BitVec 32 := 60#32
  let v650 : BitVec 1 := Scalar.cmpi .slt v621 c60_i32_433
  let v651 : BitVec 1 := Scalar.andi v637 v650
  let v652 : BitVec 32 := Scalar.extui v651
  let c0_i32_434 : BitVec 32 := 0#32
  let v653 : BitVec 1 := Scalar.cmpi .ne v652 c0_i32_434
  v653

def k0_mult73 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_495 : BitVec 32 := 20#32
  let v766 : BitVec 32 := Scalar.subi v625 c20_i32_495
  let c1_i32_497 : BitVec 32 := 1#32
  let v768 : BitVec 32 := Scalar.andi v766 c1_i32_497
  let c2_i32_498 : BitVec 32 := 2#32
  let v769 : BitVec 32 := Scalar.muli v768 c2_i32_498
  let c1_i32_499 : BitVec 32 := 1#32
  let v770 : BitVec 32 := Scalar.addi v769 c1_i32_499
  let c2560_i32 : BitVec 32 := 2560#32
  let v771 : BitVec 32 := Scalar.muli v770 c2560_i32
  v771
def k0_mult74 (k0_t1 : Fin k0_t1_loop.trips) (k0_t4 : Fin k0_t4_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_495 : BitVec 32 := 20#32
  let v766 : BitVec 32 := Scalar.subi v625 c20_i32_495
  let c1_i32_496 : BitVec 32 := 1#32
  let v767 : BitVec 32 := Scalar.shrui v766 c1_i32_496
  let c512_i32_500 : BitVec 32 := 512#32
  let v773 : BitVec 32 := Scalar.muli v767 c512_i32_500
  v773
def k0_off151 (k0_t1 : Fin k0_t1_loop.trips) (k0_t4 : Fin k0_t4_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  ![v626.toNat]
def k0_off152 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c7_i32_417 : BitVec 32 := 7#32
  let v626 : BitVec 32 := Scalar.andi v621 c7_i32_417
  let c0_i32_501 : BitVec 32 := 0#32
  let c512_i32_502 : BitVec 32 := 512#32
  ![v626.toNat, 0, 512]
def k0_off153 (k0_t1 : Fin k0_t1_loop.trips) (k0_t4 : Fin k0_t4_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let c1_i32_411 : BitVec 32 := 1#32
  let v619 : BitVec 32 := Scalar.subi v566 c1_i32_411
  let v620 : BitVec 32 := Scalar.addi v225 v619
  let c8_i32_412 : BitVec 32 := 8#32
  let v621 : BitVec 32 := Scalar.addi v620 c8_i32_412
  let c30_i32_413 : BitVec 32 := 30#32
  let v622 : BitVec 1 := Scalar.cmpi .sge v621 c30_i32_413
  let c1_i32_414 : BitVec 32 := 1#32
  let c0_i32_415 : BitVec 32 := 0#32
  let v623 : BitVec 32 := Scalar.select v622 c1_i32_414 c0_i32_415
  let c30_i32_416 : BitVec 32 := 30#32
  let v624 : BitVec 32 := Scalar.muli v623 c30_i32_416
  let v625 : BitVec 32 := Scalar.subi v621 v624
  let c20_i32_495 : BitVec 32 := 20#32
  let v766 : BitVec 32 := Scalar.subi v625 c20_i32_495
  let c1_i32_497 : BitVec 32 := 1#32
  let v768 : BitVec 32 := Scalar.andi v766 c1_i32_497
  let c2_i32_498 : BitVec 32 := 2#32
  let v769 : BitVec 32 := Scalar.muli v768 c2_i32_498
  let c1_i32_499 : BitVec 32 := 1#32
  let v770 : BitVec 32 := Scalar.addi v769 c1_i32_499
  let c2560_i32 : BitVec 32 := 2560#32
  let v771 : BitVec 32 := Scalar.muli v770 c2560_i32
  let v772 : BitVec 32 := v771
  let c1_i32_496 : BitVec 32 := 1#32
  let v767 : BitVec 32 := Scalar.shrui v766 c1_i32_496
  let c512_i32_500 : BitVec 32 := 512#32
  let v773 : BitVec 32 := Scalar.muli v767 c512_i32_500
  let v774 : BitVec 32 := v773
  ![v623.toNat, v772.toNat, v774.toNat]
def k0_off154 (k0_t1 : Fin k0_t1_loop.trips) (k0_t4 : Fin k0_t4_loop.trips) (c0_i32_438 : BitVec 32) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v656 : BitVec 32 := Scalar.addi v225 v566
  let v657 : BitVec 32 := Scalar.addi v656 c0_i32_438
  let c7_i32_439 : BitVec 32 := 7#32
  let v658 : BitVec 32 := Scalar.andi v657 c7_i32_439
  let v659 : Index := Scalar.indexCast v658
  let c0_440 : Index := 0#32
  let c0_441 : Index := 0#32
  ![v659.toNat, 0, 0]
def k0_off155 (k0_t1 : Fin k0_t1_loop.trips) (k0_t4 : Fin k0_t4_loop.trips) (c0_i32_444 : BitVec 32) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v666 : BitVec 32 := Scalar.addi v225 v566
  let v667 : BitVec 32 := Scalar.addi v666 c0_i32_444
  let c7_i32_445 : BitVec 32 := 7#32
  let v668 : BitVec 32 := Scalar.andi v667 c7_i32_445
  let v669 : Index := Scalar.indexCast v668
  let c0_446 : Index := 0#32
  let c512 : Index := 512#32
  ![v669.toNat, 0, 512]
def k0_mult75 (k0_t4 : Fin k0_t4_loop.trips) : BitVec 32 :=
  let c0_i32_297 : BitVec 32 := 0#32
  let c1_i32_299 : BitVec 32 := 1#32
  let arg45 : BitVec 32 := Scf.iv c0_i32_297 c1_i32_299 k0_t4
  let c512_i32 : BitVec 32 := 512#32
  let v695 : BitVec 32 := Scalar.muli arg45 c512_i32
  let c0_i32_460 : BitVec 32 := 0#32
  let v696 : BitVec 32 := Scalar.addi v695 c0_i32_460
  v696
def k0_off156 (k0_t1 : Fin k0_t1_loop.trips) (k0_t4 : Fin k0_t4_loop.trips) (c0_i32_460 : BitVec 32) : Fin 2 → Nat :=
  let c0_i32_190 : BitVec 32 := 0#32
  let c1_i32_192 : BitVec 32 := 1#32
  let arg44 : BitVec 32 := Scf.iv c0_i32_190 c1_i32_192 k0_t1
  let v701 : Index := Scalar.indexCast arg44
  let c0_i32_297 : BitVec 32 := 0#32
  let c1_i32_299 : BitVec 32 := 1#32
  let arg45 : BitVec 32 := Scf.iv c0_i32_297 c1_i32_299 k0_t4
  let c512_i32 : BitVec 32 := 512#32
  let v695 : BitVec 32 := Scalar.muli arg45 c512_i32
  let v696 : BitVec 32 := Scalar.addi v695 c0_i32_460
  let v697 : BitVec 32 := v696
  let v702 : Index := Scalar.indexCast v697
  ![v701.toNat, v702.toNat]
def k0_off157 (k0_t4 : Fin k0_t4_loop.trips) (c0_i32_460 : BitVec 32) : Fin 2 → Nat :=
  let c0_463 : Index := 0#32
  let c0_i32_297 : BitVec 32 := 0#32
  let c1_i32_299 : BitVec 32 := 1#32
  let arg45 : BitVec 32 := Scf.iv c0_i32_297 c1_i32_299 k0_t4
  let c512_i32 : BitVec 32 := 512#32
  let v695 : BitVec 32 := Scalar.muli arg45 c512_i32
  let v696 : BitVec 32 := Scalar.addi v695 c0_i32_460
  let v697 : BitVec 32 := v696
  let v706 : Index := Scalar.indexCast v697
  ![0, v706.toNat]
def k0_off158 (k0_t1 : Fin k0_t1_loop.trips) (k0_t4 : Fin k0_t4_loop.trips) (c0_i32_467 : BitVec 32) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v712 : BitVec 32 := Scalar.addi v225 v566
  let v713 : BitVec 32 := Scalar.addi v712 c0_i32_467
  let c7_i32_468 : BitVec 32 := 7#32
  let v714 : BitVec 32 := Scalar.andi v713 c7_i32_468
  let v715 : Index := Scalar.indexCast v714
  let c0_469 : Index := 0#32
  let c256 : Index := 256#32
  ![v715.toNat, 0, 256]
def k0_off159 (k0_t1 : Fin k0_t1_loop.trips) (k0_t4 : Fin k0_t4_loop.trips) (c0_i32_473 : BitVec 32) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c20_i32_373 : BitVec 32 := 20#32
  let c2_i32_372 : BitVec 32 := 2#32
  let c0_i32_297 : BitVec 32 := 0#32
  let c1_i32_299 : BitVec 32 := 1#32
  let arg45 : BitVec 32 := Scf.iv c0_i32_297 c1_i32_299 k0_t4
  let v565 : BitVec 32 := Scalar.muli c2_i32_372 arg45
  let v566 : BitVec 32 := Scalar.addi c20_i32_373 v565
  let v722 : BitVec 32 := Scalar.addi v225 v566
  let v723 : BitVec 32 := Scalar.addi v722 c0_i32_473
  let c7_i32_474 : BitVec 32 := 7#32
  let v724 : BitVec 32 := Scalar.andi v723 c7_i32_474
  let v725 : Index := Scalar.indexCast v724
  let c0_475 : Index := 0#32
  let c768 : Index := 768#32
  ![v725.toNat, 0, 768]
def k0_mult76 (k0_t4 : Fin k0_t4_loop.trips) : BitVec 32 :=
  let c0_i32_297 : BitVec 32 := 0#32
  let c1_i32_299 : BitVec 32 := 1#32
  let arg45 : BitVec 32 := Scf.iv c0_i32_297 c1_i32_299 k0_t4
  let c512_i32_491 : BitVec 32 := 512#32
  let v751 : BitVec 32 := Scalar.muli arg45 c512_i32_491
  let c256_i32 : BitVec 32 := 256#32
  let v752 : BitVec 32 := Scalar.addi v751 c256_i32
  v752
def k0_cond54 (k0_t1 : Fin k0_t1_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_309 : BitVec 32 := 20#32
  let v453 : BitVec 1 := Scalar.cmpi .slt v448 c20_i32_309
  let c0_i32_306 : BitVec 32 := 0#32
  let v450 : BitVec 32 := Scalar.subi v448 c0_i32_306
  let c1_i32_310 : BitVec 32 := 1#32
  let v454 : BitVec 32 := Scalar.andi v450 c1_i32_310
  let c1_i32_311 : BitVec 32 := 1#32
  let v455 : BitVec 1 := Scalar.cmpi .eq v454 c1_i32_311
  let true_312 : BitVec 1 := 1#1
  let v456 : BitVec 1 := Scalar.xori v455 true_312
  let v457 : BitVec 1 := Scalar.andi v453 v456
  let c60_i32_315 : BitVec 32 := 60#32
  let v461 : BitVec 1 := Scalar.cmpi .slt v444 c60_i32_315
  let v462 : BitVec 1 := Scalar.andi v457 v461
  let v463 : BitVec 32 := Scalar.extui v462
  let c0_i32_316 : BitVec 32 := 0#32
  let v464 : BitVec 1 := Scalar.cmpi .ne v463 c0_i32_316
  v464

def k0_mult77 (k0_t1 : Fin k0_t1_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c0_i32_306 : BitVec 32 := 0#32
  let v450 : BitVec 32 := Scalar.subi v448 c0_i32_306
  let c1_i32_307 : BitVec 32 := 1#32
  let v451 : BitVec 32 := Scalar.shrui v450 c1_i32_307
  let c1024_i32_308 : BitVec 32 := 1024#32
  let v452 : BitVec 32 := Scalar.muli v451 c1024_i32_308
  v452
def k0_off160 (k0_t1 : Fin k0_t1_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  ![v449.toNat]
def k0_off161 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  let c0_i32_372 : BitVec 32 := 0#32
  let c0_i32_373 : BitVec 32 := 0#32
  ![v449.toNat, 0, 0]
def k0_off162 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c0_i32_374 : BitVec 32 := 0#32
  let c30_i32_304 : BitVec 32 := 30#32
  let v447 : BitVec 32 := Scalar.muli v446 c30_i32_304
  let v448 : BitVec 32 := Scalar.subi v444 v447
  let c0_i32_306 : BitVec 32 := 0#32
  let v450 : BitVec 32 := Scalar.subi v448 c0_i32_306
  let c1_i32_307 : BitVec 32 := 1#32
  let v451 : BitVec 32 := Scalar.shrui v450 c1_i32_307
  let c1024_i32_308 : BitVec 32 := 1024#32
  let v452 : BitVec 32 := Scalar.muli v451 c1024_i32_308
  let v565 : BitVec 32 := v452
  ![v446.toNat, 0, v565.toNat]
def k0_cond55 (k0_t1 : Fin k0_t1_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_309 : BitVec 32 := 20#32
  let v453 : BitVec 1 := Scalar.cmpi .slt v448 c20_i32_309
  let c0_i32_306 : BitVec 32 := 0#32
  let v450 : BitVec 32 := Scalar.subi v448 c0_i32_306
  let c1_i32_310 : BitVec 32 := 1#32
  let v454 : BitVec 32 := Scalar.andi v450 c1_i32_310
  let c1_i32_311 : BitVec 32 := 1#32
  let v455 : BitVec 1 := Scalar.cmpi .eq v454 c1_i32_311
  let v458 : BitVec 1 := Scalar.andi v453 v455
  let c60_i32_317 : BitVec 32 := 60#32
  let v465 : BitVec 1 := Scalar.cmpi .slt v444 c60_i32_317
  let v466 : BitVec 1 := Scalar.andi v458 v465
  let v467 : BitVec 32 := Scalar.extui v466
  let c0_i32_318 : BitVec 32 := 0#32
  let v468 : BitVec 1 := Scalar.cmpi .ne v467 c0_i32_318
  v468

def k0_mult78 (k0_t1 : Fin k0_t1_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c0_i32_306 : BitVec 32 := 0#32
  let v450 : BitVec 32 := Scalar.subi v448 c0_i32_306
  let c1_i32_307 : BitVec 32 := 1#32
  let v451 : BitVec 32 := Scalar.shrui v450 c1_i32_307
  let c1024_i32_308 : BitVec 32 := 1024#32
  let v452 : BitVec 32 := Scalar.muli v451 c1024_i32_308
  v452
def k0_off163 (k0_t1 : Fin k0_t1_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  ![v449.toNat]
def k0_off164 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  let c0_i32_372 : BitVec 32 := 0#32
  let c0_i32_373 : BitVec 32 := 0#32
  ![v449.toNat, 0, 0]
def k0_off165 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c0_i32_374 : BitVec 32 := 0#32
  let c30_i32_304 : BitVec 32 := 30#32
  let v447 : BitVec 32 := Scalar.muli v446 c30_i32_304
  let v448 : BitVec 32 := Scalar.subi v444 v447
  let c0_i32_306 : BitVec 32 := 0#32
  let v450 : BitVec 32 := Scalar.subi v448 c0_i32_306
  let c1_i32_307 : BitVec 32 := 1#32
  let v451 : BitVec 32 := Scalar.shrui v450 c1_i32_307
  let c1024_i32_308 : BitVec 32 := 1024#32
  let v452 : BitVec 32 := Scalar.muli v451 c1024_i32_308
  let v565 : BitVec 32 := v452
  ![v446.toNat, 0, v565.toNat]
def k0_cond56 (k0_t1 : Fin k0_t1_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_313 : BitVec 32 := 20#32
  let v459 : BitVec 1 := Scalar.cmpi .sge v448 c20_i32_313
  let c60_i32_319 : BitVec 32 := 60#32
  let v469 : BitVec 1 := Scalar.cmpi .slt v444 c60_i32_319
  let v470 : BitVec 1 := Scalar.andi v459 v469
  let v471 : BitVec 32 := Scalar.extui v470
  let c0_i32_320 : BitVec 32 := 0#32
  let v472 : BitVec 1 := Scalar.cmpi .ne v471 c0_i32_320
  v472

def k0_mult79 (k0_t1 : Fin k0_t1_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_372 : BitVec 32 := 20#32
  let v565 : BitVec 32 := Scalar.subi v448 c20_i32_372
  let c1_i32_374 : BitVec 32 := 1#32
  let v567 : BitVec 32 := Scalar.andi v565 c1_i32_374
  let c2_i32_375 : BitVec 32 := 2#32
  let v568 : BitVec 32 := Scalar.muli v567 c2_i32_375
  let c0_i32_376 : BitVec 32 := 0#32
  let v569 : BitVec 32 := Scalar.addi v568 c0_i32_376
  let c2560_i32 : BitVec 32 := 2560#32
  let v570 : BitVec 32 := Scalar.muli v569 c2560_i32
  v570
def k0_mult80 (k0_t1 : Fin k0_t1_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_372 : BitVec 32 := 20#32
  let v565 : BitVec 32 := Scalar.subi v448 c20_i32_372
  let c1_i32_373 : BitVec 32 := 1#32
  let v566 : BitVec 32 := Scalar.shrui v565 c1_i32_373
  let c512_i32 : BitVec 32 := 512#32
  let v572 : BitVec 32 := Scalar.muli v566 c512_i32
  v572
def k0_off166 (k0_t1 : Fin k0_t1_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  ![v449.toNat]
def k0_off167 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  let c0_i32_377 : BitVec 32 := 0#32
  let c0_i32_378 : BitVec 32 := 0#32
  ![v449.toNat, 0, 0]
def k0_off168 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_372 : BitVec 32 := 20#32
  let v565 : BitVec 32 := Scalar.subi v448 c20_i32_372
  let c1_i32_374 : BitVec 32 := 1#32
  let v567 : BitVec 32 := Scalar.andi v565 c1_i32_374
  let c2_i32_375 : BitVec 32 := 2#32
  let v568 : BitVec 32 := Scalar.muli v567 c2_i32_375
  let c0_i32_376 : BitVec 32 := 0#32
  let v569 : BitVec 32 := Scalar.addi v568 c0_i32_376
  let c2560_i32 : BitVec 32 := 2560#32
  let v570 : BitVec 32 := Scalar.muli v569 c2560_i32
  let v571 : BitVec 32 := v570
  let c1_i32_373 : BitVec 32 := 1#32
  let v566 : BitVec 32 := Scalar.shrui v565 c1_i32_373
  let c512_i32 : BitVec 32 := 512#32
  let v572 : BitVec 32 := Scalar.muli v566 c512_i32
  let v573 : BitVec 32 := v572
  ![v446.toNat, v571.toNat, v573.toNat]
def k0_cond57 (k0_t1 : Fin k0_t1_loop.trips) : BitVec 1 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_314 : BitVec 32 := 20#32
  let v460 : BitVec 1 := Scalar.cmpi .sge v448 c20_i32_314
  let c60_i32_321 : BitVec 32 := 60#32
  let v473 : BitVec 1 := Scalar.cmpi .slt v444 c60_i32_321
  let v474 : BitVec 1 := Scalar.andi v460 v473
  let v475 : BitVec 32 := Scalar.extui v474
  let c0_i32_322 : BitVec 32 := 0#32
  let v476 : BitVec 1 := Scalar.cmpi .ne v475 c0_i32_322
  v476

def k0_mult81 (k0_t1 : Fin k0_t1_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_372 : BitVec 32 := 20#32
  let v565 : BitVec 32 := Scalar.subi v448 c20_i32_372
  let c1_i32_374 : BitVec 32 := 1#32
  let v567 : BitVec 32 := Scalar.andi v565 c1_i32_374
  let c2_i32_375 : BitVec 32 := 2#32
  let v568 : BitVec 32 := Scalar.muli v567 c2_i32_375
  let c1_i32_376 : BitVec 32 := 1#32
  let v569 : BitVec 32 := Scalar.addi v568 c1_i32_376
  let c2560_i32 : BitVec 32 := 2560#32
  let v570 : BitVec 32 := Scalar.muli v569 c2560_i32
  v570
def k0_mult82 (k0_t1 : Fin k0_t1_loop.trips) : BitVec 32 :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_372 : BitVec 32 := 20#32
  let v565 : BitVec 32 := Scalar.subi v448 c20_i32_372
  let c1_i32_373 : BitVec 32 := 1#32
  let v566 : BitVec 32 := Scalar.shrui v565 c1_i32_373
  let c512_i32 : BitVec 32 := 512#32
  let v572 : BitVec 32 := Scalar.muli v566 c512_i32
  v572
def k0_off169 (k0_t1 : Fin k0_t1_loop.trips) : Fin 1 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  ![v449.toNat]
def k0_off170 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c7_i32_305 : BitVec 32 := 7#32
  let v449 : BitVec 32 := Scalar.andi v444 c7_i32_305
  let c0_i32_377 : BitVec 32 := 0#32
  let c512_i32_378 : BitVec 32 := 512#32
  ![v449.toNat, 0, 512]
def k0_off171 (k0_t1 : Fin k0_t1_loop.trips) : Fin 3 → Nat :=
  let c0_i32_190 : BitVec 32 := 0#32
  let c1_i32_192 : BitVec 32 := 1#32
  let arg44 : BitVec 32 := Scf.iv c0_i32_190 c1_i32_192 k0_t1
  let c30_i32_194 : BitVec 32 := 30#32
  let v225 : BitVec 32 := Scalar.muli arg44 c30_i32_194
  let c28_i32 : BitVec 32 := 28#32
  let v443 : BitVec 32 := Scalar.addi v225 c28_i32
  let c8_i32 : BitVec 32 := 8#32
  let v444 : BitVec 32 := Scalar.addi v443 c8_i32
  let c30_i32_301 : BitVec 32 := 30#32
  let v445 : BitVec 1 := Scalar.cmpi .sge v444 c30_i32_301
  let c1_i32_302 : BitVec 32 := 1#32
  let c0_i32_303 : BitVec 32 := 0#32
  let v446 : BitVec 32 := Scalar.select v445 c1_i32_302 c0_i32_303
  let c30_i32_304 : BitVec 32 := 30#32
  let v447 : BitVec 32 := Scalar.muli v446 c30_i32_304
  let v448 : BitVec 32 := Scalar.subi v444 v447
  let c20_i32_372 : BitVec 32 := 20#32
  let v565 : BitVec 32 := Scalar.subi v448 c20_i32_372
  let c1_i32_374 : BitVec 32 := 1#32
  let v567 : BitVec 32 := Scalar.andi v565 c1_i32_374
  let c2_i32_375 : BitVec 32 := 2#32
  let v568 : BitVec 32 := Scalar.muli v567 c2_i32_375
  let c1_i32_376 : BitVec 32 := 1#32
  let v569 : BitVec 32 := Scalar.addi v568 c1_i32_376
  let c2560_i32 : BitVec 32 := 2560#32
  let v570 : BitVec 32 := Scalar.muli v569 c2560_i32
  let v571 : BitVec 32 := v570
  let c1_i32_373 : BitVec 32 := 1#32
  let v566 : BitVec 32 := Scalar.shrui v565 c1_i32_373
  let c512_i32 : BitVec 32 := 512#32
  let v572 : BitVec 32 := Scalar.muli v566 c512_i32
  let v573 : BitVec 32 := v572
  ![v446.toNat, v571.toNat, v573.toNat]
-- ==== ReferenceIdeal.lean ====
abbrev S2x48x2560 : Shape := ⟨3, ![2, 48, 2560]⟩
abbrev S2x2560x10240 : Shape := ⟨3, ![2, 2560, 10240]⟩
abbrev S2x10240 : Shape := ⟨2, ![2, 10240]⟩
abbrev S2x10240x2560 : Shape := ⟨3, ![2, 10240, 2560]⟩
abbrev S2x2560 : Shape := ⟨2, ![2, 2560]⟩
abbrev S48x2560 : Shape := ⟨2, ![48, 2560]⟩
abbrev S1x48 : Shape := ⟨2, ![1, 48]⟩
abbrev S48x10240 : Shape := ⟨2, ![48, 10240]⟩
abbrev S1x48x2560 : Shape := ⟨3, ![1, 48, 2560]⟩
abbrev S48 : Shape := ⟨1, ![48]⟩
abbrev S48x1 : Shape := ⟨2, ![48, 1]⟩
abbrev S1x2560 : Shape := ⟨2, ![1, 2560]⟩
abbrev S1x2560x10240 : Shape := ⟨3, ![1, 2560, 10240]⟩
abbrev S2560x10240 : Shape := ⟨2, ![2560, 10240]⟩
abbrev S1x10240 : Shape := ⟨2, ![1, 10240]⟩
abbrev S1x10240x2560 : Shape := ⟨3, ![1, 10240, 2560]⟩
abbrev S10240x2560 : Shape := ⟨2, ![10240, 2560]⟩

abbrev nBuf : Space → Nat
  | .hbm => 19
  | .vmem => 19
  | .smem => 0
  | _ => 0

abbrev bufTy : (tb : Table) → Fin (tcTables nBuf tb) → BufTy
  | .hbm, ⟨0, _⟩ => ⟨S2x48x2560, .f32⟩
  | .hbm, ⟨1, _⟩ => ⟨S2x2560x10240, .i8⟩
  | .hbm, ⟨2, _⟩ => ⟨S2x10240, .f32⟩
  | .hbm, ⟨3, _⟩ => ⟨S2x2560x10240, .i8⟩
  | .hbm, ⟨4, _⟩ => ⟨S2x10240, .f32⟩
  | .hbm, ⟨5, _⟩ => ⟨S2x10240x2560, .i8⟩
  | .hbm, ⟨6, _⟩ => ⟨S2x2560, .f32⟩
  | .hbm, ⟨7, _⟩ => ⟨S2x2560, .f32⟩
  | .hbm, ⟨8, _⟩ => ⟨S2x2560, .f32⟩
  | .hbm, ⟨9, _⟩ => ⟨S48x2560, .bf16⟩
  | .hbm, ⟨10, _⟩ => ⟨S48x2560, .bf16⟩
  | .hbm, ⟨11, _⟩ => ⟨S48x2560, .i8⟩
  | .hbm, ⟨12, _⟩ => ⟨S1x48, .f32⟩
  | .hbm, ⟨13, _⟩ => ⟨S48x10240, .i8⟩
  | .hbm, ⟨14, _⟩ => ⟨S1x48, .f32⟩
  | .hbm, ⟨15, _⟩ => ⟨S48x2560, .i8⟩
  | .hbm, ⟨16, _⟩ => ⟨S1x48, .f32⟩
  | .hbm, ⟨17, _⟩ => ⟨S48x10240, .i8⟩
  | .hbm, ⟨18, _⟩ => ⟨S1x48, .f32⟩
  | .local _ .vmem, ⟨0, _⟩ => ⟨S2x48x2560, .f32⟩
  | .local _ .vmem, ⟨1, _⟩ => ⟨S2x10240, .f32⟩
  | .local _ .vmem, ⟨2, _⟩ => ⟨S2x10240, .f32⟩
  | .local _ .vmem, ⟨3, _⟩ => ⟨S2x2560, .f32⟩
  | .local _ .vmem, ⟨4, _⟩ => ⟨S2x2560, .f32⟩
  | .local _ .vmem, ⟨5, _⟩ => ⟨S2x2560, .f32⟩
  | .local _ .vmem, ⟨6, _⟩ => ⟨S2x2560x10240, .i8⟩
  | .local _ .vmem, ⟨7, _⟩ => ⟨S2x2560x10240, .i8⟩
  | .local _ .vmem, ⟨8, _⟩ => ⟨S2x10240x2560, .i8⟩
  | .local _ .vmem, ⟨9, _⟩ => ⟨S48x2560, .bf16⟩
  | .local _ .vmem, ⟨10, _⟩ => ⟨S48x2560, .bf16⟩
  | .local _ .vmem, ⟨11, _⟩ => ⟨S48x2560, .i8⟩
  | .local _ .vmem, ⟨12, _⟩ => ⟨S1x48, .f32⟩
  | .local _ .vmem, ⟨13, _⟩ => ⟨S48x10240, .i8⟩
  | .local _ .vmem, ⟨14, _⟩ => ⟨S1x48, .f32⟩
  | .local _ .vmem, ⟨15, _⟩ => ⟨S48x2560, .i8⟩
  | .local _ .vmem, ⟨16, _⟩ => ⟨S1x48, .f32⟩
  | .local _ .vmem, ⟨17, _⟩ => ⟨S48x10240, .i8⟩
  | .local _ .vmem, ⟨18, _⟩ => ⟨S1x48, .f32⟩
  | _, _ => ⟨S2x48x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S2x48x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2560x10240 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2560x10240 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x10240x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S48x2560 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S48x10240 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x48 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S48x2560 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x48 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S48x10240 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x48 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Common.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands: whole arrays and whole buffers -/

abbrev mX : Memref sig .tc .hbm S2x48x2560 .f32 := Memref.whole main_arg0
abbrev mSg : Memref sig .tc .hbm S2x10240 .f32 := Memref.whole main_arg2
abbrev mSu : Memref sig .tc .hbm S2x10240 .f32 := Memref.whole main_arg4
abbrev mSd : Memref sig .tc .hbm S2x2560 .f32 := Memref.whole main_arg6
abbrev mN3 : Memref sig .tc .hbm S2x2560 .f32 := Memref.whole main_arg7
abbrev mN4 : Memref sig .tc .hbm S2x2560 .f32 := Memref.whole main_arg8
abbrev mWg : Memref sig .tc .hbm S2x2560x10240 .i8 := Memref.whole main_arg1
abbrev mWu : Memref sig .tc .hbm S2x2560x10240 .i8 := Memref.whole main_arg3
abbrev mWd : Memref sig .tc .hbm S2x10240x2560 .i8 := Memref.whole main_arg5
abbrev oY0 : Memref sig .tc .hbm S48x2560 .bf16 := Memref.whole main_v0_0
abbrev oY1 : Memref sig .tc .hbm S48x2560 .bf16 := Memref.whole main_v0_1
abbrev oCf0 : Memref sig .tc .hbm S48x2560 .i8 := Memref.whole main_v0_2
abbrev oSf0 : Memref sig .tc .hbm S1x48 .f32 := Memref.whole main_v0_3
abbrev oCd0 : Memref sig .tc .hbm S48x10240 .i8 := Memref.whole main_v0_4
abbrev oSd0 : Memref sig .tc .hbm S1x48 .f32 := Memref.whole main_v0_5
abbrev oCf1 : Memref sig .tc .hbm S48x2560 .i8 := Memref.whole main_v0_6
abbrev oSf1 : Memref sig .tc .hbm S1x48 .f32 := Memref.whole main_v0_7
abbrev oCd1 : Memref sig .tc .hbm S48x10240 .i8 := Memref.whole main_v0_8
abbrev oSd1 : Memref sig .tc .hbm S1x48 .f32 := Memref.whole main_v0_9
abbrev vX : Memref sig .tc .vmem S2x48x2560 .f32 := Memref.whole cc0_scratch0
abbrev vSg : Memref sig .tc .vmem S2x10240 .f32 := Memref.whole cc0_scratch1
abbrev vSu : Memref sig .tc .vmem S2x10240 .f32 := Memref.whole cc0_scratch2
abbrev vSd : Memref sig .tc .vmem S2x2560 .f32 := Memref.whole cc0_scratch3
abbrev vN3 : Memref sig .tc .vmem S2x2560 .f32 := Memref.whole cc0_scratch4
abbrev vN4 : Memref sig .tc .vmem S2x2560 .f32 := Memref.whole cc0_scratch5
abbrev vW : Memref sig .tc .vmem S8x2560x1024 .i8 := Memref.whole cc0_scratch6
abbrev vH : Memref sig .tc .vmem S48x2560 .f32 := Memref.whole cc0_scratch7
abbrev vXc : Memref sig .tc .vmem S48x2560 .bf16 := Memref.whole cc0_scratch8
abbrev vSx : Memref sig .tc .vmem S48x128 .f32 := Memref.whole cc0_scratch9
abbrev vO : Memref sig .tc .vmem S48x2560 .f32 := Memref.whole cc0_scratch10
abbrev vMm : Memref sig .tc .vmem S48x10240 .f32 := Memref.whole cc0_scratch11
abbrev vDc : Memref sig .tc .vmem S48x10240 .bf16 := Memref.whole cc0_scratch12
abbrev vAm : Memref sig .tc .vmem S48x128 .f32 := Memref.whole cc0_scratch13
abbrev vCf : Memref sig .tc .vmem S48x2560 .i8 := Memref.whole cc0_scratch14
abbrev vCd : Memref sig .tc .vmem S48x10240 .i8 := Memref.whole cc0_scratch15
abbrev vSc : Memref sig .tc .vmem S2x1x48 .f32 := Memref.whole cc0_scratch16
abbrev vY : Memref sig .tc .vmem S48x2560 .bf16 := Memref.whole cc0_scratch17

/-! ## What is held of them -/

/-- The contents of the buffer behind a memref. -/
abbrev BufOf (F : FTy → Type) (c : Dev nD) {sp : Space} {S : Shape} {e : EltTy} (M : Memref sig .tc sp S e) : Type :=
  Buf (Elt F) (M.view.loc (c : Thread nD τ))

/-- A whole buffer at given contents. -/
abbrev pt (c : Dev nD) {sp : Space} {S : Shape} {e : EltTy} (M : Memref sig .tc sp S e) (f : BufOf F c M) : sProp 𝕄 :=
  M.view.loc (c : Thread nD τ) ↦{fullShare} f

/-- One of the eight slots of the weight ring. -/
theorem inbSlot (s : Fin 8) : ∀ a, (![s.val, 0, 0] : Fin 3 → ℕ) a + S1x2560x1024.size a ≤ S8x2560x1024.size a := by
  revert s; decide

abbrev slotW (s : Fin 8) : Memref sig .tc .vmem S2560x1024 .i8 :=
  (vW.slice (Rect.unit (s := S8x2560x1024) ![s.val, 0, 0] S1x2560x1024.size (inbSlot s)) (fun _ => rfl)).squeeze S2560x1024 squeezes_S1x2560x1024_S2560x1024

/-- A slot of the ring at given contents of the ring's buffer. -/
abbrev slotPt (c : Dev nD) (s : Fin 8) (f : BufOf F c vW) : sProp 𝕄 :=
  (slotW s).view.loc (c : Thread nD τ) ↦[(slotW s).view.set]{fullShare} f

/-- A read share of an array, one per slot that is filled from it. -/
abbrev tokPt (c : Dev nD) {sp : Space} {S : Shape} {e : EltTy} (M : Memref sig .tc sp S e) (i : ℕ) (f : BufOf F c M) : sProp 𝕄 :=
  M.view.loc (c : Thread nD τ) ↦{Transfers.shareTokN fullShare i} f

/-- The block of 1024 columns of a weight array that one transfer brings. -/
theorem inbBlk (l : Fin 2) (i : Fin 10) : ∀ a, (![l.val, 0, 1024 * i.val] : Fin 3 → ℕ) a + S1x2560x1024.size a ≤ S2x2560x10240.size a := by
  revert l i; decide

abbrev blkOf (M : Memref sig .tc .hbm S2x2560x10240 .i8) (l : Fin 2) (i : Fin 10) : Memref sig .tc .hbm S2560x1024 .i8 :=
  (M.slice (Rect.unit (s := S2x2560x10240) ![l.val, 0, 1024 * i.val] S1x2560x1024.size (inbBlk l i)) (fun _ => rfl)).squeeze S2560x1024 squeezes_S1x2560x1024_S2560x1024

/-- A transfer of block `(l, i)` of a weight array into slot `s` in flight, with what is left of the slot's read share. -/
abbrev flying (c : Dev nD) (M : Memref sig .tc .hbm S2x2560x10240 .i8) (s : Fin 8) (g : Fin 14) (l : Fin 2) (i : Fin 10)
    (w : BufOf F c M) (f : BufOf F c vW) : sProp 𝕄 :=
  iprop(Transfers.Flight (countersEmb (U := Pipeline.UD sig nD τ)) (c : Thread nD τ) (SemLoc.dma g) () 81920
      iprop(slotPt c s f ∗ ((blkOf M l i).view.loc (c : Thread nD τ) ↦[(blkOf M l i).view.set]{Transfers.shareTokN fullShare g.val} w))
    ∗ ((blkOf M l i).view.loc (c : Thread nD τ) ↦[Finset.univ \ (blkOf M l i).view.set]{Transfers.shareTokN fullShare g.val} w))

/-- Half a slot: 512 of its 1024 columns. -/
theorem inbHalf (s : Fin 8) (h : Fin 2) : ∀ a, (![s.val, 0, 512 * h.val] : Fin 3 → ℕ) a + S1x2560x512.size a ≤ S8x2560x1024.size a := by
  revert s h; decide

abbrev halfW (s : Fin 8) (h : Fin 2) : Memref sig .tc .vmem S2560x512 .i8 :=
  (vW.slice (Rect.unit (s := S8x2560x1024) ![s.val, 0, 512 * h.val] S1x2560x512.size (inbHalf s h)) (fun _ => rfl)).squeeze S2560x512 squeezes_S1x2560x512_S2560x512

/-- Half a slot at given contents of the ring's buffer. -/
abbrev halfPt (c : Dev nD) (s : Fin 8) (h : Fin 2) (f : BufOf F c vW) : sProp 𝕄 :=
  (halfW s h).view.loc (c : Thread nD τ) ↦[(halfW s h).view.set]{fullShare} f

/-- The block of the down weights (2560 rows, 512 columns) that one transfer brings. -/
theorem inbBlkD (l : Fin 2) (n : Fin 5) (k : Fin 4) : ∀ a, (![l.val, 2560 * k.val, 512 * n.val] : Fin 3 → ℕ) a + S1x2560x512.size a ≤ S2x10240x2560.size a := by
  revert l n k; decide

abbrev blkD (l : Fin 2) (n : Fin 5) (k : Fin 4) : Memref sig .tc .hbm S2560x512 .i8 :=
  (mWd.slice (Rect.unit (s := S2x10240x2560) ![l.val, 2560 * k.val, 512 * n.val] S1x2560x512.size (inbBlkD l n k)) (fun _ => rfl)).squeeze S2560x512 squeezes_S1x2560x512_S2560x512

/-- Two blocks of the down weights, rows `k` and `k + 1` of blocks, fill the halves of one slot, -/
abbrev rowD (k : Fin 2) (h : Fin 2) : Fin 4 := ⟨2 * k.val + h.val, by omega⟩

abbrev landedD (c : Dev nD) (s : Fin 8) (h : Fin 2) (f : BufOf F c vW) (l : Fin 2) (n : Fin 5) (k : Fin 2) (w : BufOf F c mWd) : BufOf F c vW :=
  (halfW s h).view.writes (Elt F) f [⟨Rect.whole S2560x512, ReadAs.same.apply (View.read (Elt F) (blkD l n (rowD k h)).view w)⟩]

/-- each reading the array by a share of its own. -/
abbrev tokD (g : Fin 14) (h : Fin 2) : ℕ := 2 * g.val + h.val + 7

/-- The two transfers are of the same amount, -/
abbrev AD : Fin 2 → ℕ := ![40960, 40960]

/-- and this is what they deliver. -/
def delivD (c : Dev nD) (s : Fin 8) (g : Fin 14) (f : BufOf F c vW) (l : Fin 2) (n : Fin 5) (k : Fin 2) (w : BufOf F c mWd) : Fin 2 → sProp 𝕄
  | 0 => iprop(halfPt c s 0 (landedD c s 0 f l n k w) ∗ ((blkD l n (rowD k 0)).view.loc (c : Thread nD τ) ↦[(blkD l n (rowD k 0)).view.set]{Transfers.shareTokN fullShare (tokD g 0)} w))
  | 1 => iprop(halfPt c s 1 (landedD c s 1 f l n k w) ∗ ((blkD l n (rowD k 1)).view.loc (c : Thread nD τ) ↦[(blkD l n (rowD k 1)).view.set]{Transfers.shareTokN fullShare (tokD g 1)} w))

instance delivD_storable (c : Dev nD) (s : Fin 8) (g : Fin 14) (f : BufOf F c vW) (l : Fin 2) (n : Fin 5) (k : Fin 2) (w : BufOf F c mWd) (t : Fin 2) :
    Storable (upEmb : UEmb _ 𝕄) (delivD c s g f l n k w t) := by
  fin_cases t <;> simp only [delivD] <;> infer_instance

/-- Both transfers in flight, with what is left of their read shares. -/
abbrev flyingD (c : Dev nD) (s : Fin 8) (g : Fin 14) (f : BufOf F c vW) (l : Fin 2) (n : Fin 5) (k : Fin 2) (w : BufOf F c mWd) : sProp 𝕄 :=
  iprop(Transfers.MixedBatch (countersEmb (U := Pipeline.UD sig nD τ)) (c : Thread nD τ) (SemLoc.dma g) () AD (delivD c s g f l n k w) 2 0
    ∗ ((blkD l n (rowD k 0)).view.loc (c : Thread nD τ) ↦[Finset.univ \ (blkD l n (rowD k 0)).view.set]{Transfers.shareTokN fullShare (tokD g 0)} w)
    ∗ ((blkD l n (rowD k 1)).view.loc (c : Thread nD τ) ↦[Finset.univ \ (blkD l n (rowD k 1)).view.set]{Transfers.shareTokN fullShare (tokD g 1)} w))

abbrev body2 (k0_t1 : Fin k0_t1_loop.trips) (arg44 v225 : BitVec 32) (v385 : FVec F S1x48 .f32) :=
  k0_t2_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24 k0_t1 arg44 v225 v385

abbrev body4 (k0_t1 : Fin k0_t1_loop.trips) (arg44 v225 : BitVec 32) (x y : FVec F S48x1 .f32) :=
  k0_t4_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24 k0_t1 arg44 v225 x y

end Cert.Kernel.Hand
end
-- ==== Proof.Slots.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Common
public import Idealize.ShloMosaic.Lib.VecWindow
public import Idealize.ShloMosaic.Lib.ValueLayout
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What a slot of the ring holds after a transfer -/

/-- Slot `s` holds block `(l, i)` of a weight array. -/
def Holds (c : Dev nD) (s : Fin 8) (f : BufOf F c vW) (M : Memref sig .tc .hbm S2x2560x10240 .i8) (w : BufOf F c M) (l : Fin 2)
    (i : Fin 10) : Prop :=
  ∀ x : S1x2560x1024.Idx, vW.view.read (Elt F) f ((Rect.unit (s := S8x2560x1024) ![s.val, 0, 0] S1x2560x1024.size (inbSlot s)).emb x)
    = M.view.read (Elt F) w ((Rect.unit (s := S2x2560x10240) ![l.val, 0, 1024 * i.val] S1x2560x1024.size (inbBlk l i)).emb x)

/-- A transfer that has landed leaves its block in its slot. -/
theorem holds_landed (c : Dev nD) (s : Fin 8) (f : BufOf F c vW) (M : Memref sig .tc .hbm S2x2560x10240 .i8) (w : BufOf F c M)
    (l : Fin 2) (i : Fin 10) :
    Holds c s ((slotW s).view.writes (Elt F) f [⟨Rect.whole S2560x1024, ReadAs.same.apply (View.read (Elt F) (blkOf M l i).view w)⟩])
      M w l i := by
  intro x
  have h1 := View.read_writes_whole (slotW s).view f (View.read (Elt F) (blkOf M l i).view w)
  have h2 := congrFun h1 ((Shape.reshapeEquiv (squeezes_S1x2560x1024_S2560x1024).numel_eq).symm x)
  have e : (Shape.reshapeEquiv (squeezes_S1x2560x1024_S2560x1024).numel_eq) ((Shape.reshapeEquiv (squeezes_S1x2560x1024_S2560x1024).numel_eq).symm x) = x := by simp
  exact (congrArg (fun z => vW.view.read (Elt F) _ ((Rect.unit (s := S8x2560x1024) ![s.val, 0, 0] S1x2560x1024.size (inbSlot s)).emb z)) e).symm.trans
    (h2.trans (congrArg (fun z => M.view.read (Elt F) w ((Rect.unit (s := S2x2560x10240) ![l.val, 0, 1024 * i.val] S1x2560x1024.size (inbBlk l i)).emb z)) e))

/-- `holds_landed` with the block's offsets spelt any way. -/
theorem holds_landed' (c : Dev nD) (s : Fin 8) (f : BufOf F c vW) (M : Memref sig .tc .hbm S2x2560x10240 .i8) (w : BufOf F c M)
    (l : Fin 2) (i : Fin 10) (off : Fin 3 → ℕ) (inb : ∀ a, off a + S1x2560x1024.size a ≤ S2x2560x10240.size a)
    (h : off = ![l.val, 0, 1024 * i.val]) :
    Holds c s ((slotW s).view.writes (Elt F) f [⟨Rect.whole S2560x1024, ReadAs.same.apply (View.read (Elt F)
      ((M.slice (Rect.unit (s := S2x2560x10240) off S1x2560x1024.size inb) (fun _ => rfl)).squeeze S2560x1024
        squeezes_S1x2560x1024_S2560x1024).view w)⟩]) M w l i := by
  subst h
  exact holds_landed c s f M w l i

/-- Columns `256 q ..` of layer `l` of a weight array. -/
def wTile (w : S2x2560x10240.Idx → Elt F .i8) (l : Fin 2) (q : Fin 40) : Vec F S1x2560x256 .i8 :=
  fun y => w (ix3 l (⟨(y 1).val, (y 1).isLt⟩ : Fin 2560) (⟨256 * q.val + (y 2).val, by have := (y 2).isLt; have := q.isLt; simp at *; omega⟩ : Fin 10240))

theorem inbT (s : Fin 8) (t : Fin 4) : ∀ a, (![s.val, 0, 256 * t.val] : Fin 3 → ℕ) a + S1x2560x256.size a ≤ S8x2560x1024.size a := by
  revert s t; decide

/-- A tile loaded from a slot is the tile of the block it holds. -/
theorem tile_of_holds {c : Dev nD} {s : Fin 8} {f : BufOf F c vW} {M : Memref sig .tc .hbm S2x2560x10240 .i8} {w : BufOf F c M}
    {l : Fin 2} {i : Fin 10} (h : Holds c s f M w l i) (t : Fin 4) :
    View.readAt (Elt F) vW.view (Rect.unit (s := S8x2560x1024) ![s.val, 0, 256 * t.val] S1x2560x256.size (inbT s t)).toLoadRect f
      = wTile (M.view.read (Elt F) w) l ⟨4 * i.val + t.val, by omega⟩ := by
  funext y
  have h0 : (y 0).val = 0 := by have := (y 0).isLt; simp at this; omega
  have h2 : (y 2).val < 256 := (y 2).isLt
  have hx := h (ix3 (0 : Fin 1) (⟨(y 1).val, (y 1).isLt⟩ : Fin 2560) (⟨256 * t.val + (y 2).val, by omega⟩ : Fin 1024))
  rw [View.readAt_apply]
  refine Eq.trans (congrArg _ ?_) (hx.trans (congrArg _ ?_))
  · funext a; fin_cases a <;> apply Fin.ext <;> simp [LoadRect.idx, ix3, h0]
  · funext a; fin_cases a <;> apply Fin.ext <;> simp [ix3] <;> omega

/-! ## A slot as its two halves -/

/-- The elements of half a slot. -/
abbrev halfSet (s : Fin 8) (h : Fin 2) : Finset S8x2560x1024.Idx := (halfW s h).view.set

theorem half_set (s : Fin 8) (h : Fin 2) :
    halfSet s h = (Rect.unit (s := S8x2560x1024) ![s.val, 0, 512 * h.val] S1x2560x512.size (inbHalf s h)).set :=
  (View.set_reshape (v := (vW.slice (Rect.unit (s := S8x2560x1024) ![s.val, 0, 512 * h.val] S1x2560x512.size (inbHalf s h)) (fun _ => rfl)).view)
    (squeezes_S1x2560x512_S2560x512).numel_eq).trans (View.set_slice_whole _ _)

/-- The elements of a slot. -/
abbrev slotSet (s : Fin 8) : Finset S8x2560x1024.Idx := (slotW s).view.set

theorem slot_set (s : Fin 8) : slotSet s = (Rect.unit (s := S8x2560x1024) ![s.val, 0, 0] S1x2560x1024.size (inbSlot s)).set :=
  (View.set_reshape (v := (vW.slice (Rect.unit (s := S8x2560x1024) ![s.val, 0, 0] S1x2560x1024.size (inbSlot s)) (fun _ => rfl)).view)
    (squeezes_S1x2560x1024_S2560x1024).numel_eq).trans (View.set_slice_whole _ _)

theorem halves_disj (s : Fin 8) : Disjoint (halfSet s 0) (halfSet s 1) := by
  rw [half_set, half_set, Finset.disjoint_left]
  intro y h0 h1
  rw [Rect.mem_set_unit] at h0 h1
  have a := h0 2; have b := h1 2
  simp at a b; omega

theorem halves_cover (s : Fin 8) : halfSet s 0 ∪ halfSet s 1 = slotSet s := by
  rw [half_set, half_set, slot_set]
  ext y
  rw [Finset.mem_union, Rect.mem_set_unit, Rect.mem_set_unit, Rect.mem_set_unit]
  constructor
  · rintro (h | h) <;> intro a <;> have := h a <;> fin_cases a <;> simp at this ⊢ <;> omega
  · intro h
    have h0 := h 0; have h1 := h 1; have h2 := h 2
    simp at h0 h1 h2
    by_cases c : (y 2).val < 512
    · left; intro a; fin_cases a <;> simp <;> omega
    · right; intro a; fin_cases a <;> simp <;> omega

theorem halves_split (c : Dev nD) (s : Fin 8) (f : BufOf F c vW) :
    (slotPt c s f : sProp 𝕄) ⊢ iprop(halfPt c s 0 f ∗ halfPt c s 1 f) := by
  have h := (Idealize.ShloMosaic.pointsTo_union (Ix := Unit) (Val := Elt F) (Name := ℕ) (U := Pipeline.UD sig nD τ) (Lvl := ℕ)
    (ℓ := vW.view.loc (c : Thread nD τ)) (q := fullShare) (f := f) (halves_disj s)).1
  rw [halves_cover s] at h
  exact h

theorem halves_join (c : Dev nD) (s : Fin 8) (f g : BufOf F c vW) :
    (iprop(halfPt c s 0 f ∗ halfPt c s 1 g) : sProp 𝕄) ⊢ iprop(∃ f, slotPt c s f) := by
  have h := Idealize.ShloMosaic.pointsTo_join (Ix := Unit) (Val := Elt F) (Name := ℕ) (U := Pipeline.UD sig nD τ) (Lvl := ℕ)
    (ℓ := vW.view.loc (c : Thread nD τ)) (q := fullShare) (f := f) (g := g) (halves_disj s)
  rw [halves_cover s] at h
  iintro H
  iexists _
  iapply h
  iexact H

/-! ## The down weights in a slot -/

/-- The block of 2560 rows and 256 columns of the down weights: chunk `k` of the rows, tile `q` of the columns. -/
def dTile (w : S2x10240x2560.Idx → Elt F .i8) (l : Fin 2) (k : Fin 4) (q : Fin 10) : Vec F S1x2560x256 .i8 :=
  fun y => w (ix3 l (⟨2560 * k.val + (y 1).val, by have := (y 1).isLt; have := k.isLt; simp at *; omega⟩ : Fin 10240)
    (⟨256 * q.val + (y 2).val, by have := (y 2).isLt; have := q.isLt; simp at *; omega⟩ : Fin 2560))

/-- A tile of half a slot, as its offsets are spelt. -/
theorem inbTH (s : Fin 8) (h t : Fin 2) : ∀ a, (![s.val, 0, 512 * h.val + 256 * t.val] : Fin 3 → ℕ) a + S1x2560x256.size a ≤ S8x2560x1024.size a := by
  revert s h t; decide

/-- A tile loaded from half a slot is the tile of the block that has landed there. -/
theorem tile_of_landedD (c : Dev nD) (s : Fin 8) (h : Fin 2) (f : BufOf F c vW) (l : Fin 2) (n : Fin 5) (k : Fin 2) (w : BufOf F c mWd) (t : Fin 2) :
    View.readAt (Elt F) vW.view (Rect.unit (s := S8x2560x1024) ![s.val, 0, 512 * h.val + 256 * t.val] S1x2560x256.size (inbTH s h t)).toLoadRect
        (landedD c s h f l n k w)
      = dTile (mWd.view.read (Elt F) w) l (rowD k h) ⟨2 * n.val + t.val, by omega⟩ := by
  funext y
  have h0 : (y 0).val = 0 := by have := (y 0).isLt; simp at this; omega
  have h2 : (y 2).val < 256 := (y 2).isLt
  have hh : h.val < 2 := h.isLt
  have ht : t.val < 2 := t.isLt
  let x : S1x2560x512.Idx := ix3 (0 : Fin 1) (⟨(y 1).val, (y 1).isLt⟩ : Fin 2560) (⟨256 * t.val + (y 2).val, by omega⟩ : Fin 512)
  have h1 := View.read_writes_whole (halfW s h).view f (View.read (Elt F) (blkD l n (rowD k h)).view w)
  have hx0 := congrFun h1 ((Shape.reshapeEquiv (squeezes_S1x2560x512_S2560x512).numel_eq).symm x)
  have e : (Shape.reshapeEquiv (squeezes_S1x2560x512_S2560x512).numel_eq) ((Shape.reshapeEquiv (squeezes_S1x2560x512_S2560x512).numel_eq).symm x) = x := by simp
  have hx : vW.view.read (Elt F) (landedD c s h f l n k w) ((Rect.unit (s := S8x2560x1024) ![s.val, 0, 512 * h.val] S1x2560x512.size (inbHalf s h)).emb x)
      = mWd.view.read (Elt F) w ((Rect.unit (s := S2x10240x2560) ![l.val, 2560 * (rowD k h).val, 512 * n.val] S1x2560x512.size (inbBlkD l n (rowD k h))).emb x) :=
    (congrArg (fun z => vW.view.read (Elt F) (landedD c s h f l n k w) ((Rect.unit (s := S8x2560x1024) ![s.val, 0, 512 * h.val] S1x2560x512.size (inbHalf s h)).emb z)) e).symm.trans
      (hx0.trans (congrArg (fun z => mWd.view.read (Elt F) w ((Rect.unit (s := S2x10240x2560) ![l.val, 2560 * (rowD k h).val, 512 * n.val] S1x2560x512.size (inbBlkD l n (rowD k h))).emb z)) e))
  rw [View.readAt_apply]
  refine Eq.trans (congrArg _ ?_) (hx.trans (congrArg _ ?_))
  · funext a; fin_cases a <;> apply Fin.ext <;> simp [LoadRect.idx, ix3, h0, x] <;> omega
  · funext a; fin_cases a <;> apply Fin.ext <;> simp [ix3, x] <;> omega

end Cert.Kernel.Hand
end
-- ==== Proof.Tiles.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Slots
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## One tile of the gated product and what a run of tiles leaves -/

/-- `gelu((x·wg) sx sg) * ((x·wu) sx su)` of one tile of 256 columns. -/
def tileVal (xc : FVec F S48x2560 .bf16) (sx : FVec F S48x1 .f32) (wg wu : Vec F S1x2560x256 .i8) (sg su : FVec F S1x256 .f32) :
    FVec F S48x256 .f32 :=
  k0_pay4 (k0_pay1 xc wg sx sg) (k0_pay2 xc wu sx su) (k0_pay3 xc wg sx sg)

/-- The running maximum of absolute values, lane by lane, after one more tile. -/
def amMax (am : FVec F S48x128 .f32) (v : FVec F S48x256 .f32) : FVec F S48x128 .f32 :=
  maximumf am (maximumf (extractStridedSlice S48x128 ![0, 0] (absf v) slices_S48x256_o0_0_S48x128)
    (extractStridedSlice S48x128 ![0, 128] (absf v) slices_S48x256_o0_128_S48x128))

theorem tile0_eq (xc : FVec F S48x2560 .bf16) (sx : FVec F S48x1 .f32) (wg wu : Vec F S1x2560x256 .i8) (sg su : FVec F S1x256 .f32) :
    k0_pay5 (k0_pay1 xc wg sx sg) (k0_pay2 xc wu sx su) (k0_pay3 xc wg sx sg) = tileVal xc sx wg wu sg su :=
  shapeCast_self _ _

theorem tile1_eq (xc : FVec F S48x2560 .bf16) (sx : FVec F S48x1 .f32) (wg wu : Vec F S1x2560x256 .i8) (sg su : FVec F S1x256 .f32) :
    k0_pay10 (k0_pay7 xc wu) (k0_pay8 xc wg sx sg) sx su = tileVal xc sx wg wu sg su :=
  shapeCast_self _ _

theorem tile2_eq (xc : FVec F S48x2560 .bf16) (sx : FVec F S48x1 .f32) (wg wu : Vec F S1x2560x256 .i8) (sg su : FVec F S1x256 .f32) :
    k0_pay14 (k0_pay12 xc wg) xc wu sx sg sx su = tileVal xc sx wg wu sg su :=
  shapeCast_self _ _

theorem tile3_eq (xc : FVec F S48x2560 .bf16) (sx : FVec F S48x1 .f32) (wg wu : Vec F S1x2560x256 .i8) (sg su : FVec F S1x256 .f32) :
    k0_pay65 (k0_pay17 xc wg sx sg) (k0_pay18 xc wu sx su) (k0_pay19 xc wg sx sg) k0_pay20 = tileVal xc sx wg wu sg su :=
  shapeCast_self _ _

/-- The running maximum over the four tiles of a trip. -/
theorem am_eq (am : FVec F S48x128 .f32) (xc : FVec F S48x2560 .bf16) (sx : FVec F S48x1 .f32) (wg0 wu0 wg1 wu1 wg2 wu2 wg3 wu3 : Vec F S1x2560x256 .i8)
    (sg0 su0 sg1 su1 sg2 su2 sg3 su3 : FVec F S1x256 .f32) :
    k0_pay66 (k0_pay16 (k0_pay11 (k0_pay6 am (k0_pay1 xc wg0 sx sg0) (k0_pay2 xc wu0 sx su0) (k0_pay3 xc wg0 sx sg0))
        (k0_pay7 xc wu1) (k0_pay8 xc wg1 sx sg1) sx su1) (k0_pay15 (k0_pay12 xc wg2) xc wu2 sx sg2 sx su2))
      (k0_pay17 xc wg3 sx sg3) (k0_pay18 xc wu3 sx su3) (k0_pay19 xc wg3 sx sg3) k0_pay20
    = amMax (amMax (amMax (amMax am (tileVal xc sx wg0 wu0 sg0 su0)) (tileVal xc sx wg1 wu1 sg1 su1)) (tileVal xc sx wg2 wu2 sg2 su2))
        (tileVal xc sx wg3 wu3 sg3 su3) :=
  shapeCast_self _ _

/-- The column range of one tile of a scale row. -/
theorem inbS (l : Fin 2) (q : Fin 40) : ∀ a, (![l.val, 256 * q.val] : Fin 2 → ℕ) a + S1x256.size a ≤ S2x10240.size a := by
  revert l q; decide

/-- Tile `q` of layer `l`, from the buffers as they stand. -/
def tileAt (c : Dev nD) (wg : BufOf F c mWg) (wu : BufOf F c mWu) (xc : BufOf F c vXc) (sx : BufOf F c vSx) (sg : BufOf F c vSg)
    (su : BufOf F c vSu) (l : Fin 2) (q : Fin 40) : FVec F S48x256 .f32 :=
  tileVal (View.readAt (Elt F) vXc.view (Rect.unit (s := S48x2560) ![0, 0] S48x2560.size inb_S48x2560_S48x2560_0_0).toLoadRect xc)
    (View.readAt (Elt F) vSx.view (Rect.unit (s := S48x128) ![0, 0] S48x1.size inb_S48x128_S48x1_0_0).toLoadRect sx)
    (wTile (mWg.view.read (Elt F) wg) l q) (wTile (mWu.view.read (Elt F) wu) l q)
    (View.readAt (Elt F) vSg.view (Rect.unit (s := S2x10240) ![l.val, 256 * q.val] S1x256.size (inbS l q)).toLoadRect sg)
    (View.readAt (Elt F) vSu.view (Rect.unit (s := S2x10240) ![l.val, 256 * q.val] S1x256.size (inbS l q)).toLoadRect su)

/-- A `48 × 10240` array from its 40 tiles. -/
def ofTiles {α : Type} (T : Fin 40 → S48x256.Idx → α) : S48x10240.Idx → α := fun y =>
  T ⟨(y 1).val / 256, by have h : (y 1).val < 10240 := (y 1).isLt; omega⟩
    (ix2 (⟨(y 0).val, (y 0).isLt⟩ : Fin 48) (⟨(y 1).val % 256, Nat.mod_lt _ (by decide)⟩ : Fin 256))

/-- The running maximum after `n` tiles. -/
def amAfter (T : Fin 40 → FVec F S48x256 .f32) : ℕ → FVec F S48x128 .f32
  | 0 => broadcast S48x128 (Scalar.ofBits .f32 0x00000000#32)
  | n + 1 => amMax (amAfter T n) (T ⟨n % 40, Nat.mod_lt _ (by decide)⟩)

theorem inbM (q : Fin 40) : ∀ a, (![0, 256 * q.val] : Fin 2 → ℕ) a + S48x256.size a ≤ S48x10240.size a := by
  revert q; decide

/-- Tile `q`'s columns of the array of tiles are the tile. -/
theorem ofTiles_emb {α : Type} (T : Fin 40 → S48x256.Idx → α) (q : Fin 40) (x : S48x256.Idx) :
    ofTiles T ((Rect.unit (s := S48x10240) ![0, 256 * q.val] S48x256.size (inbM q)).emb x) = T q x := by
  have h1 : (x 1).val < 256 := (x 1).isLt
  unfold ofTiles
  congr 1
  · apply Fin.ext
    show (256 * q.val + 1 * (x 1).val) / 256 = q.val
    omega
  · funext a; fin_cases a <;> apply Fin.ext <;> simp [ix2]
    exact h1

/-- Four tile stores take a prefix of the tiles four tiles further; whatever view of whatever buffer they go through. -/
theorem prefix_step {κ : Kind} {sp : Space} {e : EltTy} (v : View sig κ sp S48x10240 e) (f : v.ty.Contents (Elt F))
    (T : Fin 40 → S48x256.Idx → Elt F e) (i : Fin 10) (w0 w1 w2 w3 : S48x256.Idx → Elt F e)
    (h : ∀ y, (y 1).val < 1024 * i.val → v.read (Elt F) f y = ofTiles T y)
    (e0 : w0 = T ⟨4 * i.val + 0, by omega⟩) (e1 : w1 = T ⟨4 * i.val + 1, by omega⟩) (e2 : w2 = T ⟨4 * i.val + 2, by omega⟩)
    (e3 : w3 = T ⟨4 * i.val + 3, by omega⟩) :
    ∀ y, (y 1).val < 1024 * (i.val + 1) → v.read (Elt F) (v.writes (Elt F) f
      [⟨Rect.unit (s := S48x10240) ![0, 256 * (4 * i.val + 3)] S48x256.size (inbM ⟨4 * i.val + 3, by omega⟩), w3⟩,
       ⟨Rect.unit (s := S48x10240) ![0, 256 * (4 * i.val + 2)] S48x256.size (inbM ⟨4 * i.val + 2, by omega⟩), w2⟩,
       ⟨Rect.unit (s := S48x10240) ![0, 256 * (4 * i.val + 1)] S48x256.size (inbM ⟨4 * i.val + 1, by omega⟩), w1⟩,
       ⟨Rect.unit (s := S48x10240) ![0, 256 * (4 * i.val + 0)] S48x256.size (inbM ⟨4 * i.val + 0, by omega⟩), w0⟩]) y = ofTiles T y := by
  subst e0 e1 e2 e3
  intro y hy
  by_cases hlt : (y 1).val < 1024 * i.val
  · rw [View.read_writes_apply_of_forall_not_mem, h y hlt]
    intro p hp
    simp only [List.mem_cons, List.not_mem_nil, or_false] at hp
    rcases hp with rfl | rfl | rfl | rfl <;>
      refine Rect.not_mem_set_of_axis _ y 1 _ 256 rfl rfl rfl (.inl ?_) <;> simp <;> omega
  · refine View.read_writes_apply_of_pieces v f (ofTiles T) _ ?_ y ?_
    · intro p hp
      simp only [List.mem_cons, List.not_mem_nil, or_false] at hp
      rcases hp with rfl | rfl | rfl | rfl <;> intro x <;> exact (ofTiles_emb T ⟨_, by omega⟩ x).symm
    · have h0 : (y 0).val < 48 := (y 0).isLt
      by_cases c3 : 256 * (4 * i.val + 3) ≤ (y 1).val
      · refine ⟨_, List.mem_cons_self, ?_⟩
        rw [Rect.mem_set_unit]; intro a; fin_cases a <;> simp <;> omega
      by_cases c2 : 256 * (4 * i.val + 2) ≤ (y 1).val
      · refine ⟨_, List.mem_cons_of_mem _ List.mem_cons_self, ?_⟩
        rw [Rect.mem_set_unit]; intro a; fin_cases a <;> simp <;> omega
      by_cases c1 : 256 * (4 * i.val + 1) ≤ (y 1).val
      · refine ⟨_, List.mem_cons_of_mem _ (List.mem_cons_of_mem _ List.mem_cons_self), ?_⟩
        rw [Rect.mem_set_unit]; intro a; fin_cases a <;> simp <;> omega
      · refine ⟨_, List.mem_cons_of_mem _ (List.mem_cons_of_mem _ (List.mem_cons_of_mem _ List.mem_cons_self)), ?_⟩
        rw [Rect.mem_set_unit]; intro a; fin_cases a <;> simp <;> omega

/-! ## One tile of the down projection -/

/-- `(x·w) sx sw` of one tile of 256 columns, the product summed over four chunks of 2560 rows. -/
def downVal (d0 d1 d2 d3 : FVec F S48x2560 .bf16) (sx : FVec F S48x1 .f32) (w0 w1 w2 w3 : Vec F S1x2560x256 .i8) (sw : FVec F S1x256 .f32) :
    FVec F S48x256 .f32 :=
  k0_pay74 (k0_pay36 d0 w0 d1 w1) d2 w2 d3 w3 sx sw

theorem down0_eq (d0 d1 d2 d3 : FVec F S48x2560 .bf16) (sx : FVec F S48x1 .f32) (w0 w1 w2 w3 : Vec F S1x2560x256 .i8) (sw : FVec F S1x256 .f32) :
    k0_pay35 (k0_pay34 k0_pay32 d0 (k0_pay33 w0) (constant S48x256 .f32 0x00000000#32) d1 w1 d2 w2 d3 w3) sx sw
      = downVal d0 d1 d2 d3 sx w0 w1 w2 w3 sw := rfl

/-- The column range of one tile of the down projection's scales, -/
theorem inbSd (l : Fin 2) (q : Fin 10) : ∀ a, (![l.val, 256 * q.val] : Fin 2 → ℕ) a + S1x256.size a ≤ S2x2560.size a := by
  revert l q; decide

/-- of a chunk of the codes, -/
theorem inbDc (k : Fin 4) : ∀ a, (![0, 2560 * k.val] : Fin 2 → ℕ) a + S48x2560.size a ≤ S48x10240.size a := by
  revert k; decide

/-- and of a tile of the result. -/
theorem inbO (q : Fin 10) : ∀ a, (![0, 256 * q.val] : Fin 2 → ℕ) a + S48x256.size a ≤ S48x2560.size a := by
  revert q; decide

/-- A chunk of 2560 columns of the codes. -/
abbrev ldDc (c : Dev nD) (dc : BufOf F c vDc) (k : Fin 4) : FVec F S48x2560 .bf16 :=
  View.readAt (Elt F) vDc.view (Rect.unit (s := S48x10240) ![0, 2560 * k.val] S48x2560.size (inbDc k)).toLoadRect dc

/-- Tile `q` of layer `l` of the down projection, from the buffers as they stand. -/
def downAt (c : Dev nD) (wd : BufOf F c mWd) (dc : BufOf F c vDc) (sx : BufOf F c vSx) (sd : BufOf F c vSd) (l : Fin 2) (q : Fin 10) :
    FVec F S48x256 .f32 :=
  downVal (ldDc c dc 0) (ldDc c dc 1) (ldDc c dc 2) (ldDc c dc 3)
    (View.readAt (Elt F) vSx.view (Rect.unit (s := S48x128) ![0, 0] S48x1.size inb_S48x128_S48x1_0_0).toLoadRect sx)
    (dTile (mWd.view.read (Elt F) wd) l 0 q) (dTile (mWd.view.read (Elt F) wd) l 1 q) (dTile (mWd.view.read (Elt F) wd) l 2 q)
    (dTile (mWd.view.read (Elt F) wd) l 3 q)
    (View.readAt (Elt F) vSd.view (Rect.unit (s := S2x2560) ![l.val, 256 * q.val] S1x256.size (inbSd l q)).toLoadRect sd)

/-- A `48 × 2560` array from its 10 tiles. -/
def ofTilesD {α : Type} (T : Fin 10 → S48x256.Idx → α) : S48x2560.Idx → α := fun y =>
  T ⟨(y 1).val / 256, by have h : (y 1).val < 2560 := (y 1).isLt; omega⟩
    (ix2 (⟨(y 0).val, (y 0).isLt⟩ : Fin 48) (⟨(y 1).val % 256, Nat.mod_lt _ (by decide)⟩ : Fin 256))

theorem ofTilesD_emb {α : Type} (T : Fin 10 → S48x256.Idx → α) (q : Fin 10) (x : S48x256.Idx) :
    ofTilesD T ((Rect.unit (s := S48x2560) ![0, 256 * q.val] S48x256.size (inbO q)).emb x) = T q x := by
  have h1 : (x 1).val < 256 := (x 1).isLt
  unfold ofTilesD
  congr 1
  · apply Fin.ext
    show (256 * q.val + 1 * (x 1).val) / 256 = q.val
    omega
  · funext a; fin_cases a <;> apply Fin.ext <;> simp [ix2]
    exact h1

/-- Two tile stores take a prefix of the tiles two tiles further. -/
theorem prefix_stepD {κ : Kind} {sp : Space} {e : EltTy} (v : View sig κ sp S48x2560 e) (f : v.ty.Contents (Elt F))
    (T : Fin 10 → S48x256.Idx → Elt F e) (i : Fin 5) (w0 w1 : S48x256.Idx → Elt F e)
    (h : ∀ y, (y 1).val < 512 * i.val → v.read (Elt F) f y = ofTilesD T y)
    (e0 : w0 = T ⟨2 * i.val + 0, by omega⟩) (e1 : w1 = T ⟨2 * i.val + 1, by omega⟩) :
    ∀ y, (y 1).val < 512 * (i.val + 1) → v.read (Elt F) (v.writes (Elt F) f
      [⟨Rect.unit (s := S48x2560) ![0, 256 * (2 * i.val + 1)] S48x256.size (inbO ⟨2 * i.val + 1, by omega⟩), w1⟩,
       ⟨Rect.unit (s := S48x2560) ![0, 256 * (2 * i.val + 0)] S48x256.size (inbO ⟨2 * i.val + 0, by omega⟩), w0⟩]) y = ofTilesD T y := by
  subst e0 e1
  intro y hy
  by_cases hlt : (y 1).val < 512 * i.val
  · rw [View.read_writes_apply_of_forall_not_mem, h y hlt]
    intro p hp
    simp only [List.mem_cons, List.not_mem_nil, or_false] at hp
    rcases hp with rfl | rfl <;>
      refine Rect.not_mem_set_of_axis _ y 1 _ 256 rfl rfl rfl (.inl ?_) <;> simp <;> omega
  · refine View.read_writes_apply_of_pieces v f (ofTilesD T) _ ?_ y ?_
    · intro p hp
      simp only [List.mem_cons, List.not_mem_nil, or_false] at hp
      rcases hp with rfl | rfl <;> intro x <;> exact (ofTilesD_emb T ⟨_, by omega⟩ x).symm
    · have h0 : (y 0).val < 48 := (y 0).isLt
      by_cases c1 : 256 * (2 * i.val + 1) ≤ (y 1).val
      · refine ⟨_, List.mem_cons_self, ?_⟩
        rw [Rect.mem_set_unit]; intro a; fin_cases a <;> simp <;> omega
      · refine ⟨_, List.mem_cons_of_mem _ List.mem_cons_self, ?_⟩
        rw [Rect.mem_set_unit]; intro a; fin_cases a <;> simp <;> omega

end Cert.Kernel.Hand
end
-- ==== Proof.RingState.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Tiles
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The weight ring: eight slots, two per step

Step `p` (of the thirty of both layers: ten of gate and up, then five of down, in each) uses slots `2 (p mod 4)` and `2 (p mod 4) + 1`. -/

abbrev sG (p : ℕ) : Fin 8 := ⟨2 * (p % 4), by omega⟩
abbrev sU (p : ℕ) : Fin 8 := ⟨2 * (p % 4) + 1, by omega⟩
abbrev cG (p : ℕ) : Fin 14 := ⟨2 * (p % 4) + 1, by omega⟩
abbrev cU (p : ℕ) : Fin 14 := ⟨2 * (p % 4) + 2, by omega⟩

/-- A slot into which a block of the gate or up weights is on its way. -/
def busy (c : Dev nD) (M : Memref sig .tc .hbm S2x2560x10240 .i8) (w : BufOf F c M) (s : Fin 8) (g : Fin 14) (l : Fin 2) (i : Fin 10) :
    sProp 𝕄 :=
  iprop(∃ f, flying c M s g l i w f ∗ ⌜Holds c s f M w l i⌝)

/-- The slot's read shares of the down weights. -/
def toksD (c : Dev nD) (wd : BufOf F c mWd) (g : Fin 14) : sProp 𝕄 :=
  iprop(tokPt c mWd (tokD g 0) wd ∗ tokPt c mWd (tokD g 1) wd)

/-- A slot into which two blocks of the down weights are on their way. -/
def busyD (c : Dev nD) (wd : BufOf F c mWd) (s : Fin 8) (g : Fin 14) (l : Fin 2) (n : Fin 5) (k : Fin 2) : sProp 𝕄 :=
  iprop(∃ f, flyingD c s g f l n k wd)

/-- A free slot, with its semaphore at zero. -/
def free0 (c : Dev nD) (s : Fin 8) (g : Fin 14) : sProp 𝕄 :=
  iprop(∃ f, slotPt c s f ∗ semVal ((c : Thread nD τ), SemLoc.dma g) 0)

/-- The first or second slot of step `j` (`k`), with the blocks of the step on their way, or free if there is no such step; with the
read shares that no transfer borrows. -/
def cell (c : Dev nD) (M : Memref sig .tc .hbm S2x2560x10240 .i8) (w : BufOf F c M) (wd : BufOf F c mWd) (k : Fin 2) (s : Fin 8) (g : Fin 14)
    (j : ℕ) : sProp 𝕄 :=
  if h : j < 30 then
    if h' : j % 15 < 10 then iprop(busy c M w s g ⟨j / 15, by omega⟩ ⟨j % 15, h'⟩ ∗ toksD c wd g)
    else iprop(busyD c wd s g ⟨j / 15, by omega⟩ ⟨j % 15 - 10, by omega⟩ k ∗ tokPt c M g.val w)
  else iprop(free0 c s g ∗ tokPt c M g.val w ∗ toksD c wd g)

theorem cell_gu (c : Dev nD) (M : Memref sig .tc .hbm S2x2560x10240 .i8) (w : BufOf F c M) (wd : BufOf F c mWd) (k : Fin 2) (s : Fin 8) (g : Fin 14)
    (j : ℕ) (h : j < 30) (h' : j % 15 < 10) :
    cell c M w wd k s g j = iprop(busy c M w s g ⟨j / 15, by omega⟩ ⟨j % 15, h'⟩ ∗ toksD c wd g) := by
  unfold cell
  rw [dif_pos h, dif_pos h']

theorem cell_dn (c : Dev nD) (M : Memref sig .tc .hbm S2x2560x10240 .i8) (w : BufOf F c M) (wd : BufOf F c mWd) (k : Fin 2) (s : Fin 8) (g : Fin 14)
    (j : ℕ) (h : j < 30) (h' : ¬ j % 15 < 10) :
    cell c M w wd k s g j = iprop(busyD c wd s g ⟨j / 15, by omega⟩ ⟨j % 15 - 10, by omega⟩ k ∗ tokPt c M g.val w) := by
  unfold cell
  rw [dif_pos h, dif_neg h']

theorem cell_ge (c : Dev nD) (M : Memref sig .tc .hbm S2x2560x10240 .i8) (w : BufOf F c M) (wd : BufOf F c mWd) (k : Fin 2) (s : Fin 8) (g : Fin 14)
    (j : ℕ) (h : 30 ≤ j) :
    cell c M w wd k s g j = iprop(free0 c s g ∗ tokPt c M g.val w ∗ toksD c wd g) := dif_neg (by omega)

/-- The weights as the ring reads them. -/
structure Wts (F : FTy → Type) (c : Dev nD) where
  g : BufOf F c mWg
  u : BufOf F c mWu
  d : BufOf F c mWd

/-- The first slot of step `p` at step `j`, and the second. -/
abbrev cellG (c : Dev nD) (w : Wts F c) (p j : ℕ) : sProp 𝕄 := cell c mWg w.g w.d 0 (sG p) (cG p) j
abbrev cellU (c : Dev nD) (w : Wts F c) (p j : ℕ) : sProp 𝕄 := cell c mWu w.u w.d 1 (sU p) (cU p) j

/-- The steps whose blocks are on their way before step `p` and stay so through it. -/
def ringMid (c : Dev nD) (w : Wts F c) (p : ℕ) : sProp 𝕄 :=
  iprop(cellG c w (p + 1) (p + 1) ∗ cellU c w (p + 1) (p + 1) ∗ cellG c w (p + 2) (p + 2) ∗ cellU c w (p + 2) (p + 2))

/-- The ring before step `p`: three steps ahead are on their way; the fourth's first block too at the start of a layer (`e`). -/
def ring (c : Dev nD) (w : Wts F c) (p : ℕ) (e : Bool) : sProp 𝕄 :=
  iprop(cellG c w p p ∗ cellU c w p p ∗ cellG c w (p + 3) (if e then p + 3 else 30) ∗ cellU c w (p + 3) 30 ∗ ringMid c w p)

/-- What a step `(l, i)` needs besides the blocks on their way, and what it leaves: tiles of `T` in the product's buffer, the running
    maximum of their absolute values. -/
def prod (c : Dev nD) (T : Fin 40 → FVec F S48x256 .f32) (n : ℕ) : sProp 𝕄 :=
  iprop((∃ mm, pt c vMm mm ∗ ⌜∀ y : S48x10240.Idx, (y 1).val < 1024 * n → View.read (Elt F) vMm.view mm y = ofTiles T y⌝)
    ∗ (∃ am, pt c vAm am ∗ ⌜View.read (Elt F) vAm.view am = amAfter T (4 * n)⌝))

/-- The operands of a layer's gate and up steps, -/
def operands (c : Dev nD) (xc : BufOf F c vXc) (sx : BufOf F c vSx) (sg : BufOf F c vSg) (su : BufOf F c vSu) : sProp 𝕄 :=
  iprop(pt c vXc xc ∗ pt c vSx sx ∗ pt c vSg sg ∗ pt c vSu su)

/-- and of its down steps. -/
def operandsD (c : Dev nD) (dc : BufOf F c vDc) (sx : BufOf F c vSx) (sd : BufOf F c vSd) : sProp 𝕄 :=
  iprop(pt c vDc dc ∗ pt c vSx sx ∗ pt c vSd sd)

/-- What the down steps leave: tiles of `T` in the buffer of the down projection. -/
def prodD (c : Dev nD) (T : Fin 10 → FVec F S48x256 .f32) (n : ℕ) : sProp 𝕄 :=
  iprop(∃ o, pt c vO o ∗ ⌜∀ y : S48x2560.Idx, (y 1).val < 512 * n → View.read (Elt F) vO.view o y = ofTilesD T y⌝)

theorem trips1 : k0_t1_loop.trips = 2 := by decide
theorem trips2 : k0_t2_loop.trips = 10 := by decide
theorem trips4 : k0_t4_loop.trips = 5 := by decide

/-- The blocks a step `p` finds on their way (`e`: the first of the step three ahead too), -/
def ringIn (c : Dev nD) (w : Wts F c) (p : ℕ) (e : Bool) : sProp 𝕄 :=
  iprop(cellG c w p p ∗ cellU c w p p ∗ cellG c w (p + 3) (if e then p + 3 else 30) ∗ cellU c w (p + 3) 30)

/-- and those it leaves on their way. -/
def ringOut (c : Dev nD) (w : Wts F c) (p : ℕ) : sProp 𝕄 :=
  iprop(cellG c w p 30 ∗ cellU c w p 30 ∗ cellG c w (p + 3) (p + 3) ∗ cellU c w (p + 3) (p + 3))

/-- One step of gate and up, at explicit numbers, -/
def StepOk (F : FTy → Type) [FloatOps F] (l i : ℕ) (hl : l < 2) (hi : i < 10) : Prop :=
  ∀ (c : Dev nD) (w : Wts F c) (xc : BufOf F c vXc) (sx : BufOf F c vSx) (sg : BufOf F c vSg)
    (su : BufOf F c vSu) (arg44 v225 : BitVec 32) (v385 : FVec F S1x48 .f32),
    iprop(ringIn c w (15 * l + i) (decide (i = 0))
      ∗ operands c xc sx sg su ∗ prod c (tileAt c w.g w.u xc sx sg su ⟨l, hl⟩) i ∗ ∃ W, owes (c : Thread nD τ) 0 W)
    ⊢ wp frame (wpE (defs₀ (F := F)) Variants.none c none) Set.univ
        (body2 (F := F) ⟨l, trips1 ▸ hl⟩ arg44 v225 v385 ⟨i, trips2 ▸ hi⟩ ())
        (fun _ => iprop(ringOut c w (15 * l + i)
          ∗ operands c xc sx sg su ∗ prod c (tileAt c w.g w.u xc sx sg su ⟨l, hl⟩) (i + 1) ∗ ∃ W, owes (c : Thread nD τ) 0 W))

/-- and one step of down. -/
def StepOkD (F : FTy → Type) [FloatOps F] (l i : ℕ) (hl : l < 2) (hi : i < 5) : Prop :=
  ∀ (c : Dev nD) (w : Wts F c) (dc : BufOf F c vDc) (sx : BufOf F c vSx) (sd : BufOf F c vSd) (arg44 v225 : BitVec 32)
    (v414 v415 : FVec F S48x1 .f32),
    iprop(ringIn c w (15 * l + 10 + i) false
      ∗ operandsD c dc sx sd ∗ prodD c (downAt c w.d dc sx sd ⟨l, hl⟩) i ∗ ∃ W, owes (c : Thread nD τ) 0 W)
    ⊢ wp frame (wpE (defs₀ (F := F)) Variants.none c none) Set.univ
        (body4 (F := F) ⟨l, trips1 ▸ hl⟩ arg44 v225 v414 v415 ⟨i, trips4 ▸ hi⟩ ())
        (fun _ => iprop(ringOut c w (15 * l + 10 + i)
          ∗ operandsD c dc sx sd ∗ prodD c (downAt c w.d dc sx sd ⟨l, hl⟩) (i + 1) ∗ ∃ W, owes (c : Thread nD τ) 0 W))

end Cert.Kernel.Hand
end
-- ==== Proof.StepValue.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.RingState
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What one step's stores leave, as the tiles of the layer -/

section
variable (c : Dev nD) (wg : BufOf F c mWg) (wu : BufOf F c mWu) (xc : BufOf F c vXc) (sx : BufOf F c vSx) (sg : BufOf F c vSg)
  (su : BufOf F c vSu)

/-- The codes, as loaded. -/
abbrev ldXc : FVec F S48x2560 .bf16 :=
  View.readAt (Elt F) vXc.view (Rect.unit (s := S48x2560) ![0, 0] S48x2560.size inb_S48x2560_S48x2560_0_0).toLoadRect xc
/-- The scale column, as loaded. -/
abbrev ldSx : FVec F S48x1 .f32 :=
  View.readAt (Elt F) vSx.view (Rect.unit (s := S48x128) ![0, 0] S48x1.size inb_S48x128_S48x1_0_0).toLoadRect sx
/-- A weight tile, as loaded from a slot. -/
abbrev ldW (f : BufOf F c vW) (s : Fin 8) (t : Fin 4) : Vec F S1x2560x256 .i8 :=
  View.readAt (Elt F) vW.view (Rect.unit (s := S8x2560x1024) ![s.val, 0, 256 * t.val] S1x2560x256.size (inbT s t)).toLoadRect f
/-- The scales of a tile's columns, as loaded. -/
abbrev ldSg (l : Fin 2) (q : Fin 40) : FVec F S1x256 .f32 :=
  View.readAt (Elt F) vSg.view (Rect.unit (s := S2x10240) ![l.val, 256 * q.val] S1x256.size (inbS l q)).toLoadRect sg
abbrev ldSu (l : Fin 2) (q : Fin 40) : FVec F S1x256 .f32 :=
  View.readAt (Elt F) vSu.view (Rect.unit (s := S2x10240) ![l.val, 256 * q.val] S1x256.size (inbS l q)).toLoadRect su

/-- The number of a step's tile. -/
abbrev tileNo (i : Fin 10) (t : Fin 4) : Fin 40 := ⟨4 * i.val + t.val, by omega⟩

variable {c wg wu}

/-- A tile computed from two slots is the layer's tile. -/
theorem tileAt_of_holds {s s' : Fin 8} {f f' : BufOf F c vW} {l : Fin 2} {i : Fin 10} (h : Holds c s f mWg wg l i)
    (h' : Holds c s' f' mWu wu l i) (t : Fin 4) :
    tileVal (ldXc c xc) (ldSx c sx) (ldW c f s t) (ldW c f' s' t) (ldSg c sg l (tileNo i t)) (ldSu c su l (tileNo i t))
      = tileAt c wg wu xc sx sg su l (tileNo i t) := by
  unfold ldW tileAt
  rw [tile_of_holds h t, tile_of_holds h' t]

/-- The product's buffer after a step. -/
theorem mm_after {s s' : Fin 8} {f f' : BufOf F c vW} {l : Fin 2} {i : Fin 10} (h : Holds c s f mWg wg l i)
    (h' : Holds c s' f' mWu wu l i) {mm : BufOf F c vMm}
    (hmm : ∀ y : S48x10240.Idx, (y 1).val < 1024 * i.val → View.read (Elt F) vMm.view mm y = ofTiles (tileAt c wg wu xc sx sg su l) y) :
    ∀ y : S48x10240.Idx, (y 1).val < 1024 * (i.val + 1) → View.read (Elt F) vMm.view (vMm.view.writes (Elt F) mm
      [⟨Rect.unit (s := S48x10240) ![0, 256 * (4 * i.val + 3)] S48x256.size (inbM (tileNo i 3)),
          k0_pay65 (k0_pay17 (ldXc c xc) (ldW c f s 3) (ldSx c sx) (ldSg c sg l (tileNo i 3))) (k0_pay18 (ldXc c xc) (ldW c f' s' 3) (ldSx c sx) (ldSu c su l (tileNo i 3))) (k0_pay19 (ldXc c xc) (ldW c f s 3) (ldSx c sx) (ldSg c sg l (tileNo i 3))) k0_pay20⟩,
       ⟨Rect.unit (s := S48x10240) ![0, 256 * (4 * i.val + 2)] S48x256.size (inbM (tileNo i 2)),
          k0_pay14 (k0_pay12 (ldXc c xc) (ldW c f s 2)) (ldXc c xc) (ldW c f' s' 2) (ldSx c sx) (ldSg c sg l (tileNo i 2)) (ldSx c sx) (ldSu c su l (tileNo i 2))⟩,
       ⟨Rect.unit (s := S48x10240) ![0, 256 * (4 * i.val + 1)] S48x256.size (inbM (tileNo i 1)),
          k0_pay10 (k0_pay7 (ldXc c xc) (ldW c f' s' 1)) (k0_pay8 (ldXc c xc) (ldW c f s 1) (ldSx c sx) (ldSg c sg l (tileNo i 1))) (ldSx c sx) (ldSu c su l (tileNo i 1))⟩,
       ⟨Rect.unit (s := S48x10240) ![0, 256 * (4 * i.val + 0)] S48x256.size (inbM (tileNo i 0)),
          k0_pay5 (k0_pay1 (ldXc c xc) (ldW c f s 0) (ldSx c sx) (ldSg c sg l (tileNo i 0))) (k0_pay2 (ldXc c xc) (ldW c f' s' 0) (ldSx c sx) (ldSu c su l (tileNo i 0))) (k0_pay3 (ldXc c xc) (ldW c f s 0) (ldSx c sx) (ldSg c sg l (tileNo i 0)))⟩]) y
      = ofTiles (tileAt c wg wu xc sx sg su l) y :=
  prefix_step vMm.view mm (tileAt c wg wu xc sx sg su l) i _ _ _ _ hmm
    ((tile0_eq _ _ _ _ _ _).trans (tileAt_of_holds xc sx sg su h h' 0)) ((tile1_eq _ _ _ _ _ _).trans (tileAt_of_holds xc sx sg su h h' 1))
    ((tile2_eq _ _ _ _ _ _).trans (tileAt_of_holds xc sx sg su h h' 2)) ((tile3_eq _ _ _ _ _ _).trans (tileAt_of_holds xc sx sg su h h' 3))

theorem amAfter_step (T : Fin 40 → FVec F S48x256 .f32) (i : Fin 10) (t : Fin 4) :
    amAfter T (4 * i.val + t.val + 1) = amMax (amAfter T (4 * i.val + t.val)) (T (tileNo i t)) := by
  show amMax _ (T _) = _
  congr 2
  exact Fin.ext (Nat.mod_eq_of_lt (tileNo i t).isLt)

/-- The running maximum after a step. -/
theorem am_after {s s' : Fin 8} {f f' : BufOf F c vW} {l : Fin 2} {i : Fin 10} (h : Holds c s f mWg wg l i)
    (h' : Holds c s' f' mWu wu l i) {am : BufOf F c vAm}
    (ham : View.read (Elt F) vAm.view am = amAfter (tileAt c wg wu xc sx sg su l) (4 * i.val)) :
    View.read (Elt F) vAm.view (vAm.view.writes (Elt F) am
      [⟨Rect.unit (s := S48x128) ![0, 0] S48x128.size inb_S48x128_S48x128_0_0,
        k0_pay66 (k0_pay16 (k0_pay11 (k0_pay6 (View.readAt (Elt F) vAm.view (Rect.unit (s := S48x128) ![0, 0] S48x128.size inb_S48x128_S48x128_0_0).toLoadRect am) (k0_pay1 (ldXc c xc) (ldW c f s 0) (ldSx c sx) (ldSg c sg l (tileNo i 0))) (k0_pay2 (ldXc c xc) (ldW c f' s' 0) (ldSx c sx) (ldSu c su l (tileNo i 0))) (k0_pay3 (ldXc c xc) (ldW c f s 0) (ldSx c sx) (ldSg c sg l (tileNo i 0))))
          (k0_pay7 (ldXc c xc) (ldW c f' s' 1)) (k0_pay8 (ldXc c xc) (ldW c f s 1) (ldSx c sx) (ldSg c sg l (tileNo i 1))) (ldSx c sx) (ldSu c su l (tileNo i 1)))
          (k0_pay15 (k0_pay12 (ldXc c xc) (ldW c f s 2)) (ldXc c xc) (ldW c f' s' 2) (ldSx c sx) (ldSg c sg l (tileNo i 2)) (ldSx c sx) (ldSu c su l (tileNo i 2))))
          (k0_pay17 (ldXc c xc) (ldW c f s 3) (ldSx c sx) (ldSg c sg l (tileNo i 3))) (k0_pay18 (ldXc c xc) (ldW c f' s' 3) (ldSx c sx) (ldSu c su l (tileNo i 3))) (k0_pay19 (ldXc c xc) (ldW c f s 3) (ldSx c sx) (ldSg c sg l (tileNo i 3))) k0_pay20⟩])
      = amAfter (tileAt c wg wu xc sx sg su l) (4 * (i.val + 1)) := by
  rw [View.read_writes_full, View.readAt_full, ham]
  refine (am_eq _ _ _ _ _ _ _ _ _ _ _ _ _ _ _ _ _ _ _).trans ?_
  rw [tileAt_of_holds xc sx sg su h h' 0, tileAt_of_holds xc sx sg su h h' 1, tileAt_of_holds xc sx sg su h h' 2,
    tileAt_of_holds xc sx sg su h h' 3]
  have e0 := amAfter_step (tileAt c wg wu xc sx sg su l) i 0
  have e1 := amAfter_step (tileAt c wg wu xc sx sg su l) i 1
  have e2 := amAfter_step (tileAt c wg wu xc sx sg su l) i 2
  have e3 := amAfter_step (tileAt c wg wu xc sx sg su l) i 3
  exact (e3.trans (congrArg (amMax · _) (e2.trans (congrArg (amMax · _) (e1.trans (congrArg (amMax · _) e0)))))).symm

end

section
variable (c : Dev nD) (wd : BufOf F c mWd) (dc : BufOf F c vDc) (sx : BufOf F c vSx) (sd : BufOf F c vSd)

/-- A tile of the down weights, as loaded from half a slot; -/
abbrev ldD (f : BufOf F c vW) (s : Fin 8) (h t : Fin 2) : Vec F S1x2560x256 .i8 :=
  View.readAt (Elt F) vW.view (Rect.unit (s := S8x2560x1024) ![s.val, 0, 512 * h.val + 256 * t.val] S1x2560x256.size (inbTH s h t)).toLoadRect f
/-- the scales of its columns. -/
abbrev ldSd (l : Fin 2) (q : Fin 10) : FVec F S1x256 .f32 :=
  View.readAt (Elt F) vSd.view (Rect.unit (s := S2x2560) ![l.val, 256 * q.val] S1x256.size (inbSd l q)).toLoadRect sd
/-- The number of a down step's tile. -/
abbrev tileNoD (n : Fin 5) (t : Fin 2) : Fin 10 := ⟨2 * n.val + t.val, by omega⟩

/-- A tile computed from the halves of two slots is the layer's tile. -/
theorem downAt_of_landed (s s' : Fin 8) (f f1 f' f1' : BufOf F c vW) (l : Fin 2) (n : Fin 5) (t : Fin 2) :
    downVal (ldDc c dc 0) (ldDc c dc 1) (ldDc c dc 2) (ldDc c dc 3) (ldSx c sx)
        (ldD c (landedD c s 0 f l n 0 wd) s 0 t) (ldD c (landedD c s 1 f1 l n 0 wd) s 1 t)
        (ldD c (landedD c s' 0 f' l n 1 wd) s' 0 t) (ldD c (landedD c s' 1 f1' l n 1 wd) s' 1 t) (ldSd c sd l (tileNoD n t))
      = downAt c wd dc sx sd l (tileNoD n t) := by
  unfold ldD downAt
  rw [tile_of_landedD, tile_of_landedD, tile_of_landedD, tile_of_landedD]
  rfl

/-- The down projection's buffer after a step. -/
theorem o_after (s s' : Fin 8) (f f1 f' f1' : BufOf F c vW) (l : Fin 2) (n : Fin 5) {o : BufOf F c vO}
    (ho : ∀ y : S48x2560.Idx, (y 1).val < 512 * n.val → View.read (Elt F) vO.view o y = ofTilesD (downAt c wd dc sx sd l) y) :
    ∀ y : S48x2560.Idx, (y 1).val < 512 * (n.val + 1) → View.read (Elt F) vO.view (vO.view.writes (Elt F) o
      [⟨Rect.unit (s := S48x2560) ![0, 256 * (2 * n.val + 1)] S48x256.size (inbO (tileNoD n 1)),
          k0_pay74 (k0_pay36 (ldDc c dc 0) (ldD c (landedD c s 0 f l n 0 wd) s 0 1) (ldDc c dc 1) (ldD c (landedD c s 1 f1 l n 0 wd) s 1 1))
            (ldDc c dc 2) (ldD c (landedD c s' 0 f' l n 1 wd) s' 0 1) (ldDc c dc 3) (ldD c (landedD c s' 1 f1' l n 1 wd) s' 1 1)
            (ldSx c sx) (ldSd c sd l (tileNoD n 1))⟩,
       ⟨Rect.unit (s := S48x2560) ![0, 256 * (2 * n.val + 0)] S48x256.size (inbO (tileNoD n 0)),
          k0_pay35 (k0_pay34 k0_pay32 (ldDc c dc 0) (k0_pay33 (ldD c (landedD c s 0 f l n 0 wd) s 0 0)) (constant S48x256 .f32 0x00000000#32)
            (ldDc c dc 1) (ldD c (landedD c s 1 f1 l n 0 wd) s 1 0)
            (ldDc c dc 2) (ldD c (landedD c s' 0 f' l n 1 wd) s' 0 0) (ldDc c dc 3) (ldD c (landedD c s' 1 f1' l n 1 wd) s' 1 0))
            (ldSx c sx) (ldSd c sd l (tileNoD n 0))⟩]) y
      = ofTilesD (downAt c wd dc sx sd l) y :=
  prefix_stepD vO.view o (downAt c wd dc sx sd l) n _ _ ho
    ((down0_eq _ _ _ _ _ _ _ _ _ _).trans (downAt_of_landed c wd dc sx sd s s' f f1 f' f1' l n 0))
    (downAt_of_landed c wd dc sx sd s s' f f1 f' f1' l n 1)

end

end Cert.Kernel.Hand
end
-- ==== Proof.StepA.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.StepValue
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The first step of a layer: the gate block of the step three ahead is on its way already -/

set_option maxHeartbeats 8000000 in
/-- The first step of a layer, in either layer. -/
theorem stepsA (l : ℕ) (hl : l < 2) : StepOk F l 0 hl (by decide) := by
  intro c w xc sx sg su arg44 v225 v385
  interval_cases l
  all_goals
    obtain rfl : hl = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busy free0 flying toksD operands prod
    iintro ⟨⟨⟨⟨%f0, ⟨Hf0, Ht0⟩, %h0⟩, HD0⟩, ⟨⟨%f1, ⟨Hf1, Ht1⟩, %h1⟩, HD1⟩, HG3, ⟨%w3, Hs3, Hq3⟩, Hg3, Ht3⟩, ⟨Hxc, Hsx, Hsg, Hsu⟩, ⟨⟨%mm, Hmm, %hmm⟩, ⟨%am, Ham, %ham⟩⟩, %W, HW⟩
    unfold body2 k0_t2_body
    sl_exec
    sl_step
    sl_unfold_run_names
    isplitl [Hf0_dst Hf0 Ht0 HD0 Hf1_dst Hf1 Ht1 HD1 HG3 Hq3 Hg3 Ht3]
    · isplitl [Hf0_dst Hf0 Ht0 HD0]
      · isplitl [Hf0_dst Hf0]
        · iexists f0
          isplitl [Hf0_dst]; · iexact Hf0_dst
          iexact Hf0
        isplitl [Ht0]; · iexact Ht0
        iexact HD0
      isplitl [Hf1_dst Hf1 Ht1 HD1]
      · isplitl [Hf1_dst Hf1]
        · iexists f1
          isplitl [Hf1_dst]; · iexact Hf1_dst
          iexact Hf1
        isplitl [Ht1]; · iexact Ht1
        iexact HD1
      isplitl [HG3]; · iexact HG3
      isplitl [Hq3 Hg3]
      · iexists _
        isplitl [Hq3 Hg3]
        · isplitl [Hq3]; · iexact Hq3
          iexact Hg3
        · ipureintro; exact holds_landed' _ _ _ _ _ _ _ _ _ rfl
      · iexact Ht3
    isplitl [Hxc Hsx Hsg Hsu]
    · isplitl [Hxc]; · iexact Hxc
      isplitl [Hsx]; · iexact Hsx
      isplitl [Hsg]; · iexact Hsg
      iexact Hsu
    isplitl [Hmm Ham]
    · isplitl [Hmm]
      · iexists _
        isplitl [Hmm]; · iexact Hmm
        ipureintro; exact mm_after xc sx sg su h0 h1 hmm
      · iexists _
        isplitl [Ham]; · iexact Ham
        ipureintro; exact am_after xc sx sg su h0 h1 ham
    iexists _
    iexact HW

end Cert.Kernel.Hand
end
-- ==== Proof.StepB.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.StepValue
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## A step of gate and up that issues both blocks of another one -/

set_option maxHeartbeats 48000000 in
/-- Steps 1 to 6 of a layer. -/
theorem stepsB (l i : ℕ) (hl : l < 2) (h1 : 1 ≤ i) (h7 : i < 7) (hi : i < 10) : StepOk F l i hl hi := by
  intro c w xc sx sg su arg44 v225 v385
  interval_cases l <;> interval_cases i
  all_goals
    obtain rfl : hl = (by decide) := rfl
    obtain rfl : h1 = (by decide) := rfl
    obtain rfl : h7 = (by decide) := rfl
    obtain rfl : hi = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busy free0 flying toksD operands prod
    iintro ⟨⟨⟨⟨%f0, ⟨Hf0, Ht0⟩, %h0⟩, HD0⟩, ⟨⟨%f1, ⟨Hf1, Ht1⟩, %h1⟩, HD1⟩, ⟨⟨%w2, Hs2, Hq2⟩, Hg2, Ht2⟩, ⟨%w3, Hs3, Hq3⟩, Hg3, Ht3⟩, ⟨Hxc, Hsx, Hsg, Hsu⟩, ⟨⟨%mm, Hmm, %hmm⟩, ⟨%am, Ham, %ham⟩⟩, %W, HW⟩
    unfold body2 k0_t2_body
    sl_exec
    sl_step
    sl_unfold_run_names
    isplitl [Hf0_dst Hf0 Ht0 HD0 Hf1_dst Hf1 Ht1 HD1 Hq2 Hg2 Ht2 Hq3 Hg3 Ht3]
    · isplitl [Hf0_dst Hf0 Ht0 HD0]
      · isplitl [Hf0_dst Hf0]
        · iexists f0
          isplitl [Hf0_dst]; · iexact Hf0_dst
          iexact Hf0
        isplitl [Ht0]; · iexact Ht0
        iexact HD0
      isplitl [Hf1_dst Hf1 Ht1 HD1]
      · isplitl [Hf1_dst Hf1]
        · iexists f1
          isplitl [Hf1_dst]; · iexact Hf1_dst
          iexact Hf1
        isplitl [Ht1]; · iexact Ht1
        iexact HD1
      isplitl [Hq2 Hg2 Ht2]
      · isplitl [Hq2 Hg2]
        · iexists _
          isplitl [Hq2 Hg2]
          · isplitl [Hq2]; · iexact Hq2
            iexact Hg2
          · ipureintro; exact holds_landed' _ _ _ _ _ _ _ _ _ rfl
        · iexact Ht2
      isplitl [Hq3 Hg3]
      · iexists _
        isplitl [Hq3 Hg3]
        · isplitl [Hq3]; · iexact Hq3
          iexact Hg3
        · ipureintro; exact holds_landed' _ _ _ _ _ _ _ _ _ rfl
      · iexact Ht3
    isplitl [Hxc Hsx Hsg Hsu]
    · isplitl [Hxc]; · iexact Hxc
      isplitl [Hsx]; · iexact Hsx
      isplitl [Hsg]; · iexact Hsg
      iexact Hsu
    isplitl [Hmm Ham]
    · isplitl [Hmm]
      · iexists _
        isplitl [Hmm]; · iexact Hmm
        ipureintro; exact mm_after xc sx sg su h0 h1 hmm
      · iexists _
        isplitl [Ham]; · iexact Ham
        ipureintro; exact am_after xc sx sg su h0 h1 ham
    iexists _
    iexact HW

end Cert.Kernel.Hand
end
-- ==== Proof.StepC.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.StepValue
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## A step of gate and up that issues the four blocks of a step of down -/

set_option maxHeartbeats 24000000 in
/-- Steps 7 to 9 of a layer, which issue the first blocks of down. -/
theorem stepsC (l i : ℕ) (hl : l < 2) (h7 : 7 ≤ i) (hi : i < 10) : StepOk F l i hl hi := by
  intro c w xc sx sg su arg44 v225 v385
  have hB := fun w2 => Transfers.mixedBatch_alloc' (Lvl := ℕ) (countersEmb (U := Pipeline.UD sig nD τ)) (c : Thread nD τ) () AD
    (delivD c (sG (15 * l + i + 3)) (cG (15 * l + i + 3)) w2 ⟨l, hl⟩ ⟨i - 7, by omega⟩ 0 w.d) (sm := SemLoc.dma (cG (15 * l + i + 3))) (E := Set.univ)
  have hC := fun w2 => Transfers.mixedBatch_alloc' (Lvl := ℕ) (countersEmb (U := Pipeline.UD sig nD τ)) (c : Thread nD τ) () AD
    (delivD c (sU (15 * l + i + 3)) (cU (15 * l + i + 3)) w2 ⟨l, hl⟩ ⟨i - 7, by omega⟩ 1 w.d) (sm := SemLoc.dma (cU (15 * l + i + 3))) (E := Set.univ)
  interval_cases l <;> interval_cases i
  all_goals
    obtain rfl : hl = (by decide) := rfl
    obtain rfl : h7 = (by decide) := rfl
    obtain rfl : hi = (by decide) := rfl
    simp only [Nat.reduceMul, Nat.reduceAdd, Nat.reduceSub] at hB hC
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busy busyD free0 flying flyingD toksD operands prod
    iintro ⟨⟨⟨⟨%f0, ⟨Hf0, Ht0⟩, %h0⟩, HD0⟩, ⟨⟨%f1, ⟨Hf1, Ht1⟩, %h1⟩, HD1⟩, ⟨⟨%w2, Hs2, Hq2⟩, Hg2, Ht2⟩, ⟨%w3, Hs3, Hq3⟩, Hg3, Ht3⟩, ⟨Hxc, Hsx, Hsg, Hsu⟩, ⟨⟨%mm, Hmm, %hmm⟩, ⟨%am, Ham, %ham⟩⟩, %W, HW⟩
    imod (hB w2) $$ Hq2 with HB
    imod (hC w3) $$ Hq3 with HC
    ihave Hx2 := (halves_split c _ w2) $$ Hs2
    ihave Hx3 := (halves_split c _ w3) $$ Hs3
    icases Hx2 with ⟨Hx0, Hx1⟩
    icases Hx3 with ⟨Hx2, Hx3⟩
    icases Ht3 with ⟨Ha3, Hb3⟩
    icases Ht2 with ⟨Ha2, Hb2⟩
    unfold body2 k0_t2_body delivD
    sl_exec
    sl_step
    sl_unfold_run_names
    isplitl [Hf0_dst Hf0 Ht0 HD0 Hf1_dst Hf1 Ht1 HD1 HB Ha2 Hb2 Hg2 HC Ha3 Hb3 Hg3]
    · isplitl [Hf0_dst Hf0 Ht0 HD0]
      · isplitl [Hf0_dst Hf0]
        · iexists f0
          isplitl [Hf0_dst]; · iexact Hf0_dst
          iexact Hf0
        isplitl [Ht0]; · iexact Ht0
        iexact HD0
      isplitl [Hf1_dst Hf1 Ht1 HD1]
      · isplitl [Hf1_dst Hf1]
        · iexists f1
          isplitl [Hf1_dst]; · iexact Hf1_dst
          iexact Hf1
        isplitl [Ht1]; · iexact Ht1
        iexact HD1
      isplitl [HB Ha2 Hb2 Hg2]
      · isplitl [HB Ha2 Hb2]
        · iexists w2
          isplitl [HB]; · iexact HB
          isplitl [Ha2]; · iexact Ha2
          iexact Hb2
        iexact Hg2
      isplitl [HC Ha3 Hb3]
      · iexists w3
        isplitl [HC]; · iexact HC
        isplitl [Ha3]; · iexact Ha3
        iexact Hb3
      iexact Hg3
    isplitl [Hxc Hsx Hsg Hsu]
    · isplitl [Hxc]; · iexact Hxc
      isplitl [Hsx]; · iexact Hsx
      isplitl [Hsg]; · iexact Hsg
      iexact Hsu
    isplitl [Hmm Ham]
    · isplitl [Hmm]
      · iexists _
        isplitl [Hmm]; · iexact Hmm
        ipureintro; exact mm_after xc sx sg su h0 h1 hmm
      · iexists _
        isplitl [Ham]; · iexact Ham
        ipureintro; exact am_after xc sx sg su h0 h1 ham
    iexists _
    iexact HW

end Cert.Kernel.Hand
end
-- ==== Proof.StepD.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.StepValue
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The steps of down -/

set_option maxHeartbeats 16000000 in
/-- Steps 0 and 1 of down, which issue blocks of the same layer's down weights. -/
theorem stepsD_dn (l i : ℕ) (hl : l < 2) (h2 : i < 2) (hi : i < 5) : StepOkD F l i hl hi := by
  intro c w dc sx sd arg44 v225 v414 v415
  have hB := fun w2 => Transfers.mixedBatch_alloc' (Lvl := ℕ) (countersEmb (U := Pipeline.UD sig nD τ)) (c : Thread nD τ) () AD
    (delivD c (sG (15 * l + 10 + i + 3)) (cG (15 * l + 10 + i + 3)) w2 ⟨l, hl⟩ ⟨i + 3, by omega⟩ 0 w.d) (sm := SemLoc.dma (cG (15 * l + 10 + i + 3))) (E := Set.univ)
  have hC := fun w2 => Transfers.mixedBatch_alloc' (Lvl := ℕ) (countersEmb (U := Pipeline.UD sig nD τ)) (c : Thread nD τ) () AD
    (delivD c (sU (15 * l + 10 + i + 3)) (cU (15 * l + 10 + i + 3)) w2 ⟨l, hl⟩ ⟨i + 3, by omega⟩ 1 w.d) (sm := SemLoc.dma (cU (15 * l + 10 + i + 3))) (E := Set.univ)
  have key := fun f f1 f' f1' o => o_after c w.d dc sx sd (sG (15 * l + 10 + i)) (sU (15 * l + 10 + i)) f f1 f' f1' ⟨l, hl⟩ ⟨i, hi⟩ (o := o)
  interval_cases l <;> interval_cases i
  all_goals
    obtain rfl : hl = (by decide) := rfl
    obtain rfl : h2 = (by decide) := rfl
    obtain rfl : hi = (by decide) := rfl
    simp only [Nat.reduceMul, Nat.reduceAdd, Nat.reduceSub] at hB hC
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busyD free0 flyingD toksD operandsD prodD
    iintro ⟨⟨⟨⟨%f0, HF, Hr0, Hr1⟩, Hg⟩, ⟨⟨%f1, HE, Hr2, Hr3⟩, Hu⟩, ⟨⟨%w2, Hs2, Hq2⟩, Hg2, Ht2⟩, ⟨%w3, Hs3, Hq3⟩, Hg3, Ht3⟩, ⟨Hdc, Hsx, Hsd⟩, ⟨%o, Ho, %ho⟩, %W, HW⟩
    imod (hB w2) $$ Hq2 with HB
    imod (hC w3) $$ Hq3 with HC
    ihave Hx2 := (halves_split c _ w2) $$ Hs2
    ihave Hx3 := (halves_split c _ w3) $$ Hs3
    icases Hx2 with ⟨Hx0, Hx1⟩
    icases Hx3 with ⟨Hx2, Hx3⟩
    icases Ht2 with ⟨Ha2, Hb2⟩
    icases Ht3 with ⟨Ha3, Hb3⟩
    unfold body4 k0_t4_body delivD
    sl_exec
    sl_step
    sl_unfold_run_names
    ihave HFs := (halves_join c _ _ _) $$ [HF_dst0 HF_dst1]
    · isplitl [HF_dst0]; · iexact HF_dst0
      iexact HF_dst1
    icases HFs with ⟨%hf, HFs⟩
    ihave HEs := (halves_join c _ _ _) $$ [HE_dst0 HE_dst1]
    · isplitl [HE_dst0]; · iexact HE_dst0
      iexact HE_dst1
    icases HEs with ⟨%he, HEs⟩
    isplitl [HFs HF Hr0 Hr1 Hg HEs HE Hr2 Hr3 Hu HB Ha2 Hb2 Hg2 HC Ha3 Hb3 Hg3]
    · isplitl [HFs HF Hr0 Hr1 Hg]
      · isplitl [HFs HF]
        · iexists hf
          isplitl [HFs]; · iexact HFs
          iexact HF
        isplitl [Hg]; · iexact Hg
        isplitl [Hr0]; · iexact Hr0
        iexact Hr1
      isplitl [HEs HE Hr2 Hr3 Hu]
      · isplitl [HEs HE]
        · iexists he
          isplitl [HEs]; · iexact HEs
          iexact HE
        isplitl [Hu]; · iexact Hu
        isplitl [Hr2]; · iexact Hr2
        iexact Hr3
      isplitl [HB Ha2 Hb2 Hg2]
      · isplitl [HB Ha2 Hb2]
        · iexists w2
          isplitl [HB]; · iexact HB
          isplitl [Ha2]; · iexact Ha2
          iexact Hb2
        iexact Hg2
      isplitl [HC Ha3 Hb3]
      · iexists w3
        isplitl [HC]; · iexact HC
        isplitl [Ha3]; · iexact Ha3
        iexact Hb3
      iexact Hg3
    isplitl [Hdc Hsx Hsd]
    · isplitl [Hdc]; · iexact Hdc
      isplitl [Hsx]; · iexact Hsx
      iexact Hsd
    isplitl [Ho]
    · iexists _
      isplitl [Ho]; · iexact Ho
      ipureintro; exact key _ _ _ _ _ ho
    iexists _
    iexact HW

set_option maxHeartbeats 12000000 in
/-- Steps 2 to 4 of down of the first layer, which issue the gate and up blocks of the second. -/
theorem stepsD_gu (i : ℕ) (h2 : 2 ≤ i) (hi : i < 5) : StepOkD F 0 i (by decide) hi := by
  intro c w dc sx sd arg44 v225 v414 v415
  have key := fun f f1 f' f1' o => o_after c w.d dc sx sd (sG (10 + i)) (sU (10 + i)) f f1 f' f1' ⟨0, by decide⟩ ⟨i, hi⟩ (o := o)
  interval_cases i
  all_goals
    obtain rfl : h2 = (by decide) := rfl
    obtain rfl : hi = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busyD busy free0 flying flyingD toksD operandsD prodD
    iintro ⟨⟨⟨⟨%f0, HF, Hr0, Hr1⟩, Hg⟩, ⟨⟨%f1, HE, Hr2, Hr3⟩, Hu⟩, ⟨⟨%w2, Hs2, Hq2⟩, Hg2, Ht2⟩, ⟨%w3, Hs3, Hq3⟩, Hg3, Ht3⟩, ⟨Hdc, Hsx, Hsd⟩, ⟨%o, Ho, %ho⟩, %W, HW⟩
    unfold body4 k0_t4_body delivD
    sl_exec
    sl_step
    sl_unfold_run_names
    ihave HFs := (halves_join c _ _ _) $$ [HF_dst0 HF_dst1]
    · isplitl [HF_dst0]; · iexact HF_dst0
      iexact HF_dst1
    icases HFs with ⟨%hf, HFs⟩
    ihave HEs := (halves_join c _ _ _) $$ [HE_dst0 HE_dst1]
    · isplitl [HE_dst0]; · iexact HE_dst0
      iexact HE_dst1
    icases HEs with ⟨%he, HEs⟩
    isplitl [HFs HF Hr0 Hr1 Hg HEs HE Hr2 Hr3 Hu Hq2 Hg2 Ht2 Hq3 Hg3 Ht3]
    · isplitl [HFs HF Hr0 Hr1 Hg]
      · isplitl [HFs HF]
        · iexists hf
          isplitl [HFs]; · iexact HFs
          iexact HF
        isplitl [Hg]; · iexact Hg
        isplitl [Hr0]; · iexact Hr0
        iexact Hr1
      isplitl [HEs HE Hr2 Hr3 Hu]
      · isplitl [HEs HE]
        · iexists he
          isplitl [HEs]; · iexact HEs
          iexact HE
        isplitl [Hu]; · iexact Hu
        isplitl [Hr2]; · iexact Hr2
        iexact Hr3
      isplitl [Hq2 Hg2 Ht2]
      · isplitl [Hq2 Hg2]
        · iexists _
          isplitl [Hq2 Hg2]
          · isplitl [Hq2]; · iexact Hq2
            iexact Hg2
          · ipureintro; exact holds_landed' _ _ _ _ _ _ _ _ _ rfl
        · iexact Ht2
      isplitl [Hq3 Hg3]
      · iexists _
        isplitl [Hq3 Hg3]
        · isplitl [Hq3]; · iexact Hq3
          iexact Hg3
        · ipureintro; exact holds_landed' _ _ _ _ _ _ _ _ _ rfl
      · iexact Ht3
    isplitl [Hdc Hsx Hsd]
    · isplitl [Hdc]; · iexact Hdc
      isplitl [Hsx]; · iexact Hsx
      iexact Hsd
    isplitl [Ho]
    · iexists _
      isplitl [Ho]; · iexact Ho
      ipureintro; exact key _ _ _ _ _ ho
    iexists _
    iexact HW

set_option maxHeartbeats 12000000 in
/-- Steps 2 to 4 of down of the second layer, after which nothing is left to issue. -/
theorem stepsD_end (i : ℕ) (h2 : 2 ≤ i) (hi : i < 5) : StepOkD F 1 i (by decide) hi := by
  intro c w dc sx sd arg44 v225 v414 v415
  have key := fun f f1 f' f1' o => o_after c w.d dc sx sd (sG (25 + i)) (sU (25 + i)) f f1 f' f1' ⟨1, by decide⟩ ⟨i, hi⟩ (o := o)
  interval_cases i
  all_goals
    obtain rfl : h2 = (by decide) := rfl
    obtain rfl : hi = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busyD free0 flyingD toksD operandsD prodD
    iintro ⟨⟨⟨⟨%f0, HF, Hr0, Hr1⟩, Hg⟩, ⟨⟨%f1, HE, Hr2, Hr3⟩, Hu⟩, HG3, HU3⟩, ⟨Hdc, Hsx, Hsd⟩, ⟨%o, Ho, %ho⟩, %W, HW⟩
    unfold body4 k0_t4_body delivD
    sl_exec
    sl_step
    sl_unfold_run_names
    ihave HFs := (halves_join c _ _ _) $$ [HF_dst0 HF_dst1]
    · isplitl [HF_dst0]; · iexact HF_dst0
      iexact HF_dst1
    icases HFs with ⟨%hf, HFs⟩
    ihave HEs := (halves_join c _ _ _) $$ [HE_dst0 HE_dst1]
    · isplitl [HE_dst0]; · iexact HE_dst0
      iexact HE_dst1
    icases HEs with ⟨%he, HEs⟩
    isplitl [HFs HF Hr0 Hr1 Hg HEs HE Hr2 Hr3 Hu HG3 HU3]
    · isplitl [HFs HF Hr0 Hr1 Hg]
      · isplitl [HFs HF]
        · iexists hf
          isplitl [HFs]; · iexact HFs
          iexact HF
        isplitl [Hg]; · iexact Hg
        isplitl [Hr0]; · iexact Hr0
        iexact Hr1
      isplitl [HEs HE Hr2 Hr3 Hu]
      · isplitl [HEs HE]
        · iexists he
          isplitl [HEs]; · iexact HEs
          iexact HE
        isplitl [Hu]; · iexact Hu
        isplitl [Hr2]; · iexact Hr2
        iexact Hr3
      isplitl [HG3]; · iexact HG3
      iexact HU3
    isplitl [Hdc Hsx Hsd]
    · isplitl [Hdc]; · iexact Hdc
      isplitl [Hsx]; · iexact Hsx
      iexact Hsd
    isplitl [Ho]
    · iexists _
      isplitl [Ho]; · iexact Ho
      ipureintro; exact key _ _ _ _ _ ho
    iexists _
    iexact HW

end Cert.Kernel.Hand
end
-- ==== Proof.Steps.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.StepA
public import proofs.«01_k».proof.Proof.StepB
public import proofs.«01_k».proof.Proof.StepC
public import proofs.«01_k».proof.Proof.StepD
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Every step of a layer, at the loop's invariant -/

theorem stepOk_all (l i : ℕ) (hl : l < 2) (hi : i < 10) : StepOk F l i hl hi := by
  rcases Nat.eq_zero_or_pos i with rfl | h1
  · exact stepsA l hl
  rcases Nat.lt_or_ge i 7 with h7 | h7
  · exact stepsB l i hl h1 h7 hi
  · exact stepsC l i hl h7 hi

theorem stepOkD_all (l i : ℕ) (hl : l < 2) (hi : i < 5) : StepOkD F l i hl hi := by
  rcases Nat.lt_or_ge i 2 with h2 | h2
  · exact stepsD_dn l i hl h2 hi
  interval_cases l
  · exact stepsD_gu i h2 hi
  · exact stepsD_end i h2 hi

/-- The ring before a step is what the step finds, beside what it leaves alone, -/
theorem ring_in (c : Dev nD) (w : Wts F c) (p : ℕ) (e : Bool) : ring c w p e ⊢ iprop(ringIn c w p e ∗ ringMid c w p) := by
  unfold ring ringIn
  iintro ⟨H1, H2, H3, H4, H5⟩
  isplitr [H5]
  · isplitl [H1]; · iexact H1
    isplitl [H2]; · iexact H2
    isplitl [H3]; · iexact H3
    iexact H4
  · iexact H5

/-- and what the step leaves, beside that, is the ring before the next one. -/
theorem ring_out (c : Dev nD) (w : Wts F c) (p : ℕ) : iprop(ringOut c w p ∗ ringMid c w p) ⊢ ring c w (p + 1) false := by
  have e4 : sG (p + 1 + 3) = sG p := Fin.ext (by simp only []; omega)
  have e5 : sU (p + 1 + 3) = sU p := Fin.ext (by simp only []; omega)
  have e6 : cG (p + 1 + 3) = cG p := Fin.ext (by simp only []; omega)
  have e7 : cU (p + 1 + 3) = cU p := Fin.ext (by simp only []; omega)
  unfold ring ringOut ringMid cellG cellU
  simp only [Bool.false_eq_true, if_false]
  rw [e4, e5, e6, e7]
  iintro ⟨⟨H1, H2, H3, H4⟩, H9, H10, H11, H12⟩
  isplitl [H9]; · iexact H9
  isplitl [H10]; · iexact H10
  isplitl [H1]; · iexact H1
  isplitl [H2]; · iexact H2
  isplitl [H11]; · iexact H11
  isplitl [H12]; · iexact H12
  isplitl [H3]; · iexact H3
  iexact H4

/-- Before step `i` of layer `l`, of gate and up, -/
def stepInv (c : Dev nD) (w : Wts F c) (xc : BufOf F c vXc) (sx : BufOf F c vSx) (sg : BufOf F c vSg)
    (su : BufOf F c vSu) (l : Fin 2) (i : ℕ) : sProp 𝕄 :=
  iprop(ring c w (15 * l.val + i) (decide (i = 0)) ∗ operands c xc sx sg su ∗ prod c (tileAt c w.g w.u xc sx sg su l) i
    ∗ ∃ W, owes (c : Thread nD τ) 0 W)

/-- and of down. -/
def stepInvD (c : Dev nD) (w : Wts F c) (dc : BufOf F c vDc) (sx : BufOf F c vSx) (sd : BufOf F c vSd) (l : Fin 2) (i : ℕ) : sProp 𝕄 :=
  iprop(ring c w (15 * l.val + 10 + i) false ∗ operandsD c dc sx sd ∗ prodD c (downAt c w.d dc sx sd l) i
    ∗ ∃ W, owes (c : Thread nD τ) 0 W)

theorem step_inv (c : Dev nD) (w : Wts F c) (xc : BufOf F c vXc) (sx : BufOf F c vSx) (sg : BufOf F c vSg)
    (su : BufOf F c vSu) (arg44 v225 : BitVec 32) (v385 : FVec F S1x48 .f32) (l i : ℕ) (hl : l < 2) (hi : i < 10) :
    stepInv c w xc sx sg su ⟨l, hl⟩ i
    ⊢ wp frame (wpE (defs₀ (F := F)) Variants.none c none) Set.univ
        (body2 (F := F) ⟨l, trips1 ▸ hl⟩ arg44 v225 v385 ⟨i, trips2 ▸ hi⟩ ())
        (fun _ => stepInv c w xc sx sg su ⟨l, hl⟩ (i + 1)) := by
  have hs := stepOk_all (F := F) l i hl hi c w xc sx sg su arg44 v225 v385
  refine BIBase.Entails.trans ?_ ((BIClass.sep_mono hs (Entails.refl (ringMid c w (15 * l + i)))).trans
    ((wp_frame_r _ _ _).trans (wp_mono _ _ _ fun _ => ?_)))
  · unfold stepInv
    iintro ⟨Hr, H6, H7, H8⟩
    ihave Hr := (ring_in c w _ _) $$ Hr
    icases Hr with ⟨H1, H5⟩
    isplitr [H5]
    · isplitl [H1]; · iexact H1
      isplitl [H6]; · iexact H6
      isplitl [H7]; · iexact H7
      iexact H8
    · iexact H5
  · unfold stepInv
    simp only [Nat.succ_ne_zero, decide_false]
    rw [show 15 * l + (i + 1) = 15 * l + i + 1 from rfl]
    iintro ⟨⟨H1, H6, H7, H8⟩, H9⟩
    isplitl [H1 H9]
    · iapply (ring_out c w (15 * l + i))
      isplitl [H1]; · iexact H1
      iexact H9
    isplitl [H6]; · iexact H6
    isplitl [H7]; · iexact H7
    iexact H8

theorem stepD_inv (c : Dev nD) (w : Wts F c) (dc : BufOf F c vDc) (sx : BufOf F c vSx) (sd : BufOf F c vSd) (arg44 v225 : BitVec 32)
    (v414 v415 : FVec F S48x1 .f32) (l i : ℕ) (hl : l < 2) (hi : i < 5) :
    stepInvD c w dc sx sd ⟨l, hl⟩ i
    ⊢ wp frame (wpE (defs₀ (F := F)) Variants.none c none) Set.univ
        (body4 (F := F) ⟨l, trips1 ▸ hl⟩ arg44 v225 v414 v415 ⟨i, trips4 ▸ hi⟩ ())
        (fun _ => stepInvD c w dc sx sd ⟨l, hl⟩ (i + 1)) := by
  have hs := stepOkD_all (F := F) l i hl hi c w dc sx sd arg44 v225 v414 v415
  refine BIBase.Entails.trans ?_ ((BIClass.sep_mono hs (Entails.refl (ringMid c w (15 * l + 10 + i)))).trans
    ((wp_frame_r _ _ _).trans (wp_mono _ _ _ fun _ => ?_)))
  · unfold stepInvD
    iintro ⟨Hr, H6, H7, H8⟩
    ihave Hr := (ring_in c w _ _) $$ Hr
    icases Hr with ⟨H1, H5⟩
    isplitr [H5]
    · isplitl [H1]; · iexact H1
      isplitl [H6]; · iexact H6
      isplitl [H7]; · iexact H7
      iexact H8
    · iexact H5
  · unfold stepInvD
    rw [show 15 * l + 10 + (i + 1) = 15 * l + 10 + i + 1 from rfl]
    iintro ⟨⟨H1, H6, H7, H8⟩, H9⟩
    isplitl [H1 H9]
    · iapply (ring_out c w (15 * l + 10 + i))
      isplitl [H1]; · iexact H1
      iexact H9
    isplitl [H6]; · iexact H6
    isplitl [H7]; · iexact H7
    iexact H8

end Cert.Kernel.Hand
end
-- ==== Proof.Quant.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.RingState
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The second loop of a layer: the gated product quantised, 1024 columns a trip -/

abbrev body3 (k0_t1 : Fin k0_t1_loop.trips) (arg44 v225 : BitVec 32) (v414 v415 : FVec F S48x1 .f32) :=
  k0_t3_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24 k0_t1 arg44 v225 v414 v415

theorem trips3 : k0_t3_loop.trips = 10 := by decide

/-- One tile of the gated product, as loaded. -/
abbrev ldMm (c : Dev nD) (mm : BufOf F c vMm) (q : Fin 40) : FVec F S48x256 .f32 :=
  View.readAt (Elt F) vMm.view (Rect.unit (s := S48x10240) ![0, 256 * q.val] S48x256.size (inbM q)).toLoadRect mm

/-- Tile `q` of the codes: the product's tile over the row scales, rounded and clipped; as a result, -/
def cdTile (c : Dev nD) (mm : BufOf F c vMm) (sx : BufOf F c vSx) (q : Fin 40) : S48x256.Idx → Elt F .i8 :=
  k0_pay31 (ldMm c mm q) (View.readAt (Elt F) vSx.view (Rect.unit (s := S48x128) ![0, 0] S48x1.size inb_S48x128_S48x1_0_0).toLoadRect sx)

/-- and as multiplied. -/
def dcTile (c : Dev nD) (mm : BufOf F c vMm) (sx : BufOf F c vSx) (q : Fin 40) : S48x256.Idx → Elt F .bf16 :=
  k0_pay30 (ldMm c mm q) (View.readAt (Elt F) vSx.view (Rect.unit (s := S48x128) ![0, 0] S48x1.size inb_S48x128_S48x1_0_0).toLoadRect sx)

/-- Before trip `i` of the loop. -/
def quantInv (c : Dev nD) (mm : BufOf F c vMm) (sx : BufOf F c vSx) (i : ℕ) : sProp 𝕄 :=
  iprop(pt c vMm mm ∗ pt c vSx sx
    ∗ (∃ dc, pt c vDc dc ∗ ⌜∀ y : S48x10240.Idx, (y 1).val < 1024 * i → View.read (Elt F) vDc.view dc y = ofTiles (dcTile c mm sx) y⌝)
    ∗ (∃ cd, pt c vCd cd ∗ ⌜∀ y : S48x10240.Idx, (y 1).val < 1024 * i → View.read (Elt F) vCd.view cd y = ofTiles (cdTile c mm sx) y⌝)
    ∗ ∃ W, owes (c : Thread nD τ) 0 W)

/-- One trip, at an explicit number. -/
def QuantOk (F : FTy → Type) [FloatOps F] (i : ℕ) (hi : i < 10) : Prop :=
  ∀ (c : Dev nD) (mm : BufOf F c vMm) (sx : BufOf F c vSx) (k0_t1 : Fin k0_t1_loop.trips) (arg44 v225 : BitVec 32) (v414 v415 : FVec F S48x1 .f32),
    quantInv c mm sx i ⊢ wp frame (wpE (defs₀ (F := F)) Variants.none c none) Set.univ
      (body3 (F := F) k0_t1 arg44 v225 v414 v415 ⟨i, trips3 ▸ hi⟩ ()) (fun _ => quantInv c mm sx (i + 1))

/-- The buffer of the codes after a trip, -/
theorem cd_after {c : Dev nD} {mm : BufOf F c vMm} {sx : BufOf F c vSx} {i : ℕ} (hi : i < 10) {cd : BufOf F c vCd}
    (h : ∀ y : S48x10240.Idx, (y 1).val < 1024 * i → View.read (Elt F) vCd.view cd y = ofTiles (cdTile c mm sx) y) :
    ∀ y : S48x10240.Idx, (y 1).val < 1024 * (i + 1) → View.read (Elt F) vCd.view (vCd.view.writes (Elt F) cd
      [⟨Rect.unit (s := S48x10240) ![0, 256 * (4 * i + 3)] S48x256.size (inbM ⟨4 * i + 3, by omega⟩),
          k0_pay73 (ldMm c mm ⟨4 * i + 3, by omega⟩) (View.readAt (Elt F) vSx.view (Rect.unit (s := S48x128) ![0, 0] S48x1.size inb_S48x128_S48x1_0_0).toLoadRect sx)⟩,
       ⟨Rect.unit (s := S48x10240) ![0, 256 * (4 * i + 2)] S48x256.size (inbM ⟨4 * i + 2, by omega⟩),
          k0_pay31 (ldMm c mm ⟨4 * i + 2, by omega⟩) (View.readAt (Elt F) vSx.view (Rect.unit (s := S48x128) ![0, 0] S48x1.size inb_S48x128_S48x1_0_0).toLoadRect sx)⟩,
       ⟨Rect.unit (s := S48x10240) ![0, 256 * (4 * i + 1)] S48x256.size (inbM ⟨4 * i + 1, by omega⟩),
          k0_pay28 (k0_pay24 (ldMm c mm ⟨4 * i + 1, by omega⟩) (View.readAt (Elt F) vSx.view (Rect.unit (s := S48x128) ![0, 0] S48x1.size inb_S48x128_S48x1_0_0).toLoadRect sx)) 127#32 k0_pay25⟩,
       ⟨Rect.unit (s := S48x10240) ![0, 256 * (4 * i + 0)] S48x256.size (inbM ⟨4 * i + 0, by omega⟩),
          k0_pay23 (ldMm c mm ⟨4 * i + 0, by omega⟩) (View.readAt (Elt F) vSx.view (Rect.unit (s := S48x128) ![0, 0] S48x1.size inb_S48x128_S48x1_0_0).toLoadRect sx)⟩]) y
      = ofTiles (cdTile c mm sx) y :=
  prefix_step vCd.view cd (cdTile c mm sx) ⟨i, hi⟩ _ _ _ _ h rfl rfl rfl rfl

/-- and that of the codes as multiplied. -/
theorem dc_after {c : Dev nD} {mm : BufOf F c vMm} {sx : BufOf F c vSx} {i : ℕ} (hi : i < 10) {dc : BufOf F c vDc}
    (h : ∀ y : S48x10240.Idx, (y 1).val < 1024 * i → View.read (Elt F) vDc.view dc y = ofTiles (dcTile c mm sx) y) :
    ∀ y : S48x10240.Idx, (y 1).val < 1024 * (i + 1) → View.read (Elt F) vDc.view (vDc.view.writes (Elt F) dc
      [⟨Rect.unit (s := S48x10240) ![0, 256 * (4 * i + 3)] S48x256.size (inbM ⟨4 * i + 3, by omega⟩),
          k0_pay72 (ldMm c mm ⟨4 * i + 3, by omega⟩) (View.readAt (Elt F) vSx.view (Rect.unit (s := S48x128) ![0, 0] S48x1.size inb_S48x128_S48x1_0_0).toLoadRect sx)⟩,
       ⟨Rect.unit (s := S48x10240) ![0, 256 * (4 * i + 2)] S48x256.size (inbM ⟨4 * i + 2, by omega⟩),
          k0_pay30 (ldMm c mm ⟨4 * i + 2, by omega⟩) (View.readAt (Elt F) vSx.view (Rect.unit (s := S48x128) ![0, 0] S48x1.size inb_S48x128_S48x1_0_0).toLoadRect sx)⟩,
       ⟨Rect.unit (s := S48x10240) ![0, 256 * (4 * i + 1)] S48x256.size (inbM ⟨4 * i + 1, by omega⟩),
          k0_pay27 (k0_pay24 (ldMm c mm ⟨4 * i + 1, by omega⟩) (View.readAt (Elt F) vSx.view (Rect.unit (s := S48x128) ![0, 0] S48x1.size inb_S48x128_S48x1_0_0).toLoadRect sx)) 127#32 k0_pay25⟩,
       ⟨Rect.unit (s := S48x10240) ![0, 256 * (4 * i + 0)] S48x256.size (inbM ⟨4 * i + 0, by omega⟩),
          k0_pay22 (ldMm c mm ⟨4 * i + 0, by omega⟩) (View.readAt (Elt F) vSx.view (Rect.unit (s := S48x128) ![0, 0] S48x1.size inb_S48x128_S48x1_0_0).toLoadRect sx)⟩]) y
      = ofTiles (dcTile c mm sx) y :=
  prefix_step vDc.view dc (dcTile c mm sx) ⟨i, hi⟩ _ _ _ _ h rfl rfl rfl rfl

set_option maxHeartbeats 4000000 in
theorem quants : QuantOk F 0 (by decide) ∧ QuantOk F 1 (by decide) ∧ QuantOk F 2 (by decide) ∧ QuantOk F 3 (by decide)
    ∧ QuantOk F 4 (by decide) ∧ QuantOk F 5 (by decide) ∧ QuantOk F 6 (by decide) ∧ QuantOk F 7 (by decide)
    ∧ QuantOk F 8 (by decide) ∧ QuantOk F 9 (by decide) := by
  refine ⟨?_, ?_, ?_, ?_, ?_, ?_, ?_, ?_, ?_, ?_⟩ <;>
  · intro c mm sx k0_t1 arg44 v225 v414 v415
    unfold quantInv
    iintro ⟨Hmm, Hsx, ⟨%dc, Hdc, %hdc⟩, ⟨%cd, Hcd, %hcd⟩, %W, HW⟩
    unfold body3 k0_t3_body
    sl_exec
    sl_step
    sl_unfold_run_names
    isplitl [Hmm]; · iexact Hmm
    isplitl [Hsx]; · iexact Hsx
    isplitl [Hdc]
    · iexists _
      isplitl [Hdc]; · iexact Hdc
      ipureintro; exact dc_after (by decide) hdc
    isplitl [Hcd]
    · iexists _
      isplitl [Hcd]; · iexact Hcd
      ipureintro; exact cd_after (by decide) hcd
    iexists _
    iexact HW

theorem quant_inv (c : Dev nD) (mm : BufOf F c vMm) (sx : BufOf F c vSx) (k0_t1 : Fin k0_t1_loop.trips) (arg44 v225 : BitVec 32)
    (v414 v415 : FVec F S48x1 .f32) (i : ℕ) (hi : i < 10) :
    quantInv c mm sx i ⊢ wp frame (wpE (defs₀ (F := F)) Variants.none c none) Set.univ
      (body3 (F := F) k0_t1 arg44 v225 v414 v415 ⟨i, trips3 ▸ hi⟩ ()) (fun _ => quantInv c mm sx (i + 1)) := by
  have h : QuantOk F i hi := by
    obtain ⟨q0, q1, q2, q3, q4, q5, q6, q7, q8, q9⟩ := quants (F := F)
    interval_cases i <;> with_reducible assumption
  exact h c mm sx k0_t1 arg44 v225 v414 v415

end Cert.Kernel.Hand
end
-- ==== Proof.LayerVal.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Steps
public import proofs.«01_k».proof.Proof.Quant
public import Idealize.ShloMosaic.Lib.ValueLayout
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What a layer computes, from the arrays it reads

`X` are the activations, `N` and `M` the norm weights before and after, `G`, `U` and `D` the weight scales, `WG`, `WU` and `WD` the weight
codes; all of both layers. -/

/-- Sixteen rows of a layer's activations. -/
def hRows (X : S2x48x2560.Idx → Elt F .f32) (l : Fin 2) (r : Fin 3) : FVec F S16x2560 .f32 := fun y =>
  X (ix3 l (⟨16 * r.val + (y 0).val, by have h : (y 0).val < 16 := (y 0).isLt; omega⟩ : Fin 48) (⟨(y 1).val, (y 1).isLt⟩ : Fin 2560))

/-- A layer's norm weights. -/
def nRow (N : S2x2560.Idx → Elt F .f32) (l : Fin 2) : FVec F S1x2560 .f32 := fun y => N (ix2 l (⟨(y 1).val, (y 1).isLt⟩ : Fin 2560))

/-- The scales of 256 columns. -/
def sTile (G : S2x10240.Idx → Elt F .f32) (l : Fin 2) (q : Fin 40) : FVec F S1x256 .f32 := fun y =>
  G (ix2 l (⟨256 * q.val + (y 1).val, by have h : (y 1).val < 256 := (y 1).isLt; omega⟩ : Fin 10240))

/-- The scales of 256 columns of the down projection. -/
def sTileD (D : S2x2560.Idx → Elt F .f32) (l : Fin 2) (q : Fin 10) : FVec F S1x256 .f32 := fun y =>
  D (ix2 l (⟨256 * q.val + (y 1).val, by have h : (y 1).val < 256 := (y 1).isLt; omega⟩ : Fin 2560))

/-- A chunk of 2560 columns. -/
def chunk {α : Type} (v : S48x10240.Idx → α) (k : Fin 4) : S48x2560.Idx → α := fun y =>
  v (ix2 (⟨(y 0).val, (y 0).isLt⟩ : Fin 48) (⟨2560 * k.val + (y 1).val, by have h : (y 1).val < 2560 := (y 1).isLt; omega⟩ : Fin 10240))

/-- Sixteen rows. -/
def rows16 {α : Type} (v : S48x2560.Idx → α) (r : Fin 3) : S16x2560.Idx → α := fun y =>
  v (ix2 (⟨16 * r.val + (y 0).val, by have h : (y 0).val < 16 := (y 0).isLt; omega⟩ : Fin 48) (⟨(y 1).val, (y 1).isLt⟩ : Fin 2560))

/-- Sixteen rows normed, their codes and their scales (in every lane). -/
def normBlk (a : FVec F S16x2560 .f32) (n : FVec F S1x2560 .f32) : FVec F S16x2560 .f32 := k0_pay55 a n
def xcBlk (a : FVec F S16x2560 .f32) (n : FVec F S1x2560 .f32) : S16x2560.Idx → Elt F .bf16 := k0_pay58 (normBlk a n)
def cfBlk (a : FVec F S16x2560 .f32) (n : FVec F S1x2560 .f32) : S16x2560.Idx → Elt F .i8 := k0_pay59 (normBlk a n)
def sxBlk (a : FVec F S16x2560 .f32) (n : FVec F S1x2560 .f32) : S16x128.Idx → Elt F .f32 := k0_pay60 (normBlk a n)

/-- Sixteen rows of the layer's result: the activations and the normed down projection. -/
def yBlk (h o : FVec F S16x2560 .f32) (n : FVec F S1x2560 .f32) : S16x2560.Idx → Elt F .bf16 := k0_pay86 (k0_pay85 h o n)

/-- Forty-eight rows from three blocks of sixteen. -/
def ofRows {α : Type} (T : Fin 3 → S16x2560.Idx → α) : S48x2560.Idx → α := fun y =>
  T ⟨(y 0).val / 16, by have h : (y 0).val < 48 := (y 0).isLt; omega⟩
    (ix2 (⟨(y 0).val % 16, Nat.mod_lt _ (by decide)⟩ : Fin 16) (⟨(y 1).val, (y 1).isLt⟩ : Fin 2560))

/-- The same for rows of 128 lanes. -/
def ofRowsS {α : Type} (T : Fin 3 → S16x128.Idx → α) : S48x128.Idx → α := fun y =>
  T ⟨(y 0).val / 16, by have h : (y 0).val < 48 := (y 0).isLt; omega⟩
    (ix2 (⟨(y 0).val % 16, Nat.mod_lt _ (by decide)⟩ : Fin 16) (⟨(y 1).val, (y 1).isLt⟩ : Fin 128))

/-- The first lane of each row. -/
def col0 {α : Type} (v : S48x128.Idx → α) : S48x1.Idx → α := fun y => v (ix2 (⟨(y 0).val, (y 0).isLt⟩ : Fin 48) (0 : Fin 128))

section
variable (X : S2x48x2560.Idx → Elt F .f32) (N : S2x2560.Idx → Elt F .f32) (G U : S2x10240.Idx → Elt F .f32)
  (WG WU : S2x2560x10240.Idx → Elt F .i8) (l : Fin 2)

/-- The normed activations' codes (as multiplied, and as results) and their scales. -/
def xcA : S48x2560.Idx → Elt F .bf16 := ofRows fun r => xcBlk (hRows X l r) (nRow N l)
def cfA : S48x2560.Idx → Elt F .i8 := ofRows fun r => cfBlk (hRows X l r) (nRow N l)
def sxA : S48x1.Idx → Elt F .f32 := col0 (ofRowsS fun r => sxBlk (hRows X l r) (nRow N l))
def sfA : S1x48.Idx → Elt F .f32 := k0_pay61 (sxA X N l)

/-- The tiles of the gated product, their largest absolute values lane by lane, their codes and scales. -/
def tileA (q : Fin 40) : FVec F S48x256 .f32 :=
  tileVal (xcA X N l) (sxA X N l) (wTile WG l q) (wTile WU l q) (sTile G l q) (sTile U l q)
def amA : FVec F S48x128 .f32 := amAfter (tileA X N G U WG WU l) 40
def sdCol : FVec F S48x1 .f32 := col0 (k0_pay69 (k0_pay68 (amA X N G U WG WU l)))
def cdA : S48x10240.Idx → Elt F .i8 := ofTiles fun q => k0_pay31 (tileA X N G U WG WU l q) (sdCol X N G U WG WU l)
def sdA : S1x48.Idx → Elt F .f32 := k0_pay61 (k0_pay67 (amA X N G U WG WU l))

/-- The codes as multiplied by the down weights, the tiles of the down projection, and the layer's result. -/
def dcA : S48x10240.Idx → Elt F .bf16 := ofTiles fun q => k0_pay30 (tileA X N G U WG WU l q) (sdCol X N G U WG WU l)
variable (D M : S2x2560.Idx → Elt F .f32) (WD : S2x10240x2560.Idx → Elt F .i8)
def dTileA (q : Fin 10) : FVec F S48x256 .f32 :=
  downVal (chunk (dcA X N G U WG WU l) 0) (chunk (dcA X N G U WG WU l) 1) (chunk (dcA X N G U WG WU l) 2) (chunk (dcA X N G U WG WU l) 3)
    (sdCol X N G U WG WU l) (dTile WD l 0 q) (dTile WD l 1 q) (dTile WD l 2 q) (dTile WD l 3 q) (sTileD D l q)
def oA : S48x2560.Idx → Elt F .f32 := ofTilesD (dTileA X N G U WG WU l D WD)
def yA : S48x2560.Idx → Elt F .bf16 := ofRows fun r => yBlk (hRows X l r) (rows16 (oA X N G U WG WU l D WD) r) (nRow M l)
end

/-! ### The three spellings of a block are one -/

theorem xc0_eq (a : FVec F S16x2560 .f32) (n : FVec F S1x2560 .f32) : k0_pay43 (k0_pay40 a n) (k0_pay41 (F := F)) = xcBlk a n := rfl
theorem cf0_eq (a : FVec F S16x2560 .f32) (n : FVec F S1x2560 .f32) : k0_pay44 (k0_pay40 a n) (k0_pay41 (F := F)) = cfBlk a n := rfl
theorem sx0_eq (a : FVec F S16x2560 .f32) (n : FVec F S1x2560 .f32) : k0_pay45 (k0_pay39 a n) = sxBlk a n := rfl
theorem xc1_eq (a : FVec F S16x2560 .f32) (n : FVec F S1x2560 .f32) :
    k0_pay52 (k0_pay46 a n) (k0_pay48 a n) (k0_pay49 a n) (FloatOps.ofBits .f32 0x3F800000#32) = xcBlk a n := rfl
theorem cf1_eq (a : FVec F S16x2560 .f32) (n : FVec F S1x2560 .f32) :
    k0_pay53 (k0_pay46 a n) (k0_pay48 a n) (k0_pay49 a n) (FloatOps.ofBits .f32 0x3F800000#32) = cfBlk a n := rfl
theorem sx1_eq (a : FVec F S16x2560 .f32) (n : FVec F S1x2560 .f32) :
    k0_pay54 (k0_pay48 a n) (k0_pay49 a n) (FloatOps.ofBits .f32 0x3F800000#32) = sxBlk a n := rfl

theorem y0_eq (h o : FVec F S16x2560 .f32) (n : FVec F S1x2560 .f32) : k0_pay77 h o n = yBlk h o n := rfl
theorem y1_eq (h o : FVec F S16x2560 .f32) (n : FVec F S1x2560 .f32) : k0_pay82 h o n (k0_pay78 o) (k0_pay79 (F := F)) = yBlk h o n := rfl

/-! ### Three stores of sixteen rows -/

theorem inbR (r : Fin 3) : ∀ a, (![16 * r.val, 0] : Fin 2 → ℕ) a + S16x2560.size a ≤ S48x2560.size a := by
  revert r; decide
theorem inbRS (r : Fin 3) : ∀ a, (![16 * r.val, 0] : Fin 2 → ℕ) a + S16x128.size a ≤ S48x128.size a := by
  revert r; decide

theorem rows_written {κ : Kind} {sp : Space} {e : EltTy} (v : View sig κ sp S48x2560 e) (f : v.ty.Contents (Elt F))
    (T : Fin 3 → S16x2560.Idx → Elt F e) :
    v.read (Elt F) (v.writes (Elt F) f [⟨Rect.unit (s := S48x2560) ![16 * (2 : Fin 3).val, 0] S16x2560.size (inbR 2), T 2⟩,
      ⟨Rect.unit (s := S48x2560) ![16 * (1 : Fin 3).val, 0] S16x2560.size (inbR 1), T 1⟩,
      ⟨Rect.unit (s := S48x2560) ![16 * (0 : Fin 3).val, 0] S16x2560.size (inbR 0), T 0⟩]) = ofRows T := by
  have key : ∀ (r : Fin 3) (x : S16x2560.Idx), ofRows T ((Rect.unit (s := S48x2560) ![16 * r.val, 0] S16x2560.size (inbR r)).emb x) = T r x := by
    intro r x
    have h0 : (x 0).val < 16 := (x 0).isLt
    unfold ofRows
    congr 1
    · apply Fin.ext; show (16 * r.val + 1 * (x 0).val) / 16 = r.val; omega
    · funext a; fin_cases a <;> apply Fin.ext <;> simp [ix2]
      exact h0
  funext y
  refine View.read_writes_apply_of_pieces v f (ofRows T) _ ?_ y ?_
  · intro p hp
    simp only [List.mem_cons, List.not_mem_nil, or_false] at hp
    rcases hp with rfl | rfl | rfl <;> intro x <;> exact (key _ x).symm
  · have h0 : (y 0).val < 48 := (y 0).isLt
    have h1 : (y 1).val < 2560 := (y 1).isLt
    by_cases c2 : 32 ≤ (y 0).val
    · refine ⟨_, List.mem_cons_self, ?_⟩
      rw [Rect.mem_set_unit]; intro a; fin_cases a <;> simp <;> omega
    by_cases c1 : 16 ≤ (y 0).val
    · refine ⟨_, List.mem_cons_of_mem _ List.mem_cons_self, ?_⟩
      rw [Rect.mem_set_unit]; intro a; fin_cases a <;> simp <;> omega
    · refine ⟨_, List.mem_cons_of_mem _ (List.mem_cons_of_mem _ List.mem_cons_self), ?_⟩
      rw [Rect.mem_set_unit]; intro a; fin_cases a <;> simp <;> omega

theorem rowsS_written {κ : Kind} {sp : Space} {e : EltTy} (v : View sig κ sp S48x128 e) (f : v.ty.Contents (Elt F))
    (T : Fin 3 → S16x128.Idx → Elt F e) :
    v.read (Elt F) (v.writes (Elt F) f [⟨Rect.unit (s := S48x128) ![16 * (2 : Fin 3).val, 0] S16x128.size (inbRS 2), T 2⟩,
      ⟨Rect.unit (s := S48x128) ![16 * (1 : Fin 3).val, 0] S16x128.size (inbRS 1), T 1⟩,
      ⟨Rect.unit (s := S48x128) ![16 * (0 : Fin 3).val, 0] S16x128.size (inbRS 0), T 0⟩]) = ofRowsS T := by
  have key : ∀ (r : Fin 3) (x : S16x128.Idx), ofRowsS T ((Rect.unit (s := S48x128) ![16 * r.val, 0] S16x128.size (inbRS r)).emb x) = T r x := by
    intro r x
    have h0 : (x 0).val < 16 := (x 0).isLt
    unfold ofRowsS
    congr 1
    · apply Fin.ext; show (16 * r.val + 1 * (x 0).val) / 16 = r.val; omega
    · funext a; fin_cases a <;> apply Fin.ext <;> simp [ix2]
      exact h0
  funext y
  refine View.read_writes_apply_of_pieces v f (ofRowsS T) _ ?_ y ?_
  · intro p hp
    simp only [List.mem_cons, List.not_mem_nil, or_false] at hp
    rcases hp with rfl | rfl | rfl <;> intro x <;> exact (key _ x).symm
  · have h0 : (y 0).val < 48 := (y 0).isLt
    have h1 : (y 1).val < 128 := (y 1).isLt
    by_cases c2 : 32 ≤ (y 0).val
    · refine ⟨_, List.mem_cons_self, ?_⟩
      rw [Rect.mem_set_unit]; intro a; fin_cases a <;> simp <;> omega
    by_cases c1 : 16 ≤ (y 0).val
    · refine ⟨_, List.mem_cons_of_mem _ List.mem_cons_self, ?_⟩
      rw [Rect.mem_set_unit]; intro a; fin_cases a <;> simp <;> omega
    · refine ⟨_, List.mem_cons_of_mem _ (List.mem_cons_of_mem _ List.mem_cons_self), ?_⟩
      rw [Rect.mem_set_unit]; intro a; fin_cases a <;> simp <;> omega

/-! ### What the loads of a layer read -/

theorem inbX (l : Fin 2) : ∀ a, (![l.val, 0, 0] : Fin 3 → ℕ) a + S1x48x2560.size a ≤ S2x48x2560.size a := by
  revert l; decide
theorem inbN (l : Fin 2) : ∀ a, (![l.val, 0] : Fin 2 → ℕ) a + S1x2560.size a ≤ S2x2560.size a := by
  revert l; decide

/-- The layer's activations, once copied. -/
theorem h_read {c : Dev nD} (x : BufOf F c vX) (h : vH.view.ty.Contents (Elt F)) (l : Fin 2) (y : S48x2560.Idx) :
    vH.view.read (Elt F) (vH.view.writes (Elt F) h [⟨Rect.unit (s := S48x2560) ![0, 0] S48x2560.size inb_S48x2560_S48x2560_0_0,
      k0_pay37 (View.readAt (Elt F) vX.view (Rect.unit (s := S2x48x2560) ![l.val, 0, 0] S1x48x2560.size (inbX l)).toLoadRect x)⟩]) y
    = View.read (Elt F) vX.view x (ix3 l (⟨(y 0).val, (y 0).isLt⟩ : Fin 48) (⟨(y 1).val, (y 1).isLt⟩ : Fin 2560)) := by
  rw [View.read_writes_full]
  unfold k0_pay37
  rw [shapeCast_self]
  refine (shapeCast_apply _ _ y (ix3 (0 : Fin 1) (⟨(y 0).val, (y 0).isLt⟩ : Fin 48) (⟨(y 1).val, (y 1).isLt⟩ : Fin 2560)) ?_).trans ?_
  · rw [Shape.rowMajor_val_three, Shape.rowMajor_val_two]
    show (0 * 48 + (y 0).val) * 2560 + (y 1).val = (y 0).val * 2560 + (y 1).val
    omega
  rw [View.readAt_apply]
  refine congrArg _ ?_
  funext a; fin_cases a <;> apply Fin.ext <;> simp [LoadRect.idx, ix3]

theorem hRows_loaded {c : Dev nD} (x : BufOf F c vX) (h : vH.view.ty.Contents (Elt F)) (l : Fin 2) (r : Fin 3) :
    View.readAt (Elt F) vH.view (Rect.unit (s := S48x2560) ![16 * r.val, 0] S16x2560.size (inbR r)).toLoadRect
      (vH.view.writes (Elt F) h [⟨Rect.unit (s := S48x2560) ![0, 0] S48x2560.size inb_S48x2560_S48x2560_0_0,
        k0_pay37 (View.readAt (Elt F) vX.view (Rect.unit (s := S2x48x2560) ![l.val, 0, 0] S1x48x2560.size (inbX l)).toLoadRect x)⟩])
    = hRows (View.read (Elt F) vX.view x) l r := by
  funext y
  rw [View.readAt_apply, h_read]
  refine congrArg _ ?_
  funext a; fin_cases a <;> apply Fin.ext <;> simp [LoadRect.idx, ix3]

theorem nRow_loaded {c : Dev nD} (n : BufOf F c vN3) (l : Fin 2) :
    View.readAt (Elt F) vN3.view (Rect.unit (s := S2x2560) ![l.val, 0] S1x2560.size (inbN l)).toLoadRect n = nRow (View.read (Elt F) vN3.view n) l := by
  funext y
  have h0 : (y 0).val = 0 := by have := (y 0).isLt; simp at this; omega
  rw [View.readAt_apply]
  refine congrArg _ ?_
  funext a; fin_cases a <;> apply Fin.ext <;> simp [LoadRect.idx, ix2, h0]

theorem sTile_loaded {sp : Space} (v : View sig .tc sp S2x10240 .f32) (g : v.ty.Contents (Elt F)) (l : Fin 2) (q : Fin 40) :
    View.readAt (Elt F) v (Rect.unit (s := S2x10240) ![l.val, 256 * q.val] S1x256.size (inbS l q)).toLoadRect g
      = sTile (View.read (Elt F) v g) l q := by
  funext y
  have h0 : (y 0).val = 0 := by have := (y 0).isLt; simp at this; omega
  rw [View.readAt_apply]
  refine congrArg _ ?_
  funext a; fin_cases a <;> apply Fin.ext <;> simp [LoadRect.idx, ix2, h0]

theorem sTileD_loaded {sp : Space} (v : View sig .tc sp S2x2560 .f32) (g : v.ty.Contents (Elt F)) (l : Fin 2) (q : Fin 10) :
    View.readAt (Elt F) v (Rect.unit (s := S2x2560) ![l.val, 256 * q.val] S1x256.size (inbSd l q)).toLoadRect g
      = sTileD (View.read (Elt F) v g) l q := by
  funext y
  have h0 : (y 0).val = 0 := by have := (y 0).isLt; simp at this; omega
  rw [View.readAt_apply]
  refine congrArg _ ?_
  funext a; fin_cases a <;> apply Fin.ext <;> simp [LoadRect.idx, ix2, h0]

theorem nRow4_loaded {c : Dev nD} (n : BufOf F c vN4) (l : Fin 2) :
    View.readAt (Elt F) vN4.view (Rect.unit (s := S2x2560) ![l.val, 0] S1x2560.size (inbN l)).toLoadRect n = nRow (View.read (Elt F) vN4.view n) l := by
  funext y
  have h0 : (y 0).val = 0 := by have := (y 0).isLt; simp at this; omega
  rw [View.readAt_apply]
  refine congrArg _ ?_
  funext a; fin_cases a <;> apply Fin.ext <;> simp [LoadRect.idx, ix2, h0]

theorem rows16_loaded {sp : Space} {e : EltTy} (v : View sig .tc sp S48x2560 e) (f : v.ty.Contents (Elt F)) (r : Fin 3) :
    View.readAt (Elt F) v (Rect.unit (s := S48x2560) ![16 * r.val, 0] S16x2560.size (inbR r)).toLoadRect f = rows16 (View.read (Elt F) v f) r := by
  funext y
  rw [View.readAt_apply]
  refine congrArg _ ?_
  funext a; fin_cases a <;> apply Fin.ext <;> simp [LoadRect.idx, ix2]

theorem chunk_loaded {sp : Space} {e : EltTy} (v : View sig .tc sp S48x10240 e) (f : v.ty.Contents (Elt F)) (k : Fin 4) :
    View.readAt (Elt F) v (Rect.unit (s := S48x10240) ![0, 2560 * k.val] S48x2560.size (inbDc k)).toLoadRect f = chunk (View.read (Elt F) v f) k := by
  funext y
  rw [View.readAt_apply]
  refine congrArg _ ?_
  funext a; fin_cases a <;> apply Fin.ext <;> simp [LoadRect.idx, ix2]

theorem col0_loaded {sp : Space} (v : View sig .tc sp S48x128 .f32) (s : v.ty.Contents (Elt F)) :
    View.readAt (Elt F) v (Rect.unit (s := S48x128) ![0, 0] S48x1.size inb_S48x128_S48x1_0_0).toLoadRect s = col0 (View.read (Elt F) v s) := by
  funext y
  have h1 : (y 1).val = 0 := by have := (y 1).isLt; simp at this; omega
  rw [View.readAt_apply]
  refine congrArg _ ?_
  funext a; fin_cases a <;> apply Fin.ext <;> simp [LoadRect.idx, ix2, h1]

/-- A tile of a `48 × 10240` buffer that holds tiles. -/
theorem ldMm_eq {c : Dev nD} {mm : BufOf F c vMm} {T : Fin 40 → FVec F S48x256 .f32} (h : View.read (Elt F) vMm.view mm = ofTiles T) (q : Fin 40) :
    ldMm c mm q = T q := by
  funext y
  show View.read (Elt F) vMm.view mm ((Rect.unit (s := S48x10240) ![0, 256 * q.val] S48x256.size (inbM q)).emb y) = _
  rw [h]
  exact ofTiles_emb T q y

/-- The layer's tiles, once its operands are in place. -/
theorem tileAt_eq {c : Dev nD} (wg : BufOf F c mWg) (wu : BufOf F c mWu) {xc : BufOf F c vXc} {sx : BufOf F c vSx} (sg : BufOf F c vSg)
    (su : BufOf F c vSu) (x : BufOf F c vX) (n : BufOf F c vN3) (l : Fin 2)
    (hxc : View.read (Elt F) vXc.view xc = xcA (View.read (Elt F) vX.view x) (View.read (Elt F) vN3.view n) l)
    (hsx : View.read (Elt F) vSx.view sx = ofRowsS fun r => sxBlk (hRows (View.read (Elt F) vX.view x) l r) (nRow (View.read (Elt F) vN3.view n) l)) :
    tileAt c wg wu xc sx sg su l = tileA (View.read (Elt F) vX.view x) (View.read (Elt F) vN3.view n) (View.read (Elt F) vSg.view sg)
      (View.read (Elt F) vSu.view su) (View.read (Elt F) mWg.view wg) (View.read (Elt F) mWu.view wu) l := by
  funext q
  unfold tileAt tileA
  rw [View.readAt_full, hxc, col0_loaded, hsx, sTile_loaded, sTile_loaded]
  rfl

/-- The tiles of the layer's down projection, once the codes are in place. -/
theorem downAt_eq {c : Dev nD} (wd : BufOf F c mWd) {dc : BufOf F c vDc} {sx : BufOf F c vSx} (sd : BufOf F c vSd)
    {T : Fin 40 → FVec F S48x256 .f32} {s : FVec F S48x128 .f32} (l : Fin 2)
    (hdc : View.read (Elt F) vDc.view dc = ofTiles fun q => k0_pay30 (T q) (col0 s)) (hsx : View.read (Elt F) vSx.view sx = s) :
    downAt c wd dc sx sd l = fun q => downVal (chunk (ofTiles fun q => k0_pay30 (T q) (col0 s)) 0) (chunk (ofTiles fun q => k0_pay30 (T q) (col0 s)) 1)
      (chunk (ofTiles fun q => k0_pay30 (T q) (col0 s)) 2) (chunk (ofTiles fun q => k0_pay30 (T q) (col0 s)) 3) (col0 s)
      (dTile (View.read (Elt F) mWd.view wd) l 0 q) (dTile (View.read (Elt F) mWd.view wd) l 1 q) (dTile (View.read (Elt F) mWd.view wd) l 2 q)
      (dTile (View.read (Elt F) mWd.view wd) l 3 q) (sTileD (View.read (Elt F) vSd.view sd) l q) := by
  funext q
  unfold downAt ldDc
  rw [chunk_loaded, chunk_loaded, chunk_loaded, chunk_loaded, hdc, col0_loaded, hsx, sTileD_loaded]

end Cert.Kernel.Hand
end
-- ==== Proof.LayerInv.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.LayerVal
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The state between layers, and one layer -/

abbrev body1 :=
  k0_t1_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24

section
variable (c : Dev nD) (w : Wts F c) (x : BufOf F c vX) (sg : BufOf F c vSg) (su : BufOf F c vSu) (n3 : BufOf F c vN3)
  (sd : BufOf F c vSd) (n4 : BufOf F c vN4)

/-- The buffers every layer overwrites. -/
def scratch : sProp 𝕄 :=
  iprop((∃ f, pt c vH f) ∗ (∃ f, pt c vXc f) ∗ (∃ f, pt c vSx f) ∗ (∃ f, pt c vO f) ∗ (∃ f, pt c vMm f) ∗ (∃ f, pt c vDc f) ∗ (∃ f, pt c vAm f) ∗ (∃ f, pt c vCf f)
    ∗ (∃ f, pt c vCd f) ∗ (∃ f, pt c vSc f) ∗ (∃ f, pt c vY f))

/-- The five semaphores of the results. -/
def outSems : sProp 𝕄 :=
  iprop(semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0 ∗ semVal ((c : Thread nD τ), SemLoc.dma 13) 0)

/-- A result that holds `v` once `b`. -/
def outPt {S : Shape} {e : EltTy} (M : Memref sig .tc .hbm S e) (b : Prop) (v : S.Idx → Elt F e) : sProp 𝕄 :=
  iprop(∃ f, pt c M f ∗ ⌜b → View.read (Elt F) M.view f = v⌝)

/-- The results of one layer, there once `b`. -/
def outs0 (b : Prop) : sProp 𝕄 :=
  iprop(outPt c oY0 b (yA (View.read (Elt F) vX.view x) (View.read (Elt F) vN3.view n3) (View.read (Elt F) vSg.view sg)
        (View.read (Elt F) vSu.view su) (View.read (Elt F) mWg.view w.g) (View.read (Elt F) mWu.view w.u) 0
        (View.read (Elt F) vSd.view sd) (View.read (Elt F) vN4.view n4) (View.read (Elt F) mWd.view w.d))
    ∗ outPt c oCf0 b (cfA (View.read (Elt F) vX.view x) (View.read (Elt F) vN3.view n3) 0)
    ∗ outPt c oSf0 b (sfA (View.read (Elt F) vX.view x) (View.read (Elt F) vN3.view n3) 0)
    ∗ outPt c oCd0 b (cdA (View.read (Elt F) vX.view x) (View.read (Elt F) vN3.view n3) (View.read (Elt F) vSg.view sg)
        (View.read (Elt F) vSu.view su) (View.read (Elt F) mWg.view w.g) (View.read (Elt F) mWu.view w.u) 0)
    ∗ outPt c oSd0 b (sdA (View.read (Elt F) vX.view x) (View.read (Elt F) vN3.view n3) (View.read (Elt F) vSg.view sg)
        (View.read (Elt F) vSu.view su) (View.read (Elt F) mWg.view w.g) (View.read (Elt F) mWu.view w.u) 0))

def outs1 (b : Prop) : sProp 𝕄 :=
  iprop(outPt c oY1 b (yA (View.read (Elt F) vX.view x) (View.read (Elt F) vN3.view n3) (View.read (Elt F) vSg.view sg)
        (View.read (Elt F) vSu.view su) (View.read (Elt F) mWg.view w.g) (View.read (Elt F) mWu.view w.u) 1
        (View.read (Elt F) vSd.view sd) (View.read (Elt F) vN4.view n4) (View.read (Elt F) mWd.view w.d))
    ∗ outPt c oCf1 b (cfA (View.read (Elt F) vX.view x) (View.read (Elt F) vN3.view n3) 1)
    ∗ outPt c oSf1 b (sfA (View.read (Elt F) vX.view x) (View.read (Elt F) vN3.view n3) 1)
    ∗ outPt c oCd1 b (cdA (View.read (Elt F) vX.view x) (View.read (Elt F) vN3.view n3) (View.read (Elt F) vSg.view sg)
        (View.read (Elt F) vSu.view su) (View.read (Elt F) mWg.view w.g) (View.read (Elt F) mWu.view w.u) 1)
    ∗ outPt c oSd1 b (sdA (View.read (Elt F) vX.view x) (View.read (Elt F) vN3.view n3) (View.read (Elt F) vSg.view sg)
        (View.read (Elt F) vSu.view su) (View.read (Elt F) mWg.view w.g) (View.read (Elt F) mWu.view w.u) 1))

/-- Before layer `l`. -/
def layerInv (l : ℕ) : sProp 𝕄 :=
  iprop(pt c vX x ∗ pt c vSg sg ∗ pt c vSu su ∗ pt c vSd sd ∗ pt c vN3 n3 ∗ pt c vN4 n4 ∗ scratch c ∗ outSems c ∗ ring c w (15 * l) true
    ∗ outs0 c w x sg su n3 sd n4 (1 ≤ l) ∗ outs1 c w x sg su n3 sd n4 (2 ≤ l) ∗ ∃ W, owes (c : Thread nD τ) 0 W)

/-- The steps of a layer, with the codes and scales as its norm left them. -/
def gateInv (l : Fin 2) (i : ℕ) : sProp 𝕄 :=
  iprop(∃ xc sx, ⌜View.read (Elt F) vXc.view xc = xcA (View.read (Elt F) vX.view x) (View.read (Elt F) vN3.view n3) l
      ∧ View.read (Elt F) vSx.view sx = ofRowsS fun r => sxBlk (hRows (View.read (Elt F) vX.view x) l r) (nRow (View.read (Elt F) vN3.view n3) l)⌝
    ∗ stepInv c w xc sx sg su l i)

/-- The second loop of a layer, with the product and the scale column as the first left them. -/
def codeInv (T : Fin 40 → FVec F S48x256 .f32) (s : FVec F S48x128 .f32) (i : ℕ) : sProp 𝕄 :=
  iprop(∃ mm sx, ⌜View.read (Elt F) vMm.view mm = ofTiles T ∧ View.read (Elt F) vSx.view sx = s⌝ ∗ quantInv c mm sx i)

/-- The third loop of a layer, with the codes and the scale column as the second left them. -/
def downInv (T : Fin 40 → FVec F S48x256 .f32) (s : FVec F S48x128 .f32) (l : Fin 2) (i : ℕ) : sProp 𝕄 :=
  iprop(∃ dc sx, ⌜View.read (Elt F) vDc.view dc = (ofTiles fun q => k0_pay30 (T q) (col0 s)) ∧ View.read (Elt F) vSx.view sx = s⌝
    ∗ stepInvD c w dc sx sd l i)

theorem gate_step (arg44 v225 : BitVec 32) (v385 : FVec F S1x48 .f32) (l : Fin 2) (i : Fin k0_t2_loop.trips) :
    gateInv c w x sg su n3 l i.val
    ⊢ wp frame (wpE (defs₀ (F := F)) Variants.none c none) Set.univ
        (body2 (F := F) ⟨l.val, lt_of_lt_of_eq l.isLt trips1.symm⟩ arg44 v225 v385 i ()) (fun _ => gateInv c w x sg su n3 l (i.val + 1)) := by
  unfold gateInv
  iintro ⟨%xc, %sx, %h, HS⟩
  have hk : stepInv c w xc sx sg su l (i.val + 1) ⊢ gateInv c w x sg su n3 l (i.val + 1) := by
    unfold gateInv
    iintro HS
    iexists xc
    iexists sx
    isplitr [HS]
    · ipureintro; exact h
    · iexact HS
  have hi : i.val < 10 := lt_of_lt_of_eq i.isLt trips2
  iapply (step_inv c w xc sx sg su arg44 v225 v385 l.val i.val l.isLt hi).trans (wp_mono _ _ _ fun _ => hk)
  iexact HS

theorem code_step (k0_t1 : Fin k0_t1_loop.trips) (arg44 v225 : BitVec 32) (v414 v415 : FVec F S48x1 .f32) (T : Fin 40 → FVec F S48x256 .f32) (s : FVec F S48x128 .f32)
    (i : Fin k0_t3_loop.trips) :
    codeInv c T s i.val
    ⊢ wp frame (wpE (defs₀ (F := F)) Variants.none c none) Set.univ
        (body3 (F := F) k0_t1 arg44 v225 v414 v415 i ()) (fun _ => codeInv c T s (i.val + 1)) := by
  unfold codeInv
  iintro ⟨%mm, %sx, %h, HS⟩
  have hk : quantInv c mm sx (i.val + 1) ⊢ codeInv c T s (i.val + 1) := by
    unfold codeInv
    iintro HS
    iexists mm
    iexists sx
    isplitr [HS]
    · ipureintro; exact h
    · iexact HS
  have hi : i.val < 10 := lt_of_lt_of_eq i.isLt trips3
  iapply (quant_inv c mm sx k0_t1 arg44 v225 v414 v415 i.val hi).trans (wp_mono _ _ _ fun _ => hk)
  iexact HS

theorem down_step (arg44 v225 : BitVec 32) (v414 v415 : FVec F S48x1 .f32) (T : Fin 40 → FVec F S48x256 .f32) (s : FVec F S48x128 .f32)
    (l : Fin 2) (i : Fin k0_t4_loop.trips) :
    downInv c w sd T s l i.val
    ⊢ wp frame (wpE (defs₀ (F := F)) Variants.none c none) Set.univ
        (body4 (F := F) ⟨l.val, lt_of_lt_of_eq l.isLt trips1.symm⟩ arg44 v225 v414 v415 i ()) (fun _ => downInv c w sd T s l (i.val + 1)) := by
  unfold downInv
  iintro ⟨%dc, %sx, %h, HS⟩
  have hk : stepInvD c w dc sx sd l (i.val + 1) ⊢ downInv c w sd T s l (i.val + 1) := by
    unfold downInv
    iintro HS
    iexists dc
    iexists sx
    isplitr [HS]
    · ipureintro; exact h
    · iexact HS
  have hi : i.val < 5 := lt_of_lt_of_eq i.isLt trips4
  iapply (stepD_inv c w dc sx sd arg44 v225 v414 v415 l.val i.val l.isLt hi).trans (wp_mono _ _ _ fun _ => hk)
  iexact HS

end

end Cert.Kernel.Hand
end
-- ==== Proof.LayerRead.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.LayerInv
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What a layer's stores and copies leave, as the values it computes -/

section
variable {c : Dev nD} (x : BufOf F c vX) (n3 : BufOf F c vN3) (l : Fin 2)
  (offX : Fin 3 → ℕ) (inX : ∀ a, offX a + S1x48x2560.size a ≤ S2x48x2560.size a)
  (offN : Fin 2 → ℕ) (inN : ∀ a, offN a + S1x2560.size a ≤ S2x2560.size a)

/-- Sixteen rows of the layer's activations, as loaded after the copy. -/
abbrev ldH (o : Fin 2 → ℕ) (ino : ∀ a, o a + S16x2560.size a ≤ S48x2560.size a) : FVec F S16x2560 .f32 :=
  View.readCov (Val := Elt F) vH.view [⟨Rect.unit (s := S48x2560) ![0, 0] S48x2560.size inb_S48x2560_S48x2560_0_0,
      k0_pay37 (View.readAt (Elt F) vX.view (Rect.unit (s := S2x48x2560) offX S1x48x2560.size inX).toLoadRect x)⟩]
    (Rect.unit (s := S48x2560) o S16x2560.size ino).toLoadRect

/-- The layer's norm weights, as loaded. -/
abbrev ldN : FVec F S1x2560 .f32 := View.readAt (Elt F) vN3.view (Rect.unit (s := S2x2560) offN S1x2560.size inN).toLoadRect n3

theorem ldH_eq (hX : offX = ![l.val, 0, 0]) (o : Fin 2 → ℕ) (ino : ∀ a, o a + S16x2560.size a ≤ S48x2560.size a) (r : Fin 3)
    (ho : o = ![16 * r.val, 0]) : ldH x offX inX o ino = hRows (View.read (Elt F) vX.view x) l r := by
  subst hX ho
  exact hRows_loaded x _ l r

theorem ldN_eq (hN : offN = ![l.val, 0]) : ldN n3 offN inN = nRow (View.read (Elt F) vN3.view n3) l := by
  subst hN
  exact nRow_loaded n3 l

theorem xc_written (hX : offX = ![l.val, 0, 0]) (hN : offN = ![l.val, 0]) (f : vXc.view.ty.Contents (Elt F)) :
    View.read (Elt F) vXc.view (vXc.view.writes (Elt F) f
      [⟨Rect.unit (s := S48x2560) ![32, 0] S16x2560.size inb_S48x2560_S16x2560_32_0,
        k0_pay58 (k0_pay55 (ldH x offX inX ![32, 0] inb_S48x2560_S16x2560_32_0) (ldN n3 offN inN))⟩,
       ⟨Rect.unit (s := S48x2560) ![16, 0] S16x2560.size inb_S48x2560_S16x2560_16_0,
        k0_pay52 (k0_pay46 (ldH x offX inX ![16, 0] inb_S48x2560_S16x2560_16_0) (ldN n3 offN inN))
          (k0_pay48 (ldH x offX inX ![16, 0] inb_S48x2560_S16x2560_16_0) (ldN n3 offN inN))
          (k0_pay49 (ldH x offX inX ![16, 0] inb_S48x2560_S16x2560_16_0) (ldN n3 offN inN)) (FloatOps.ofBits .f32 0x3F800000#32)⟩,
       ⟨Rect.unit (s := S48x2560) ![0, 0] S16x2560.size inb_S48x2560_S16x2560_0_0,
        k0_pay43 (k0_pay40 (ldH x offX inX ![0, 0] inb_S48x2560_S16x2560_0_0) (ldN n3 offN inN)) k0_pay41⟩])
    = xcA (View.read (Elt F) vX.view x) (View.read (Elt F) vN3.view n3) l := by
  rw [ldH_eq x l offX inX hX ![0, 0] inb_S48x2560_S16x2560_0_0 0 rfl, ldH_eq x l offX inX hX ![16, 0] inb_S48x2560_S16x2560_16_0 1 rfl, ldH_eq x l offX inX hX ![32, 0] inb_S48x2560_S16x2560_32_0 2 rfl, ldN_eq n3 l offN inN hN, xc0_eq, xc1_eq]
  exact rows_written vXc.view f fun r => xcBlk (hRows (View.read (Elt F) vX.view x) l r) (nRow (View.read (Elt F) vN3.view n3) l)

theorem cf_written (hX : offX = ![l.val, 0, 0]) (hN : offN = ![l.val, 0]) (f : vCf.view.ty.Contents (Elt F)) :
    View.read (Elt F) vCf.view (vCf.view.writes (Elt F) f
      [⟨Rect.unit (s := S48x2560) ![32, 0] S16x2560.size inb_S48x2560_S16x2560_32_0,
        k0_pay59 (k0_pay55 (ldH x offX inX ![32, 0] inb_S48x2560_S16x2560_32_0) (ldN n3 offN inN))⟩,
       ⟨Rect.unit (s := S48x2560) ![16, 0] S16x2560.size inb_S48x2560_S16x2560_16_0,
        k0_pay53 (k0_pay46 (ldH x offX inX ![16, 0] inb_S48x2560_S16x2560_16_0) (ldN n3 offN inN))
          (k0_pay48 (ldH x offX inX ![16, 0] inb_S48x2560_S16x2560_16_0) (ldN n3 offN inN))
          (k0_pay49 (ldH x offX inX ![16, 0] inb_S48x2560_S16x2560_16_0) (ldN n3 offN inN)) (FloatOps.ofBits .f32 0x3F800000#32)⟩,
       ⟨Rect.unit (s := S48x2560) ![0, 0] S16x2560.size inb_S48x2560_S16x2560_0_0,
        k0_pay44 (k0_pay40 (ldH x offX inX ![0, 0] inb_S48x2560_S16x2560_0_0) (ldN n3 offN inN)) k0_pay41⟩])
    = cfA (View.read (Elt F) vX.view x) (View.read (Elt F) vN3.view n3) l := by
  rw [ldH_eq x l offX inX hX ![0, 0] inb_S48x2560_S16x2560_0_0 0 rfl, ldH_eq x l offX inX hX ![16, 0] inb_S48x2560_S16x2560_16_0 1 rfl, ldH_eq x l offX inX hX ![32, 0] inb_S48x2560_S16x2560_32_0 2 rfl, ldN_eq n3 l offN inN hN, cf0_eq, cf1_eq]
  exact rows_written vCf.view f fun r => cfBlk (hRows (View.read (Elt F) vX.view x) l r) (nRow (View.read (Elt F) vN3.view n3) l)

/-- The stores of the scales. -/
abbrev sxList : List (View.Piece (Elt F) S48x128 .f32) :=
  [⟨Rect.unit (s := S48x128) ![32, 0] S16x128.size inb_S48x128_S16x128_32_0,
    k0_pay60 (k0_pay55 (ldH x offX inX ![32, 0] inb_S48x2560_S16x2560_32_0) (ldN n3 offN inN))⟩,
   ⟨Rect.unit (s := S48x128) ![16, 0] S16x128.size inb_S48x128_S16x128_16_0,
    k0_pay54 (k0_pay48 (ldH x offX inX ![16, 0] inb_S48x2560_S16x2560_16_0) (ldN n3 offN inN))
      (k0_pay49 (ldH x offX inX ![16, 0] inb_S48x2560_S16x2560_16_0) (ldN n3 offN inN)) (FloatOps.ofBits .f32 0x3F800000#32)⟩,
   ⟨Rect.unit (s := S48x128) ![0, 0] S16x128.size inb_S48x128_S16x128_0_0,
    k0_pay45 (k0_pay39 (ldH x offX inX ![0, 0] inb_S48x2560_S16x2560_0_0) (ldN n3 offN inN))⟩]

theorem sx_written (hX : offX = ![l.val, 0, 0]) (hN : offN = ![l.val, 0]) (f : vSx.view.ty.Contents (Elt F)) :
    View.read (Elt F) vSx.view (vSx.view.writes (Elt F) f (sxList x n3 offX inX offN inN))
    = ofRowsS fun r => sxBlk (hRows (View.read (Elt F) vX.view x) l r) (nRow (View.read (Elt F) vN3.view n3) l) := by
  unfold sxList
  rw [ldH_eq x l offX inX hX ![0, 0] inb_S48x2560_S16x2560_0_0 0 rfl, ldH_eq x l offX inX hX ![16, 0] inb_S48x2560_S16x2560_16_0 1 rfl, ldH_eq x l offX inX hX ![32, 0] inb_S48x2560_S16x2560_32_0 2 rfl, ldN_eq n3 l offN inN hN, sx0_eq, sx1_eq]
  exact rowsS_written vSx.view f fun r => sxBlk (hRows (View.read (Elt F) vX.view x) l r) (nRow (View.read (Elt F) vN3.view n3) l)

/-- A row of the two-row buffer of scales, read where it was stored last. -/
theorem row_read' (off : Fin 3 → ℕ) (inb : ∀ a, off a + S1x1x48.size a ≤ S2x1x48.size a) (f : vSc.view.ty.Contents (Elt F))
    (w : S1x1x48.Idx → Elt F .f32) (L : List (View.Piece (Elt F) S2x1x48 .f32)) (z : S1x48.Idx) :
    View.read (Elt F) ((vSc.slice (Rect.unit (s := S2x1x48) off S1x1x48.size inb) (fun _ => rfl)).squeeze S1x48 squeezes_S1x1x48_S1x48).view
      (vSc.view.writes (Elt F) f (⟨Rect.unit (s := S2x1x48) off S1x1x48.size inb, w⟩ :: L)) z
      = w (Shape.reshapeEquiv (squeezes_S1x1x48_S1x48).numel_eq z) :=
  View.read_writes_cons_emb vSc.view f (Rect.unit (s := S2x1x48) off S1x1x48.size inb) w L
    (Shape.reshapeEquiv (squeezes_S1x1x48_S1x48).numel_eq z)

theorem row_read (off : Fin 3 → ℕ) (inb : ∀ a, off a + S1x1x48.size a ≤ S2x1x48.size a) (f : vSc.view.ty.Contents (Elt F))
    (v : FVec F S1x48 .f32) (L : List (View.Piece (Elt F) S2x1x48 .f32)) :
    View.read (Elt F) ((vSc.slice (Rect.unit (s := S2x1x48) off S1x1x48.size inb) (fun _ => rfl)).squeeze S1x48 squeezes_S1x1x48_S1x48).view
      (vSc.view.writes (Elt F) f (⟨Rect.unit (s := S2x1x48) off S1x1x48.size inb, k0_pay62 v⟩ :: L)) = v := by
  funext z
  rw [row_read']
  exact congrFun (shapeCast_shapeCast v shapeCasts_S1x48_S1x1x48 (squeezes_S1x1x48_S1x48).numel_eq) z

/-- The row of the first scales, as copied out. -/
theorem sf_row (hX : offX = ![l.val, 0, 0]) (hN : offN = ![l.val, 0]) (f : vSc.view.ty.Contents (Elt F)) (L : List (View.Piece (Elt F) S2x1x48 .f32)) :
    View.read (Elt F) ((vSc.slice (Rect.unit (s := S2x1x48) ![0, 0, 0] S1x1x48.size inb_S2x1x48_S1x1x48_0_0_0) (fun _ => rfl)).squeeze S1x48 squeezes_S1x1x48_S1x48).view
      (vSc.view.writes (Elt F) f (⟨Rect.unit (s := S2x1x48) ![0, 0, 0] S1x1x48.size inb_S2x1x48_S1x1x48_0_0_0,
        k0_pay62 (k0_pay61 (View.readCov (Val := Elt F) vSx.view (sxList x n3 offX inX offN inN) (Rect.unit (s := S48x128) ![0, 0] S48x1.size inb_S48x128_S48x1_0_0).toLoadRect))⟩ :: L))
    = sfA (View.read (Elt F) vX.view x) (View.read (Elt F) vN3.view n3) l := by
  refine (row_read _ _ f _ L).trans ?_
  unfold View.readCov sfA sxA
  rw [col0_loaded, sx_written x n3 l offX inX offN inN hX hN]

/-- The row of the second scales, as copied out. -/
theorem sd_row (f : vSc.view.ty.Contents (Elt F)) (L : List (View.Piece (Elt F) S2x1x48 .f32)) (am : FVec F S48x128 .f32) :
    View.read (Elt F) ((vSc.slice (Rect.unit (s := S2x1x48) ![1, 0, 0] S1x1x48.size inb_S2x1x48_S1x1x48_1_0_0) (fun _ => rfl)).squeeze S1x48 squeezes_S1x1x48_S1x48).view
      (vSc.view.writes (Elt F) f (⟨Rect.unit (s := S2x1x48) ![1, 0, 0] S1x1x48.size inb_S2x1x48_S1x1x48_1_0_0, k0_pay70 (k0_pay67 am)⟩ :: L))
    = k0_pay61 (k0_pay67 am) :=
  row_read _ _ f _ L

end

/-! ## The layer's result -/

section
variable {c : Dev nD} (x : BufOf F c vX) (n4 : BufOf F c vN4) (l : Fin 2)
  (offX : Fin 3 → ℕ) (inX : ∀ a, offX a + S1x48x2560.size a ≤ S2x48x2560.size a)
  (offN : Fin 2 → ℕ) (inN : ∀ a, offN a + S1x2560.size a ≤ S2x2560.size a)

/-- The copy of the layer's activations. -/
abbrev hCopy : List (View.Piece (Elt F) S48x2560 .f32) :=
  [⟨Rect.unit (s := S48x2560) ![0, 0] S48x2560.size inb_S48x2560_S48x2560_0_0,
      k0_pay37 (View.readAt (Elt F) vX.view (Rect.unit (s := S2x48x2560) offX S1x48x2560.size inX).toLoadRect x)⟩]

/-- The layer's second norm weights, as loaded. -/
abbrev ldN4 : FVec F S1x2560 .f32 := View.readAt (Elt F) vN4.view (Rect.unit (s := S2x2560) offN S1x2560.size inN).toLoadRect n4

/-- Sixteen rows of the down projection, as loaded. -/
abbrev ldO (oo : BufOf F c vO) (o : Fin 2 → ℕ) (ino : ∀ a, o a + S16x2560.size a ≤ S48x2560.size a) : FVec F S16x2560 .f32 :=
  View.readAt (Elt F) vO.view (Rect.unit (s := S48x2560) o S16x2560.size ino).toLoadRect oo

theorem ldN4_eq (hN : offN = ![l.val, 0]) : ldN4 n4 offN inN = nRow (View.read (Elt F) vN4.view n4) l := by
  subst hN
  exact nRow4_loaded n4 l

/-- Rows stored elsewhere do not change what a load reads. -/
theorem h_skip (o o' : Fin 2 → ℕ) (ino : ∀ a, o a + S16x2560.size a ≤ S48x2560.size a) (ino' : ∀ a, o' a + S16x2560.size a ≤ S48x2560.size a)
    (h : o 0 + 16 ≤ o' 0) (w : S16x2560.Idx → Elt F .f32) (L : List (View.Piece (Elt F) S48x2560 .f32)) :
    View.readCov (Val := Elt F) vH.view (⟨Rect.unit (s := S48x2560) o S16x2560.size ino, w⟩ :: L)
      (Rect.unit (s := S48x2560) o' S16x2560.size ino').toLoadRect
    = View.readCov (Val := Elt F) vH.view L (Rect.unit (s := S48x2560) o' S16x2560.size ino').toLoadRect :=
  View.readCov_cons_of_disjoint vH.view _ L _ (Rect.unit_disjoint (inb := ino) (inb' := ino') 0 (.inl h))

theorem y_written {oo : BufOf F c vO} {O : S48x2560.Idx → Elt F .f32} (ho : View.read (Elt F) vO.view oo = O)
    (hX : offX = ![l.val, 0, 0]) (hN : offN = ![l.val, 0]) (w0 w0' w1 : S16x2560.Idx → Elt F .f32) (f : vY.view.ty.Contents (Elt F)) :
    View.read (Elt F) vY.view (vY.view.writes (Elt F) f
      [⟨Rect.unit (s := S48x2560) ![32, 0] S16x2560.size inb_S48x2560_S16x2560_32_0,
        k0_pay86 (k0_pay85 (View.readCov (Val := Elt F) vH.view
            (⟨Rect.unit (s := S48x2560) ![16, 0] S16x2560.size inb_S48x2560_S16x2560_16_0, w1⟩
              :: ⟨Rect.unit (s := S48x2560) ![0, 0] S16x2560.size inb_S48x2560_S16x2560_0_0, w0'⟩ :: hCopy x offX inX)
            (Rect.unit (s := S48x2560) ![32, 0] S16x2560.size inb_S48x2560_S16x2560_32_0).toLoadRect)
          (ldO oo ![32, 0] inb_S48x2560_S16x2560_32_0) (ldN4 n4 offN inN))⟩,
       ⟨Rect.unit (s := S48x2560) ![16, 0] S16x2560.size inb_S48x2560_S16x2560_16_0,
        k0_pay82 (View.readCov (Val := Elt F) vH.view
            (⟨Rect.unit (s := S48x2560) ![0, 0] S16x2560.size inb_S48x2560_S16x2560_0_0, w0⟩ :: hCopy x offX inX)
            (Rect.unit (s := S48x2560) ![16, 0] S16x2560.size inb_S48x2560_S16x2560_16_0).toLoadRect)
          (ldO oo ![16, 0] inb_S48x2560_S16x2560_16_0) (ldN4 n4 offN inN) (k0_pay78 (ldO oo ![16, 0] inb_S48x2560_S16x2560_16_0)) k0_pay79⟩,
       ⟨Rect.unit (s := S48x2560) ![0, 0] S16x2560.size inb_S48x2560_S16x2560_0_0,
        k0_pay77 (View.readCov (Val := Elt F) vH.view (hCopy x offX inX)
            (Rect.unit (s := S48x2560) ![0, 0] S16x2560.size inb_S48x2560_S16x2560_0_0).toLoadRect)
          (ldO oo ![0, 0] inb_S48x2560_S16x2560_0_0) (ldN4 n4 offN inN)⟩])
    = ofRows fun r => yBlk (hRows (View.read (Elt F) vX.view x) l r) (rows16 O r) (nRow (View.read (Elt F) vN4.view n4) l) := by
  have e0 : ldO oo ![0, 0] inb_S48x2560_S16x2560_0_0 = rows16 O 0 := ho ▸ rows16_loaded vO.view oo 0
  have e1 : ldO oo ![16, 0] inb_S48x2560_S16x2560_16_0 = rows16 O 1 := ho ▸ rows16_loaded vO.view oo 1
  have e2 : ldO oo ![32, 0] inb_S48x2560_S16x2560_32_0 = rows16 O 2 := ho ▸ rows16_loaded vO.view oo 2
  have a0 : View.readCov (Val := Elt F) vH.view (hCopy x offX inX)
      (Rect.unit (s := S48x2560) ![0, 0] S16x2560.size inb_S48x2560_S16x2560_0_0).toLoadRect = hRows (View.read (Elt F) vX.view x) l 0 :=
    ldH_eq x l offX inX hX ![0, 0] inb_S48x2560_S16x2560_0_0 0 rfl
  have a1 : View.readCov (Val := Elt F) vH.view (hCopy x offX inX)
      (Rect.unit (s := S48x2560) ![16, 0] S16x2560.size inb_S48x2560_S16x2560_16_0).toLoadRect = hRows (View.read (Elt F) vX.view x) l 1 :=
    ldH_eq x l offX inX hX ![16, 0] inb_S48x2560_S16x2560_16_0 1 rfl
  have a2 : View.readCov (Val := Elt F) vH.view (hCopy x offX inX)
      (Rect.unit (s := S48x2560) ![32, 0] S16x2560.size inb_S48x2560_S16x2560_32_0).toLoadRect = hRows (View.read (Elt F) vX.view x) l 2 :=
    ldH_eq x l offX inX hX ![32, 0] inb_S48x2560_S16x2560_32_0 2 rfl
  rw [h_skip ![16, 0] ![32, 0] _ _ (by decide), h_skip ![0, 0] ![32, 0] _ _ (by decide), h_skip ![0, 0] ![16, 0] _ _ (by decide),
    a0, a1, a2, e0, e1, e2, ldN4_eq n4 l offN inN hN, y0_eq, y1_eq]
  exact rows_written vY.view f fun r => yBlk (hRows (View.read (Elt F) vX.view x) l r) (rows16 O r) (nRow (View.read (Elt F) vN4.view n4) l)

end

/-! ## The ring at the end of a layer -/

/-- The ring before step `p`, but the place of the first block four steps on. -/
def ringRest (c : Dev nD) (w : Wts F c) (p : ℕ) : sProp 𝕄 :=
  iprop(toksD c w.d (cG (p + 3)) ∗ cellG c w p p ∗ cellU c w p p ∗ cellU c w (p + 3) 30 ∗ ringMid c w p)

theorem ring_open (c : Dev nD) (w : Wts F c) (p : ℕ) :
    ring c w p false ⊢ iprop((free0 c (sG (p + 3)) (cG (p + 3)) ∗ tokPt c mWg (cG (p + 3)).val w.g) ∗ ringRest c w p) := by
  unfold ring ringRest
  simp only [Bool.false_eq_true, if_false]
  rw [show cellG c w (p + 3) 30 = _ from cell_ge c mWg w.g w.d 0 (sG (p + 3)) (cG (p + 3)) 30 (le_refl _)]
  iintro ⟨H1, H2, ⟨H3, H6, H7⟩, H4, H5⟩
  isplitl [H3 H6]
  · isplitl [H3]; · iexact H3
    iexact H6
  isplitl [H7]; · iexact H7
  isplitl [H1]; · iexact H1
  isplitl [H2]; · iexact H2
  isplitl [H4]; · iexact H4
  iexact H5

/-- The first layer's last: the next layer's fourth block is on its way. -/
theorem ring_next (c : Dev nD) (w : Wts F c) :
    iprop(busy c mWg w.g 4 5 1 3 ∗ ringRest c w 15) ⊢ ring c w (15 * (0 + 1)) true := by
  unfold ring ringRest
  simp only [if_true]
  rw [show cellG c w (15 * (0 + 1) + 3) (15 * (0 + 1) + 3) = _ from cell_gu c mWg w.g w.d 0 _ _ (15 * (0 + 1) + 3) (by decide) (by decide)]
  iintro ⟨H3, H6, H1, H2, H4, H5⟩
  isplitl [H1]; · iexact H1
  isplitl [H2]; · iexact H2
  isplitl [H3 H6]
  · isplitl [H3]; · iexact H3
    iexact H6
  isplitl [H4]; · iexact H4
  iexact H5

/-- The second layer's last: nothing more is on its way. -/
theorem ring_end (c : Dev nD) (w : Wts F c) :
    iprop((free0 c 2 3 ∗ tokPt c mWg 3 w.g) ∗ ringRest c w 30) ⊢ ring c w (15 * (1 + 1)) true := by
  unfold ring ringRest
  simp only [if_true]
  rw [show cellG c w (15 * (1 + 1) + 3) (15 * (1 + 1) + 3) = _ from cell_ge c mWg w.g w.d 0 _ _ (15 * (1 + 1) + 3) (by decide)]
  iintro ⟨⟨H3, H7⟩, H6, H1, H2, H4, H5⟩
  isplitl [H1]; · iexact H1
  isplitl [H2]; · iexact H2
  isplitl [H3 H6 H7]
  · isplitl [H3]; · iexact H3
    isplitl [H7]; · iexact H7
    iexact H6
  isplitl [H4]; · iexact H4
  iexact H5

end Cert.Kernel.Hand
end
-- ==== Proof.LayerEnd.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.LayerRead
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Between the loops of a layer -/

section
variable (c : Dev nD) (w : Wts F c) (x : BufOf F c vX) (sg : BufOf F c vSg) (su : BufOf F c vSu) (n3 : BufOf F c vN3)
  (sd : BufOf F c vSd) (n4 : BufOf F c vN4)

/-- The gated product's tiles of a layer. -/
abbrev tilesOf (l : Fin 2) : Fin 40 → FVec F S48x256 .f32 :=
  tileA (View.read (Elt F) vX.view x) (View.read (Elt F) vN3.view n3) (View.read (Elt F) vSg.view sg)
    (View.read (Elt F) vSu.view su) (View.read (Elt F) mWg.view w.g) (View.read (Elt F) mWu.view w.u) l

/-- After the first loop: the product and its maximum are there. -/
theorem gate_done (l : Fin 2) :
    gateInv c w x sg su n3 l (Scf.trips k0_t2_loop.lb k0_t2_loop.ub k0_t2_loop.st)
    ⊢ iprop(∃ xc sx mm am, ⌜View.read (Elt F) vMm.view mm = ofTiles (tilesOf c w x sg su n3 l)
          ∧ View.read (Elt F) vAm.view am = amAfter (tilesOf c w x sg su n3 l) 40⌝
        ∗ ring c w (15 * l.val + 10) false
        ∗ pt c vXc xc ∗ pt c vSx sx ∗ pt c vSg sg ∗ pt c vSu su ∗ pt c vMm mm ∗ pt c vAm am ∗ ∃ W, owes (c : Thread nD τ) 0 W) := by
  rw [show Scf.trips k0_t2_loop.lb k0_t2_loop.ub k0_t2_loop.st = 10 by decide]
  unfold gateInv stepInv operands prod
  iintro ⟨%xc, %sx, %hs, HR, ⟨Hxc, Hsx, Hsg, Hsu⟩, ⟨⟨%mm, Hmm, %hmm⟩, ⟨%am, Ham, %ham⟩⟩, %W, HW⟩
  rw [tileAt_eq w.g w.u sg su x n3 _ hs.1 hs.2] at hmm ham
  have hmm' := funext fun y : S48x10240.Idx => hmm y (lt_of_lt_of_eq (y 1).isLt (by decide))
  iexists xc
  iexists sx
  iexists mm
  iexists am
  isplitr [HR Hxc Hsx Hsg Hsu Hmm Ham HW]
  · ipureintro; exact ⟨hmm', ham⟩
  isplitl [HR]; · iexact HR
  isplitl [Hxc]; · iexact Hxc
  isplitl [Hsx]; · iexact Hsx
  isplitl [Hsg]; · iexact Hsg
  isplitl [Hsu]; · iexact Hsu
  isplitl [Hmm]; · iexact Hmm
  isplitl [Ham]; · iexact Ham
  iexists W; iexact HW

/-- The scale column as the second loop finds it. -/
theorem sx_after {am : BufOf F c vAm} {a : FVec F S48x128 .f32} (h : View.read (Elt F) vAm.view am = a) (f : vSx.view.ty.Contents (Elt F)) :
    View.read (Elt F) vSx.view (vSx.view.writes (Elt F) f
      [⟨Rect.unit (s := S48x128) ![0, 0] S48x128.size inb_S48x128_S48x128_0_0,
        k0_pay69 (k0_pay68 (View.readAt (Elt F) vAm.view (Rect.unit (s := S48x128) ![0, 0] S48x128.size inb_S48x128_S48x128_0_0).toLoadRect am))⟩])
      = k0_pay69 (k0_pay68 a) := by
  rw [View.read_writes_full, View.readAt_full, h]

/-- After the second loop the codes are there. -/
theorem code_done (T : Fin 40 → FVec F S48x256 .f32) (s : FVec F S48x128 .f32) :
    codeInv c T s (Scf.trips k0_t3_loop.lb k0_t3_loop.ub k0_t3_loop.st)
    ⊢ iprop(∃ mm sx dc cd, ⌜View.read (Elt F) vCd.view cd = (ofTiles fun q => k0_pay31 (T q) (col0 s))
          ∧ View.read (Elt F) vDc.view dc = (ofTiles fun q => k0_pay30 (T q) (col0 s)) ∧ View.read (Elt F) vSx.view sx = s⌝
        ∗ pt c vMm mm ∗ pt c vSx sx ∗ pt c vDc dc ∗ pt c vCd cd ∗ ∃ W, owes (c : Thread nD τ) 0 W) := by
  rw [show Scf.trips k0_t3_loop.lb k0_t3_loop.ub k0_t3_loop.st = 10 by decide]
  unfold codeInv quantInv
  iintro ⟨%mm, %sx, %h, Hmm, Hsx, ⟨%dc, Hdc, %hdc⟩, ⟨%cd, Hcd, %hcd⟩, %W, HW⟩
  have hcd' : View.read (Elt F) vCd.view cd = ofTiles fun q => k0_pay31 (T q) (col0 s) := by
    have e : cdTile c mm sx = fun q => k0_pay31 (T q) (col0 s) := by
      funext q
      unfold cdTile
      rw [ldMm_eq h.1, col0_loaded, h.2]
    rw [← e]
    exact funext fun y => hcd y (lt_of_lt_of_eq (y 1).isLt (by decide))
  have hdc' : View.read (Elt F) vDc.view dc = ofTiles fun q => k0_pay30 (T q) (col0 s) := by
    have e : dcTile c mm sx = fun q => k0_pay30 (T q) (col0 s) := by
      funext q
      unfold dcTile
      rw [ldMm_eq h.1, col0_loaded, h.2]
    rw [← e]
    exact funext fun y => hdc y (lt_of_lt_of_eq (y 1).isLt (by decide))
  iexists mm
  iexists sx
  iexists dc
  iexists cd
  isplitr [Hmm Hsx Hdc Hcd HW]
  · ipureintro; exact ⟨hcd', hdc', h.2⟩
  isplitl [Hmm]; · iexact Hmm
  isplitl [Hsx]; · iexact Hsx
  isplitl [Hdc]; · iexact Hdc
  isplitl [Hcd]; · iexact Hcd
  iexists W; iexact HW

/-- After the third loop the down projection is there, and the place of one more block is open. -/
theorem down_done (l : Fin 2) :
    downInv c w sd (tilesOf c w x sg su n3 l) (k0_pay69 (k0_pay68 (amAfter (tilesOf c w x sg su n3 l) 40))) l
      (Scf.trips k0_t4_loop.lb k0_t4_loop.ub k0_t4_loop.st)
    ⊢ iprop(∃ dc sx o, ⌜View.read (Elt F) vO.view o = oA (View.read (Elt F) vX.view x) (View.read (Elt F) vN3.view n3) (View.read (Elt F) vSg.view sg)
          (View.read (Elt F) vSu.view su) (View.read (Elt F) mWg.view w.g) (View.read (Elt F) mWu.view w.u) l
          (View.read (Elt F) vSd.view sd) (View.read (Elt F) mWd.view w.d)⌝
        ∗ (free0 c (sG (15 * l.val + 15 + 3)) (cG (15 * l.val + 15 + 3)) ∗ tokPt c mWg (cG (15 * l.val + 15 + 3)).val w.g)
        ∗ ringRest c w (15 * l.val + 15)
        ∗ pt c vDc dc ∗ pt c vSx sx ∗ pt c vSd sd ∗ pt c vO o ∗ ∃ W, owes (c : Thread nD τ) 0 W) := by
  rw [show Scf.trips k0_t4_loop.lb k0_t4_loop.ub k0_t4_loop.st = 5 by decide]
  unfold downInv stepInvD operandsD prodD
  iintro ⟨%dc, %sx, %hs, HR, ⟨Hdc, Hsx, Hsd⟩, ⟨%o, Ho, %ho⟩, %W, HW⟩
  rw [downAt_eq w.d sd _ hs.1 hs.2] at ho
  have ho' := funext fun y : S48x2560.Idx => ho y (lt_of_lt_of_eq (y 1).isLt (by decide))
  have hro : ring c w (15 * l.val + 10 + 5) false
      ⊢ iprop((free0 c (sG (15 * l.val + 15 + 3)) (cG (15 * l.val + 15 + 3)) ∗ tokPt c mWg (cG (15 * l.val + 15 + 3)).val w.g)
        ∗ ringRest c w (15 * l.val + 15)) :=
    ring_open c w (15 * l.val + 15)
  ihave HR := hro $$ HR
  icases HR with ⟨Hf, HR⟩
  iexists dc
  iexists sx
  iexists o
  isplitr [Hf HR Hdc Hsx Hsd Ho HW]
  · ipureintro; exact ho'
  isplitl [Hf]; · iexact Hf
  isplitl [HR]; · iexact HR
  isplitl [Hdc]; · iexact Hdc
  isplitl [Hsx]; · iexact Hsx
  isplitl [Hsd]; · iexact Hsd
  isplitl [Ho]; · iexact Ho
  iexists W; iexact HW

end

end Cert.Kernel.Hand
end
-- ==== Proof.Layers.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.LayerEnd
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## One layer -/

/-- The running maximum starts at zero. -/
theorem am_zero (T : Fin 40 → FVec F S48x256 .f32) (f : vAm.view.ty.Contents (Elt F)) :
    View.read (Elt F) vAm.view (vAm.view.writes (Elt F) f [⟨Rect.unit (s := S48x128) ![0, 0] S48x128.size inb_S48x128_S48x128_0_0, k0_pay63⟩])
      = amAfter T (4 * 0) := by
  rw [View.read_writes_full]
  exact shapeCast_self _ _

/-- A layer, at an explicit number. -/
def LayerOk (F : FTy → Type) [FloatOps F] (l : ℕ) (hl : l < 2) : Prop :=
  ∀ (c : Dev nD) (w : Wts F c) (x : BufOf F c vX) (sg : BufOf F c vSg) (su : BufOf F c vSu) (n3 : BufOf F c vN3)
    (sd : BufOf F c vSd) (n4 : BufOf F c vN4),
    layerInv c w x sg su n3 sd n4 l
    ⊢ wp frame (wpE (defs₀ (F := F)) Variants.none c none) Set.univ
        (body1 (F := F) ⟨l, trips1 ▸ hl⟩ ()) (fun _ => layerInv c w x sg su n3 sd n4 (l + 1))

/-- The second scales as read for the row that is copied out. -/
theorem sd_read {c : Dev nD} {am : BufOf F c vAm} {a : FVec F S48x128 .f32} (h : View.read (Elt F) vAm.view am = a) :
    k0_pay61 (k0_pay67 (View.readAt (Elt F) vAm.view (Rect.unit (s := S48x128) ![0, 0] S48x128.size inb_S48x128_S48x128_0_0).toLoadRect am))
      = k0_pay61 (k0_pay67 a) := by
  rw [View.readAt_full, h]

theorem layer0 : LayerOk F 0 (by decide) := by
  intro c w x sg su n3 sd n4
  unfold layerInv scratch outSems outs0 outs1 outPt
  iintro ⟨Hx, Hsg, Hsu, Hsd, Hn3, Hn4, ⟨⟨%h, Hh⟩, ⟨%xc, Hxc⟩, ⟨%sx, Hsx⟩, ⟨%o, Ho⟩, ⟨%mm, Hmm⟩, ⟨%dc, Hdc⟩, ⟨%am, Ham⟩, ⟨%cf, Hcf⟩, ⟨%cd, Hcd⟩, ⟨%sc, Hsc⟩, ⟨%ys, Hys⟩⟩,
    ⟨Hq9, Hq10, Hq11, Hq12, Hq13⟩, HR,
    ⟨⟨%o0, Ho0, %p0⟩, ⟨%o1, Ho1, %p1⟩, ⟨%o2, Ho2, %p2⟩, ⟨%o3, Ho3, %p3⟩, ⟨%o4, Ho4, %p4⟩⟩,
    ⟨⟨%o9, Ho9, %p9⟩, ⟨%o5, Ho5, %p5⟩, ⟨%o6, Ho6, %p6⟩, ⟨%o7, Ho7, %p7⟩, ⟨%o8, Ho8, %p8⟩⟩, %W, HW⟩
  unfold body1 k0_t1_body
  sl_exec
  sl_unfold_run_names
  sl_for (fun i _ => gateInv c w x sg su n3 0 i) $$ [HR Hxc Hsx Hsg Hsu Hmm Ham HW]
  case region =>
    intro k _
    exact gate_step c w x sg su n3 _ _ _ 0 k
  · unfold gateInv stepInv operands prod
    iexists _
    iexists _
    isplitr [HR Hxc Hsx Hsg Hsu Hmm Ham HW]
    rotate_left 1
    · isplitl [HR]; · iexact HR
      isplitl [Hxc Hsx Hsg Hsu]
      · isplitl [Hxc]; · iexact Hxc
        isplitl [Hsx]; · iexact Hsx
        isplitl [Hsg]; · iexact Hsg
        iexact Hsu
      isplitl [Hmm Ham]
      · isplitl [Hmm]
        · iexists mm
          isplitl [Hmm]; · iexact Hmm
          ipureintro; intro y hy; exact absurd hy (by simp)
        · iexists _
          isplitl [Ham]; · iexact Ham
          ipureintro; exact am_zero _ _
      iexists _
      iexact HW
    · ipureintro
      refine ⟨?_, ?_⟩
      · exact xc_written x n3 0 _ _ _ _ (by rfl) (by rfl) _
      · exact sx_written x n3 0 _ _ _ _ (by rfl) (by rfl) _
  iintro %acc HI
  ihave HI := (gate_done c w x sg su n3 0) $$ HI
  icases HI with ⟨%xc', %sx', %mm', %am', %hp, HR, Hxc, Hsx, Hsg, Hsu, Hmm, Ham, %W', HW⟩
  sl_exec
  sl_unfold_run_names
  sl_for (fun i _ => codeInv c (tilesOf c w x sg su n3 0) (k0_pay69 (k0_pay68 (amAfter (tilesOf c w x sg su n3 0) 40))) i) $$ [Hmm Hsx Hdc Hcd HW]
  case region =>
    intro k _
    exact code_step c _ _ _ _ _ _ _ k
  · unfold codeInv quantInv
    iexists mm'
    iexists _
    isplitr [Hmm Hsx Hdc Hcd HW]
    rotate_left 1
    · isplitl [Hmm]; · iexact Hmm
      isplitl [Hsx]; · iexact Hsx
      isplitl [Hdc]
      · iexists dc
        isplitl [Hdc]; · iexact Hdc
        ipureintro; intro y hy; exact absurd hy (by simp)
      isplitl [Hcd]
      · iexists cd
        isplitl [Hcd]; · iexact Hcd
        ipureintro; intro y hy; exact absurd hy (by simp)
      iexists _
      iexact HW
    · ipureintro
      exact ⟨hp.1, sx_after c hp.2 _⟩
  iintro %acc2 HI
  ihave HI := (code_done c (tilesOf c w x sg su n3 0) (k0_pay69 (k0_pay68 (amAfter (tilesOf c w x sg su n3 0) 40)))) $$ HI
  icases HI with ⟨%mm2, %sx2, %dc2, %cd2, %hcd, Hmm, Hsx, Hdc, Hcd, %W2, HW⟩
  sl_exec
  sl_unfold_run_names
  sl_for (fun i _ => downInv c w sd (tilesOf c w x sg su n3 0) (k0_pay69 (k0_pay68 (amAfter (tilesOf c w x sg su n3 0) 40))) 0 i) $$ [HR Hdc Hsx Hsd Ho HW]
  case region =>
    intro k _
    exact down_step c w sd _ _ _ _ _ _ 0 k
  · unfold downInv stepInvD operandsD prodD
    iexists dc2
    iexists sx2
    isplitr [HR Hdc Hsx Hsd Ho HW]
    rotate_left 1
    · isplitl [HR]; · iexact HR
      isplitl [Hdc Hsx Hsd]
      · isplitl [Hdc]; · iexact Hdc
        isplitl [Hsx]; · iexact Hsx
        iexact Hsd
      isplitl [Ho]
      · iexists o
        isplitl [Ho]; · iexact Ho
        ipureintro; intro y hy; exact absurd hy (by simp)
      iexists _
      iexact HW
    · ipureintro
      exact hcd.2
  iintro %acc3 HI
  have hd := down_done c w x sg su n3 sd 0
  simp only [sG, sU, cG, cU, free0, Nat.reduceMul, Nat.reduceAdd, Nat.reduceMod, Nat.reduceDiv, Fin.val_zero, Fin.val_one, Fin.isValue, Fin.mk_one, Fin.reduceFinMk, zero_add, mul_zero, mul_one] at hd
  ihave HI := hd $$ HI
  icases HI with ⟨%dc3, %sx3, %oo, %hoo, ⟨⟨%w3, Hs3, Hq3⟩, Hg3⟩, HR, Hdc, Hsx, Hsd, Ho, %W3, HW⟩
  sl_exec
  sl_step
  sl_unfold_run_names
  isplitl [Hx]; · iexact Hx
  isplitl [Hsg]; · iexact Hsg
  isplitl [Hsu]; · iexact Hsu
  isplitl [Hsd]; · iexact Hsd
  isplitl [Hn3]; · iexact Hn3
  isplitl [Hn4]; · iexact Hn4
  isplitl [Hh Hxc Hsx Ho Hmm Hdc Ham Hcf Hcd Hsc Hys]
  · isplitl [Hh]; · iexists _; iexact Hh
    isplitl [Hxc]; · iexists _; iexact Hxc
    isplitl [Hsx]; · iexists _; iexact Hsx
    isplitl [Ho]; · iexists _; iexact Ho
    isplitl [Hmm]; · iexists _; iexact Hmm
    isplitl [Hdc]; · iexists _; iexact Hdc
    isplitl [Ham]; · iexists _; iexact Ham
    isplitl [Hcf]; · iexists _; iexact Hcf
    isplitl [Hcd]; · iexists _; iexact Hcd
    isplitl [Hsc]; · iexists _; iexact Hsc
    iexists _; iexact Hys
  isplitl [Hq9 Hq10 Hq11 Hq12 Hq13]
  · isplitl [Hq9]; · iexact Hq9
    isplitl [Hq10]; · iexact Hq10
    isplitl [Hq11]; · iexact Hq11
    isplitl [Hq12]; · iexact Hq12
    iexact Hq13
  isplitl [HR Hq3 Hg3]
  · iapply ring_next c w
    isplitl [Hq3 Hg3]
    · unfold busy flying
      iexists _
      isplitl [Hq3 Hg3]
      · isplitl [Hq3]
        · iexact Hq3
        · iexact Hg3
      · ipureintro; exact holds_landed' _ _ _ _ _ _ _ _ _ rfl
    iexact HR
  isplitl [Ho0 Ho1 Ho2 Ho3 Ho4]
  · isplitl [Ho0]
    · iexists _
      isplitl [Ho0]; · iexact Ho0
      ipureintro; exact fun _ => (View.read_write_univ _ _).trans (y_written x n4 0 _ _ _ _ hoo (by rfl) (by rfl) _ _ _ _)
    isplitl [Ho1]
    · iexists _
      isplitl [Ho1]; · iexact Ho1
      ipureintro; exact fun _ => (View.read_write_univ _ _).trans (cf_written x n3 0 _ _ _ _ (by rfl) (by rfl) _)
    isplitl [Ho2]
    · iexists _
      isplitl [Ho2]; · iexact Ho2
      ipureintro; exact fun _ => (View.read_write_univ _ _).trans (sf_row x n3 0 _ _ _ _ (by rfl) (by rfl) _ _)
    isplitl [Ho3]
    · iexists _
      isplitl [Ho3]; · iexact Ho3
      ipureintro; exact fun _ => (View.read_write_univ _ _).trans hcd.1
    iexists _
    isplitl [Ho4]; · iexact Ho4
    ipureintro; exact fun _ => (View.read_write_univ _ _).trans ((sd_row _ _ _).trans (sd_read (c := c) hp.2))
  isplitl [Ho9 Ho5 Ho6 Ho7 Ho8]
  · isplitl [Ho9]
    · iexists _
      isplitl [Ho9]; · iexact Ho9
      ipureintro; exact fun h => absurd h (by decide)
    isplitl [Ho5]
    · iexists _
      isplitl [Ho5]; · iexact Ho5
      ipureintro; exact fun h => absurd h (by decide)
    isplitl [Ho6]
    · iexists _
      isplitl [Ho6]; · iexact Ho6
      ipureintro; exact fun h => absurd h (by decide)
    isplitl [Ho7]
    · iexists _
      isplitl [Ho7]; · iexact Ho7
      ipureintro; exact fun h => absurd h (by decide)
    iexists _
    isplitl [Ho8]; · iexact Ho8
    ipureintro; exact fun h => absurd h (by decide)
  iexists _
  iexact HW

theorem layer1 : LayerOk F 1 (by decide) := by
  intro c w x sg su n3 sd n4
  unfold layerInv scratch outSems outs0 outs1 outPt
  iintro ⟨Hx, Hsg, Hsu, Hsd, Hn3, Hn4, ⟨⟨%h, Hh⟩, ⟨%xc, Hxc⟩, ⟨%sx, Hsx⟩, ⟨%o, Ho⟩, ⟨%mm, Hmm⟩, ⟨%dc, Hdc⟩, ⟨%am, Ham⟩, ⟨%cf, Hcf⟩, ⟨%cd, Hcd⟩, ⟨%sc, Hsc⟩, ⟨%ys, Hys⟩⟩,
    ⟨Hq9, Hq10, Hq11, Hq12, Hq13⟩, HR,
    ⟨⟨%o0, Ho0, %p0⟩, ⟨%o1, Ho1, %p1⟩, ⟨%o2, Ho2, %p2⟩, ⟨%o3, Ho3, %p3⟩, ⟨%o4, Ho4, %p4⟩⟩,
    ⟨⟨%o9, Ho9, %p9⟩, ⟨%o5, Ho5, %p5⟩, ⟨%o6, Ho6, %p6⟩, ⟨%o7, Ho7, %p7⟩, ⟨%o8, Ho8, %p8⟩⟩, %W, HW⟩
  unfold body1 k0_t1_body
  sl_exec
  sl_unfold_run_names
  sl_for (fun i _ => gateInv c w x sg su n3 1 i) $$ [HR Hxc Hsx Hsg Hsu Hmm Ham HW]
  case region =>
    intro k _
    exact gate_step c w x sg su n3 _ _ _ 1 k
  · unfold gateInv stepInv operands prod
    iexists _
    iexists _
    isplitr [HR Hxc Hsx Hsg Hsu Hmm Ham HW]
    rotate_left 1
    · isplitl [HR]; · iexact HR
      isplitl [Hxc Hsx Hsg Hsu]
      · isplitl [Hxc]; · iexact Hxc
        isplitl [Hsx]; · iexact Hsx
        isplitl [Hsg]; · iexact Hsg
        iexact Hsu
      isplitl [Hmm Ham]
      · isplitl [Hmm]
        · iexists mm
          isplitl [Hmm]; · iexact Hmm
          ipureintro; intro y hy; exact absurd hy (by simp)
        · iexists _
          isplitl [Ham]; · iexact Ham
          ipureintro; exact am_zero _ _
      iexists _
      iexact HW
    · ipureintro
      refine ⟨?_, ?_⟩
      · exact xc_written x n3 1 _ _ _ _ (by rfl) (by rfl) _
      · exact sx_written x n3 1 _ _ _ _ (by rfl) (by rfl) _
  iintro %acc HI
  ihave HI := (gate_done c w x sg su n3 1) $$ HI
  icases HI with ⟨%xc', %sx', %mm', %am', %hp, HR, Hxc, Hsx, Hsg, Hsu, Hmm, Ham, %W', HW⟩
  sl_exec
  sl_unfold_run_names
  sl_for (fun i _ => codeInv c (tilesOf c w x sg su n3 1) (k0_pay69 (k0_pay68 (amAfter (tilesOf c w x sg su n3 1) 40))) i) $$ [Hmm Hsx Hdc Hcd HW]
  case region =>
    intro k _
    exact code_step c _ _ _ _ _ _ _ k
  · unfold codeInv quantInv
    iexists mm'
    iexists _
    isplitr [Hmm Hsx Hdc Hcd HW]
    rotate_left 1
    · isplitl [Hmm]; · iexact Hmm
      isplitl [Hsx]; · iexact Hsx
      isplitl [Hdc]
      · iexists dc
        isplitl [Hdc]; · iexact Hdc
        ipureintro; intro y hy; exact absurd hy (by simp)
      isplitl [Hcd]
      · iexists cd
        isplitl [Hcd]; · iexact Hcd
        ipureintro; intro y hy; exact absurd hy (by simp)
      iexists _
      iexact HW
    · ipureintro
      exact ⟨hp.1, sx_after c hp.2 _⟩
  iintro %acc2 HI
  ihave HI := (code_done c (tilesOf c w x sg su n3 1) (k0_pay69 (k0_pay68 (amAfter (tilesOf c w x sg su n3 1) 40)))) $$ HI
  icases HI with ⟨%mm2, %sx2, %dc2, %cd2, %hcd, Hmm, Hsx, Hdc, Hcd, %W2, HW⟩
  sl_exec
  sl_unfold_run_names
  sl_for (fun i _ => downInv c w sd (tilesOf c w x sg su n3 1) (k0_pay69 (k0_pay68 (amAfter (tilesOf c w x sg su n3 1) 40))) 1 i) $$ [HR Hdc Hsx Hsd Ho HW]
  case region =>
    intro k _
    exact down_step c w sd _ _ _ _ _ _ 1 k
  · unfold downInv stepInvD operandsD prodD
    iexists dc2
    iexists sx2
    isplitr [HR Hdc Hsx Hsd Ho HW]
    rotate_left 1
    · isplitl [HR]; · iexact HR
      isplitl [Hdc Hsx Hsd]
      · isplitl [Hdc]; · iexact Hdc
        isplitl [Hsx]; · iexact Hsx
        iexact Hsd
      isplitl [Ho]
      · iexists o
        isplitl [Ho]; · iexact Ho
        ipureintro; intro y hy; exact absurd hy (by simp)
      iexists _
      iexact HW
    · ipureintro
      exact hcd.2
  iintro %acc3 HI
  have hd := down_done c w x sg su n3 sd 1
  simp only [sG, sU, cG, cU, free0, Nat.reduceMul, Nat.reduceAdd, Nat.reduceMod, Nat.reduceDiv, Fin.val_zero, Fin.val_one, Fin.isValue, Fin.mk_one, Fin.reduceFinMk, zero_add, mul_zero, mul_one] at hd
  ihave HI := hd $$ HI
  icases HI with ⟨%dc3, %sx3, %oo, %hoo, ⟨⟨%w3, Hs3, Hq3⟩, Hg3⟩, HR, Hdc, Hsx, Hsd, Ho, %W3, HW⟩
  sl_exec
  sl_step
  sl_unfold_run_names
  isplitl [Hx]; · iexact Hx
  isplitl [Hsg]; · iexact Hsg
  isplitl [Hsu]; · iexact Hsu
  isplitl [Hsd]; · iexact Hsd
  isplitl [Hn3]; · iexact Hn3
  isplitl [Hn4]; · iexact Hn4
  isplitl [Hh Hxc Hsx Ho Hmm Hdc Ham Hcf Hcd Hsc Hys]
  · isplitl [Hh]; · iexists _; iexact Hh
    isplitl [Hxc]; · iexists _; iexact Hxc
    isplitl [Hsx]; · iexists _; iexact Hsx
    isplitl [Ho]; · iexists _; iexact Ho
    isplitl [Hmm]; · iexists _; iexact Hmm
    isplitl [Hdc]; · iexists _; iexact Hdc
    isplitl [Ham]; · iexists _; iexact Ham
    isplitl [Hcf]; · iexists _; iexact Hcf
    isplitl [Hcd]; · iexists _; iexact Hcd
    isplitl [Hsc]; · iexists _; iexact Hsc
    iexists _; iexact Hys
  isplitl [Hq9 Hq10 Hq11 Hq12 Hq13]
  · isplitl [Hq9]; · iexact Hq9
    isplitl [Hq10]; · iexact Hq10
    isplitl [Hq11]; · iexact Hq11
    isplitl [Hq12]; · iexact Hq12
    iexact Hq13
  isplitl [HR Hs3 Hq3 Hg3]
  · iapply ring_end c w
    isplitl [Hs3 Hq3 Hg3]
    · isplitl [Hs3 Hq3]
      · unfold free0
        iexists w3
        isplitl [Hs3]; · iexact Hs3
        iexact Hq3
      iexact Hg3
    iexact HR
  isplitl [Ho0 Ho1 Ho2 Ho3 Ho4]
  · isplitl [Ho0]
    · iexists _
      isplitl [Ho0]; · iexact Ho0
      ipureintro; exact fun h => p0 (by decide)
    isplitl [Ho1]
    · iexists _
      isplitl [Ho1]; · iexact Ho1
      ipureintro; exact fun h => p1 (by decide)
    isplitl [Ho2]
    · iexists _
      isplitl [Ho2]; · iexact Ho2
      ipureintro; exact fun h => p2 (by decide)
    isplitl [Ho3]
    · iexists _
      isplitl [Ho3]; · iexact Ho3
      ipureintro; exact fun h => p3 (by decide)
    iexists _
    isplitl [Ho4]; · iexact Ho4
    ipureintro; exact fun h => p4 (by decide)
  isplitl [Ho9 Ho5 Ho6 Ho7 Ho8]
  · isplitl [Ho9]
    · iexists _
      isplitl [Ho9]; · iexact Ho9
      ipureintro; exact fun _ => (View.read_write_univ _ _).trans (y_written x n4 1 _ _ _ _ hoo (by rfl) (by rfl) _ _ _ _)
    isplitl [Ho5]
    · iexists _
      isplitl [Ho5]; · iexact Ho5
      ipureintro; exact fun _ => (View.read_write_univ _ _).trans (cf_written x n3 1 _ _ _ _ (by rfl) (by rfl) _)
    isplitl [Ho6]
    · iexists _
      isplitl [Ho6]; · iexact Ho6
      ipureintro; exact fun _ => (View.read_write_univ _ _).trans (sf_row x n3 1 _ _ _ _ (by rfl) (by rfl) _ _)
    isplitl [Ho7]
    · iexists _
      isplitl [Ho7]; · iexact Ho7
      ipureintro; exact fun _ => (View.read_write_univ _ _).trans hcd.1
    iexists _
    isplitl [Ho8]; · iexact Ho8
    ipureintro; exact fun _ => (View.read_write_univ _ _).trans ((sd_row _ _ _).trans (sd_read (c := c) hp.2))
  iexists _
  iexact HW

end Cert.Kernel.Hand
end
-- ==== Proof.BodyParts.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Layers
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The weight buffer as its eight slots, and a weight array as its read shares -/

theorem slots_disj (s s' : Fin 8) (h : s ≠ s') : Disjoint (slotSet s) (slotSet s') := by
  rw [slot_set, slot_set]
  exact Ring.lead_disjoint (s := S8x2560x1024) (0 : Fin 3) 1 (fun s : Fin 8 => ![s.val, 0, 0]) S1x2560x1024.size inbSlot
    (by decide) (by decide) s s' h

theorem slots_cover : (Finset.univ : Finset (Fin 8)).biUnion slotSet = Finset.univ := by
  refine (Finset.biUnion_congr rfl fun s _ => slot_set s).trans ?_
  exact Ring.lead_cover (s := S8x2560x1024) (0 : Fin 3) 1 (fun s : Fin 8 => ![s.val, 0, 0]) S1x2560x1024.size inbSlot
    (by decide) (by decide) (by decide) (by decide) (by decide)

theorem slots_split (c : Dev nD) (f : BufOf F c vW) :
    pt c vW f ⊢ (iprop(slotPt c 0 f ∗ slotPt c 1 f ∗ slotPt c 2 f ∗ slotPt c 3 f ∗ slotPt c 4 f ∗ slotPt c 5 f ∗ slotPt c 6 f ∗ slotPt c 7 f) : sProp 𝕄) := by
  have h := Ring.pointsTo_blocks (Ix := Unit) (Val := Elt F) (Name := ℕ) (U := Pipeline.UD sig nD τ) (Lvl := ℕ)
    (ℓ := vW.view.loc (c : Thread nD τ)) slotSet slots_disj slots_cover (q := fullShare) f
  rw [BI.bigSep_eq_bigSepL_of_eq [0, 1, 2, 3, 4, 5, 6, 7] (by decide) (by decide)] at h
  exact Entails.of_eq h

theorem slots_join (c : Dev nD) (f : BufOf F c vW) :
    (iprop((∃ f, slotPt c 0 f) ∗ (∃ f, slotPt c 1 f) ∗ (∃ f, slotPt c 2 f) ∗ (∃ f, slotPt c 3 f) ∗ (∃ f, slotPt c 4 f) ∗ (∃ f, slotPt c 5 f)
      ∗ (∃ f, slotPt c 6 f) ∗ (∃ f, slotPt c 7 f)) : sProp 𝕄) ⊢ iprop(∃ f : BufOf F c vW, pt c vW f) := by
  have h := Ring.pointsTo_blocks_join_exists (Ix := Unit) (Val := Elt F) (Name := ℕ) (U := Pipeline.UD sig nD τ) (Lvl := ℕ)
    (ℓ := vW.view.loc (c : Thread nD τ)) slotSet slots_disj slots_cover (q := fullShare) f
  rw [BI.bigSep_eq_bigSepL_of_eq [0, 1, 2, 3, 4, 5, 6, 7] (by decide) (by decide)] at h
  exact h

/-- The shares of a weight array that no transfer borrows. -/
def spare (c : Dev nD) (M : Memref sig .tc .hbm S2x2560x10240 .i8) (w : BufOf F c M) (k : ℕ) : sProp 𝕄 :=
  iprop((M.view.loc (c : Thread nD τ) ↦{Transfers.shareDrop fullShare 9} w) ∗ tokPt c M 0 w ∗ tokPt c M (k + 1) w ∗ tokPt c M (k + 3) w
    ∗ tokPt c M (k + 5) w ∗ tokPt c M (k + 7) w)

theorem toks_eq (c : Dev nD) (M : Memref sig .tc .hbm S2x2560x10240 .i8) (w : BufOf F c M) :
    (pt c M w : sProp 𝕄) ⊣⊢ iprop((M.view.loc (c : Thread nD τ) ↦{Transfers.shareDrop fullShare 9} w) ∗ tokPt c M 0 w ∗ tokPt c M 1 w ∗ tokPt c M 2 w
      ∗ tokPt c M 3 w ∗ tokPt c M 4 w ∗ tokPt c M 5 w ∗ tokPt c M 6 w ∗ tokPt c M 7 w ∗ tokPt c M 8 w) := by
  have h := Transfers.pointsTo_toks_range (Ix := Unit) (Val := Elt F) (Name := ℕ) (U := Pipeline.UD sig nD τ) (Lvl := ℕ)
    (ℓ := M.view.loc (c : Thread nD τ)) (S := Finset.univ) (f := w) fullShare 9
  rw [BI.bigSep_eq_bigSepL_of_eq [0, 1, 2, 3, 4, 5, 6, 7, 8] (by decide) (by decide)] at h
  exact h

theorem toksG (c : Dev nD) (M : Memref sig .tc .hbm S2x2560x10240 .i8) (w : BufOf F c M) :
    (pt c M w : sProp 𝕄) ⊣⊢ iprop(tokPt c M 1 w ∗ tokPt c M 3 w ∗ tokPt c M 5 w ∗ tokPt c M 7 w ∗ spare c M w 1) := by
  unfold spare
  refine ⟨(toks_eq c M w).1.trans ?_, BIBase.Entails.trans ?_ (toks_eq c M w).2⟩
  · iintro ⟨D, H0, H1, H2, H3, H4, H5, H6, H7, H8⟩
    isplitl [H1]; · iexact H1
    isplitl [H3]; · iexact H3
    isplitl [H5]; · iexact H5
    isplitl [H7]; · iexact H7
    isplitl [D]; · iexact D
    isplitl [H0]; · iexact H0
    isplitl [H2]; · iexact H2
    isplitl [H4]; · iexact H4
    isplitl [H6]; · iexact H6
    iexact H8
  · iintro ⟨H1, H3, H5, H7, D, H0, H2, H4, H6, H8⟩
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem toksU (c : Dev nD) (M : Memref sig .tc .hbm S2x2560x10240 .i8) (w : BufOf F c M) :
    (pt c M w : sProp 𝕄) ⊣⊢ iprop(tokPt c M 2 w ∗ tokPt c M 4 w ∗ tokPt c M 6 w ∗ tokPt c M 8 w ∗ spare c M w 0) := by
  unfold spare
  refine ⟨(toks_eq c M w).1.trans ?_, BIBase.Entails.trans ?_ (toks_eq c M w).2⟩
  · iintro ⟨D, H0, H1, H2, H3, H4, H5, H6, H7, H8⟩
    isplitl [H2]; · iexact H2
    isplitl [H4]; · iexact H4
    isplitl [H6]; · iexact H6
    isplitl [H8]; · iexact H8
    isplitl [D]; · iexact D
    isplitl [H0]; · iexact H0
    isplitl [H1]; · iexact H1
    isplitl [H3]; · iexact H3
    isplitl [H5]; · iexact H5
    iexact H7
  · iintro ⟨H2, H4, H6, H8, D, H0, H1, H3, H5, H7⟩
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The shares of the down weights that no transfer borrows. -/
def spareD (c : Dev nD) (w : BufOf F c mWd) : sProp 𝕄 :=
  iprop((mWd.view.loc (c : Thread nD τ) ↦{Transfers.shareDrop fullShare 25} w) ∗ tokPt c mWd 0 w ∗ tokPt c mWd 1 w ∗ tokPt c mWd 2 w ∗ tokPt c mWd 3 w ∗ tokPt c mWd 4 w ∗ tokPt c mWd 5 w ∗ tokPt c mWd 6 w ∗ tokPt c mWd 7 w ∗ tokPt c mWd 8 w)

theorem toksD_eq (c : Dev nD) (w : BufOf F c mWd) :
    (pt c mWd w : sProp 𝕄) ⊣⊢ iprop((mWd.view.loc (c : Thread nD τ) ↦{Transfers.shareDrop fullShare 25} w) ∗ tokPt c mWd 0 w ∗ tokPt c mWd 1 w ∗ tokPt c mWd 2 w ∗ tokPt c mWd 3 w ∗ tokPt c mWd 4 w ∗ tokPt c mWd 5 w ∗ tokPt c mWd 6 w ∗ tokPt c mWd 7 w ∗ tokPt c mWd 8 w ∗ tokPt c mWd 9 w ∗ tokPt c mWd 10 w ∗ tokPt c mWd 11 w ∗ tokPt c mWd 12 w ∗ tokPt c mWd 13 w ∗ tokPt c mWd 14 w ∗ tokPt c mWd 15 w ∗ tokPt c mWd 16 w ∗ tokPt c mWd 17 w ∗ tokPt c mWd 18 w ∗ tokPt c mWd 19 w ∗ tokPt c mWd 20 w ∗ tokPt c mWd 21 w ∗ tokPt c mWd 22 w ∗ tokPt c mWd 23 w ∗ tokPt c mWd 24 w) := by
  have h := Transfers.pointsTo_toks_range (Ix := Unit) (Val := Elt F) (Name := ℕ) (U := Pipeline.UD sig nD τ) (Lvl := ℕ)
    (ℓ := mWd.view.loc (c : Thread nD τ)) (S := Finset.univ) (f := w) fullShare 25
  rw [BI.bigSep_eq_bigSepL_of_eq [0, 1, 2, 3, 4, 5, 6, 7, 8, 9, 10, 11, 12, 13, 14, 15, 16, 17, 18, 19, 20, 21, 22, 23, 24] (by decide) (by decide)] at h
  exact h

theorem toksD_all (c : Dev nD) (w : BufOf F c mWd) :
    (pt c mWd w : sProp 𝕄) ⊣⊢ iprop(toksD c w 1 ∗ toksD c w 2 ∗ toksD c w 3 ∗ toksD c w 4 ∗ toksD c w 5 ∗ toksD c w 6 ∗ toksD c w 7 ∗ toksD c w 8 ∗ spareD c w) := by
  unfold toksD spareD
  refine ⟨(toksD_eq c w).1.trans ?_, BIBase.Entails.trans ?_ (toksD_eq c w).2⟩
  · iintro ⟨D, H0, H1, H2, H3, H4, H5, H6, H7, H8, H9, H10, H11, H12, H13, H14, H15, H16, H17, H18, H19, H20, H21, H22, H23, H24⟩
    isplitl [H9 H10]
    · isplitl [H9]; · iexact H9
      iexact H10
    isplitl [H11 H12]
    · isplitl [H11]; · iexact H11
      iexact H12
    isplitl [H13 H14]
    · isplitl [H13]; · iexact H13
      iexact H14
    isplitl [H15 H16]
    · isplitl [H15]; · iexact H15
      iexact H16
    isplitl [H17 H18]
    · isplitl [H17]; · iexact H17
      iexact H18
    isplitl [H19 H20]
    · isplitl [H19]; · iexact H19
      iexact H20
    isplitl [H21 H22]
    · isplitl [H21]; · iexact H21
      iexact H22
    isplitl [H23 H24]
    · isplitl [H23]; · iexact H23
      iexact H24
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨H9, H10⟩, ⟨H11, H12⟩, ⟨H13, H14⟩, ⟨H15, H16⟩, ⟨H17, H18⟩, ⟨H19, H20⟩, ⟨H21, H22⟩, ⟨H23, H24⟩, D, H0, H1, H2, H3, H4, H5, H6, H7, H8⟩
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

/-! ## The ring at the start and at the end -/

theorem ring_start (c : Dev nD) (w : Wts F c) :
    iprop((busy c mWg w.g 0 1 0 0 ∗ toksD c w.d 1) ∗ (busy c mWu w.u 1 2 0 0 ∗ toksD c w.d 2) ∗ (busy c mWg w.g 6 7 0 3 ∗ toksD c w.d 7)
      ∗ (free0 c 7 8 ∗ tokPt c mWu 8 w.u ∗ toksD c w.d 8)
      ∗ (busy c mWg w.g 2 3 0 1 ∗ toksD c w.d 3) ∗ (busy c mWu w.u 3 4 0 1 ∗ toksD c w.d 4) ∗ (busy c mWg w.g 4 5 0 2 ∗ toksD c w.d 5)
      ∗ (busy c mWu w.u 5 6 0 2 ∗ toksD c w.d 6)) ⊢ ring c w (15 * 0) true := by
  unfold ring ringMid cellG cellU
  rw [cell_gu c mWg w.g w.d 0 _ _ (15 * 0) (by decide) (by decide), cell_gu c mWu w.u w.d 1 _ _ (15 * 0) (by decide) (by decide), if_pos rfl,
    cell_gu c mWg w.g w.d 0 _ _ (15 * 0 + 3) (by decide) (by decide), cell_ge c mWu w.u w.d 1 _ _ 30 (by decide),
    cell_gu c mWg w.g w.d 0 _ _ (15 * 0 + 1) (by decide) (by decide), cell_gu c mWu w.u w.d 1 _ _ (15 * 0 + 1) (by decide) (by decide),
    cell_gu c mWg w.g w.d 0 _ _ (15 * 0 + 2) (by decide) (by decide), cell_gu c mWu w.u w.d 1 _ _ (15 * 0 + 2) (by decide) (by decide)]
  exact Entails.refl _

theorem ring_finish (c : Dev nD) (w : Wts F c) :
    ring c w (15 * 2) true ⊢ iprop((free0 c 4 5 ∗ tokPt c mWg 5 w.g ∗ toksD c w.d 5) ∗ (free0 c 5 6 ∗ tokPt c mWu 6 w.u ∗ toksD c w.d 6)
      ∗ (free0 c 2 3 ∗ tokPt c mWg 3 w.g ∗ toksD c w.d 3) ∗ (free0 c 3 4 ∗ tokPt c mWu 4 w.u ∗ toksD c w.d 4)
      ∗ (free0 c 6 7 ∗ tokPt c mWg 7 w.g ∗ toksD c w.d 7) ∗ (free0 c 7 8 ∗ tokPt c mWu 8 w.u ∗ toksD c w.d 8)
      ∗ (free0 c 0 1 ∗ tokPt c mWg 1 w.g ∗ toksD c w.d 1) ∗ (free0 c 1 2 ∗ tokPt c mWu 2 w.u ∗ toksD c w.d 2)) := by
  unfold ring ringMid cellG cellU
  rw [cell_ge c mWg w.g w.d 0 _ _ (15 * 2) (by decide), cell_ge c mWu w.u w.d 1 _ _ (15 * 2) (by decide), if_pos rfl,
    cell_ge c mWg w.g w.d 0 _ _ (15 * 2 + 3) (by decide), cell_ge c mWu w.u w.d 1 _ _ 30 (by decide),
    cell_ge c mWg w.g w.d 0 _ _ (15 * 2 + 1) (by decide), cell_ge c mWu w.u w.d 1 _ _ (15 * 2 + 1) (by decide),
    cell_ge c mWg w.g w.d 0 _ _ (15 * 2 + 2) (by decide), cell_ge c mWu w.u w.d 1 _ _ (15 * 2 + 2) (by decide)]
  exact Entails.refl _

/-- A layer, at its trip of the loop. -/
theorem layer_step (c : Dev nD) (w : Wts F c) (x : BufOf F c vX) (sg : BufOf F c vSg) (su : BufOf F c vSu) (n3 : BufOf F c vN3)
    (sd : BufOf F c vSd) (n4 : BufOf F c vN4) (k : Fin k0_t1_loop.trips) :
    layerInv c w x sg su n3 sd n4 k.val
    ⊢ wp frame (wpE (defs₀ (F := F)) Variants.none c none) Set.univ
        (body1 (F := F) k ()) (fun _ => layerInv c w x sg su n3 sd n4 (k.val + 1)) := by
  obtain ⟨l, hl⟩ := k
  have hl' : l < 2 := lt_of_lt_of_eq hl trips1
  have h0 := layer0 (F := F)
  have h1 := layer1 (F := F)
  have h : LayerOk F l hl' := by interval_cases l <;> with_reducible assumption
  exact h c w x sg su n3 sd n4

end Cert.Kernel.Hand
end
-- ==== Proof.Body.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.BodyParts
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The body: the prologue's transfers, the loop over the layers -/

/-- The amounts of the six transfers of the prologue that share a semaphore, -/
abbrev A0 : Fin 6 → ℕ := ![30720, 2560, 2560, 640, 640, 640]

/-- and what each delivers. -/
def deliv0 (c : Dev nD) (x : BufOf F c mX) (sg : BufOf F c mSg) (su : BufOf F c mSu) (sd : BufOf F c mSd) (n3 : BufOf F c mN3) (n4 : BufOf F c mN4)
   (x' : BufOf F c vX) (sg' : BufOf F c vSg) (su' : BufOf F c vSu) (sd' : BufOf F c vSd) (n3' : BufOf F c vN3) (n4' : BufOf F c vN4) : Fin 6 → sProp 𝕄
  | 0 => iprop((vX.view.loc (c : Thread nD τ) ↦{fullShare} View.write (Elt F) vX.view x' (ReadAs.same.apply (mX.view.read (Elt F) x)) Finset.univ) ∗ (mX.view.loc (c : Thread nD τ) ↦[mX.view.set]{fullShare} x))
  | 1 => iprop((vSg.view.loc (c : Thread nD τ) ↦{fullShare} View.write (Elt F) vSg.view sg' (ReadAs.same.apply (mSg.view.read (Elt F) sg)) Finset.univ) ∗ (mSg.view.loc (c : Thread nD τ) ↦[mSg.view.set]{fullShare} sg))
  | 2 => iprop((vSu.view.loc (c : Thread nD τ) ↦{fullShare} View.write (Elt F) vSu.view su' (ReadAs.same.apply (mSu.view.read (Elt F) su)) Finset.univ) ∗ (mSu.view.loc (c : Thread nD τ) ↦[mSu.view.set]{fullShare} su))
  | 3 => iprop((vSd.view.loc (c : Thread nD τ) ↦{fullShare} View.write (Elt F) vSd.view sd' (ReadAs.same.apply (mSd.view.read (Elt F) sd)) Finset.univ) ∗ (mSd.view.loc (c : Thread nD τ) ↦[mSd.view.set]{fullShare} sd))
  | 4 => iprop((vN3.view.loc (c : Thread nD τ) ↦{fullShare} View.write (Elt F) vN3.view n3' (ReadAs.same.apply (mN3.view.read (Elt F) n3)) Finset.univ) ∗ (mN3.view.loc (c : Thread nD τ) ↦[mN3.view.set]{fullShare} n3))
  | 5 => iprop((vN4.view.loc (c : Thread nD τ) ↦{fullShare} View.write (Elt F) vN4.view n4' (ReadAs.same.apply (mN4.view.read (Elt F) n4)) Finset.univ) ∗ (mN4.view.loc (c : Thread nD τ) ↦[mN4.view.set]{fullShare} n4))

instance deliv0_storable (c : Dev nD) (x : BufOf F c mX) (sg : BufOf F c mSg) (su : BufOf F c mSu) (sd : BufOf F c mSd) (n3 : BufOf F c mN3) (n4 : BufOf F c mN4)
   (x' : BufOf F c vX) (sg' : BufOf F c vSg) (su' : BufOf F c vSu) (sd' : BufOf F c vSd) (n3' : BufOf F c vN3) (n4' : BufOf F c vN4) (t : Fin 6) :
    Storable (upEmb : UEmb _ 𝕄) (deliv0 c x sg su sd n3 n4 x' sg' su' sd' n3' n4' t) := by
  fin_cases t <;> simp only [deliv0] <;> infer_instance

/-- The buffers, each at some contents. -/
def bufs (c : Dev nD) : sProp 𝕄 :=
  iprop((∃ f, pt c vX f) ∗ (∃ f, pt c vSg f) ∗ (∃ f, pt c vSu f) ∗ (∃ f, pt c vSd f) ∗ (∃ f, pt c vN3 f) ∗ (∃ f, pt c vN4 f) ∗ (∃ f, pt c vW f) ∗ scratch c)

/-- The semaphores, each at zero. -/
def sems (c : Dev nD) : sProp 𝕄 :=
  iprop(semVal ((c : Thread nD τ), SemLoc.dma 0) 0
     ∗ semVal ((c : Thread nD τ), SemLoc.dma 1) 0 ∗ semVal ((c : Thread nD τ), SemLoc.dma 2) 0
     ∗ semVal ((c : Thread nD τ), SemLoc.dma 3) 0 ∗ semVal ((c : Thread nD τ), SemLoc.dma 4) 0
     ∗ semVal ((c : Thread nD τ), SemLoc.dma 5) 0 ∗ semVal ((c : Thread nD τ), SemLoc.dma 6) 0
     ∗ semVal ((c : Thread nD τ), SemLoc.dma 7) 0 ∗ semVal ((c : Thread nD τ), SemLoc.dma 8) 0
     ∗ outSems c)

/-- The arguments. -/
def argPts (c : Dev nD) (x : BufOf F c mX) (w : Wts F c) (sg : BufOf F c mSg) (su : BufOf F c mSu)
    (sd : BufOf F c mSd) (n3 : BufOf F c mN3) (n4 : BufOf F c mN4) : sProp 𝕄 :=
  iprop(pt c mX x ∗ pt c mWg w.g ∗ pt c mSg sg ∗ pt c mWu w.u ∗ pt c mSu su ∗ pt c mWd w.d ∗ pt c mSd sd ∗ pt c mN3 n3 ∗ pt c mN4 n4)

/-- The results at some contents, -/
def outAny (c : Dev nD) : sProp 𝕄 :=
  iprop(((∃ f, pt c oY0 f) ∗ (∃ f, pt c oCf0 f) ∗ (∃ f, pt c oSf0 f) ∗ (∃ f, pt c oCd0 f) ∗ (∃ f, pt c oSd0 f))
    ∗ (∃ f, pt c oY1 f) ∗ (∃ f, pt c oCf1 f) ∗ (∃ f, pt c oSf1 f) ∗ (∃ f, pt c oCd1 f) ∗ (∃ f, pt c oSd1 f))

/-- and at their values. -/
def outDone (c : Dev nD) (x : BufOf F c mX) (w : Wts F c) (sg : BufOf F c mSg) (su : BufOf F c mSu)
    (sd : BufOf F c mSd) (n3 : BufOf F c mN3) (n4 : BufOf F c mN4) : sProp 𝕄 :=
  iprop((pt c oY0 (yA x n3 sg su w.g w.u 0 sd n4 w.d) ∗ pt c oCf0 (cfA x n3 0) ∗ pt c oSf0 (sfA x n3 0) ∗ pt c oCd0 (cdA x n3 sg su w.g w.u 0) ∗ pt c oSd0 (sdA x n3 sg su w.g w.u 0))
    ∗ pt c oY1 (yA x n3 sg su w.g w.u 1 sd n4 w.d) ∗ pt c oCf1 (cfA x n3 1) ∗ pt c oSf1 (sfA x n3 1) ∗ pt c oCd1 (cdA x n3 sg su w.g w.u 1) ∗ pt c oSd1 (sdA x n3 sg su w.g w.u 1))

set_option maxHeartbeats 4000000 in
/-- The results of the last layer's invariant are the values of the arguments. -/
theorem outs_done (c : Dev nD) (x : BufOf F c mX) (w : Wts F c) (sg : BufOf F c mSg) (su : BufOf F c mSu)
    (sd : BufOf F c mSd) (n3 : BufOf F c mN3) (n4 : BufOf F c mN4) :
    iprop(outs0 c w (x : BufOf F c vX) (sg : BufOf F c vSg) (su : BufOf F c vSu) (n3 : BufOf F c vN3) (sd : BufOf F c vSd) (n4 : BufOf F c vN4) (1 ≤ 2)
      ∗ outs1 c w (x : BufOf F c vX) (sg : BufOf F c vSg) (su : BufOf F c vSu) (n3 : BufOf F c vN3) (sd : BufOf F c vSd) (n4 : BufOf F c vN4) (2 ≤ 2)) ⊢ outDone c x w sg su sd n3 n4 := by
  unfold outs0 outs1 outPt outDone
  iintro ⟨⟨⟨%o0, Ho0, %p0⟩, ⟨%o1, Ho1, %p1⟩, ⟨%o2, Ho2, %p2⟩, ⟨%o3, Ho3, %p3⟩, ⟨%o4, Ho4, %p4⟩⟩, ⟨⟨%o5, Ho5, %p5⟩, ⟨%o6, Ho6, %p6⟩, ⟨%o7, Ho7, %p7⟩, ⟨%o8, Ho8, %p8⟩, ⟨%o9, Ho9, %p9⟩⟩⟩
  obtain rfl : o0 = yA x n3 sg su w.g w.u 0 sd n4 w.d := p0 (by decide)
  obtain rfl : o1 = cfA x n3 0 := p1 (by decide)
  obtain rfl : o2 = sfA x n3 0 := p2 (by decide)
  obtain rfl : o3 = cdA x n3 sg su w.g w.u 0 := p3 (by decide)
  obtain rfl : o4 = sdA x n3 sg su w.g w.u 0 := p4 (by decide)
  obtain rfl : o5 = yA x n3 sg su w.g w.u 1 sd n4 w.d := p5 (by decide)
  obtain rfl : o6 = cfA x n3 1 := p6 (by decide)
  obtain rfl : o7 = sfA x n3 1 := p7 (by decide)
  obtain rfl : o8 = cdA x n3 sg su w.g w.u 1 := p8 (by decide)
  obtain rfl : o9 = sdA x n3 sg su w.g w.u 1 := p9 (by decide)
  isplitl [Ho0 Ho1 Ho2 Ho3 Ho4]
  · isplitl [Ho0]; · iexact Ho0
    isplitl [Ho1]; · iexact Ho1
    isplitl [Ho2]; · iexact Ho2
    isplitl [Ho3]; · iexact Ho3
    iexact Ho4
  isplitl [Ho5]; · iexact Ho5
  isplitl [Ho6]; · iexact Ho6
  isplitl [Ho7]; · iexact Ho7
  isplitl [Ho8]; · iexact Ho8
  iexact Ho9

/-- What lands in a whole buffer is what was read from the whole source. -/
theorem landed_x (c : Dev nD) (x : BufOf F c mX) (x' : BufOf F c vX) :
    (vX.view.loc (c : Thread nD τ) ↦{fullShare} View.write (Elt F) vX.view x' (ReadAs.same.apply (mX.view.read (Elt F) x)) Finset.univ : sProp 𝕄)
      ⊢ pt c vX x := by
  exact BIBase.Entails.of_eq (congrArg (fun w => pt c vX w) (View.write_whole_univ (Val := Elt F) cc0_scratch0 x' x))

theorem landed_sg (c : Dev nD) (x : BufOf F c mSg) (x' : BufOf F c vSg) :
    (vSg.view.loc (c : Thread nD τ) ↦{fullShare} View.write (Elt F) vSg.view x' (ReadAs.same.apply (mSg.view.read (Elt F) x)) Finset.univ : sProp 𝕄)
      ⊢ pt c vSg x := by
  exact BIBase.Entails.of_eq (congrArg (fun w => pt c vSg w) (View.write_whole_univ (Val := Elt F) cc0_scratch1 x' x))

theorem landed_su (c : Dev nD) (x : BufOf F c mSu) (x' : BufOf F c vSu) :
    (vSu.view.loc (c : Thread nD τ) ↦{fullShare} View.write (Elt F) vSu.view x' (ReadAs.same.apply (mSu.view.read (Elt F) x)) Finset.univ : sProp 𝕄)
      ⊢ pt c vSu x := by
  exact BIBase.Entails.of_eq (congrArg (fun w => pt c vSu w) (View.write_whole_univ (Val := Elt F) cc0_scratch2 x' x))

theorem landed_sd (c : Dev nD) (x : BufOf F c mSd) (x' : BufOf F c vSd) :
    (vSd.view.loc (c : Thread nD τ) ↦{fullShare} View.write (Elt F) vSd.view x' (ReadAs.same.apply (mSd.view.read (Elt F) x)) Finset.univ : sProp 𝕄)
      ⊢ pt c vSd x := by
  exact BIBase.Entails.of_eq (congrArg (fun w => pt c vSd w) (View.write_whole_univ (Val := Elt F) cc0_scratch3 x' x))

theorem landed_n3 (c : Dev nD) (x : BufOf F c mN3) (x' : BufOf F c vN3) :
    (vN3.view.loc (c : Thread nD τ) ↦{fullShare} View.write (Elt F) vN3.view x' (ReadAs.same.apply (mN3.view.read (Elt F) x)) Finset.univ : sProp 𝕄)
      ⊢ pt c vN3 x := by
  exact BIBase.Entails.of_eq (congrArg (fun w => pt c vN3 w) (View.write_whole_univ (Val := Elt F) cc0_scratch4 x' x))

theorem landed_n4 (c : Dev nD) (x : BufOf F c mN4) (x' : BufOf F c vN4) :
    (vN4.view.loc (c : Thread nD τ) ↦{fullShare} View.write (Elt F) vN4.view x' (ReadAs.same.apply (mN4.view.read (Elt F) x)) Finset.univ : sProp 𝕄)
      ⊢ pt c vN4 x := by
  exact BIBase.Entails.of_eq (congrArg (fun w => pt c vN4 w) (View.write_whole_univ (Val := Elt F) cc0_scratch5 x' x))

/-- The whole body: the six small inputs come in on one semaphore, seven blocks of weights are started,
the layers run, and every transfer has been waited for. -/
theorem body_run (c : Dev nD) (x : BufOf F c mX) (w : Wts F c) (sg : BufOf F c mSg) (su : BufOf F c mSu)
    (sd : BufOf F c mSd) (n3 : BufOf F c mN3) (n4 : BufOf F c mN4) (W : Waits sig Unit) :
   iprop(argPts c x w sg su sd n3 n4 ∗ outAny c ∗ bufs c ∗ sems c ∗ owes (c : Thread nD τ) 0 W)
   ⊢ wp frame (wpE (defs₀ (F := F)) Variants.none c none) Set.univ (bodyAt0 (F := F) t0_0)
      (fun _ => iprop(argPts c x w sg su sd n3 n4 ∗ outDone c x w sg su sd n3 n4 ∗ bufs c ∗ sems c ∗ ∃ W, owes (c : Thread nD τ) 0 W)) := by
  unfold argPts outAny bufs sems
  iintro ⟨⟨Hx, Hwg, Hsg, Hwu, Hsu, Hwd, Hsd, Hn3, Hn4⟩, Ho, ⟨⟨%x', Hx'⟩, ⟨%sg', Hsg'⟩, ⟨%su', Hsu'⟩, ⟨%sd', Hsd'⟩, ⟨%n3', Hn3'⟩, ⟨%n4', Hn4'⟩, ⟨%w', Hw'⟩, Hscr⟩,
    ⟨Hq0, Hq1, Hq2, Hq3, Hq4, Hq5, Hq6, Hq7, Hq8, Hqo⟩, HW⟩
  ihave Hwg := (toksG c mWg w.g).1 $$ Hwg
  icases Hwg with ⟨Hg0, Hg2, Hg4, Hg6, HgR⟩
  ihave Hwu := (toksU c mWu w.u).1 $$ Hwu
  icases Hwu with ⟨Hu1, Hu3, Hu5, Hu7, HuR⟩
  ihave Hwd := (toksD_all c w.d).1 $$ Hwd
  icases Hwd with ⟨Hd1, Hd2, Hd3, Hd4, Hd5, Hd6, Hd7, Hd8, HdR⟩
  ihave Hw' := (slots_split c w') $$ Hw'
  icases Hw' with ⟨Hs0, Hs1, Hs2, Hs3, Hs4, Hs5, Hs6, Hs7⟩
  unfold bodyAt0
  simp only [cc0_decode_pair_eq_skeleton]; unfold cc0_decode_pair_skel
  imod (Transfers.mixedBatch_alloc' (Lvl := ℕ) (countersEmb (U := Pipeline.UD sig nD τ)) (c : Thread nD τ) () A0
      (deliv0 c x sg su sd n3 n4 x' sg' su' sd' n3' n4') (sm := SemLoc.dma 0) (E := Set.univ)) $$ Hq0 with HB0
  unfold deliv0
  have hc1 : k0_cond1 = 1#1 := by decide
  have hc2 : k0_cond2 = 0#1 := by decide
  have hc3 : k0_cond3 = 0#1 := by decide
  have hc4 : k0_cond4 = 0#1 := by decide
  have hc5 : k0_cond5 = 0#1 := by decide
  have hc6 : k0_cond6 = 1#1 := by decide
  have hc7 : k0_cond7 = 0#1 := by decide
  have hc8 : k0_cond8 = 0#1 := by decide
  have hc9 : k0_cond9 = 1#1 := by decide
  have hc10 : k0_cond10 = 0#1 := by decide
  have hc11 : k0_cond11 = 0#1 := by decide
  have hc12 : k0_cond12 = 0#1 := by decide
  have hc13 : k0_cond13 = 0#1 := by decide
  have hc14 : k0_cond14 = 1#1 := by decide
  have hc15 : k0_cond15 = 0#1 := by decide
  have hc16 : k0_cond16 = 0#1 := by decide
  have hc17 : k0_cond17 = 1#1 := by decide
  have hc18 : k0_cond18 = 0#1 := by decide
  have hc19 : k0_cond19 = 0#1 := by decide
  have hc20 : k0_cond20 = 0#1 := by decide
  have hc21 : k0_cond21 = 0#1 := by decide
  have hc22 : k0_cond22 = 1#1 := by decide
  have hc23 : k0_cond23 = 0#1 := by decide
  have hc24 : k0_cond24 = 0#1 := by decide
  have hc25 : k0_cond25 = 1#1 := by decide
  have hc26 : k0_cond26 = 0#1 := by decide
  have hc27 : k0_cond27 = 0#1 := by decide
  have hc28 : k0_cond28 = 0#1 := by decide
  sl_exec
  sl_unfold_run_names
  ihave Hvx := (landed_x c x x') $$ HB0_dst0
  ihave Hvsg := (landed_sg c sg sg') $$ HB0_dst1
  ihave Hvsu := (landed_su c su su') $$ HB0_dst2
  ihave Hvsd := (landed_sd c sd sd') $$ HB0_dst3
  ihave Hvn3 := (landed_n3 c n3 n3') $$ HB0_dst4
  ihave Hvn4 := (landed_n4 c n4 n4') $$ HB0_dst5
  sl_for (fun i _ => layerInv c w (x : BufOf F c vX) (sg : BufOf F c vSg) (su : BufOf F c vSu) (n3 : BufOf F c vN3) (sd : BufOf F c vSd) (n4 : BufOf F c vN4) i) $$
    [Hvx Hvsg Hvsu Hvsd Hvn3 Hvn4 Hscr Hqo Hq1 Hq2 Hq3 Hq4 Hq5 Hq6 Hq7 Hq8 Hs7 Hg0 Hg2 Hg4 Hg6 Hu1 Hu3 Hu5 Hu7 Hd1 Hd2 Hd3 Hd4 Hd5 Hd6 Hd7 Hd8 Ho HW]
  case region =>
    intro k _
    exact layer_step c w _ _ _ _ _ _ k
  · unfold layerInv
    isplitl [Hvx]; · iexact Hvx
    isplitl [Hvsg]; · iexact Hvsg
    isplitl [Hvsu]; · iexact Hvsu
    isplitl [Hvsd]; · iexact Hvsd
    isplitl [Hvn3]; · iexact Hvn3
    isplitl [Hvn4]; · iexact Hvn4
    isplitl [Hscr]; · iexact Hscr
    isplitl [Hqo]; · iexact Hqo
    isplitl [Hq1 Hq2 Hq3 Hq4 Hq5 Hq6 Hq7 Hq8 Hs7 Hg0 Hg2 Hg4 Hg6 Hu1 Hu3 Hu5 Hu7 Hd1 Hd2 Hd3 Hd4 Hd5 Hd6 Hd7 Hd8]
    · iapply (ring_start c w)
      isplitl [Hq1 Hg0 Hd1]
      · isplitl [Hq1 Hg0]
        · unfold busy flying
          iexists _
          isplitl [Hq1 Hg0]
          · isplitl [Hq1]; · iexact Hq1
            iexact Hg0
          ipureintro
          exact holds_landed' _ _ _ _ _ _ _ _ _ rfl
        iexact Hd1
      isplitl [Hq2 Hu1 Hd2]
      · isplitl [Hq2 Hu1]
        · unfold busy flying
          iexists _
          isplitl [Hq2 Hu1]
          · isplitl [Hq2]; · iexact Hq2
            iexact Hu1
          ipureintro
          exact holds_landed' _ _ _ _ _ _ _ _ _ rfl
        iexact Hd2
      isplitl [Hq7 Hg6 Hd7]
      · isplitl [Hq7 Hg6]
        · unfold busy flying
          iexists _
          isplitl [Hq7 Hg6]
          · isplitl [Hq7]; · iexact Hq7
            iexact Hg6
          ipureintro
          exact holds_landed' _ _ _ _ _ _ _ _ _ rfl
        iexact Hd7
      isplitl [Hs7 Hq8 Hu7 Hd8]
      · isplitl [Hs7 Hq8]
        · unfold free0
          iexists _
          isplitl [Hs7]; · iexact Hs7
          iexact Hq8
        isplitl [Hu7]; · iexact Hu7
        iexact Hd8
      isplitl [Hq3 Hg2 Hd3]
      · isplitl [Hq3 Hg2]
        · unfold busy flying
          iexists _
          isplitl [Hq3 Hg2]
          · isplitl [Hq3]; · iexact Hq3
            iexact Hg2
          ipureintro
          exact holds_landed' _ _ _ _ _ _ _ _ _ rfl
        iexact Hd3
      isplitl [Hq4 Hu3 Hd4]
      · isplitl [Hq4 Hu3]
        · unfold busy flying
          iexists _
          isplitl [Hq4 Hu3]
          · isplitl [Hq4]; · iexact Hq4
            iexact Hu3
          ipureintro
          exact holds_landed' _ _ _ _ _ _ _ _ _ rfl
        iexact Hd4
      isplitl [Hq5 Hg4 Hd5]
      · isplitl [Hq5 Hg4]
        · unfold busy flying
          iexists _
          isplitl [Hq5 Hg4]
          · isplitl [Hq5]; · iexact Hq5
            iexact Hg4
          ipureintro
          exact holds_landed' _ _ _ _ _ _ _ _ _ rfl
        iexact Hd5
      isplitl [Hq6 Hu5]
      · unfold busy flying
        iexists _
        isplitl [Hq6 Hu5]
        · isplitl [Hq6]; · iexact Hq6
          iexact Hu5
        ipureintro
        exact holds_landed' _ _ _ _ _ _ _ _ _ rfl
      iexact Hd6
    icases Ho with ⟨⟨⟨%o0, Ho0⟩, ⟨%o1, Ho1⟩, ⟨%o2, Ho2⟩, ⟨%o3, Ho3⟩, ⟨%o4, Ho4⟩⟩, ⟨%o5, Ho5⟩, ⟨%o6, Ho6⟩, ⟨%o7, Ho7⟩, ⟨%o8, Ho8⟩, ⟨%o9, Ho9⟩⟩
    isplitl [Ho0 Ho1 Ho2 Ho3 Ho4]
    · unfold outs0 outPt
      isplitl [Ho0]
      · iexists o0
        isplitl [Ho0]; · iexact Ho0
        ipureintro; intro h; omega
      isplitl [Ho1]
      · iexists o1
        isplitl [Ho1]; · iexact Ho1
        ipureintro; intro h; omega
      isplitl [Ho2]
      · iexists o2
        isplitl [Ho2]; · iexact Ho2
        ipureintro; intro h; omega
      isplitl [Ho3]
      · iexists o3
        isplitl [Ho3]; · iexact Ho3
        ipureintro; intro h; omega
      iexists o4
      isplitl [Ho4]; · iexact Ho4
      ipureintro; intro h; omega
    isplitl [Ho5 Ho6 Ho7 Ho8 Ho9]
    · unfold outs1 outPt
      isplitl [Ho5]
      · iexists o5
        isplitl [Ho5]; · iexact Ho5
        ipureintro; intro h; omega
      isplitl [Ho6]
      · iexists o6
        isplitl [Ho6]; · iexact Ho6
        ipureintro; intro h; omega
      isplitl [Ho7]
      · iexists o7
        isplitl [Ho7]; · iexact Ho7
        ipureintro; intro h; omega
      isplitl [Ho8]
      · iexists o8
        isplitl [Ho8]; · iexact Ho8
        ipureintro; intro h; omega
      iexists o9
      isplitl [Ho9]; · iexact Ho9
      ipureintro; intro h; omega
    iexists _; iexact HW
  iintro %acc HI
  have e2 : Scf.trips k0_t1_loop.lb k0_t1_loop.ub k0_t1_loop.st = 2 := by decide
  rw [e2]
  unfold layerInv
  icases HI with ⟨Hvx, Hvsg, Hvsu, Hvsd, Hvn3, Hvn4, Hscr, Hqo, HR, Ho0, Ho1, ⟨%W', HW⟩⟩
  ihave HR := (ring_finish c w) $$ HR
  unfold free0
  icases HR with ⟨⟨⟨%f4, Hs4, Hq5⟩, Hg4, Hd5⟩, ⟨⟨%f5, Hs5, Hq6⟩, Hu5, Hd6⟩, ⟨⟨%f2, Hs2, Hq3⟩, Hg2, Hd3⟩, ⟨⟨%f3, Hs3, Hq4⟩, Hu3, Hd4⟩,
    ⟨⟨%f6, Hs6, Hq7⟩, Hg6, Hd7⟩, ⟨⟨%f7, Hs7, Hq8⟩, Hu7, Hd8⟩, ⟨⟨%f0, Hs0, Hq1⟩, Hg0, Hd1⟩, ⟨⟨%f1, Hs1, Hq2⟩, Hu1, Hd2⟩⟩
  sl_exec
  sl_step
  isplitl [Hx Hsg Hsu Hsd Hn3 Hn4 Hg0 Hg2 Hg4 Hg6 HgR Hu1 Hu3 Hu5 Hu7 HuR Hd1 Hd2 Hd3 Hd4 Hd5 Hd6 Hd7 Hd8 HdR]
  · isplitl [Hx]; · iexact Hx
    isplitl [Hg0 Hg2 Hg4 Hg6 HgR]
    · iapply (toksG c mWg w.g).2
      isplitl [Hg0]; · iexact Hg0
      isplitl [Hg2]; · iexact Hg2
      isplitl [Hg4]; · iexact Hg4
      isplitl [Hg6]; · iexact Hg6
      iexact HgR
    isplitl [Hsg]; · iexact Hsg
    isplitl [Hu1 Hu3 Hu5 Hu7 HuR]
    · iapply (toksU c mWu w.u).2
      isplitl [Hu1]; · iexact Hu1
      isplitl [Hu3]; · iexact Hu3
      isplitl [Hu5]; · iexact Hu5
      isplitl [Hu7]; · iexact Hu7
      iexact HuR
    isplitl [Hsu]; · iexact Hsu
    isplitl [Hd1 Hd2 Hd3 Hd4 Hd5 Hd6 Hd7 Hd8 HdR]
    · iapply (toksD_all c w.d).2
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      iexact HdR
    isplitl [Hsd]; · iexact Hsd
    isplitl [Hn3]; · iexact Hn3
    iexact Hn4
  isplitl [Ho0 Ho1]
  · iapply (outs_done c x w sg su sd n3 n4)
    isplitl [Ho0]; · iexact Ho0
    iexact Ho1
  isplitl [Hvx Hvsg Hvsu Hvsd Hvn3 Hvn4 Hscr Hs0 Hs1 Hs2 Hs3 Hs4 Hs5 Hs6 Hs7]
  · isplitl [Hvx]; · iexists _; iexact Hvx
    isplitl [Hvsg]; · iexists _; iexact Hvsg
    isplitl [Hvsu]; · iexists _; iexact Hvsu
    isplitl [Hvsd]; · iexists _; iexact Hvsd
    isplitl [Hvn3]; · iexists _; iexact Hvn3
    isplitl [Hvn4]; · iexists _; iexact Hvn4
    isplitl [Hs0 Hs1 Hs2 Hs3 Hs4 Hs5 Hs6 Hs7]
    · iapply (slots_join c w')
      isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      iexists _; iexact Hs7
    iexact Hscr
  isplitl [HB0 Hq1 Hq2 Hq3 Hq4 Hq5 Hq6 Hq7 Hq8 Hqo]
  · isplitl [HB0]; · iexact HB0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexact Hqo
  iexists _; iexact HW

end Cert.Kernel.Hand
end
-- ==== Proof.Launch.lean ====
module

public import proofs.«01_k».proof.Proof.Gen.Kernel.Frame
public import proofs.«01_k».proof.Proof.Gen.Kernel.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Body
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the body's run as a run of the whole program -/

/-- The arguments the body reads, -/
def H0 : Finset (Ref sig .tc) := {main_arg0, main_arg1, main_arg2, main_arg3, main_arg4, main_arg5, main_arg6, main_arg7, main_arg8}
/-- and the results it writes. -/
def R0 : Finset (Ref sig .tc) := {main_v0_0, main_v0_1, main_v0_2, main_v0_3, main_v0_4, main_v0_5, main_v0_6, main_v0_7, main_v0_8, main_v0_9}

theorem H0_sub : H0 ⊆ Pipeline.restRefs sig cfg0.spec := by decide
theorem R0_sub : R0 ⊆ Pipeline.restRefs sig cfg0.spec \ H0 := by decide

/-- The semaphores of the body's own transfers. -/
abbrev osem0 : Fin 14 → SemLoc sig := fun j =>
  (![SemLoc.dma 0, SemLoc.dma 1, SemLoc.dma 2, SemLoc.dma 3, SemLoc.dma 4, SemLoc.dma 5, SemLoc.dma 6, SemLoc.dma 7, SemLoc.dma 8,
    SemLoc.dma 9, SemLoc.dma 10, SemLoc.dma 11, SemLoc.dma 12, SemLoc.dma 13] : Fin 14 → SemLoc sig) j

theorem ownSemFacts0 : Pipeline.OwnSemFacts cfg0.spec osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = sems c := by
  rw [Pipeline.ownSems0_eq_of_list c osem0 [0, 1, 2, 3, 4, 5, 6, 7, 8, 9, 10, 11, 12, 13] (by decide) (by decide)]; rfl

/-- @main up to the region. -/
abbrev VD (c : Dev nD) (b : Ref sig .tc) : Buf (Elt F) ((c : Thread nD τ).loc b) := m ((c : Thread nD τ).loc b)

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (VD m) :=
  Pipeline.hmain_region cfgs 0 defs₀ 𝒱₀ m main fun c => (main_chain c).trans rfl

/-- The results, by layer: the codes and the scales of the input, -/
abbrev cfOf (c : Dev nD) (l : Fin 2) : S48x2560.Idx → Elt F .i8 := cfA (VD m c main_arg0) (VD m c main_arg7) l
abbrev sfOf (c : Dev nD) (l : Fin 2) : FVec F S1x48 .f32 := sfA (VD m c main_arg0) (VD m c main_arg7) l
/-- of the gated product, -/
abbrev cdOf (c : Dev nD) (l : Fin 2) : S48x10240.Idx → Elt F .i8 :=
  cdA (VD m c main_arg0) (VD m c main_arg7) (VD m c main_arg2) (VD m c main_arg4) (VD m c main_arg1) (VD m c main_arg3) l
abbrev sdOf (c : Dev nD) (l : Fin 2) : FVec F S1x48 .f32 :=
  sdA (VD m c main_arg0) (VD m c main_arg7) (VD m c main_arg2) (VD m c main_arg4) (VD m c main_arg1) (VD m c main_arg3) l
/-- and the layer's output. -/
abbrev yOf (c : Dev nD) (l : Fin 2) : FVec F S48x2560 .bf16 :=
  yA (VD m c main_arg0) (VD m c main_arg7) (VD m c main_arg2) (VD m c main_arg4) (VD m c main_arg1) (VD m c main_arg3) l (VD m c main_arg6) (VD m c main_arg8) (VD m c main_arg5)

/-- The buffers at the end: the results at their values, all others as launched. -/
def GD (c : Dev nD) (b : Ref sig .tc) : Buf (Elt F) ((c : Thread nD τ).loc b) :=
  Function.update (Function.update (Function.update (Function.update (Function.update (Function.update (Function.update (Function.update (Function.update (Function.update (VD m c)
    main_v0_0 (yOf m c 0)) main_v0_1 (yOf m c 1)) main_v0_2 (cfOf m c 0)) main_v0_3 (sfOf m c 0)) main_v0_4 (cdOf m c 0)) main_v0_5 (sdOf m c 0)) main_v0_6 (cfOf m c 1)) main_v0_7 (sfOf m c 1)) main_v0_8 (cdOf m c 1)) main_v0_9 (sdOf m c 1) b

theorem GD_0 (c : Dev nD) : GD m c main_v0_0 = yOf m c 0 := by
  unfold GD
  rw [Function.update_of_ne (by decide),
    Function.update_of_ne (by decide),
    Function.update_of_ne (by decide),
    Function.update_of_ne (by decide),
    Function.update_of_ne (by decide),
    Function.update_of_ne (by decide),
    Function.update_of_ne (by decide),
    Function.update_of_ne (by decide),
    Function.update_of_ne (by decide),
    Function.update_self]
theorem GD_1 (c : Dev nD) : GD m c main_v0_1 = yOf m c 1 := by
  unfold GD
  rw [Function.update_of_ne (by decide),
    Function.update_of_ne (by decide),
    Function.update_of_ne (by decide),
    Function.update_of_ne (by decide),
    Function.update_of_ne (by decide),
    Function.update_of_ne (by decide),
    Function.update_of_ne (by decide),
    Function.update_of_ne (by decide),
    Function.update_self]
theorem GD_2 (c : Dev nD) : GD m c main_v0_2 = cfOf m c 0 := by
  unfold GD
  rw [Function.update_of_ne (by decide),
    Function.update_of_ne (by decide),
    Function.update_of_ne (by decide),
    Function.update_of_ne (by decide),
    Function.update_of_ne (by decide),
    Function.update_of_ne (by decide),
    Function.update_of_ne (by decide),
    Function.update_self]
theorem GD_3 (c : Dev nD) : GD m c main_v0_3 = sfOf m c 0 := by
  unfold GD
  rw [Function.update_of_ne (by decide),
    Function.update_of_ne (by decide),
    Function.update_of_ne (by decide),
    Function.update_of_ne (by decide),
    Function.update_of_ne (by decide),
    Function.update_of_ne (by decide),
    Function.update_self]
theorem GD_4 (c : Dev nD) : GD m c main_v0_4 = cdOf m c 0 := by
  unfold GD
  rw [Function.update_of_ne (by decide),
    Function.update_of_ne (by decide),
    Function.update_of_ne (by decide),
    Function.update_of_ne (by decide),
    Function.update_of_ne (by decide),
    Function.update_self]
theorem GD_5 (c : Dev nD) : GD m c main_v0_5 = sdOf m c 0 := by
  unfold GD
  rw [Function.update_of_ne (by decide),
    Function.update_of_ne (by decide),
    Function.update_of_ne (by decide),
    Function.update_of_ne (by decide),
    Function.update_self]
theorem GD_6 (c : Dev nD) : GD m c main_v0_6 = cfOf m c 1 := by
  unfold GD
  rw [Function.update_of_ne (by decide),
    Function.update_of_ne (by decide),
    Function.update_of_ne (by decide),
    Function.update_self]
theorem GD_7 (c : Dev nD) : GD m c main_v0_7 = sfOf m c 1 := by
  unfold GD
  rw [Function.update_of_ne (by decide),
    Function.update_of_ne (by decide),
    Function.update_self]
theorem GD_8 (c : Dev nD) : GD m c main_v0_8 = cdOf m c 1 := by
  unfold GD
  rw [Function.update_of_ne (by decide),
    Function.update_self]
theorem GD_9 (c : Dev nD) : GD m c main_v0_9 = sdOf m c 1 := by
  unfold GD
  rw [Function.update_self]

/-- The arguments and the results, one by one. -/
theorem argPts_eq (c : Dev nD) :
    (bigSep H0 (fun b => ((c : Thread nD τ).loc b) ↦{fullShare} VD m c b) : sProp 𝕄)
      = argPts c (VD m c main_arg0) ⟨VD m c main_arg1, VD m c main_arg3, VD m c main_arg5⟩ (VD m c main_arg2) (VD m c main_arg4) (VD m c main_arg6) (VD m c main_arg7) (VD m c main_arg8) := by
  rw [BI.bigSep_eq_bigSepL_of_eq [main_arg0, main_arg1, main_arg2, main_arg3, main_arg4, main_arg5, main_arg6, main_arg7, main_arg8] (by decide) (by decide)]; rfl

theorem routed_eq (c : Dev nD) (G : (b : Ref sig .tc) → Buf (Elt F) ((c : Thread nD τ).loc b)) :
    (Pipeline.routed R0 c G : sProp 𝕄)
      = iprop(pt c oY0 (G main_v0_0) ∗ pt c oY1 (G main_v0_1) ∗ pt c oCf0 (G main_v0_2) ∗ pt c oSf0 (G main_v0_3) ∗ pt c oCd0 (G main_v0_4) ∗ pt c oSd0 (G main_v0_5) ∗ pt c oCf1 (G main_v0_6) ∗ pt c oSf1 (G main_v0_7) ∗ pt c oCd1 (G main_v0_8) ∗ pt c oSd1 (G main_v0_9)) := by
  unfold Pipeline.routed
  rw [BI.bigSep_eq_bigSepL_of_eq [main_v0_0, main_v0_1, main_v0_2, main_v0_3, main_v0_4, main_v0_5, main_v0_6, main_v0_7, main_v0_8, main_v0_9] (by decide) (by decide)]; rfl

/-- What the body is handed, and what it hands back. -/
def PhiG (G : (c : Dev nD) → (b : Ref sig .tc) → Buf (Elt F) ((c : Thread nD τ).loc b)) (c : Dev nD) : sProp 𝕄 :=
  Pipeline.ΦDRG osem0 cfg0.spec H0 R0 (VD m) G c

theorem PhiG_eq (G : (c : Dev nD) → (b : Ref sig .tc) → Buf (Elt F) ((c : Thread nD τ).loc b)) (c : Dev nD) :
    PhiG m G c = iprop(bufs c ∗ (∃ r, prngReg c r) ∗ sems c
      ∗ argPts c (VD m c main_arg0) ⟨VD m c main_arg1, VD m c main_arg3, VD m c main_arg5⟩ (VD m c main_arg2) (VD m c main_arg4) (VD m c main_arg6) (VD m c main_arg7) (VD m c main_arg8)
      ∗ (pt c oY0 (G c main_v0_0) ∗ pt c oY1 (G c main_v0_1) ∗ pt c oCf0 (G c main_v0_2) ∗ pt c oSf0 (G c main_v0_3) ∗ pt c oCd0 (G c main_v0_4) ∗ pt c oSd0 (G c main_v0_5) ∗ pt c oCf1 (G c main_v0_6) ∗ pt c oSf1 (G c main_v0_7) ∗ pt c oCd1 (G c main_v0_8) ∗ pt c oSd1 (G c main_v0_9))) := by
  unfold PhiG
  rw [Pipeline.ΦDRG_eq, scopedRest0_eq, ownSems00_eq, argPts_eq, routed_eq]
  rfl

/-- The proof data of the one region: no window, the invariant as handed over before the body and as handed back after. -/
def datsD (_ : Fin 1) (c : Dev nD) : Dat τ (Elt F) Unit ℕ (Pipeline.UD sig nD τ) ℕ cfg0 c where
  A w := VD m c (Pipeline.arrRef cfg0.spec w)
  after w _ := w.elim0
  Φ t := PhiG m (if t.val = 0 then VD m else GD m) c
  q _ := fullShare
  owed _ := 0

theorem Phi_first (c : Dev nD) : (datsD m 0 c).Φ t0_0.castSucc = PhiG m (VD m) c := rfl
theorem Phi_last (c : Dev nD) : (datsD m 0 c).Φ t0_0.succ = PhiG m (GD m) c := rfl

set_option maxHeartbeats 4000000 in
/-- The body's post, with the generator register beside it, is what the invariant asks. -/
theorem handed_back (c : Dev nD) :
    iprop((argPts c (VD m c main_arg0) ⟨VD m c main_arg1, VD m c main_arg3, VD m c main_arg5⟩ (VD m c main_arg2) (VD m c main_arg4) (VD m c main_arg6) (VD m c main_arg7) (VD m c main_arg8)
        ∗ outDone c (VD m c main_arg0) ⟨VD m c main_arg1, VD m c main_arg3, VD m c main_arg5⟩ (VD m c main_arg2) (VD m c main_arg4) (VD m c main_arg6) (VD m c main_arg7) (VD m c main_arg8)
        ∗ bufs c ∗ sems c ∗ ∃ W, owes (c : Thread nD τ) 0 W) ∗ (∃ r, prngReg c r))
      ⊢ iprop((datsD m 0 c).Φ t0_0.succ ∗ (datsD m 0 c).owesAt () t0_0.succ) := by
  rw [Phi_last, PhiG_eq]
  unfold Dat.owesAt Pipeline.owesWithin outDone
  rw [show (datsD m 0 c).owed t0_0.succ = 0 from rfl,
    GD_0, GD_1, GD_2, GD_3, GD_4, GD_5, GD_6, GD_7, GD_8, GD_9]
  iintro ⟨⟨Ha, ⟨⟨Ho0, Ho2, Ho3, Ho4, Ho5⟩, ⟨Ho1, Ho6, Ho7, Ho8, Ho9⟩⟩, Hb, Hq, ⟨%W, HW⟩⟩, Hg⟩
  isplitl [Ha Ho0 Ho1 Ho2 Ho3 Ho4 Ho5 Ho6 Ho7 Ho8 Ho9 Hb Hq Hg]
  · isplitl [Hb]; · iexact Hb
    isplitl [Hg]; · iexact Hg
    isplitl [Hq]; · iexact Hq
    isplitl [Ha]; · iexact Ha
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    iexact Ho9
  iexists W; isplitr
  · ipureintro; exact fun _ _ => Or.inl trivial
  iexact HW

set_option maxHeartbeats 4000000 in
theorem sound_body (c : Dev nD) :
    iprop((datsD m 0 c).Φ t0_0.castSucc ∗ (datsD m 0 c).owesAt () t0_0.castSucc)
      ⊢ wp frame (wpE (defs₀ (F := F)) Variants.none c none) Set.univ (bodyAt0 t0_0)
        (fun _ => iprop((datsD m 0 c).Φ t0_0.succ ∗ (datsD m 0 c).owesAt () t0_0.succ)) := by
  have h : ∀ W, iprop((argPts c (VD m c main_arg0) ⟨VD m c main_arg1, VD m c main_arg3, VD m c main_arg5⟩ (VD m c main_arg2) (VD m c main_arg4) (VD m c main_arg6) (VD m c main_arg7) (VD m c main_arg8)
        ∗ outAny c ∗ bufs c ∗ sems c ∗ owes (c : Thread nD τ) 0 W) ∗ (∃ r, prngReg c r))
      ⊢ wp frame (wpE (defs₀ (F := F)) Variants.none c none) Set.univ (bodyAt0 t0_0)
        (fun _ => iprop((datsD m 0 c).Φ t0_0.succ ∗ (datsD m 0 c).owesAt () t0_0.succ)) := fun W =>
    (BIClass.sep_mono (body_run c _ _ _ _ _ _ _ W) BIBase.Entails.refl).trans
      (BIBase.Entails.trans (wp_frame_r _ _ _) (wp_mono _ _ _ fun _ => handed_back m c))
  generalize hQ : (fun _ : PUnit => iprop((datsD m 0 c).Φ t0_0.succ ∗ (datsD m 0 c).owesAt () t0_0.succ)) = Q at h ⊢
  rw [Phi_first, PhiG_eq]
  unfold Dat.owesAt Pipeline.owesWithin
  rw [show (datsD m 0 c).owed t0_0.castSucc = 0 from rfl]
  iintro ⟨⟨Hb, Hg, Hq, Ha, ⟨Ho0, Ho1, Ho2, Ho3, Ho4, Ho5, Ho6, Ho7, Ho8, Ho9⟩⟩, ⟨%W, -, HW⟩⟩
  iapply (h W)
  unfold outAny
  isplitr [Hg]
  · isplitl [Ha]; · iexact Ha
    isplitl [Ho0 Ho2 Ho3 Ho4 Ho5 Ho1 Ho6 Ho7 Ho8 Ho9]
    · isplitl [Ho0 Ho2 Ho3 Ho4 Ho5]
      · isplitl [Ho0]; · iexists _; iexact Ho0
        isplitl [Ho2]; · iexists _; iexact Ho2
        isplitl [Ho3]; · iexists _; iexact Ho3
        isplitl [Ho4]; · iexists _; iexact Ho4
        iexists _; iexact Ho5
      isplitl [Ho1]; · iexists _; iexact Ho1
      isplitl [Ho6]; · iexists _; iexact Ho6
      isplitl [Ho7]; · iexists _; iexact Ho7
      isplitl [Ho8]; · iexists _; iexact Ho8
      iexists _; iexact Ho9
    isplitl [Hb]; · iexact Hb
    isplitl [Hq]; · iexact Hq
    iexact HW
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (datsD (F := F) m 0 c) (defs₀ (F := F)) Variants.none () Set.univ := fun t => by
  obtain rfl := fin_N0 t
  rw [defs₀_row]
  have hu : (Finset.univ : Finset (Fin cfg0.W)) = ∅ := Finset.eq_empty_of_forall_notMem fun w _ => w.elim0
  rw [hu, bigSep_empty, bigSep_empty]
  refine BIBase.Entails.trans ?_ (BIBase.Entails.trans (sound_body m c) (wp_mono _ _ _ fun _ => ?_))
  · iintro ⟨H1, H2, -⟩
    isplitl [H1]; · iexact H1
    iexact H2
  iintro ⟨H1, H2⟩
  isplitl [H1]; · iexact H1
  isplitl [H2]; · iexact H2
  exact BIBase.Entails.refl

set_option backward.isDefEq.respectTransparency.types false in
/-- Every run ends with the results at their values, all other arrays as launched, and every counter at zero. -/
theorem run_main : θ_run defs (onTc (τ := τ) (main (F := F))) (s₀ m ρ)
    (fun r => Pipeline.FramePostRG cfgs (datsD m) 0 R0 (VD m) (GD m) r ∧ r.2.sem = fun _ => 0) :=
  Pipeline.θ_run_frame_dmaRG (Q' := _) cfgs (datsD m) (0 : Fin 1) launch0 osem0 defs₀ Variants.none ownSemFacts0 H0 R0 H0_sub R0_sub m ρ main
    (hbody := fun c => (body_obligation m c).loose) (hshare := fun c => (datsD m 0 c).share_full fun _ => rfl)
    (howed := fun _ _ => rfl) (V := VD m) (hmain := hmainD m Variants.none) (hA := fun _ _ => rfl) (G := GD m)
    (hin := fun _ => .rfl) (hout := fun _ => .rfl)

/-- The same, array by array. -/
theorem run_all : θ_run defs (onTc (τ := τ) (main (F := F))) ⟨m, fun _ => 0, ρ⟩ (fun r => (∀ c : Dev nD,
      (r.2.mem ((c.tc : Thread nD τ).loc main_v0_0) = yOf m c 0
      ∧ r.2.mem ((c.tc : Thread nD τ).loc main_v0_1) = yOf m c 1
      ∧ r.2.mem ((c.tc : Thread nD τ).loc main_v0_2) = cfOf m c 0
      ∧ r.2.mem ((c.tc : Thread nD τ).loc main_v0_3) = sfOf m c 0
      ∧ r.2.mem ((c.tc : Thread nD τ).loc main_v0_4) = cdOf m c 0
      ∧ r.2.mem ((c.tc : Thread nD τ).loc main_v0_5) = sdOf m c 0
      ∧ r.2.mem ((c.tc : Thread nD τ).loc main_v0_6) = cfOf m c 1
      ∧ r.2.mem ((c.tc : Thread nD τ).loc main_v0_7) = sfOf m c 1
      ∧ r.2.mem ((c.tc : Thread nD τ).loc main_v0_8) = cdOf m c 1
      ∧ r.2.mem ((c.tc : Thread nD τ).loc main_v0_9) = sdOf m c 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨⟨(h.1.2 c main_v0_0 (by decide)).trans (GD_0 m c),
      (h.1.2 c main_v0_1 (by decide)).trans (GD_1 m c),
      (h.1.2 c main_v0_2 (by decide)).trans (GD_2 m c),
      (h.1.2 c main_v0_3 (by decide)).trans (GD_3 m c),
      (h.1.2 c main_v0_4 (by decide)).trans (GD_4 m c),
      (h.1.2 c main_v0_5 (by decide)).trans (GD_5 m c),
      (h.1.2 c main_v0_6 (by decide)).trans (GD_6 m c),
      (h.1.2 c main_v0_7 (by decide)).trans (GD_7 m c),
      (h.1.2 c main_v0_8 (by decide)).trans (GD_8 m c),
      (h.1.2 c main_v0_9 (by decide)).trans (GD_9 m c)⟩,
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩),
      (h.1.1 c).2 main_arg4 (Finset.mem_sdiff.mpr ⟨Pipeline.mem_restRefs_of main_arg4 (by decide) (by decide), by decide⟩),
      (h.1.1 c).2 main_arg5 (Finset.mem_sdiff.mpr ⟨Pipeline.mem_restRefs_of main_arg5 (by decide) (by decide), by decide⟩),
      (h.1.1 c).2 main_arg6 (Finset.mem_sdiff.mpr ⟨Pipeline.mem_restRefs_of main_arg6 (by decide) (by decide), by decide⟩),
      (h.1.1 c).2 main_arg7 (Finset.mem_sdiff.mpr ⟨Pipeline.mem_restRefs_of main_arg7 (by decide) (by decide), by decide⟩),
      (h.1.1 c).2 main_arg8 (Finset.mem_sdiff.mpr ⟨Pipeline.mem_restRefs_of main_arg8 (by decide) (by decide), by decide⟩)⟩, h.2⟩) (run_main m ρ)

end Cert.Kernel.Hand
end
-- ==== Proof.Spec.lean ====
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws
@[expose] public section

noncomputable section

/-! ## The layer over the extended reals, one element at a time

The mathematics both programs compute, stated on plain functions of a row, and the printed operations read at an index as these
functions. Nothing here knows how either program cuts its arrays. -/

namespace Cert.Spec

open Idealize.ShloMosaic Idealize.ShloMosaic.ValueIdx

/-! ### The functions -/

/-- A row normed: over the root of its mean square, times one plus the norm weights. -/
def normR (x n : Fin 2560 → EReal) (k : Fin 2560) : EReal :=
  x k * Ideal.rsqrt (Ideal.div (∑ j, x j * x j) (Ideal.ofBits .f32 0x45200000#32) + Ideal.ofBits .f32 0x358637BD#32)
    * (Ideal.ofBits .f32 0x3F800000#32 + n k)

/-- The largest element of a row. -/
def rowMax {C : ℕ} (f : Fin C → EReal) : EReal :=
  (Finset.univ : Finset (Fin C)).fold max (Ideal.ofBits .f32 0xFF800000#32) f

/-- The scale of a row whose largest absolute value is `a`. -/
def scaleOf (a : EReal) : EReal :=
  Scalar.select (Ideal.cmp .oeq a (Ideal.ofBits .f32 0x00000000#32)) (Ideal.ofBits .f32 0x3F800000#32)
    (Ideal.div a (Ideal.ofBits .f32 0x42FE0000#32))

/-- The scale of a row. -/
def scaleR {C : ℕ} (f : Fin C → EReal) : EReal := scaleOf (rowMax fun k => max (f k) (-f k))

/-- An integer word as a value. -/
def intR {w : ℕ} (b : BitVec w) : EReal := ((b.toInt : ℝ) : EReal)

/-- An element over its row's scale, rounded and clipped. -/
def code (v s : EReal) : EReal :=
  min (intR (127#32)) (max (intR (4294967169#32)) (Ideal.liftRound Ideal.roundHalfEven (Ideal.div v s)))

/-- The code as an eight-bit word. -/
def codeI (v s : EReal) : BitVec 8 := Ideal.fptosi 8 (code v s)

/-- `gelu g * u`, with the tanh form of gelu. -/
def gated (g u : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g)))))) * u

/-- A row of codes times a column of weights. -/
def dotR {K : ℕ} (q : Fin K → EReal) (w : Fin K → BitVec 8) : EReal := Ideal.ofBits .f32 0x00000000#32 + ∑ k, q k * intR (w k)

/-- The codes of a normed row, as values. -/
def codesR (x n : Fin 2560 → EReal) (k : Fin 2560) : EReal := code (normR x n k) (scaleR (normR x n))

/-- One element of the gated product. -/
def mmR (x n : Fin 2560 → EReal) (wg wu : Fin 2560 → BitVec 8) (sg su : EReal) : EReal :=
  gated (dotR (codesR x n) wg * scaleR (normR x n) * sg) (dotR (codesR x n) wu * scaleR (normR x n) * su)

/-- One element of the down projection of the gated product `f`. -/
def downR (f : Fin 10240 → EReal) (w : Fin 10240 → BitVec 8) (d : EReal) : EReal :=
  dotR (fun j => code (f j) (scaleR f)) w * scaleR f * d

/-! ### A layer's results, from the arrays of both layers

`X` are the activations, `N` and `M` the norm weights before and after, `WG`, `WU` and `WD` the weight codes, `G`, `U` and `D` their scales. -/

section
variable (X : (⟨3, ![2, 48, 2560]⟩ : Shape).Idx → EReal) (N : (⟨2, ![2, 2560]⟩ : Shape).Idx → EReal)
  (WG WU : (⟨3, ![2, 2560, 10240]⟩ : Shape).Idx → BitVec 8) (G U : (⟨2, ![2, 10240]⟩ : Shape).Idx → EReal) (l : Fin 2)

def xRow (p : Fin 48) : Fin 2560 → EReal := fun k => X (ix3 l p k)
def nRow : Fin 2560 → EReal := fun k => N (ix2 l k)
def wCol (W : (⟨3, ![2, 2560, 10240]⟩ : Shape).Idx → BitVec 8) (j : Fin 10240) : Fin 2560 → BitVec 8 := fun k => W (ix3 l k j)

/-- The normed activations' codes and scales. -/
def cfS (p : Fin 48) (k : Fin 2560) : BitVec 8 :=
  codeI (normR (xRow X l p) (nRow N l) k) (scaleR (normR (xRow X l p) (nRow N l)))
def sfS (p : Fin 48) : EReal := scaleR (normR (xRow X l p) (nRow N l))

/-- The gated product, its codes and scales. -/
def mmS (p : Fin 48) (j : Fin 10240) : EReal :=
  mmR (xRow X l p) (nRow N l) (wCol l WG j) (wCol l WU j) (G (ix2 l j)) (U (ix2 l j))
def sdS (p : Fin 48) : EReal := scaleR (mmS X N WG WU G U l p)
def cdS (p : Fin 48) (j : Fin 10240) : BitVec 8 := codeI (mmS X N WG WU G U l p j) (sdS X N WG WU G U l p)

variable (D M : (⟨2, ![2, 2560]⟩ : Shape).Idx → EReal) (WD : (⟨3, ![2, 10240, 2560]⟩ : Shape).Idx → BitVec 8)

/-- The down projection, and the layer's result. -/
def wColD (k : Fin 2560) : Fin 10240 → BitVec 8 := fun j => WD (ix3 l j k)
def downS (p : Fin 48) (k : Fin 2560) : EReal := downR (mmS X N WG WU G U l p) (wColD l WD k) (D (ix2 l k))
def yS (p : Fin 48) (k : Fin 2560) : EReal := xRow X l p k + normR (downS X N WG WU G U l D WD p) (nRow M l) k
end

/-! ### Codes are integers between -127 and 127 -/

theorem round_clip (v : EReal) : ∃ z : ℤ, -127 ≤ z ∧ z ≤ 127 ∧
    min (intR (127#32)) (max (intR (4294967169#32)) (Ideal.liftRound Ideal.roundHalfEven v)) = ((z : ℝ) : EReal) := by
  have h1 : intR (127#32) = (((127 : ℤ) : ℝ) : EReal) := rfl
  have h2 : intR (4294967169#32) = (((-127 : ℤ) : ℝ) : EReal) := rfl
  rw [h1, h2]
  induction v using EReal.rec with
  | bot => exact ⟨-127, by decide, by decide, by
      show min _ (max _ (⊥ : EReal)) = _
      rw [max_eq_left bot_le, ← EReal.coe_strictMono.monotone.map_min, ← Int.cast_min]; rfl⟩
  | top => exact ⟨127, by decide, by decide, by
      show min _ (max _ (⊤ : EReal)) = _
      rw [max_eq_right le_top, min_eq_left le_top]⟩
  | coe r =>
    refine ⟨min 127 (max (-127) (Ideal.roundHalfEven r)), by omega, by omega, ?_⟩
    show min _ (max _ (((Ideal.roundHalfEven r : ℤ) : ℝ) : EReal)) = _
    rw [← EReal.coe_strictMono.monotone.map_max, ← Int.cast_max, ← EReal.coe_strictMono.monotone.map_min, ← Int.cast_min]

theorem fptosi_int (w : ℕ) (z : ℤ) (h : -(2 ^ (w - 1) : ℕ) ≤ z) (h' : z ≤ (2 ^ (w - 1) : ℕ) - 1) :
    Ideal.fptosi w ((z : ℝ) : EReal) = BitVec.ofInt w z := by
  unfold Ideal.fptosi
  congr 1
  show max _ (min _ (if (0 : ℝ) ≤ (z : ℝ) then ⌊(z : ℝ)⌋ else ⌈(z : ℝ)⌉)) = z
  rw [Int.floor_intCast, Int.ceil_intCast, ite_self, min_eq_right h', max_eq_right h]

/-- A code made a word through 32 bits is the one made at once. -/
theorem code_narrow (v s : EReal) : (Ideal.fptosi 32 (code v s)).setWidth 8 = codeI v s := by
  obtain ⟨z, h, h', e⟩ := round_clip (Ideal.div v s)
  unfold codeI code
  rw [e, fptosi_int 32 z (by norm_num; omega) (by norm_num; omega), fptosi_int 8 z (by norm_num; omega) (by norm_num; omega)]
  have : ∀ z : ℤ, -127 ≤ z → z ≤ 127 → (BitVec.ofInt 32 z).setWidth 8 = BitVec.ofInt 8 z := by
    intro z h h'; interval_cases z <;> rfl
  exact this z h h'

/-- A code read back from its word is the code. -/
theorem code_back (v s : EReal) : intR (codeI v s) = code v s := by
  obtain ⟨z, h, h', e⟩ := round_clip (Ideal.div v s)
  unfold codeI code
  rw [e, fptosi_int 8 z (by norm_num; omega) (by norm_num; omega)]
  have : ∀ z : ℤ, -127 ≤ z → z ≤ 127 → (BitVec.ofInt 8 z).toInt = z := by
    intro z h h'; interval_cases z <;> rfl
  show (((BitVec.ofInt 8 z).toInt : ℝ) : EReal) = _
  rw [this z h h']

/-! ### The printed operations at an index -/

/-- One column broadcast over `C` columns. -/
theorem bcast_col {α : Type} {R C : ℕ} (v : (⟨2, ![R, 1]⟩ : Shape).Idx → α) (h : (⟨2, ![R, 1]⟩ : Shape).Broadcasts ⟨2, ![R, C]⟩)
    (p : Fin R) (k : Fin C) : broadcastTo ⟨2, ![R, C]⟩ v h (ix2 p k) = v (ix2 p (0 : Fin 1)) := by
  refine broadcastTo_apply v h (ix2 p k) (ix2 p (0 : Fin 1)) fun ax => ?_
  match ax with
  | ⟨0, _⟩ =>
    show p.val = if R = 1 then 0 else p.val
    split
    · have := p.isLt; omega
    rfl
  | ⟨1, _⟩ => rfl

theorem lift_row {R C : ℕ} (h : (⟨2, ![R, C]⟩ : Shape).Reduces [1] ⟨1, ![R]⟩) (p : Fin R) (k : Fin C) : h.lift (ix1 p) k = ix2 p k := by
  funext a; apply Fin.ext
  match a with
  | ⟨0, _⟩ => rfl
  | ⟨1, _⟩ => rfl

theorem row_sum {R C : ℕ} (v : FVec Ideal ⟨2, ![R, C]⟩ .f32) (h : (⟨2, ![R, C]⟩ : Shape).Reduces [1] ⟨1, ![R]⟩) (hf) (ha)
    (hc : (⟨1, ![R]⟩ : Shape).ShapeCasts ⟨2, ![R, 1]⟩) (p : Fin R) :
    shapeCast ⟨2, ![R, 1]⟩ (multiReduction .add [1] ⟨1, ![R]⟩ v 0x00000000#32 h hf ha) hc (ix2 p (0 : Fin 1)) = ∑ k : Fin C, v (ix2 p k) := by
  rw [shapeCast_a_a1_apply, Ideal.multiReduction_add_single]
  exact Finset.sum_congr rfl fun k _ => congrArg v (lift_row h p k)

theorem row_max {R C : ℕ} (v : FVec Ideal ⟨2, ![R, C]⟩ .f32) (h : (⟨2, ![R, C]⟩ : Shape).Reduces [1] ⟨1, ![R]⟩) (hf) (ha)
    (hc : (⟨1, ![R]⟩ : Shape).ShapeCasts ⟨2, ![R, 1]⟩) (p : Fin R) :
    shapeCast ⟨2, ![R, 1]⟩ (multiReduction .maximumf [1] ⟨1, ![R]⟩ v 0xFF800000#32 h hf ha) hc (ix2 p (0 : Fin 1))
      = rowMax fun k : Fin C => v (ix2 p k) := by
  rw [shapeCast_a_a1_apply, Ideal.multiReduction_maximumf_single]
  exact congrArg (Finset.fold max _ · Finset.univ) (funext fun k => congrArg v (lift_row h p k))

/-- The printed norm. -/
theorem norm_apply {R : ℕ} (a : FVec Ideal ⟨2, ![R, 2560]⟩ .f32) (n : FVec Ideal ⟨2, ![1, 2560]⟩ .f32)
    (h : (⟨2, ![R, 2560]⟩ : Shape).Reduces [1] ⟨1, ![R]⟩) (hf) (ha) (hc : (⟨1, ![R]⟩ : Shape).ShapeCasts ⟨2, ![R, 1]⟩)
    (hb : (⟨2, ![R, 1]⟩ : Shape).Broadcasts ⟨2, ![R, 2560]⟩) (hb' : (⟨2, ![1, 2560]⟩ : Shape).Broadcasts ⟨2, ![R, 2560]⟩)
    (p : Fin R) (k : Fin 2560) :
    mulf (mulf a (broadcastTo ⟨2, ![R, 2560]⟩ (rsqrt (addf (divf (shapeCast ⟨2, ![R, 1]⟩
        (multiReduction .add [1] ⟨1, ![R]⟩ (mulf a a) 0x00000000#32 h hf ha) hc)
        (broadcast ⟨2, ![R, 1]⟩ (Scalar.ofBits (F := Ideal) .f32 0x45200000#32))) (broadcast ⟨2, ![R, 1]⟩ (Scalar.ofBits (F := Ideal) .f32 0x358637BD#32)))) hb))
      (broadcastTo ⟨2, ![R, 2560]⟩ (addf (broadcast ⟨2, ![1, 2560]⟩ (Scalar.ofBits (F := Ideal) .f32 0x3F800000#32)) n) hb') (ix2 p k)
    = normR (fun k => a (ix2 p k)) (fun k => n (ix2 (0 : Fin 1) k)) k := by
  rw [mulf_apply, mulf_apply, bcast_col, broadcastTo_1b_ab_apply]
  show _ * Ideal.rsqrt (Ideal.div (shapeCast _ _ hc _) _ + _) * _ = _
  rw [row_sum]
  rfl

/-- The printed scale. -/
theorem scale_apply {R C : ℕ} (v : FVec Ideal ⟨2, ![R, C]⟩ .f32) (h : (⟨2, ![R, C]⟩ : Shape).Reduces [1] ⟨1, ![R]⟩) (hf) (ha)
    (hc : (⟨1, ![R]⟩ : Shape).ShapeCasts ⟨2, ![R, 1]⟩) (p : Fin R) :
    select (cmpf .oeq (shapeCast ⟨2, ![R, 1]⟩ (multiReduction .maximumf [1] ⟨1, ![R]⟩ v 0xFF800000#32 h hf ha) hc)
        (broadcast ⟨2, ![R, 1]⟩ (Scalar.ofBits (F := Ideal) .f32 0x00000000#32)))
      (broadcast ⟨2, ![R, 1]⟩ (Scalar.ofBits (F := Ideal) .f32 0x3F800000#32))
      (divf (shapeCast ⟨2, ![R, 1]⟩ (multiReduction .maximumf [1] ⟨1, ![R]⟩ v 0xFF800000#32 h hf ha) hc)
        (broadcast ⟨2, ![R, 1]⟩ (Scalar.ofBits (F := Ideal) .f32 0x42FE0000#32))) (ix2 p (0 : Fin 1))
    = scaleOf (rowMax fun k : Fin C => v (ix2 p k)) := by
  show scaleOf (shapeCast _ _ hc _) = _
  rw [row_max]

/-- The printed codes, before they are made words. -/
theorem code_apply {R C : ℕ} (v : FVec Ideal ⟨2, ![R, C]⟩ .f32) (s : FVec Ideal ⟨2, ![R, 1]⟩ .f32)
    (hb : (⟨2, ![R, 1]⟩ : Shape).Broadcasts ⟨2, ![R, C]⟩) (p : Fin R) (k : Fin C) :
    minimumf (broadcast ⟨2, ![R, C]⟩ (Scalar.sitofp (F := Ideal) .f32 127#32)) (maximumf (broadcast ⟨2, ![R, C]⟩ (Scalar.sitofp (F := Ideal) .f32 4294967169#32))
      (roundeven (divf v (broadcastTo ⟨2, ![R, C]⟩ s hb)))) (ix2 p k) = code (v (ix2 p k)) (s (ix2 p (0 : Fin 1))) := by
  show code (v (ix2 p k)) (broadcastTo ⟨2, ![R, C]⟩ s hb (ix2 p k)) = _
  rw [bcast_col]

/-- A printed product at an index. -/
theorem dot_apply {R K C : ℕ} (d : DotDims ⟨2, ![R, K]⟩ ⟨2, ![K, C]⟩ ⟨2, ![R, C]⟩) (hd : d = DotDims.plain R K C)
    (prec : Option ContractPrecision) (q : FVec Ideal ⟨2, ![R, K]⟩ .bf16) (w : IVec ⟨3, ![1, K, C]⟩ 8)
    (hs : (⟨3, ![1, K, C]⟩ : Shape).ShapeCasts ⟨2, ![K, C]⟩) (p : Fin R) (j : Fin C) :
    matmul d prec q (sitofp (F := Ideal) .bf16 (shapeCast ⟨2, ![K, C]⟩ w hs)) (constant ⟨2, ![R, C]⟩ .f32 0x00000000#32) (ix2 p j)
      = dotR (fun k => q (ix2 p k)) (fun k => w (ix3 (0 : Fin 1) k j)) := by
  subst hd
  refine (Ideal.matmul_plain_apply prec q _ _ p j).trans ?_
  refine congrArg (_ + ·) (Finset.sum_congr rfl fun k _ => ?_)
  show _ * intR (shapeCast _ w hs (ix2 k j)) = _
  rw [shapeCast_1ab_ab_apply]

/-! ### A sum of 10240 terms is four of 2560 -/

theorem zero_val : Ideal.ofBits .f32 0x00000000#32 = 0 := by
  simpa using Ideal.ofBits_zero .f32

/-- The `i`-th of the chunk `k`. -/
def inChunk (k : Fin 4) (i : Fin 2560) : Fin 10240 := ⟨2560 * k.val + i.val, by omega⟩

theorem sum_chunks (f : Fin 10240 → EReal) : ∑ j, f j = ∑ k : Fin 4, ∑ i : Fin 2560, f (inChunk k i) := by
  rw [← Fintype.sum_prod_type' (fun (k : Fin 4) (i : Fin 2560) => f (inChunk k i))]
  refine (Fintype.sum_equiv (finProdFinEquiv (m := 4) (n := 2560)) _ f fun x => ?_).symm
  refine congrArg f (Fin.ext ?_)
  show 2560 * x.1.val + x.2.val = x.2.val + 2560 * x.1.val
  omega

theorem dot_chunks (q : Fin 10240 → EReal) (w : Fin 10240 → BitVec 8) :
    Ideal.ofBits .f32 0x00000000#32 + dotR (fun i => q (inChunk 0 i)) (fun i => w (inChunk 0 i)) + dotR (fun i => q (inChunk 1 i)) (fun i => w (inChunk 1 i))
      + dotR (fun i => q (inChunk 2 i)) (fun i => w (inChunk 2 i)) + dotR (fun i => q (inChunk 3 i)) (fun i => w (inChunk 3 i)) = dotR q w := by
  unfold dotR
  rw [sum_chunks, Fin.sum_univ_four, zero_val]
  simp only [zero_add]

/-! ### Row maxima -/

theorem bits_neg_inf : Ideal.ofBits .f32 0xFF800000#32 = ⊥ := by simp [Ideal.ofBits, Ideal.ieee]

/-- A printed product, scaled by rows and by columns, at an index. -/
theorem scaled_apply {R C : ℕ} (d : FVec Ideal ⟨2, ![R, C]⟩ .f32) (sx : FVec Ideal ⟨2, ![R, 1]⟩ .f32) (sg : FVec Ideal ⟨2, ![1, C]⟩ .f32)
    (hb : (⟨2, ![R, 1]⟩ : Shape).Broadcasts ⟨2, ![R, C]⟩) (hb' : (⟨2, ![1, C]⟩ : Shape).Broadcasts ⟨2, ![R, C]⟩) (p : Fin R) (j : Fin C) :
    mulf (mulf d (broadcastTo ⟨2, ![R, C]⟩ sx hb)) (broadcastTo ⟨2, ![R, C]⟩ sg hb') (ix2 p j)
      = d (ix2 p j) * sx (ix2 p (0 : Fin 1)) * sg (ix2 (0 : Fin 1) j) := by
  show d (ix2 p j) * broadcastTo ⟨2, ![R, C]⟩ sx hb (ix2 p j) * broadcastTo ⟨2, ![R, C]⟩ sg hb' (ix2 p j) = _
  rw [bcast_col, broadcastTo_1b_ab_apply]

/-- A printed gated product at an index. -/
theorem gated_apply {s : Shape} (g u : FVec Ideal s .f32) (i : s.Idx) :
    mulf (mulf g (mulf (broadcast s (Scalar.ofBits (F := Ideal) .f32 0x3F000000#32)) (addf (broadcast s (Scalar.ofBits (F := Ideal) .f32 0x3F800000#32))
      (tanh (mulf (broadcast s (Scalar.ofBits (F := Ideal) .f32 0x3F4C422A#32)) (addf g (mulf (broadcast s (Scalar.ofBits (F := Ideal) .f32 0x3D372713#32))
        (mulf g (mulf g g))))))))) u i = gated (g i) (u i) := rfl

theorem rowMax_le {C : ℕ} (f : Fin C → EReal) (c : EReal) : rowMax f ≤ c ↔ ∀ k, f k ≤ c := by
  unfold rowMax
  rw [Finset.fold_max_le, bits_neg_inf]
  simp

theorem abs_nonneg (a : EReal) : 0 ≤ max a (-a) := by
  rcases le_total 0 a with h | h
  · exact le_max_of_le_left h
  · exact le_max_of_le_right (EReal.neg_nonneg.mpr h)

end Cert.Spec
end
-- ==== Proof.RefSide.lean ====
module

public import proofs.«01_k».proof.Proof.Gen.ReferenceIdeal.Frame
public import proofs.«01_k».proof.Proof.Spec
@[expose] public section

set_option maxRecDepth 16000

noncomputable section

/-! ## What the reference computes is the layer's mathematics -/

namespace Cert.ReferenceIdeal.Hand

open Cert.ReferenceIdeal Cert.ReferenceIdeal.Gen Cert.Spec
open Idealize.ShloMosaic Idealize.ShloMosaic.ValueIdx

/-! ### One layer, from the blocks it loads -/

section
variable (A : Vec Ideal S1x48x2560 .f32) (n : Vec Ideal S1x2560 .f32) (WG WU : Vec Ideal S1x2560x10240 .i8) (G U : Vec Ideal S1x10240 .f32)

abbrev aRow (p : Fin 48) : Fin 2560 → EReal := fun k => A (ix3 (0 : Fin 1) p k)
abbrev nR : Fin 2560 → EReal := fun k => n (ix2 (0 : Fin 1) k)
abbrev wC (W : Vec Ideal S1x2560x10240 .i8) (j : Fin 10240) : Fin 2560 → BitVec 8 := fun k => W (ix3 (0 : Fin 1) k j)

theorem norm_ref (p : Fin 48) (k : Fin 2560) : k0_pay3 (F := Ideal) A n (ix2 p k) = normR (aRow A p) (nR n) k := by
  refine (norm_apply (shapeCast S48x2560 A shapeCasts_S1x48x2560_S48x2560) n _ _ _ _ _ _ p k).trans ?_
  refine congrArg (normR · _ k) (funext fun k => ?_)
  exact shapeCast_1ab_ab_apply A _ p k

theorem scale_ref (p : Fin 48) : k0_pay4 (F := Ideal) A n (ix2 p (0 : Fin 1)) = scaleR (normR (aRow A p) (nR n)) := by
  refine (scale_apply (absf (k0_pay3 (F := Ideal) A n)) _ _ _ _ p).trans ?_
  refine congrArg (fun f => scaleOf (rowMax f)) (funext fun k => ?_)
  show max (k0_pay3 (F := Ideal) A n (ix2 p k)) (-(k0_pay3 (F := Ideal) A n (ix2 p k))) = _
  rw [norm_ref]

theorem codes_ref (p : Fin 48) (k : Fin 2560) :
    k0_pay5 (F := Ideal) A n (ix2 p k) = codeI (normR (aRow A p) (nR n) k) (scaleR (normR (aRow A p) (nR n))) := by
  refine (congrArg (Ideal.fptosi 8) (code_apply (k0_pay3 (F := Ideal) A n) (k0_pay4 (F := Ideal) A n) _ p k)).trans ?_
  rw [norm_ref, scale_ref]; rfl

/-- A product of the codes with a weight matrix. -/
theorem dot_ref (W : Vec Ideal S1x2560x10240 .i8) (p : Fin 48) (j : Fin 10240) :
    matmul dot_S48x2560_S2560x10240_S48x10240_1_0_0_1_n_n none (sitofp (F := Ideal) .bf16 (k0_pay5 (F := Ideal) A n))
      (sitofp (F := Ideal) .bf16 (shapeCast S2560x10240 W shapeCasts_S1x2560x10240_S2560x10240)) (constant S48x10240 .f32 0x00000000#32) (ix2 p j)
      = dotR (codesR (aRow A p) (nR n)) (wC W j) := by
  refine (dot_apply _ rfl none _ W _ p j).trans ?_
  refine congrArg (dotR · _) (funext fun k => ?_)
  show intR (k0_pay5 (F := Ideal) A n (ix2 p k)) = _
  rw [codes_ref, code_back]; rfl

abbrev mmV : FVec Ideal S48x10240 .f32 := k0_pay7 (F := Ideal) (k0_pay4 A n) (k0_pay5 (F := Ideal) A n) (k0_pay6 A n WG) WU G U

theorem mm_ref (p : Fin 48) (j : Fin 10240) :
    mmV A n WG WU G U (ix2 p j) = mmR (aRow A p) (nR n) (wC WG j) (wC WU j) (G (ix2 (0 : Fin 1) j)) (U (ix2 (0 : Fin 1) j)) := by
  refine (gated_apply (mulf (mulf (k0_pay6 (F := Ideal) A n WG) (broadcastTo S48x10240 (k0_pay4 (F := Ideal) A n) broadcasts_S48x1_S48x10240))
      (broadcastTo S48x10240 G broadcasts_S1x10240_S48x10240))
    (mulf (mulf (matmul dot_S48x2560_S2560x10240_S48x10240_1_0_0_1_n_n none (sitofp (F := Ideal) .bf16 (k0_pay5 (F := Ideal) A n))
        (sitofp (F := Ideal) .bf16 (shapeCast S2560x10240 WU shapeCasts_S1x2560x10240_S2560x10240)) (constant S48x10240 .f32 0x00000000#32))
      (broadcastTo S48x10240 (k0_pay4 (F := Ideal) A n) broadcasts_S48x1_S48x10240)) (broadcastTo S48x10240 U broadcasts_S1x10240_S48x10240)) (ix2 p j)).trans ?_
  have hg : k0_pay6 (F := Ideal) A n WG (ix2 p j) = dotR (codesR (aRow A p) (nR n)) (wC WG j) := dot_ref A n WG p j
  rw [scaled_apply, scaled_apply, hg, dot_ref, scale_ref]
  rfl

theorem sd_ref (p : Fin 48) : k0_pay8 (F := Ideal) (k0_pay4 A n) (k0_pay5 (F := Ideal) A n) (k0_pay6 A n WG) WU G U (ix2 p (0 : Fin 1))
    = scaleR fun j => mmR (aRow A p) (nR n) (wC WG j) (wC WU j) (G (ix2 (0 : Fin 1) j)) (U (ix2 (0 : Fin 1) j)) := by
  refine (scale_apply (absf (mmV A n WG WU G U)) _ _ _ _ p).trans ?_
  refine congrArg (fun f => scaleOf (rowMax f)) (funext fun j => ?_)
  show max (mmV A n WG WU G U (ix2 p j)) (-(mmV A n WG WU G U (ix2 p j))) = _
  rw [mm_ref]

abbrev cdV : IVec S48x10240 8 :=
  k0_pay11 (k0_pay9 (F := Ideal) (k0_pay4 A n) (k0_pay5 (F := Ideal) A n) (k0_pay6 A n WG) WU G U) 127#32 (k0_pay10 (F := Ideal))

theorem cd_ref (p : Fin 48) (j : Fin 10240) : cdV A n WG WU G U (ix2 p j)
    = codeI (mmR (aRow A p) (nR n) (wC WG j) (wC WU j) (G (ix2 (0 : Fin 1) j)) (U (ix2 (0 : Fin 1) j)))
      (scaleR fun j => mmR (aRow A p) (nR n) (wC WG j) (wC WU j) (G (ix2 (0 : Fin 1) j)) (U (ix2 (0 : Fin 1) j))) := by
  refine (congrArg (Ideal.fptosi 8) (code_apply (mmV A n WG WU G U)
    (k0_pay8 (F := Ideal) (k0_pay4 A n) (k0_pay5 (F := Ideal) A n) (k0_pay6 A n WG) WU G U) _ p j)).trans ?_
  rw [mm_ref, sd_ref]; rfl

/-! ### The down projection and the layer's result -/

variable (WD : Vec Ideal S1x10240x2560 .i8) (D M : Vec Ideal S1x2560 .f32)

abbrev mmRow (p : Fin 48) : Fin 10240 → EReal := fun j => mmR (aRow A p) (nR n) (wC WG j) (wC WU j) (G (ix2 (0 : Fin 1) j)) (U (ix2 (0 : Fin 1) j))
abbrev wD (k : Fin 2560) : Fin 10240 → BitVec 8 := fun j => WD (ix3 (0 : Fin 1) j k)

abbrev downV : FVec Ideal S48x2560 .f32 :=
  mulf (mulf (matmul dot_S48x10240_S10240x2560_S48x2560_1_0_0_1_n_n none (sitofp (F := Ideal) .bf16 (cdV A n WG WU G U))
      (sitofp (F := Ideal) .bf16 (shapeCast S10240x2560 WD shapeCasts_S1x10240x2560_S10240x2560)) (constant S48x2560 .f32 0x00000000#32))
    (broadcastTo S48x2560 (k0_pay8 (F := Ideal) (k0_pay4 A n) (k0_pay5 (F := Ideal) A n) (k0_pay6 A n WG) WU G U) broadcasts_S48x1_S48x2560))
    (broadcastTo S48x2560 D broadcasts_S1x2560_S48x2560)

theorem down_dot (p : Fin 48) (k : Fin 2560) :
    matmul dot_S48x10240_S10240x2560_S48x2560_1_0_0_1_n_n none (sitofp (F := Ideal) .bf16 (cdV A n WG WU G U))
      (sitofp (F := Ideal) .bf16 (shapeCast S10240x2560 WD shapeCasts_S1x10240x2560_S10240x2560)) (constant S48x2560 .f32 0x00000000#32) (ix2 p k)
      = dotR (fun j => code (mmRow A n WG WU G U p j) (scaleR (mmRow A n WG WU G U p))) (wD WD k) := by
  refine (dot_apply (R := 48) (K := 10240) (C := 2560) _ rfl none (sitofp (F := Ideal) .bf16 (cdV A n WG WU G U)) WD _ p k).trans ?_
  refine congrArg (fun q => dotR q (wD WD k)) (funext fun j => ?_)
  refine (congrArg intR (cd_ref A n WG WU G U p j)).trans ?_
  exact code_back _ _

theorem down_ref (p : Fin 48) (k : Fin 2560) :
    downV A n WG WU G U WD D (ix2 p k) = downR (mmRow A n WG WU G U p) (wD WD k) (D (ix2 (0 : Fin 1) k)) := by
  refine (scaled_apply (matmul dot_S48x10240_S10240x2560_S48x2560_1_0_0_1_n_n none (sitofp (F := Ideal) .bf16 (cdV A n WG WU G U))
      (sitofp (F := Ideal) .bf16 (shapeCast S10240x2560 WD shapeCasts_S1x10240x2560_S10240x2560)) (constant S48x2560 .f32 0x00000000#32))
    (k0_pay8 (F := Ideal) (k0_pay4 A n) (k0_pay5 (F := Ideal) A n) (k0_pay6 A n WG) WU G U) D _ _ p k).trans ?_
  rw [sd_ref, down_dot]
  rfl

abbrev yV : FVec Ideal S48x2560 .bf16 :=
  k0_pay16 (k0_pay2 (F := Ideal) A) (k0_pay14 (F := Ideal) (k0_pay8 (F := Ideal) (k0_pay4 A n) (k0_pay5 (F := Ideal) A n) (k0_pay6 A n WG) WU G U)
    (k0_pay9 (F := Ideal) (k0_pay4 A n) (k0_pay5 (F := Ideal) A n) (k0_pay6 A n WG) WU G U) 127#32 (k0_pay10 (F := Ideal)) WD D) (k0_pay15 (F := Ideal) M)

theorem y_ref (p : Fin 48) (k : Fin 2560) : yV A n WG WU G U WD D M (ix2 p k)
    = aRow A p k + normR (fun k => downR (mmRow A n WG WU G U p) (wD WD k) (D (ix2 (0 : Fin 1) k))) (nR M) k := by
  refine (congrArg₂ (fun a b : EReal => a + b) (shapeCast_1ab_ab_apply A shapeCasts_S1x48x2560_S48x2560 p k)
    (norm_apply (downV A n WG WU G U WD D) M _ _ _ _ _ broadcasts_S1x2560_S48x2560 p k)).trans ?_
  refine congrArg (fun f => aRow A p k + normR f (nR M) k) (funext fun k => ?_)
  exact down_ref A n WG WU G U WD D p k

/-! ### Scales are transposed to be stored -/

theorem tr12 (v : FVec Ideal S48x1 .f32) (p : Fin 48) : k0_pay12 v (ix2 (0 : Fin 1) p) = v (ix2 p (0 : Fin 1)) :=
  transpose_ix2_apply v transposes_S48x1_p1_0_S1x48 (0 : Fin 1) p
theorem tr13 (v : FVec Ideal S48x1 .f32) (p : Fin 48) : k0_pay13 v (ix2 (0 : Fin 1) p) = v (ix2 p (0 : Fin 1)) := tr12 v p
theorem tr29 (v : FVec Ideal S48x1 .f32) (p : Fin 48) : k0_pay29 v (ix2 (0 : Fin 1) p) = v (ix2 p (0 : Fin 1)) := tr12 v p

/-! ### The second layer is spelt in other pieces, the same text put together -/

theorem sf1_eq : k0_pay19 (F := Ideal) A n = k0_pay4 A n := rfl
theorem cf1_eq : k0_pay20 (F := Ideal) A n = k0_pay5 A n := rfl
theorem sd1_eq : k0_pay27 (k0_pay24 (k0_pay19 A n) (k0_pay20 (F := Ideal) A n) (k0_pay21 A n) WG WU G U) (k0_pay25 (k0_pay19 A n) (k0_pay20 (F := Ideal) A n) (k0_pay21 A n) WG WU G U) (k0_pay26 (F := Ideal))
    = k0_pay8 (F := Ideal) (k0_pay4 A n) (k0_pay5 (F := Ideal) A n) (k0_pay6 A n WG) WU G U := rfl
theorem cd1_eq : k0_pay28 (k0_pay22 (k0_pay19 A n) (k0_pay20 (F := Ideal) A n) (k0_pay21 A n) WG WU G U) (k0_pay24 (k0_pay19 A n) (k0_pay20 (F := Ideal) A n) (k0_pay21 A n) WG WU G U) (k0_pay25 (k0_pay19 A n) (k0_pay20 (F := Ideal) A n) (k0_pay21 A n) WG WU G U)
    (k0_pay26 (F := Ideal)) = cdV A n WG WU G U := rfl
theorem y1_eq : k0_pay1 (k0_pay17 (F := Ideal) A) (k0_pay31 (k0_pay22 (k0_pay19 A n) (k0_pay20 (F := Ideal) A n) (k0_pay21 A n) WG WU G U)
    (k0_pay24 (k0_pay19 A n) (k0_pay20 (F := Ideal) A n) (k0_pay21 A n) WG WU G U) (k0_pay25 (k0_pay19 A n) (k0_pay20 (F := Ideal) A n) (k0_pay21 A n) WG WU G U) (k0_pay26 (F := Ideal)) WD D) M
    = yV A n WG WU G U WD D M := rfl
theorem tr30 (b : IVec S48x1 1) (v w : FVec Ideal S48x1 .f32) (p : Fin 48) :
    k0_pay30 b v w (ix2 (0 : Fin 1) p) = k0_pay27 b v w (ix2 p (0 : Fin 1)) := tr12 (k0_pay27 b v w) p
end

/-! ### The blocks a layer loads -/

theorem ld_x0 (X : Vec Ideal S2x48x2560 .f32) (p : Fin 48) : aRow (View.ld X r0_0) p = xRow X 0 p := by
  funext k; refine congrArg X ?_; funext a; apply Fin.ext; fin_cases a <;> simp [ix3]
theorem ld_x1 (X : Vec Ideal S2x48x2560 .f32) (p : Fin 48) : aRow (View.ld X r0_8) p = xRow X 1 p := by
  funext k; refine congrArg X ?_; funext a; apply Fin.ext; fin_cases a <;> simp [ix3]
theorem ld_n0 (N : Vec Ideal S2x2560 .f32) : nR (View.ld N r0_1) = nRow N 0 := by
  funext k; refine congrArg N ?_; funext a; apply Fin.ext; fin_cases a <;> simp [ix2]
theorem ld_n1 (N : Vec Ideal S2x2560 .f32) : nR (View.ld N r0_9) = nRow N 1 := by
  funext k; refine congrArg N ?_; funext a; apply Fin.ext; fin_cases a <;> simp [ix2]
theorem ld_w0 (W : Vec Ideal S2x2560x10240 .i8) (j : Fin 10240) : wC (View.ld W r0_2) j = wCol 0 W j := by
  funext k; refine congrArg W ?_; funext a; apply Fin.ext; fin_cases a <;> simp [ix3]
theorem ld_w1 (W : Vec Ideal S2x2560x10240 .i8) (j : Fin 10240) : wC (View.ld W r0_10) j = wCol 1 W j := by
  funext k; refine congrArg W ?_; funext a; apply Fin.ext; fin_cases a <;> simp [ix3]
theorem ld_s0 (G : Vec Ideal S2x10240 .f32) (j : Fin 10240) : (View.ld G r0_3 : Vec Ideal S1x10240 .f32) (ix2 (0 : Fin 1) j) = G (ix2 (0 : Fin 2) j) := by
  refine congrArg G ?_; funext a; apply Fin.ext; fin_cases a <;> simp [ix2]
theorem ld_s1 (G : Vec Ideal S2x10240 .f32) (j : Fin 10240) : (View.ld G r0_11 : Vec Ideal S1x10240 .f32) (ix2 (0 : Fin 1) j) = G (ix2 (1 : Fin 2) j) := by
  refine congrArg G ?_; funext a; apply Fin.ext; fin_cases a <;> simp [ix2]
theorem ld_d0 (W : Vec Ideal S2x10240x2560 .i8) (k : Fin 2560) : wD (View.ld W r0_7) k = wColD 0 W k := by
  funext j; refine congrArg W ?_; funext a; apply Fin.ext; fin_cases a <;> simp [ix3]
theorem ld_d1 (W : Vec Ideal S2x10240x2560 .i8) (k : Fin 2560) : wD (View.ld W r0_12) k = wColD 1 W k := by
  funext j; refine congrArg W ?_; funext a; apply Fin.ext; fin_cases a <;> simp [ix3]
theorem ld_e0 (D : Vec Ideal S2x2560 .f32) (k : Fin 2560) : (View.ld D r0_1 : Vec Ideal S1x2560 .f32) (ix2 (0 : Fin 1) k) = D (ix2 (0 : Fin 2) k) := by
  refine congrArg D ?_; funext a; apply Fin.ext; fin_cases a <;> simp [ix2]
theorem ld_e1 (D : Vec Ideal S2x2560 .f32) (k : Fin 2560) : (View.ld D r0_9 : Vec Ideal S1x2560 .f32) (ix2 (0 : Fin 1) k) = D (ix2 (1 : Fin 2) k) := by
  refine congrArg D ?_; funext a; apply Fin.ext; fin_cases a <;> simp [ix2]

/-! ### The results -/

section
variable (a0 : Vec Ideal S2x48x2560 .f32) (a1 a2 : Vec Ideal S2x10240 .f32) (a3 a4 a5 : Vec Ideal S2x2560 .f32) (a6 a7 : Vec Ideal S2x2560x10240 .i8)
  (a8 : Vec Ideal S2x10240x2560 .i8) (p : Fin 48)

theorem cf0_val (k : Fin 2560) : k0_pay33 (F := Ideal) a0 a1 a2 a3 a4 a5 a6 a7 a8 (ix2 p k) = cfS a0 a4 0 p k := by
  refine (codes_ref _ _ p k).trans ?_
  rw [ld_x0, ld_n0]; rfl

theorem sf0_val : k0_pay12 (k0_pay32 (F := Ideal) a0 a1 a2 a3 a4 a5 a6 a7 a8) (ix2 (0 : Fin 1) p) = sfS a0 a4 0 p := by
  refine (tr12 _ p).trans ((scale_ref _ _ p).trans ?_)
  rw [ld_x0, ld_n0]; rfl

theorem cd0_val (j : Fin 10240) : k0_pay11 (k0_pay36 (F := Ideal) a0 a1 a2 a3 a4 a5 a6 a7 a8) 127#32 (k0_pay10 (F := Ideal)) (ix2 p j) = cdS a0 a4 a6 a7 a1 a2 0 p j := by
  refine (cd_ref (View.ld a0 r0_0) (View.ld a4 r0_1) (View.ld a6 r0_2) (View.ld a7 r0_2) (View.ld a1 r0_3) (View.ld a2 r0_3) p j).trans ?_
  rw [ld_x0, ld_n0]; simp only [ld_w0, ld_s0 a1, ld_s0 a2]; rfl

theorem sd0_val : k0_pay13 (k0_pay35 (F := Ideal) a0 a1 a2 a3 a4 a5 a6 a7 a8) (ix2 (0 : Fin 1) p) = sdS a0 a4 a6 a7 a1 a2 0 p := by
  refine (tr13 _ p).trans ((sd_ref (View.ld a0 r0_0) (View.ld a4 r0_1) (View.ld a6 r0_2) (View.ld a7 r0_2) (View.ld a1 r0_3) (View.ld a2 r0_3) p).trans ?_)
  rw [ld_x0, ld_n0]; simp only [ld_w0, ld_s0 a1, ld_s0 a2]; rfl

theorem y0_val (k : Fin 2560) : k0_pay16 (k0_pay2 (F := Ideal) (View.ld a0 r0_0)) (k0_pay14 (k0_pay35 (F := Ideal) a0 a1 a2 a3 a4 a5 a6 a7 a8) (k0_pay36 (F := Ideal) a0 a1 a2 a3 a4 a5 a6 a7 a8) 127#32 (k0_pay10 (F := Ideal))
    (View.ld a8 r0_7) (View.ld a3 r0_1)) (k0_pay15 (F := Ideal) (View.ld a5 r0_1)) (ix2 p k) = yS a0 a4 a6 a7 a1 a2 0 a3 a5 a8 p k := by
  refine (y_ref (View.ld a0 r0_0) (View.ld a4 r0_1) (View.ld a6 r0_2) (View.ld a7 r0_2) (View.ld a1 r0_3) (View.ld a2 r0_3)
    (View.ld a8 r0_7) (View.ld a3 r0_1) (View.ld a5 r0_1) p k).trans ?_
  unfold mmRow
  rw [ld_x0, ld_n0, ld_n0]; simp only [ld_w0, ld_d0, ld_s0 a1, ld_s0 a2, ld_e0 a3]; rfl

theorem cf1_val (k : Fin 2560) : k0_pay38 (F := Ideal) a0 a1 a2 a3 a4 a5 a6 a7 a8 (ix2 p k) = cfS a0 a4 1 p k := by
  refine (congrFun (cf1_eq _ _) (ix2 p k)).trans ((codes_ref _ _ p k).trans ?_)
  rw [ld_x1, ld_n1]; rfl

theorem sf1_val : k0_pay29 (k0_pay37 (F := Ideal) a0 a1 a2 a3 a4 a5 a6 a7 a8) (ix2 (0 : Fin 1) p) = sfS a0 a4 1 p := by
  refine (tr29 _ p).trans ((congrFun (sf1_eq _ _) _).trans ((scale_ref _ _ p).trans ?_))
  rw [ld_x1, ld_n1]; rfl

theorem cd1_val (j : Fin 10240) : k0_pay28 (k0_pay40 (F := Ideal) a0 a1 a2 a3 a4 a5 a6 a7 a8) (k0_pay41 (F := Ideal) a0 a1 a2 a3 a4 a5 a6 a7 a8) (k0_pay42 (F := Ideal) a0 a1 a2 a3 a4 a5 a6 a7 a8) (k0_pay43 (F := Ideal) a0 a1 a2 a3 a4 a5 a6 a7 a8) (ix2 p j)
    = cdS a0 a4 a6 a7 a1 a2 1 p j := by
  refine (congrFun (cd1_eq (View.ld a0 r0_8) (View.ld a4 r0_9) (View.ld a6 r0_10) (View.ld a7 r0_10) (View.ld a1 r0_11) (View.ld a2 r0_11)) (ix2 p j)).trans ((cd_ref _ _ _ _ _ _ p j).trans ?_)
  rw [ld_x1, ld_n1]; simp only [ld_w1, ld_s1 a1, ld_s1 a2]; rfl

theorem sd1_val : k0_pay30 (k0_pay41 (F := Ideal) a0 a1 a2 a3 a4 a5 a6 a7 a8) (k0_pay42 (F := Ideal) a0 a1 a2 a3 a4 a5 a6 a7 a8) (k0_pay43 (F := Ideal) a0 a1 a2 a3 a4 a5 a6 a7 a8) (ix2 (0 : Fin 1) p) = sdS a0 a4 a6 a7 a1 a2 1 p := by
  refine (tr30 _ _ _ p).trans ((congrFun (sd1_eq (View.ld a0 r0_8) (View.ld a4 r0_9) (View.ld a6 r0_10) (View.ld a7 r0_10) (View.ld a1 r0_11) (View.ld a2 r0_11)) _).trans ((sd_ref _ _ _ _ _ _ p).trans ?_))
  rw [ld_x1, ld_n1]; simp only [ld_w1, ld_s1 a1, ld_s1 a2]; rfl

theorem y1_val (k : Fin 2560) : k0_pay1 (k0_pay17 (F := Ideal) (View.ld a0 r0_8)) (k0_pay31 (k0_pay40 (F := Ideal) a0 a1 a2 a3 a4 a5 a6 a7 a8) (k0_pay41 (F := Ideal) a0 a1 a2 a3 a4 a5 a6 a7 a8) (k0_pay42 (F := Ideal) a0 a1 a2 a3 a4 a5 a6 a7 a8) (k0_pay43 (F := Ideal) a0 a1 a2 a3 a4 a5 a6 a7 a8) (View.ld a8 r0_12) (View.ld a3 r0_9))
    (View.ld a5 r0_9) (ix2 p k) = yS a0 a4 a6 a7 a1 a2 1 a3 a5 a8 p k := by
  refine (congrFun (y1_eq (View.ld a0 r0_8) (View.ld a4 r0_9) (View.ld a6 r0_10) (View.ld a7 r0_10) (View.ld a1 r0_11) (View.ld a2 r0_11)
    (View.ld a8 r0_12) (View.ld a3 r0_9) (View.ld a5 r0_9)) (ix2 p k)).trans ((y_ref _ _ _ _ _ _ _ _ _ p k).trans ?_)
  unfold mmRow
  rw [ld_x1, ld_n1, ld_n1]; simp only [ld_w1, ld_d1, ld_s1 a1, ld_s1 a2, ld_e1 a3]; rfl
end

end Cert.ReferenceIdeal.Hand
end
-- ==== Proof.Ideal.Common.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands: whole arrays and whole buffers -/

abbrev mX : Memref sig .tc .hbm S2x48x2560 .f32 := Memref.whole main_arg0
abbrev mSg : Memref sig .tc .hbm S2x10240 .f32 := Memref.whole main_arg2
abbrev mSu : Memref sig .tc .hbm S2x10240 .f32 := Memref.whole main_arg4
abbrev mSd : Memref sig .tc .hbm S2x2560 .f32 := Memref.whole main_arg6
abbrev mN3 : Memref sig .tc .hbm S2x2560 .f32 := Memref.whole main_arg7
abbrev mN4 : Memref sig .tc .hbm S2x2560 .f32 := Memref.whole main_arg8
abbrev mWg : Memref sig .tc .hbm S2x2560x10240 .i8 := Memref.whole main_arg1
abbrev mWu : Memref sig .tc .hbm S2x2560x10240 .i8 := Memref.whole main_arg3
abbrev mWd : Memref sig .tc .hbm S2x10240x2560 .i8 := Memref.whole main_arg5
abbrev oY0 : Memref sig .tc .hbm S48x2560 .bf16 := Memref.whole main_v0_0
abbrev oY1 : Memref sig .tc .hbm S48x2560 .bf16 := Memref.whole main_v0_1
abbrev oCf0 : Memref sig .tc .hbm S48x2560 .i8 := Memref.whole main_v0_2
abbrev oSf0 : Memref sig .tc .hbm S1x48 .f32 := Memref.whole main_v0_3
abbrev oCd0 : Memref sig .tc .hbm S48x10240 .i8 := Memref.whole main_v0_4
abbrev oSd0 : Memref sig .tc .hbm S1x48 .f32 := Memref.whole main_v0_5
abbrev oCf1 : Memref sig .tc .hbm S48x2560 .i8 := Memref.whole main_v0_6
abbrev oSf1 : Memref sig .tc .hbm S1x48 .f32 := Memref.whole main_v0_7
abbrev oCd1 : Memref sig .tc .hbm S48x10240 .i8 := Memref.whole main_v0_8
abbrev oSd1 : Memref sig .tc .hbm S1x48 .f32 := Memref.whole main_v0_9
abbrev vX : Memref sig .tc .vmem S2x48x2560 .f32 := Memref.whole cc0_scratch0
abbrev vSg : Memref sig .tc .vmem S2x10240 .f32 := Memref.whole cc0_scratch1
abbrev vSu : Memref sig .tc .vmem S2x10240 .f32 := Memref.whole cc0_scratch2
abbrev vSd : Memref sig .tc .vmem S2x2560 .f32 := Memref.whole cc0_scratch3
abbrev vN3 : Memref sig .tc .vmem S2x2560 .f32 := Memref.whole cc0_scratch4
abbrev vN4 : Memref sig .tc .vmem S2x2560 .f32 := Memref.whole cc0_scratch5
abbrev vW : Memref sig .tc .vmem S8x2560x1024 .i8 := Memref.whole cc0_scratch6
abbrev vH : Memref sig .tc .vmem S48x2560 .f32 := Memref.whole cc0_scratch7
abbrev vXc : Memref sig .tc .vmem S48x2560 .bf16 := Memref.whole cc0_scratch8
abbrev vSx : Memref sig .tc .vmem S48x128 .f32 := Memref.whole cc0_scratch9
abbrev vO : Memref sig .tc .vmem S48x2560 .f32 := Memref.whole cc0_scratch10
abbrev vMm : Memref sig .tc .vmem S48x10240 .f32 := Memref.whole cc0_scratch11
abbrev vDc : Memref sig .tc .vmem S48x10240 .bf16 := Memref.whole cc0_scratch12
abbrev vAm : Memref sig .tc .vmem S48x128 .f32 := Memref.whole cc0_scratch13
abbrev vCf : Memref sig .tc .vmem S48x2560 .i8 := Memref.whole cc0_scratch14
abbrev vCd : Memref sig .tc .vmem S48x10240 .i8 := Memref.whole cc0_scratch15
abbrev vSc : Memref sig .tc .vmem S2x1x48 .f32 := Memref.whole cc0_scratch16
abbrev vY : Memref sig .tc .vmem S48x2560 .bf16 := Memref.whole cc0_scratch17

/-! ## What is held of them -/

/-- The contents of the buffer behind a memref. -/
abbrev BufOf (F : FTy → Type) (c : Dev nD) {sp : Space} {S : Shape} {e : EltTy} (M : Memref sig .tc sp S e) : Type :=
  Buf (Elt F) (M.view.loc (c : Thread nD τ))

/-- A whole buffer at given contents. -/
abbrev pt (c : Dev nD) {sp : Space} {S : Shape} {e : EltTy} (M : Memref sig .tc sp S e) (f : BufOf F c M) : sProp 𝕄 :=
  M.view.loc (c : Thread nD τ) ↦{fullShare} f

/-- One of the eight slots of the weight ring. -/
theorem inbSlot (s : Fin 8) : ∀ a, (![s.val, 0, 0] : Fin 3 → ℕ) a + S1x2560x1024.size a ≤ S8x2560x1024.size a := by
  revert s; decide

abbrev slotW (s : Fin 8) : Memref sig .tc .vmem S2560x1024 .i8 :=
  (vW.slice (Rect.unit (s := S8x2560x1024) ![s.val, 0, 0] S1x2560x1024.size (inbSlot s)) (fun _ => rfl)).squeeze S2560x1024 squeezes_S1x2560x1024_S2560x1024

/-- A slot of the ring at given contents of the ring's buffer. -/
abbrev slotPt (c : Dev nD) (s : Fin 8) (f : BufOf F c vW) : sProp 𝕄 :=
  (slotW s).view.loc (c : Thread nD τ) ↦[(slotW s).view.set]{fullShare} f

/-- A read share of an array, one per slot that is filled from it. -/
abbrev tokPt (c : Dev nD) {sp : Space} {S : Shape} {e : EltTy} (M : Memref sig .tc sp S e) (i : ℕ) (f : BufOf F c M) : sProp 𝕄 :=
  M.view.loc (c : Thread nD τ) ↦{Transfers.shareTokN fullShare i} f

/-- The block of 1024 columns of a weight array that one transfer brings. -/
theorem inbBlk (l : Fin 2) (i : Fin 10) : ∀ a, (![l.val, 0, 1024 * i.val] : Fin 3 → ℕ) a + S1x2560x1024.size a ≤ S2x2560x10240.size a := by
  revert l i; decide

abbrev blkOf (M : Memref sig .tc .hbm S2x2560x10240 .i8) (l : Fin 2) (i : Fin 10) : Memref sig .tc .hbm S2560x1024 .i8 :=
  (M.slice (Rect.unit (s := S2x2560x10240) ![l.val, 0, 1024 * i.val] S1x2560x1024.size (inbBlk l i)) (fun _ => rfl)).squeeze S2560x1024 squeezes_S1x2560x1024_S2560x1024

/-- A transfer of block `(l, i)` of a weight array into slot `s` in flight, with what is left of the slot's read share. -/
abbrev flying (c : Dev nD) (M : Memref sig .tc .hbm S2x2560x10240 .i8) (s : Fin 8) (g : Fin 14) (l : Fin 2) (i : Fin 10)
    (w : BufOf F c M) (f : BufOf F c vW) : sProp 𝕄 :=
  iprop(Transfers.Flight (countersEmb (U := Pipeline.UD sig nD τ)) (c : Thread nD τ) (SemLoc.dma g) () 81920
      iprop(slotPt c s f ∗ ((blkOf M l i).view.loc (c : Thread nD τ) ↦[(blkOf M l i).view.set]{Transfers.shareTokN fullShare g.val} w))
    ∗ ((blkOf M l i).view.loc (c : Thread nD τ) ↦[Finset.univ \ (blkOf M l i).view.set]{Transfers.shareTokN fullShare g.val} w))

/-- Half a slot: 512 of its 1024 columns. -/
theorem inbHalf (s : Fin 8) (h : Fin 2) : ∀ a, (![s.val, 0, 512 * h.val] : Fin 3 → ℕ) a + S1x2560x512.size a ≤ S8x2560x1024.size a := by
  revert s h; decide

abbrev halfW (s : Fin 8) (h : Fin 2) : Memref sig .tc .vmem S2560x512 .i8 :=
  (vW.slice (Rect.unit (s := S8x2560x1024) ![s.val, 0, 512 * h.val] S1x2560x512.size (inbHalf s h)) (fun _ => rfl)).squeeze S2560x512 squeezes_S1x2560x512_S2560x512

/-- Half a slot at given contents of the ring's buffer. -/
abbrev halfPt (c : Dev nD) (s : Fin 8) (h : Fin 2) (f : BufOf F c vW) : sProp 𝕄 :=
  (halfW s h).view.loc (c : Thread nD τ) ↦[(halfW s h).view.set]{fullShare} f

/-- The block of the down weights (2560 rows, 512 columns) that one transfer brings. -/
theorem inbBlkD (l : Fin 2) (n : Fin 5) (k : Fin 4) : ∀ a, (![l.val, 2560 * k.val, 512 * n.val] : Fin 3 → ℕ) a + S1x2560x512.size a ≤ S2x10240x2560.size a := by
  revert l n k; decide

abbrev blkD (l : Fin 2) (n : Fin 5) (k : Fin 4) : Memref sig .tc .hbm S2560x512 .i8 :=
  (mWd.slice (Rect.unit (s := S2x10240x2560) ![l.val, 2560 * k.val, 512 * n.val] S1x2560x512.size (inbBlkD l n k)) (fun _ => rfl)).squeeze S2560x512 squeezes_S1x2560x512_S2560x512

/-- Two blocks of the down weights, rows `k` and `k + 1` of blocks, fill the halves of one slot, -/
abbrev rowD (k : Fin 2) (h : Fin 2) : Fin 4 := ⟨2 * k.val + h.val, by omega⟩

abbrev landedD (c : Dev nD) (s : Fin 8) (h : Fin 2) (f : BufOf F c vW) (l : Fin 2) (n : Fin 5) (k : Fin 2) (w : BufOf F c mWd) : BufOf F c vW :=
  (halfW s h).view.writes (Elt F) f [⟨Rect.whole S2560x512, ReadAs.same.apply (View.read (Elt F) (blkD l n (rowD k h)).view w)⟩]

/-- each reading the array by a share of its own. -/
abbrev tokD (g : Fin 14) (h : Fin 2) : ℕ := 2 * g.val + h.val + 7

/-- The two transfers are of the same amount, -/
abbrev AD : Fin 2 → ℕ := ![40960, 40960]

/-- and this is what they deliver. -/
def delivD (c : Dev nD) (s : Fin 8) (g : Fin 14) (f : BufOf F c vW) (l : Fin 2) (n : Fin 5) (k : Fin 2) (w : BufOf F c mWd) : Fin 2 → sProp 𝕄
  | 0 => iprop(halfPt c s 0 (landedD c s 0 f l n k w) ∗ ((blkD l n (rowD k 0)).view.loc (c : Thread nD τ) ↦[(blkD l n (rowD k 0)).view.set]{Transfers.shareTokN fullShare (tokD g 0)} w))
  | 1 => iprop(halfPt c s 1 (landedD c s 1 f l n k w) ∗ ((blkD l n (rowD k 1)).view.loc (c : Thread nD τ) ↦[(blkD l n (rowD k 1)).view.set]{Transfers.shareTokN fullShare (tokD g 1)} w))

instance delivD_storable (c : Dev nD) (s : Fin 8) (g : Fin 14) (f : BufOf F c vW) (l : Fin 2) (n : Fin 5) (k : Fin 2) (w : BufOf F c mWd) (t : Fin 2) :
    Storable (upEmb : UEmb _ 𝕄) (delivD c s g f l n k w t) := by
  fin_cases t <;> simp only [delivD] <;> infer_instance

/-- Both transfers in flight, with what is left of their read shares. -/
abbrev flyingD (c : Dev nD) (s : Fin 8) (g : Fin 14) (f : BufOf F c vW) (l : Fin 2) (n : Fin 5) (k : Fin 2) (w : BufOf F c mWd) : sProp 𝕄 :=
  iprop(Transfers.MixedBatch (countersEmb (U := Pipeline.UD sig nD τ)) (c : Thread nD τ) (SemLoc.dma g) () AD (delivD c s g f l n k w) 2 0
    ∗ ((blkD l n (rowD k 0)).view.loc (c : Thread nD τ) ↦[Finset.univ \ (blkD l n (rowD k 0)).view.set]{Transfers.shareTokN fullShare (tokD g 0)} w)
    ∗ ((blkD l n (rowD k 1)).view.loc (c : Thread nD τ) ↦[Finset.univ \ (blkD l n (rowD k 1)).view.set]{Transfers.shareTokN fullShare (tokD g 1)} w))

abbrev body2 (k0_t1 : Fin k0_t1_loop.trips) (arg44 v225 : BitVec 32) (v385 : FVec F S1x48 .f32) :=
  k0_t2_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24 k0_t1 arg44 v225 v385

abbrev body4 (k0_t1 : Fin k0_t1_loop.trips) (arg44 v225 : BitVec 32) (x y : FVec F S48x1 .f32) :=
  k0_t4_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24 k0_t1 arg44 v225 x y

end Cert.KernelIdeal.Hand
end
-- ==== Proof.Ideal.Slots.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.Common
public import Idealize.ShloMosaic.Lib.VecWindow
public import Idealize.ShloMosaic.Lib.ValueLayout
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What a slot of the ring holds after a transfer -/

/-- Slot `s` holds block `(l, i)` of a weight array. -/
def Holds (c : Dev nD) (s : Fin 8) (f : BufOf F c vW) (M : Memref sig .tc .hbm S2x2560x10240 .i8) (w : BufOf F c M) (l : Fin 2)
    (i : Fin 10) : Prop :=
  ∀ x : S1x2560x1024.Idx, vW.view.read (Elt F) f ((Rect.unit (s := S8x2560x1024) ![s.val, 0, 0] S1x2560x1024.size (inbSlot s)).emb x)
    = M.view.read (Elt F) w ((Rect.unit (s := S2x2560x10240) ![l.val, 0, 1024 * i.val] S1x2560x1024.size (inbBlk l i)).emb x)

/-- A transfer that has landed leaves its block in its slot. -/
theorem holds_landed (c : Dev nD) (s : Fin 8) (f : BufOf F c vW) (M : Memref sig .tc .hbm S2x2560x10240 .i8) (w : BufOf F c M)
    (l : Fin 2) (i : Fin 10) :
    Holds c s ((slotW s).view.writes (Elt F) f [⟨Rect.whole S2560x1024, ReadAs.same.apply (View.read (Elt F) (blkOf M l i).view w)⟩])
      M w l i := by
  intro x
  have h1 := View.read_writes_whole (slotW s).view f (View.read (Elt F) (blkOf M l i).view w)
  have h2 := congrFun h1 ((Shape.reshapeEquiv (squeezes_S1x2560x1024_S2560x1024).numel_eq).symm x)
  have e : (Shape.reshapeEquiv (squeezes_S1x2560x1024_S2560x1024).numel_eq) ((Shape.reshapeEquiv (squeezes_S1x2560x1024_S2560x1024).numel_eq).symm x) = x := by simp
  exact (congrArg (fun z => vW.view.read (Elt F) _ ((Rect.unit (s := S8x2560x1024) ![s.val, 0, 0] S1x2560x1024.size (inbSlot s)).emb z)) e).symm.trans
    (h2.trans (congrArg (fun z => M.view.read (Elt F) w ((Rect.unit (s := S2x2560x10240) ![l.val, 0, 1024 * i.val] S1x2560x1024.size (inbBlk l i)).emb z)) e))

/-- `holds_landed` with the block's offsets spelt any way. -/
theorem holds_landed' (c : Dev nD) (s : Fin 8) (f : BufOf F c vW) (M : Memref sig .tc .hbm S2x2560x10240 .i8) (w : BufOf F c M)
    (l : Fin 2) (i : Fin 10) (off : Fin 3 → ℕ) (inb : ∀ a, off a + S1x2560x1024.size a ≤ S2x2560x10240.size a)
    (h : off = ![l.val, 0, 1024 * i.val]) :
    Holds c s ((slotW s).view.writes (Elt F) f [⟨Rect.whole S2560x1024, ReadAs.same.apply (View.read (Elt F)
      ((M.slice (Rect.unit (s := S2x2560x10240) off S1x2560x1024.size inb) (fun _ => rfl)).squeeze S2560x1024
        squeezes_S1x2560x1024_S2560x1024).view w)⟩]) M w l i := by
  subst h
  exact holds_landed c s f M w l i

/-- Columns `256 q ..` of layer `l` of a weight array. -/
def wTile (w : S2x2560x10240.Idx → Elt F .i8) (l : Fin 2) (q : Fin 40) : Vec F S1x2560x256 .i8 :=
  fun y => w (ix3 l (⟨(y 1).val, (y 1).isLt⟩ : Fin 2560) (⟨256 * q.val + (y 2).val, by have := (y 2).isLt; have := q.isLt; simp at *; omega⟩ : Fin 10240))

theorem inbT (s : Fin 8) (t : Fin 4) : ∀ a, (![s.val, 0, 256 * t.val] : Fin 3 → ℕ) a + S1x2560x256.size a ≤ S8x2560x1024.size a := by
  revert s t; decide

/-- A tile loaded from a slot is the tile of the block it holds. -/
theorem tile_of_holds {c : Dev nD} {s : Fin 8} {f : BufOf F c vW} {M : Memref sig .tc .hbm S2x2560x10240 .i8} {w : BufOf F c M}
    {l : Fin 2} {i : Fin 10} (h : Holds c s f M w l i) (t : Fin 4) :
    View.readAt (Elt F) vW.view (Rect.unit (s := S8x2560x1024) ![s.val, 0, 256 * t.val] S1x2560x256.size (inbT s t)).toLoadRect f
      = wTile (M.view.read (Elt F) w) l ⟨4 * i.val + t.val, by omega⟩ := by
  funext y
  have h0 : (y 0).val = 0 := by have := (y 0).isLt; simp at this; omega
  have h2 : (y 2).val < 256 := (y 2).isLt
  have hx := h (ix3 (0 : Fin 1) (⟨(y 1).val, (y 1).isLt⟩ : Fin 2560) (⟨256 * t.val + (y 2).val, by omega⟩ : Fin 1024))
  rw [View.readAt_apply]
  refine Eq.trans (congrArg _ ?_) (hx.trans (congrArg _ ?_))
  · funext a; fin_cases a <;> apply Fin.ext <;> simp [LoadRect.idx, ix3, h0]
  · funext a; fin_cases a <;> apply Fin.ext <;> simp [ix3] <;> omega

/-! ## A slot as its two halves -/

/-- The elements of half a slot. -/
abbrev halfSet (s : Fin 8) (h : Fin 2) : Finset S8x2560x1024.Idx := (halfW s h).view.set

theorem half_set (s : Fin 8) (h : Fin 2) :
    halfSet s h = (Rect.unit (s := S8x2560x1024) ![s.val, 0, 512 * h.val] S1x2560x512.size (inbHalf s h)).set :=
  (View.set_reshape (v := (vW.slice (Rect.unit (s := S8x2560x1024) ![s.val, 0, 512 * h.val] S1x2560x512.size (inbHalf s h)) (fun _ => rfl)).view)
    (squeezes_S1x2560x512_S2560x512).numel_eq).trans (View.set_slice_whole _ _)

/-- The elements of a slot. -/
abbrev slotSet (s : Fin 8) : Finset S8x2560x1024.Idx := (slotW s).view.set

theorem slot_set (s : Fin 8) : slotSet s = (Rect.unit (s := S8x2560x1024) ![s.val, 0, 0] S1x2560x1024.size (inbSlot s)).set :=
  (View.set_reshape (v := (vW.slice (Rect.unit (s := S8x2560x1024) ![s.val, 0, 0] S1x2560x1024.size (inbSlot s)) (fun _ => rfl)).view)
    (squeezes_S1x2560x1024_S2560x1024).numel_eq).trans (View.set_slice_whole _ _)

theorem halves_disj (s : Fin 8) : Disjoint (halfSet s 0) (halfSet s 1) := by
  rw [half_set, half_set, Finset.disjoint_left]
  intro y h0 h1
  rw [Rect.mem_set_unit] at h0 h1
  have a := h0 2; have b := h1 2
  simp at a b; omega

theorem halves_cover (s : Fin 8) : halfSet s 0 ∪ halfSet s 1 = slotSet s := by
  rw [half_set, half_set, slot_set]
  ext y
  rw [Finset.mem_union, Rect.mem_set_unit, Rect.mem_set_unit, Rect.mem_set_unit]
  constructor
  · rintro (h | h) <;> intro a <;> have := h a <;> fin_cases a <;> simp at this ⊢ <;> omega
  · intro h
    have h0 := h 0; have h1 := h 1; have h2 := h 2
    simp at h0 h1 h2
    by_cases c : (y 2).val < 512
    · left; intro a; fin_cases a <;> simp <;> omega
    · right; intro a; fin_cases a <;> simp <;> omega

theorem halves_split (c : Dev nD) (s : Fin 8) (f : BufOf F c vW) :
    (slotPt c s f : sProp 𝕄) ⊢ iprop(halfPt c s 0 f ∗ halfPt c s 1 f) := by
  have h := (Idealize.ShloMosaic.pointsTo_union (Ix := Unit) (Val := Elt F) (Name := ℕ) (U := Pipeline.UD sig nD τ) (Lvl := ℕ)
    (ℓ := vW.view.loc (c : Thread nD τ)) (q := fullShare) (f := f) (halves_disj s)).1
  rw [halves_cover s] at h
  exact h

theorem halves_join (c : Dev nD) (s : Fin 8) (f g : BufOf F c vW) :
    (iprop(halfPt c s 0 f ∗ halfPt c s 1 g) : sProp 𝕄) ⊢ iprop(∃ f, slotPt c s f) := by
  have h := Idealize.ShloMosaic.pointsTo_join (Ix := Unit) (Val := Elt F) (Name := ℕ) (U := Pipeline.UD sig nD τ) (Lvl := ℕ)
    (ℓ := vW.view.loc (c : Thread nD τ)) (q := fullShare) (f := f) (g := g) (halves_disj s)
  rw [halves_cover s] at h
  iintro H
  iexists _
  iapply h
  iexact H

/-! ## The down weights in a slot -/

/-- The block of 2560 rows and 256 columns of the down weights: chunk `k` of the rows, tile `q` of the columns. -/
def dTile (w : S2x10240x2560.Idx → Elt F .i8) (l : Fin 2) (k : Fin 4) (q : Fin 10) : Vec F S1x2560x256 .i8 :=
  fun y => w (ix3 l (⟨2560 * k.val + (y 1).val, by have := (y 1).isLt; have := k.isLt; simp at *; omega⟩ : Fin 10240)
    (⟨256 * q.val + (y 2).val, by have := (y 2).isLt; have := q.isLt; simp at *; omega⟩ : Fin 2560))

/-- A tile of half a slot, as its offsets are spelt. -/
theorem inbTH (s : Fin 8) (h t : Fin 2) : ∀ a, (![s.val, 0, 512 * h.val + 256 * t.val] : Fin 3 → ℕ) a + S1x2560x256.size a ≤ S8x2560x1024.size a := by
  revert s h t; decide

/-- A tile loaded from half a slot is the tile of the block that has landed there. -/
theorem tile_of_landedD (c : Dev nD) (s : Fin 8) (h : Fin 2) (f : BufOf F c vW) (l : Fin 2) (n : Fin 5) (k : Fin 2) (w : BufOf F c mWd) (t : Fin 2) :
    View.readAt (Elt F) vW.view (Rect.unit (s := S8x2560x1024) ![s.val, 0, 512 * h.val + 256 * t.val] S1x2560x256.size (inbTH s h t)).toLoadRect
        (landedD c s h f l n k w)
      = dTile (mWd.view.read (Elt F) w) l (rowD k h) ⟨2 * n.val + t.val, by omega⟩ := by
  funext y
  have h0 : (y 0).val = 0 := by have := (y 0).isLt; simp at this; omega
  have h2 : (y 2).val < 256 := (y 2).isLt
  have hh : h.val < 2 := h.isLt
  have ht : t.val < 2 := t.isLt
  let x : S1x2560x512.Idx := ix3 (0 : Fin 1) (⟨(y 1).val, (y 1).isLt⟩ : Fin 2560) (⟨256 * t.val + (y 2).val, by omega⟩ : Fin 512)
  have h1 := View.read_writes_whole (halfW s h).view f (View.read (Elt F) (blkD l n (rowD k h)).view w)
  have hx0 := congrFun h1 ((Shape.reshapeEquiv (squeezes_S1x2560x512_S2560x512).numel_eq).symm x)
  have e : (Shape.reshapeEquiv (squeezes_S1x2560x512_S2560x512).numel_eq) ((Shape.reshapeEquiv (squeezes_S1x2560x512_S2560x512).numel_eq).symm x) = x := by simp
  have hx : vW.view.read (Elt F) (landedD c s h f l n k w) ((Rect.unit (s := S8x2560x1024) ![s.val, 0, 512 * h.val] S1x2560x512.size (inbHalf s h)).emb x)
      = mWd.view.read (Elt F) w ((Rect.unit (s := S2x10240x2560) ![l.val, 2560 * (rowD k h).val, 512 * n.val] S1x2560x512.size (inbBlkD l n (rowD k h))).emb x) :=
    (congrArg (fun z => vW.view.read (Elt F) (landedD c s h f l n k w) ((Rect.unit (s := S8x2560x1024) ![s.val, 0, 512 * h.val] S1x2560x512.size (inbHalf s h)).emb z)) e).symm.trans
      (hx0.trans (congrArg (fun z => mWd.view.read (Elt F) w ((Rect.unit (s := S2x10240x2560) ![l.val, 2560 * (rowD k h).val, 512 * n.val] S1x2560x512.size (inbBlkD l n (rowD k h))).emb z)) e))
  rw [View.readAt_apply]
  refine Eq.trans (congrArg _ ?_) (hx.trans (congrArg _ ?_))
  · funext a; fin_cases a <;> apply Fin.ext <;> simp [LoadRect.idx, ix3, h0, x] <;> omega
  · funext a; fin_cases a <;> apply Fin.ext <;> simp [ix3, x] <;> omega

end Cert.KernelIdeal.Hand
end
-- ==== Proof.Ideal.Tiles.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.Slots
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## One tile of the gated product and what a run of tiles leaves -/

/-- `gelu((x·wg) sx sg) * ((x·wu) sx su)` of one tile of 256 columns. -/
def tileVal (xc : FVec F S48x2560 .bf16) (sx : FVec F S48x1 .f32) (wg wu : Vec F S1x2560x256 .i8) (sg su : FVec F S1x256 .f32) :
    FVec F S48x256 .f32 :=
  k0_pay4 (k0_pay1 xc wg sx sg) (k0_pay2 xc wu sx su) (k0_pay3 xc wg sx sg)

/-- The running maximum of absolute values, lane by lane, after one more tile. -/
def amMax (am : FVec F S48x128 .f32) (v : FVec F S48x256 .f32) : FVec F S48x128 .f32 :=
  maximumf am (maximumf (extractStridedSlice S48x128 ![0, 0] (absf v) slices_S48x256_o0_0_S48x128)
    (extractStridedSlice S48x128 ![0, 128] (absf v) slices_S48x256_o0_128_S48x128))

theorem tile0_eq (xc : FVec F S48x2560 .bf16) (sx : FVec F S48x1 .f32) (wg wu : Vec F S1x2560x256 .i8) (sg su : FVec F S1x256 .f32) :
    k0_pay5 (k0_pay1 xc wg sx sg) (k0_pay2 xc wu sx su) (k0_pay3 xc wg sx sg) = tileVal xc sx wg wu sg su :=
  shapeCast_self _ _

theorem tile1_eq (xc : FVec F S48x2560 .bf16) (sx : FVec F S48x1 .f32) (wg wu : Vec F S1x2560x256 .i8) (sg su : FVec F S1x256 .f32) :
    k0_pay10 (k0_pay7 xc wu) (k0_pay8 xc wg sx sg) sx su = tileVal xc sx wg wu sg su :=
  shapeCast_self _ _

theorem tile2_eq (xc : FVec F S48x2560 .bf16) (sx : FVec F S48x1 .f32) (wg wu : Vec F S1x2560x256 .i8) (sg su : FVec F S1x256 .f32) :
    k0_pay14 (k0_pay12 xc wg) xc wu sx sg sx su = tileVal xc sx wg wu sg su :=
  shapeCast_self _ _

theorem tile3_eq (xc : FVec F S48x2560 .bf16) (sx : FVec F S48x1 .f32) (wg wu : Vec F S1x2560x256 .i8) (sg su : FVec F S1x256 .f32) :
    k0_pay65 (k0_pay17 xc wg sx sg) (k0_pay18 xc wu sx su) (k0_pay19 xc wg sx sg) k0_pay20 = tileVal xc sx wg wu sg su :=
  shapeCast_self _ _

/-- The running maximum over the four tiles of a trip. -/
theorem am_eq (am : FVec F S48x128 .f32) (xc : FVec F S48x2560 .bf16) (sx : FVec F S48x1 .f32) (wg0 wu0 wg1 wu1 wg2 wu2 wg3 wu3 : Vec F S1x2560x256 .i8)
    (sg0 su0 sg1 su1 sg2 su2 sg3 su3 : FVec F S1x256 .f32) :
    k0_pay66 (k0_pay16 (k0_pay11 (k0_pay6 am (k0_pay1 xc wg0 sx sg0) (k0_pay2 xc wu0 sx su0) (k0_pay3 xc wg0 sx sg0))
        (k0_pay7 xc wu1) (k0_pay8 xc wg1 sx sg1) sx su1) (k0_pay15 (k0_pay12 xc wg2) xc wu2 sx sg2 sx su2))
      (k0_pay17 xc wg3 sx sg3) (k0_pay18 xc wu3 sx su3) (k0_pay19 xc wg3 sx sg3) k0_pay20
    = amMax (amMax (amMax (amMax am (tileVal xc sx wg0 wu0 sg0 su0)) (tileVal xc sx wg1 wu1 sg1 su1)) (tileVal xc sx wg2 wu2 sg2 su2))
        (tileVal xc sx wg3 wu3 sg3 su3) :=
  shapeCast_self _ _

/-- The column range of one tile of a scale row. -/
theorem inbS (l : Fin 2) (q : Fin 40) : ∀ a, (![l.val, 256 * q.val] : Fin 2 → ℕ) a + S1x256.size a ≤ S2x10240.size a := by
  revert l q; decide

/-- Tile `q` of layer `l`, from the buffers as they stand. -/
def tileAt (c : Dev nD) (wg : BufOf F c mWg) (wu : BufOf F c mWu) (xc : BufOf F c vXc) (sx : BufOf F c vSx) (sg : BufOf F c vSg)
    (su : BufOf F c vSu) (l : Fin 2) (q : Fin 40) : FVec F S48x256 .f32 :=
  tileVal (View.readAt (Elt F) vXc.view (Rect.unit (s := S48x2560) ![0, 0] S48x2560.size inb_S48x2560_S48x2560_0_0).toLoadRect xc)
    (View.readAt (Elt F) vSx.view (Rect.unit (s := S48x128) ![0, 0] S48x1.size inb_S48x128_S48x1_0_0).toLoadRect sx)
    (wTile (mWg.view.read (Elt F) wg) l q) (wTile (mWu.view.read (Elt F) wu) l q)
    (View.readAt (Elt F) vSg.view (Rect.unit (s := S2x10240) ![l.val, 256 * q.val] S1x256.size (inbS l q)).toLoadRect sg)
    (View.readAt (Elt F) vSu.view (Rect.unit (s := S2x10240) ![l.val, 256 * q.val] S1x256.size (inbS l q)).toLoadRect su)

/-- A `48 × 10240` array from its 40 tiles. -/
def ofTiles {α : Type} (T : Fin 40 → S48x256.Idx → α) : S48x10240.Idx → α := fun y =>
  T ⟨(y 1).val / 256, by have h : (y 1).val < 10240 := (y 1).isLt; omega⟩
    (ix2 (⟨(y 0).val, (y 0).isLt⟩ : Fin 48) (⟨(y 1).val % 256, Nat.mod_lt _ (by decide)⟩ : Fin 256))

/-- The running maximum after `n` tiles. -/
def amAfter (T : Fin 40 → FVec F S48x256 .f32) : ℕ → FVec F S48x128 .f32
  | 0 => broadcast S48x128 (Scalar.ofBits .f32 0x00000000#32)
  | n + 1 => amMax (amAfter T n) (T ⟨n % 40, Nat.mod_lt _ (by decide)⟩)

theorem inbM (q : Fin 40) : ∀ a, (![0, 256 * q.val] : Fin 2 → ℕ) a + S48x256.size a ≤ S48x10240.size a := by
  revert q; decide

/-- Tile `q`'s columns of the array of tiles are the tile. -/
theorem ofTiles_emb {α : Type} (T : Fin 40 → S48x256.Idx → α) (q : Fin 40) (x : S48x256.Idx) :
    ofTiles T ((Rect.unit (s := S48x10240) ![0, 256 * q.val] S48x256.size (inbM q)).emb x) = T q x := by
  have h1 : (x 1).val < 256 := (x 1).isLt
  unfold ofTiles
  congr 1
  · apply Fin.ext
    show (256 * q.val + 1 * (x 1).val) / 256 = q.val
    omega
  · funext a; fin_cases a <;> apply Fin.ext <;> simp [ix2]
    exact h1

/-- Four tile stores take a prefix of the tiles four tiles further; whatever view of whatever buffer they go through. -/
theorem prefix_step {κ : Kind} {sp : Space} {e : EltTy} (v : View sig κ sp S48x10240 e) (f : v.ty.Contents (Elt F))
    (T : Fin 40 → S48x256.Idx → Elt F e) (i : Fin 10) (w0 w1 w2 w3 : S48x256.Idx → Elt F e)
    (h : ∀ y, (y 1).val < 1024 * i.val → v.read (Elt F) f y = ofTiles T y)
    (e0 : w0 = T ⟨4 * i.val + 0, by omega⟩) (e1 : w1 = T ⟨4 * i.val + 1, by omega⟩) (e2 : w2 = T ⟨4 * i.val + 2, by omega⟩)
    (e3 : w3 = T ⟨4 * i.val + 3, by omega⟩) :
    ∀ y, (y 1).val < 1024 * (i.val + 1) → v.read (Elt F) (v.writes (Elt F) f
      [⟨Rect.unit (s := S48x10240) ![0, 256 * (4 * i.val + 3)] S48x256.size (inbM ⟨4 * i.val + 3, by omega⟩), w3⟩,
       ⟨Rect.unit (s := S48x10240) ![0, 256 * (4 * i.val + 2)] S48x256.size (inbM ⟨4 * i.val + 2, by omega⟩), w2⟩,
       ⟨Rect.unit (s := S48x10240) ![0, 256 * (4 * i.val + 1)] S48x256.size (inbM ⟨4 * i.val + 1, by omega⟩), w1⟩,
       ⟨Rect.unit (s := S48x10240) ![0, 256 * (4 * i.val + 0)] S48x256.size (inbM ⟨4 * i.val + 0, by omega⟩), w0⟩]) y = ofTiles T y := by
  subst e0 e1 e2 e3
  intro y hy
  by_cases hlt : (y 1).val < 1024 * i.val
  · rw [View.read_writes_apply_of_forall_not_mem, h y hlt]
    intro p hp
    simp only [List.mem_cons, List.not_mem_nil, or_false] at hp
    rcases hp with rfl | rfl | rfl | rfl <;>
      refine Rect.not_mem_set_of_axis _ y 1 _ 256 rfl rfl rfl (.inl ?_) <;> simp <;> omega
  · refine View.read_writes_apply_of_pieces v f (ofTiles T) _ ?_ y ?_
    · intro p hp
      simp only [List.mem_cons, List.not_mem_nil, or_false] at hp
      rcases hp with rfl | rfl | rfl | rfl <;> intro x <;> exact (ofTiles_emb T ⟨_, by omega⟩ x).symm
    · have h0 : (y 0).val < 48 := (y 0).isLt
      by_cases c3 : 256 * (4 * i.val + 3) ≤ (y 1).val
      · refine ⟨_, List.mem_cons_self, ?_⟩
        rw [Rect.mem_set_unit]; intro a; fin_cases a <;> simp <;> omega
      by_cases c2 : 256 * (4 * i.val + 2) ≤ (y 1).val
      · refine ⟨_, List.mem_cons_of_mem _ List.mem_cons_self, ?_⟩
        rw [Rect.mem_set_unit]; intro a; fin_cases a <;> simp <;> omega
      by_cases c1 : 256 * (4 * i.val + 1) ≤ (y 1).val
      · refine ⟨_, List.mem_cons_of_mem _ (List.mem_cons_of_mem _ List.mem_cons_self), ?_⟩
        rw [Rect.mem_set_unit]; intro a; fin_cases a <;> simp <;> omega
      · refine ⟨_, List.mem_cons_of_mem _ (List.mem_cons_of_mem _ (List.mem_cons_of_mem _ List.mem_cons_self)), ?_⟩
        rw [Rect.mem_set_unit]; intro a; fin_cases a <;> simp <;> omega

/-! ## One tile of the down projection -/

/-- `(x·w) sx sw` of one tile of 256 columns, the product summed over four chunks of 2560 rows. -/
def downVal (d0 d1 d2 d3 : FVec F S48x2560 .bf16) (sx : FVec F S48x1 .f32) (w0 w1 w2 w3 : Vec F S1x2560x256 .i8) (sw : FVec F S1x256 .f32) :
    FVec F S48x256 .f32 :=
  k0_pay74 (k0_pay36 d0 w0 d1 w1) d2 w2 d3 w3 sx sw

theorem down0_eq (d0 d1 d2 d3 : FVec F S48x2560 .bf16) (sx : FVec F S48x1 .f32) (w0 w1 w2 w3 : Vec F S1x2560x256 .i8) (sw : FVec F S1x256 .f32) :
    k0_pay35 (k0_pay34 k0_pay32 d0 (k0_pay33 w0) (constant S48x256 .f32 0x00000000#32) d1 w1 d2 w2 d3 w3) sx sw
      = downVal d0 d1 d2 d3 sx w0 w1 w2 w3 sw := rfl

/-- The column range of one tile of the down projection's scales, -/
theorem inbSd (l : Fin 2) (q : Fin 10) : ∀ a, (![l.val, 256 * q.val] : Fin 2 → ℕ) a + S1x256.size a ≤ S2x2560.size a := by
  revert l q; decide

/-- of a chunk of the codes, -/
theorem inbDc (k : Fin 4) : ∀ a, (![0, 2560 * k.val] : Fin 2 → ℕ) a + S48x2560.size a ≤ S48x10240.size a := by
  revert k; decide

/-- and of a tile of the result. -/
theorem inbO (q : Fin 10) : ∀ a, (![0, 256 * q.val] : Fin 2 → ℕ) a + S48x256.size a ≤ S48x2560.size a := by
  revert q; decide

/-- A chunk of 2560 columns of the codes. -/
abbrev ldDc (c : Dev nD) (dc : BufOf F c vDc) (k : Fin 4) : FVec F S48x2560 .bf16 :=
  View.readAt (Elt F) vDc.view (Rect.unit (s := S48x10240) ![0, 2560 * k.val] S48x2560.size (inbDc k)).toLoadRect dc

/-- Tile `q` of layer `l` of the down projection, from the buffers as they stand. -/
def downAt (c : Dev nD) (wd : BufOf F c mWd) (dc : BufOf F c vDc) (sx : BufOf F c vSx) (sd : BufOf F c vSd) (l : Fin 2) (q : Fin 10) :
    FVec F S48x256 .f32 :=
  downVal (ldDc c dc 0) (ldDc c dc 1) (ldDc c dc 2) (ldDc c dc 3)
    (View.readAt (Elt F) vSx.view (Rect.unit (s := S48x128) ![0, 0] S48x1.size inb_S48x128_S48x1_0_0).toLoadRect sx)
    (dTile (mWd.view.read (Elt F) wd) l 0 q) (dTile (mWd.view.read (Elt F) wd) l 1 q) (dTile (mWd.view.read (Elt F) wd) l 2 q)
    (dTile (mWd.view.read (Elt F) wd) l 3 q)
    (View.readAt (Elt F) vSd.view (Rect.unit (s := S2x2560) ![l.val, 256 * q.val] S1x256.size (inbSd l q)).toLoadRect sd)

/-- A `48 × 2560` array from its 10 tiles. -/
def ofTilesD {α : Type} (T : Fin 10 → S48x256.Idx → α) : S48x2560.Idx → α := fun y =>
  T ⟨(y 1).val / 256, by have h : (y 1).val < 2560 := (y 1).isLt; omega⟩
    (ix2 (⟨(y 0).val, (y 0).isLt⟩ : Fin 48) (⟨(y 1).val % 256, Nat.mod_lt _ (by decide)⟩ : Fin 256))

theorem ofTilesD_emb {α : Type} (T : Fin 10 → S48x256.Idx → α) (q : Fin 10) (x : S48x256.Idx) :
    ofTilesD T ((Rect.unit (s := S48x2560) ![0, 256 * q.val] S48x256.size (inbO q)).emb x) = T q x := by
  have h1 : (x 1).val < 256 := (x 1).isLt
  unfold ofTilesD
  congr 1
  · apply Fin.ext
    show (256 * q.val + 1 * (x 1).val) / 256 = q.val
    omega
  · funext a; fin_cases a <;> apply Fin.ext <;> simp [ix2]
    exact h1

/-- Two tile stores take a prefix of the tiles two tiles further. -/
theorem prefix_stepD {κ : Kind} {sp : Space} {e : EltTy} (v : View sig κ sp S48x2560 e) (f : v.ty.Contents (Elt F))
    (T : Fin 10 → S48x256.Idx → Elt F e) (i : Fin 5) (w0 w1 : S48x256.Idx → Elt F e)
    (h : ∀ y, (y 1).val < 512 * i.val → v.read (Elt F) f y = ofTilesD T y)
    (e0 : w0 = T ⟨2 * i.val + 0, by omega⟩) (e1 : w1 = T ⟨2 * i.val + 1, by omega⟩) :
    ∀ y, (y 1).val < 512 * (i.val + 1) → v.read (Elt F) (v.writes (Elt F) f
      [⟨Rect.unit (s := S48x2560) ![0, 256 * (2 * i.val + 1)] S48x256.size (inbO ⟨2 * i.val + 1, by omega⟩), w1⟩,
       ⟨Rect.unit (s := S48x2560) ![0, 256 * (2 * i.val + 0)] S48x256.size (inbO ⟨2 * i.val + 0, by omega⟩), w0⟩]) y = ofTilesD T y := by
  subst e0 e1
  intro y hy
  by_cases hlt : (y 1).val < 512 * i.val
  · rw [View.read_writes_apply_of_forall_not_mem, h y hlt]
    intro p hp
    simp only [List.mem_cons, List.not_mem_nil, or_false] at hp
    rcases hp with rfl | rfl <;>
      refine Rect.not_mem_set_of_axis _ y 1 _ 256 rfl rfl rfl (.inl ?_) <;> simp <;> omega
  · refine View.read_writes_apply_of_pieces v f (ofTilesD T) _ ?_ y ?_
    · intro p hp
      simp only [List.mem_cons, List.not_mem_nil, or_false] at hp
      rcases hp with rfl | rfl <;> intro x <;> exact (ofTilesD_emb T ⟨_, by omega⟩ x).symm
    · have h0 : (y 0).val < 48 := (y 0).isLt
      by_cases c1 : 256 * (2 * i.val + 1) ≤ (y 1).val
      · refine ⟨_, List.mem_cons_self, ?_⟩
        rw [Rect.mem_set_unit]; intro a; fin_cases a <;> simp <;> omega
      · refine ⟨_, List.mem_cons_of_mem _ List.mem_cons_self, ?_⟩
        rw [Rect.mem_set_unit]; intro a; fin_cases a <;> simp <;> omega

end Cert.KernelIdeal.Hand
end
-- ==== Proof.Ideal.RingState.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.Tiles
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The weight ring: eight slots, two per step

Step `p` (of the thirty of both layers: ten of gate and up, then five of down, in each) uses slots `2 (p mod 4)` and `2 (p mod 4) + 1`. -/

abbrev sG (p : ℕ) : Fin 8 := ⟨2 * (p % 4), by omega⟩
abbrev sU (p : ℕ) : Fin 8 := ⟨2 * (p % 4) + 1, by omega⟩
abbrev cG (p : ℕ) : Fin 14 := ⟨2 * (p % 4) + 1, by omega⟩
abbrev cU (p : ℕ) : Fin 14 := ⟨2 * (p % 4) + 2, by omega⟩

/-- A slot into which a block of the gate or up weights is on its way. -/
def busy (c : Dev nD) (M : Memref sig .tc .hbm S2x2560x10240 .i8) (w : BufOf F c M) (s : Fin 8) (g : Fin 14) (l : Fin 2) (i : Fin 10) :
    sProp 𝕄 :=
  iprop(∃ f, flying c M s g l i w f ∗ ⌜Holds c s f M w l i⌝)

/-- The slot's read shares of the down weights. -/
def toksD (c : Dev nD) (wd : BufOf F c mWd) (g : Fin 14) : sProp 𝕄 :=
  iprop(tokPt c mWd (tokD g 0) wd ∗ tokPt c mWd (tokD g 1) wd)

/-- A slot into which two blocks of the down weights are on their way. -/
def busyD (c : Dev nD) (wd : BufOf F c mWd) (s : Fin 8) (g : Fin 14) (l : Fin 2) (n : Fin 5) (k : Fin 2) : sProp 𝕄 :=
  iprop(∃ f, flyingD c s g f l n k wd)

/-- A free slot, with its semaphore at zero. -/
def free0 (c : Dev nD) (s : Fin 8) (g : Fin 14) : sProp 𝕄 :=
  iprop(∃ f, slotPt c s f ∗ semVal ((c : Thread nD τ), SemLoc.dma g) 0)

/-- The first or second slot of step `j` (`k`), with the blocks of the step on their way, or free if there is no such step; with the
read shares that no transfer borrows. -/
def cell (c : Dev nD) (M : Memref sig .tc .hbm S2x2560x10240 .i8) (w : BufOf F c M) (wd : BufOf F c mWd) (k : Fin 2) (s : Fin 8) (g : Fin 14)
    (j : ℕ) : sProp 𝕄 :=
  if h : j < 30 then
    if h' : j % 15 < 10 then iprop(busy c M w s g ⟨j / 15, by omega⟩ ⟨j % 15, h'⟩ ∗ toksD c wd g)
    else iprop(busyD c wd s g ⟨j / 15, by omega⟩ ⟨j % 15 - 10, by omega⟩ k ∗ tokPt c M g.val w)
  else iprop(free0 c s g ∗ tokPt c M g.val w ∗ toksD c wd g)

theorem cell_gu (c : Dev nD) (M : Memref sig .tc .hbm S2x2560x10240 .i8) (w : BufOf F c M) (wd : BufOf F c mWd) (k : Fin 2) (s : Fin 8) (g : Fin 14)
    (j : ℕ) (h : j < 30) (h' : j % 15 < 10) :
    cell c M w wd k s g j = iprop(busy c M w s g ⟨j / 15, by omega⟩ ⟨j % 15, h'⟩ ∗ toksD c wd g) := by
  unfold cell
  rw [dif_pos h, dif_pos h']

theorem cell_dn (c : Dev nD) (M : Memref sig .tc .hbm S2x2560x10240 .i8) (w : BufOf F c M) (wd : BufOf F c mWd) (k : Fin 2) (s : Fin 8) (g : Fin 14)
    (j : ℕ) (h : j < 30) (h' : ¬ j % 15 < 10) :
    cell c M w wd k s g j = iprop(busyD c wd s g ⟨j / 15, by omega⟩ ⟨j % 15 - 10, by omega⟩ k ∗ tokPt c M g.val w) := by
  unfold cell
  rw [dif_pos h, dif_neg h']

theorem cell_ge (c : Dev nD) (M : Memref sig .tc .hbm S2x2560x10240 .i8) (w : BufOf F c M) (wd : BufOf F c mWd) (k : Fin 2) (s : Fin 8) (g : Fin 14)
    (j : ℕ) (h : 30 ≤ j) :
    cell c M w wd k s g j = iprop(free0 c s g ∗ tokPt c M g.val w ∗ toksD c wd g) := dif_neg (by omega)

/-- The weights as the ring reads them. -/
structure Wts (F : FTy → Type) (c : Dev nD) where
  g : BufOf F c mWg
  u : BufOf F c mWu
  d : BufOf F c mWd

/-- The first slot of step `p` at step `j`, and the second. -/
abbrev cellG (c : Dev nD) (w : Wts F c) (p j : ℕ) : sProp 𝕄 := cell c mWg w.g w.d 0 (sG p) (cG p) j
abbrev cellU (c : Dev nD) (w : Wts F c) (p j : ℕ) : sProp 𝕄 := cell c mWu w.u w.d 1 (sU p) (cU p) j

/-- The steps whose blocks are on their way before step `p` and stay so through it. -/
def ringMid (c : Dev nD) (w : Wts F c) (p : ℕ) : sProp 𝕄 :=
  iprop(cellG c w (p + 1) (p + 1) ∗ cellU c w (p + 1) (p + 1) ∗ cellG c w (p + 2) (p + 2) ∗ cellU c w (p + 2) (p + 2))

/-- The ring before step `p`: three steps ahead are on their way; the fourth's first block too at the start of a layer (`e`). -/
def ring (c : Dev nD) (w : Wts F c) (p : ℕ) (e : Bool) : sProp 𝕄 :=
  iprop(cellG c w p p ∗ cellU c w p p ∗ cellG c w (p + 3) (if e then p + 3 else 30) ∗ cellU c w (p + 3) 30 ∗ ringMid c w p)

/-- What a step `(l, i)` needs besides the blocks on their way, and what it leaves: tiles of `T` in the product's buffer, the running
    maximum of their absolute values. -/
def prod (c : Dev nD) (T : Fin 40 → FVec F S48x256 .f32) (n : ℕ) : sProp 𝕄 :=
  iprop((∃ mm, pt c vMm mm ∗ ⌜∀ y : S48x10240.Idx, (y 1).val < 1024 * n → View.read (Elt F) vMm.view mm y = ofTiles T y⌝)
    ∗ (∃ am, pt c vAm am ∗ ⌜View.read (Elt F) vAm.view am = amAfter T (4 * n)⌝))

/-- The operands of a layer's gate and up steps, -/
def operands (c : Dev nD) (xc : BufOf F c vXc) (sx : BufOf F c vSx) (sg : BufOf F c vSg) (su : BufOf F c vSu) : sProp 𝕄 :=
  iprop(pt c vXc xc ∗ pt c vSx sx ∗ pt c vSg sg ∗ pt c vSu su)

/-- and of its down steps. -/
def operandsD (c : Dev nD) (dc : BufOf F c vDc) (sx : BufOf F c vSx) (sd : BufOf F c vSd) : sProp 𝕄 :=
  iprop(pt c vDc dc ∗ pt c vSx sx ∗ pt c vSd sd)

/-- What the down steps leave: tiles of `T` in the buffer of the down projection. -/
def prodD (c : Dev nD) (T : Fin 10 → FVec F S48x256 .f32) (n : ℕ) : sProp 𝕄 :=
  iprop(∃ o, pt c vO o ∗ ⌜∀ y : S48x2560.Idx, (y 1).val < 512 * n → View.read (Elt F) vO.view o y = ofTilesD T y⌝)

theorem trips1 : k0_t1_loop.trips = 2 := by decide
theorem trips2 : k0_t2_loop.trips = 10 := by decide
theorem trips4 : k0_t4_loop.trips = 5 := by decide

/-- The blocks a step `p` finds on their way (`e`: the first of the step three ahead too), -/
def ringIn (c : Dev nD) (w : Wts F c) (p : ℕ) (e : Bool) : sProp 𝕄 :=
  iprop(cellG c w p p ∗ cellU c w p p ∗ cellG c w (p + 3) (if e then p + 3 else 30) ∗ cellU c w (p + 3) 30)

/-- and those it leaves on their way. -/
def ringOut (c : Dev nD) (w : Wts F c) (p : ℕ) : sProp 𝕄 :=
  iprop(cellG c w p 30 ∗ cellU c w p 30 ∗ cellG c w (p + 3) (p + 3) ∗ cellU c w (p + 3) (p + 3))

/-- One step of gate and up, at explicit numbers, -/
def StepOk (F : FTy → Type) [FloatOps F] (l i : ℕ) (hl : l < 2) (hi : i < 10) : Prop :=
  ∀ (c : Dev nD) (w : Wts F c) (xc : BufOf F c vXc) (sx : BufOf F c vSx) (sg : BufOf F c vSg)
    (su : BufOf F c vSu) (arg44 v225 : BitVec 32) (v385 : FVec F S1x48 .f32),
    iprop(ringIn c w (15 * l + i) (decide (i = 0))
      ∗ operands c xc sx sg su ∗ prod c (tileAt c w.g w.u xc sx sg su ⟨l, hl⟩) i ∗ ∃ W, owes (c : Thread nD τ) 0 W)
    ⊢ wp frame (wpE (defs₀ (F := F)) Variants.none c none) Set.univ
        (body2 (F := F) ⟨l, trips1 ▸ hl⟩ arg44 v225 v385 ⟨i, trips2 ▸ hi⟩ ())
        (fun _ => iprop(ringOut c w (15 * l + i)
          ∗ operands c xc sx sg su ∗ prod c (tileAt c w.g w.u xc sx sg su ⟨l, hl⟩) (i + 1) ∗ ∃ W, owes (c : Thread nD τ) 0 W))

/-- and one step of down. -/
def StepOkD (F : FTy → Type) [FloatOps F] (l i : ℕ) (hl : l < 2) (hi : i < 5) : Prop :=
  ∀ (c : Dev nD) (w : Wts F c) (dc : BufOf F c vDc) (sx : BufOf F c vSx) (sd : BufOf F c vSd) (arg44 v225 : BitVec 32)
    (v414 v415 : FVec F S48x1 .f32),
    iprop(ringIn c w (15 * l + 10 + i) false
      ∗ operandsD c dc sx sd ∗ prodD c (downAt c w.d dc sx sd ⟨l, hl⟩) i ∗ ∃ W, owes (c : Thread nD τ) 0 W)
    ⊢ wp frame (wpE (defs₀ (F := F)) Variants.none c none) Set.univ
        (body4 (F := F) ⟨l, trips1 ▸ hl⟩ arg44 v225 v414 v415 ⟨i, trips4 ▸ hi⟩ ())
        (fun _ => iprop(ringOut c w (15 * l + 10 + i)
          ∗ operandsD c dc sx sd ∗ prodD c (downAt c w.d dc sx sd ⟨l, hl⟩) (i + 1) ∗ ∃ W, owes (c : Thread nD τ) 0 W))

end Cert.KernelIdeal.Hand
end
-- ==== Proof.Ideal.StepValue.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.RingState
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What one step's stores leave, as the tiles of the layer -/

section
variable (c : Dev nD) (wg : BufOf F c mWg) (wu : BufOf F c mWu) (xc : BufOf F c vXc) (sx : BufOf F c vSx) (sg : BufOf F c vSg)
  (su : BufOf F c vSu)

/-- The codes, as loaded. -/
abbrev ldXc : FVec F S48x2560 .bf16 :=
  View.readAt (Elt F) vXc.view (Rect.unit (s := S48x2560) ![0, 0] S48x2560.size inb_S48x2560_S48x2560_0_0).toLoadRect xc
/-- The scale column, as loaded. -/
abbrev ldSx : FVec F S48x1 .f32 :=
  View.readAt (Elt F) vSx.view (Rect.unit (s := S48x128) ![0, 0] S48x1.size inb_S48x128_S48x1_0_0).toLoadRect sx
/-- A weight tile, as loaded from a slot. -/
abbrev ldW (f : BufOf F c vW) (s : Fin 8) (t : Fin 4) : Vec F S1x2560x256 .i8 :=
  View.readAt (Elt F) vW.view (Rect.unit (s := S8x2560x1024) ![s.val, 0, 256 * t.val] S1x2560x256.size (inbT s t)).toLoadRect f
/-- The scales of a tile's columns, as loaded. -/
abbrev ldSg (l : Fin 2) (q : Fin 40) : FVec F S1x256 .f32 :=
  View.readAt (Elt F) vSg.view (Rect.unit (s := S2x10240) ![l.val, 256 * q.val] S1x256.size (inbS l q)).toLoadRect sg
abbrev ldSu (l : Fin 2) (q : Fin 40) : FVec F S1x256 .f32 :=
  View.readAt (Elt F) vSu.view (Rect.unit (s := S2x10240) ![l.val, 256 * q.val] S1x256.size (inbS l q)).toLoadRect su

/-- The number of a step's tile. -/
abbrev tileNo (i : Fin 10) (t : Fin 4) : Fin 40 := ⟨4 * i.val + t.val, by omega⟩

variable {c wg wu}

/-- A tile computed from two slots is the layer's tile. -/
theorem tileAt_of_holds {s s' : Fin 8} {f f' : BufOf F c vW} {l : Fin 2} {i : Fin 10} (h : Holds c s f mWg wg l i)
    (h' : Holds c s' f' mWu wu l i) (t : Fin 4) :
    tileVal (ldXc c xc) (ldSx c sx) (ldW c f s t) (ldW c f' s' t) (ldSg c sg l (tileNo i t)) (ldSu c su l (tileNo i t))
      = tileAt c wg wu xc sx sg su l (tileNo i t) := by
  unfold ldW tileAt
  rw [tile_of_holds h t, tile_of_holds h' t]

/-- The product's buffer after a step. -/
theorem mm_after {s s' : Fin 8} {f f' : BufOf F c vW} {l : Fin 2} {i : Fin 10} (h : Holds c s f mWg wg l i)
    (h' : Holds c s' f' mWu wu l i) {mm : BufOf F c vMm}
    (hmm : ∀ y : S48x10240.Idx, (y 1).val < 1024 * i.val → View.read (Elt F) vMm.view mm y = ofTiles (tileAt c wg wu xc sx sg su l) y) :
    ∀ y : S48x10240.Idx, (y 1).val < 1024 * (i.val + 1) → View.read (Elt F) vMm.view (vMm.view.writes (Elt F) mm
      [⟨Rect.unit (s := S48x10240) ![0, 256 * (4 * i.val + 3)] S48x256.size (inbM (tileNo i 3)),
          k0_pay65 (k0_pay17 (ldXc c xc) (ldW c f s 3) (ldSx c sx) (ldSg c sg l (tileNo i 3))) (k0_pay18 (ldXc c xc) (ldW c f' s' 3) (ldSx c sx) (ldSu c su l (tileNo i 3))) (k0_pay19 (ldXc c xc) (ldW c f s 3) (ldSx c sx) (ldSg c sg l (tileNo i 3))) k0_pay20⟩,
       ⟨Rect.unit (s := S48x10240) ![0, 256 * (4 * i.val + 2)] S48x256.size (inbM (tileNo i 2)),
          k0_pay14 (k0_pay12 (ldXc c xc) (ldW c f s 2)) (ldXc c xc) (ldW c f' s' 2) (ldSx c sx) (ldSg c sg l (tileNo i 2)) (ldSx c sx) (ldSu c su l (tileNo i 2))⟩,
       ⟨Rect.unit (s := S48x10240) ![0, 256 * (4 * i.val + 1)] S48x256.size (inbM (tileNo i 1)),
          k0_pay10 (k0_pay7 (ldXc c xc) (ldW c f' s' 1)) (k0_pay8 (ldXc c xc) (ldW c f s 1) (ldSx c sx) (ldSg c sg l (tileNo i 1))) (ldSx c sx) (ldSu c su l (tileNo i 1))⟩,
       ⟨Rect.unit (s := S48x10240) ![0, 256 * (4 * i.val + 0)] S48x256.size (inbM (tileNo i 0)),
          k0_pay5 (k0_pay1 (ldXc c xc) (ldW c f s 0) (ldSx c sx) (ldSg c sg l (tileNo i 0))) (k0_pay2 (ldXc c xc) (ldW c f' s' 0) (ldSx c sx) (ldSu c su l (tileNo i 0))) (k0_pay3 (ldXc c xc) (ldW c f s 0) (ldSx c sx) (ldSg c sg l (tileNo i 0)))⟩]) y
      = ofTiles (tileAt c wg wu xc sx sg su l) y :=
  prefix_step vMm.view mm (tileAt c wg wu xc sx sg su l) i _ _ _ _ hmm
    ((tile0_eq _ _ _ _ _ _).trans (tileAt_of_holds xc sx sg su h h' 0)) ((tile1_eq _ _ _ _ _ _).trans (tileAt_of_holds xc sx sg su h h' 1))
    ((tile2_eq _ _ _ _ _ _).trans (tileAt_of_holds xc sx sg su h h' 2)) ((tile3_eq _ _ _ _ _ _).trans (tileAt_of_holds xc sx sg su h h' 3))

theorem amAfter_step (T : Fin 40 → FVec F S48x256 .f32) (i : Fin 10) (t : Fin 4) :
    amAfter T (4 * i.val + t.val + 1) = amMax (amAfter T (4 * i.val + t.val)) (T (tileNo i t)) := by
  show amMax _ (T _) = _
  congr 2
  exact Fin.ext (Nat.mod_eq_of_lt (tileNo i t).isLt)

/-- The running maximum after a step. -/
theorem am_after {s s' : Fin 8} {f f' : BufOf F c vW} {l : Fin 2} {i : Fin 10} (h : Holds c s f mWg wg l i)
    (h' : Holds c s' f' mWu wu l i) {am : BufOf F c vAm}
    (ham : View.read (Elt F) vAm.view am = amAfter (tileAt c wg wu xc sx sg su l) (4 * i.val)) :
    View.read (Elt F) vAm.view (vAm.view.writes (Elt F) am
      [⟨Rect.unit (s := S48x128) ![0, 0] S48x128.size inb_S48x128_S48x128_0_0,
        k0_pay66 (k0_pay16 (k0_pay11 (k0_pay6 (View.readAt (Elt F) vAm.view (Rect.unit (s := S48x128) ![0, 0] S48x128.size inb_S48x128_S48x128_0_0).toLoadRect am) (k0_pay1 (ldXc c xc) (ldW c f s 0) (ldSx c sx) (ldSg c sg l (tileNo i 0))) (k0_pay2 (ldXc c xc) (ldW c f' s' 0) (ldSx c sx) (ldSu c su l (tileNo i 0))) (k0_pay3 (ldXc c xc) (ldW c f s 0) (ldSx c sx) (ldSg c sg l (tileNo i 0))))
          (k0_pay7 (ldXc c xc) (ldW c f' s' 1)) (k0_pay8 (ldXc c xc) (ldW c f s 1) (ldSx c sx) (ldSg c sg l (tileNo i 1))) (ldSx c sx) (ldSu c su l (tileNo i 1)))
          (k0_pay15 (k0_pay12 (ldXc c xc) (ldW c f s 2)) (ldXc c xc) (ldW c f' s' 2) (ldSx c sx) (ldSg c sg l (tileNo i 2)) (ldSx c sx) (ldSu c su l (tileNo i 2))))
          (k0_pay17 (ldXc c xc) (ldW c f s 3) (ldSx c sx) (ldSg c sg l (tileNo i 3))) (k0_pay18 (ldXc c xc) (ldW c f' s' 3) (ldSx c sx) (ldSu c su l (tileNo i 3))) (k0_pay19 (ldXc c xc) (ldW c f s 3) (ldSx c sx) (ldSg c sg l (tileNo i 3))) k0_pay20⟩])
      = amAfter (tileAt c wg wu xc sx sg su l) (4 * (i.val + 1)) := by
  rw [View.read_writes_full, View.readAt_full, ham]
  refine (am_eq _ _ _ _ _ _ _ _ _ _ _ _ _ _ _ _ _ _ _).trans ?_
  rw [tileAt_of_holds xc sx sg su h h' 0, tileAt_of_holds xc sx sg su h h' 1, tileAt_of_holds xc sx sg su h h' 2,
    tileAt_of_holds xc sx sg su h h' 3]
  have e0 := amAfter_step (tileAt c wg wu xc sx sg su l) i 0
  have e1 := amAfter_step (tileAt c wg wu xc sx sg su l) i 1
  have e2 := amAfter_step (tileAt c wg wu xc sx sg su l) i 2
  have e3 := amAfter_step (tileAt c wg wu xc sx sg su l) i 3
  exact (e3.trans (congrArg (amMax · _) (e2.trans (congrArg (amMax · _) (e1.trans (congrArg (amMax · _) e0)))))).symm

end

section
variable (c : Dev nD) (wd : BufOf F c mWd) (dc : BufOf F c vDc) (sx : BufOf F c vSx) (sd : BufOf F c vSd)

/-- A tile of the down weights, as loaded from half a slot; -/
abbrev ldD (f : BufOf F c vW) (s : Fin 8) (h t : Fin 2) : Vec F S1x2560x256 .i8 :=
  View.readAt (Elt F) vW.view (Rect.unit (s := S8x2560x1024) ![s.val, 0, 512 * h.val + 256 * t.val] S1x2560x256.size (inbTH s h t)).toLoadRect f
/-- the scales of its columns. -/
abbrev ldSd (l : Fin 2) (q : Fin 10) : FVec F S1x256 .f32 :=
  View.readAt (Elt F) vSd.view (Rect.unit (s := S2x2560) ![l.val, 256 * q.val] S1x256.size (inbSd l q)).toLoadRect sd
/-- The number of a down step's tile. -/
abbrev tileNoD (n : Fin 5) (t : Fin 2) : Fin 10 := ⟨2 * n.val + t.val, by omega⟩

/-- A tile computed from the halves of two slots is the layer's tile. -/
theorem downAt_of_landed (s s' : Fin 8) (f f1 f' f1' : BufOf F c vW) (l : Fin 2) (n : Fin 5) (t : Fin 2) :
    downVal (ldDc c dc 0) (ldDc c dc 1) (ldDc c dc 2) (ldDc c dc 3) (ldSx c sx)
        (ldD c (landedD c s 0 f l n 0 wd) s 0 t) (ldD c (landedD c s 1 f1 l n 0 wd) s 1 t)
        (ldD c (landedD c s' 0 f' l n 1 wd) s' 0 t) (ldD c (landedD c s' 1 f1' l n 1 wd) s' 1 t) (ldSd c sd l (tileNoD n t))
      = downAt c wd dc sx sd l (tileNoD n t) := by
  unfold ldD downAt
  rw [tile_of_landedD, tile_of_landedD, tile_of_landedD, tile_of_landedD]
  rfl

/-- The down projection's buffer after a step. -/
theorem o_after (s s' : Fin 8) (f f1 f' f1' : BufOf F c vW) (l : Fin 2) (n : Fin 5) {o : BufOf F c vO}
    (ho : ∀ y : S48x2560.Idx, (y 1).val < 512 * n.val → View.read (Elt F) vO.view o y = ofTilesD (downAt c wd dc sx sd l) y) :
    ∀ y : S48x2560.Idx, (y 1).val < 512 * (n.val + 1) → View.read (Elt F) vO.view (vO.view.writes (Elt F) o
      [⟨Rect.unit (s := S48x2560) ![0, 256 * (2 * n.val + 1)] S48x256.size (inbO (tileNoD n 1)),
          k0_pay74 (k0_pay36 (ldDc c dc 0) (ldD c (landedD c s 0 f l n 0 wd) s 0 1) (ldDc c dc 1) (ldD c (landedD c s 1 f1 l n 0 wd) s 1 1))
            (ldDc c dc 2) (ldD c (landedD c s' 0 f' l n 1 wd) s' 0 1) (ldDc c dc 3) (ldD c (landedD c s' 1 f1' l n 1 wd) s' 1 1)
            (ldSx c sx) (ldSd c sd l (tileNoD n 1))⟩,
       ⟨Rect.unit (s := S48x2560) ![0, 256 * (2 * n.val + 0)] S48x256.size (inbO (tileNoD n 0)),
          k0_pay35 (k0_pay34 k0_pay32 (ldDc c dc 0) (k0_pay33 (ldD c (landedD c s 0 f l n 0 wd) s 0 0)) (constant S48x256 .f32 0x00000000#32)
            (ldDc c dc 1) (ldD c (landedD c s 1 f1 l n 0 wd) s 1 0)
            (ldDc c dc 2) (ldD c (landedD c s' 0 f' l n 1 wd) s' 0 0) (ldDc c dc 3) (ldD c (landedD c s' 1 f1' l n 1 wd) s' 1 0))
            (ldSx c sx) (ldSd c sd l (tileNoD n 0))⟩]) y
      = ofTilesD (downAt c wd dc sx sd l) y :=
  prefix_stepD vO.view o (downAt c wd dc sx sd l) n _ _ ho
    ((down0_eq _ _ _ _ _ _ _ _ _ _).trans (downAt_of_landed c wd dc sx sd s s' f f1 f' f1' l n 0))
    (downAt_of_landed c wd dc sx sd s s' f f1 f' f1' l n 1)

end

end Cert.KernelIdeal.Hand
end
-- ==== Proof.Ideal.StepA.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.StepValue
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The first step of a layer: the gate block of the step three ahead is on its way already -/

set_option maxHeartbeats 8000000 in
/-- The first step of a layer, in either layer. -/
theorem stepsA (l : ℕ) (hl : l < 2) : StepOk F l 0 hl (by decide) := by
  intro c w xc sx sg su arg44 v225 v385
  interval_cases l
  all_goals
    obtain rfl : hl = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busy free0 flying toksD operands prod
    iintro ⟨⟨⟨⟨%f0, ⟨Hf0, Ht0⟩, %h0⟩, HD0⟩, ⟨⟨%f1, ⟨Hf1, Ht1⟩, %h1⟩, HD1⟩, HG3, ⟨%w3, Hs3, Hq3⟩, Hg3, Ht3⟩, ⟨Hxc, Hsx, Hsg, Hsu⟩, ⟨⟨%mm, Hmm, %hmm⟩, ⟨%am, Ham, %ham⟩⟩, %W, HW⟩
    unfold body2 k0_t2_body
    sl_exec
    sl_step
    sl_unfold_run_names
    isplitl [Hf0_dst Hf0 Ht0 HD0 Hf1_dst Hf1 Ht1 HD1 HG3 Hq3 Hg3 Ht3]
    · isplitl [Hf0_dst Hf0 Ht0 HD0]
      · isplitl [Hf0_dst Hf0]
        · iexists f0
          isplitl [Hf0_dst]; · iexact Hf0_dst
          iexact Hf0
        isplitl [Ht0]; · iexact Ht0
        iexact HD0
      isplitl [Hf1_dst Hf1 Ht1 HD1]
      · isplitl [Hf1_dst Hf1]
        · iexists f1
          isplitl [Hf1_dst]; · iexact Hf1_dst
          iexact Hf1
        isplitl [Ht1]; · iexact Ht1
        iexact HD1
      isplitl [HG3]; · iexact HG3
      isplitl [Hq3 Hg3]
      · iexists _
        isplitl [Hq3 Hg3]
        · isplitl [Hq3]; · iexact Hq3
          iexact Hg3
        · ipureintro; exact holds_landed' _ _ _ _ _ _ _ _ _ rfl
      · iexact Ht3
    isplitl [Hxc Hsx Hsg Hsu]
    · isplitl [Hxc]; · iexact Hxc
      isplitl [Hsx]; · iexact Hsx
      isplitl [Hsg]; · iexact Hsg
      iexact Hsu
    isplitl [Hmm Ham]
    · isplitl [Hmm]
      · iexists _
        isplitl [Hmm]; · iexact Hmm
        ipureintro; exact mm_after xc sx sg su h0 h1 hmm
      · iexists _
        isplitl [Ham]; · iexact Ham
        ipureintro; exact am_after xc sx sg su h0 h1 ham
    iexists _
    iexact HW

end Cert.KernelIdeal.Hand
end
-- ==== Proof.Ideal.StepB.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.StepValue
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## A step of gate and up that issues both blocks of another one -/

set_option maxHeartbeats 48000000 in
/-- Steps 1 to 6 of a layer. -/
theorem stepsB (l i : ℕ) (hl : l < 2) (h1 : 1 ≤ i) (h7 : i < 7) (hi : i < 10) : StepOk F l i hl hi := by
  intro c w xc sx sg su arg44 v225 v385
  interval_cases l <;> interval_cases i
  all_goals
    obtain rfl : hl = (by decide) := rfl
    obtain rfl : h1 = (by decide) := rfl
    obtain rfl : h7 = (by decide) := rfl
    obtain rfl : hi = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busy free0 flying toksD operands prod
    iintro ⟨⟨⟨⟨%f0, ⟨Hf0, Ht0⟩, %h0⟩, HD0⟩, ⟨⟨%f1, ⟨Hf1, Ht1⟩, %h1⟩, HD1⟩, ⟨⟨%w2, Hs2, Hq2⟩, Hg2, Ht2⟩, ⟨%w3, Hs3, Hq3⟩, Hg3, Ht3⟩, ⟨Hxc, Hsx, Hsg, Hsu⟩, ⟨⟨%mm, Hmm, %hmm⟩, ⟨%am, Ham, %ham⟩⟩, %W, HW⟩
    unfold body2 k0_t2_body
    sl_exec
    sl_step
    sl_unfold_run_names
    isplitl [Hf0_dst Hf0 Ht0 HD0 Hf1_dst Hf1 Ht1 HD1 Hq2 Hg2 Ht2 Hq3 Hg3 Ht3]
    · isplitl [Hf0_dst Hf0 Ht0 HD0]
      · isplitl [Hf0_dst Hf0]
        · iexists f0
          isplitl [Hf0_dst]; · iexact Hf0_dst
          iexact Hf0
        isplitl [Ht0]; · iexact Ht0
        iexact HD0
      isplitl [Hf1_dst Hf1 Ht1 HD1]
      · isplitl [Hf1_dst Hf1]
        · iexists f1
          isplitl [Hf1_dst]; · iexact Hf1_dst
          iexact Hf1
        isplitl [Ht1]; · iexact Ht1
        iexact HD1
      isplitl [Hq2 Hg2 Ht2]
      · isplitl [Hq2 Hg2]
        · iexists _
          isplitl [Hq2 Hg2]
          · isplitl [Hq2]; · iexact Hq2
            iexact Hg2
          · ipureintro; exact holds_landed' _ _ _ _ _ _ _ _ _ rfl
        · iexact Ht2
      isplitl [Hq3 Hg3]
      · iexists _
        isplitl [Hq3 Hg3]
        · isplitl [Hq3]; · iexact Hq3
          iexact Hg3
        · ipureintro; exact holds_landed' _ _ _ _ _ _ _ _ _ rfl
      · iexact Ht3
    isplitl [Hxc Hsx Hsg Hsu]
    · isplitl [Hxc]; · iexact Hxc
      isplitl [Hsx]; · iexact Hsx
      isplitl [Hsg]; · iexact Hsg
      iexact Hsu
    isplitl [Hmm Ham]
    · isplitl [Hmm]
      · iexists _
        isplitl [Hmm]; · iexact Hmm
        ipureintro; exact mm_after xc sx sg su h0 h1 hmm
      · iexists _
        isplitl [Ham]; · iexact Ham
        ipureintro; exact am_after xc sx sg su h0 h1 ham
    iexists _
    iexact HW

end Cert.KernelIdeal.Hand
end
-- ==== Proof.Ideal.StepC.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.StepValue
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## A step of gate and up that issues the four blocks of a step of down -/

set_option maxHeartbeats 24000000 in
/-- Steps 7 to 9 of a layer, which issue the first blocks of down. -/
theorem stepsC (l i : ℕ) (hl : l < 2) (h7 : 7 ≤ i) (hi : i < 10) : StepOk F l i hl hi := by
  intro c w xc sx sg su arg44 v225 v385
  have hB := fun w2 => Transfers.mixedBatch_alloc' (Lvl := ℕ) (countersEmb (U := Pipeline.UD sig nD τ)) (c : Thread nD τ) () AD
    (delivD c (sG (15 * l + i + 3)) (cG (15 * l + i + 3)) w2 ⟨l, hl⟩ ⟨i - 7, by omega⟩ 0 w.d) (sm := SemLoc.dma (cG (15 * l + i + 3))) (E := Set.univ)
  have hC := fun w2 => Transfers.mixedBatch_alloc' (Lvl := ℕ) (countersEmb (U := Pipeline.UD sig nD τ)) (c : Thread nD τ) () AD
    (delivD c (sU (15 * l + i + 3)) (cU (15 * l + i + 3)) w2 ⟨l, hl⟩ ⟨i - 7, by omega⟩ 1 w.d) (sm := SemLoc.dma (cU (15 * l + i + 3))) (E := Set.univ)
  interval_cases l <;> interval_cases i
  all_goals
    obtain rfl : hl = (by decide) := rfl
    obtain rfl : h7 = (by decide) := rfl
    obtain rfl : hi = (by decide) := rfl
    simp only [Nat.reduceMul, Nat.reduceAdd, Nat.reduceSub] at hB hC
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busy busyD free0 flying flyingD toksD operands prod
    iintro ⟨⟨⟨⟨%f0, ⟨Hf0, Ht0⟩, %h0⟩, HD0⟩, ⟨⟨%f1, ⟨Hf1, Ht1⟩, %h1⟩, HD1⟩, ⟨⟨%w2, Hs2, Hq2⟩, Hg2, Ht2⟩, ⟨%w3, Hs3, Hq3⟩, Hg3, Ht3⟩, ⟨Hxc, Hsx, Hsg, Hsu⟩, ⟨⟨%mm, Hmm, %hmm⟩, ⟨%am, Ham, %ham⟩⟩, %W, HW⟩
    imod (hB w2) $$ Hq2 with HB
    imod (hC w3) $$ Hq3 with HC
    ihave Hx2 := (halves_split c _ w2) $$ Hs2
    ihave Hx3 := (halves_split c _ w3) $$ Hs3
    icases Hx2 with ⟨Hx0, Hx1⟩
    icases Hx3 with ⟨Hx2, Hx3⟩
    icases Ht3 with ⟨Ha3, Hb3⟩
    icases Ht2 with ⟨Ha2, Hb2⟩
    unfold body2 k0_t2_body delivD
    sl_exec
    sl_step
    sl_unfold_run_names
    isplitl [Hf0_dst Hf0 Ht0 HD0 Hf1_dst Hf1 Ht1 HD1 HB Ha2 Hb2 Hg2 HC Ha3 Hb3 Hg3]
    · isplitl [Hf0_dst Hf0 Ht0 HD0]
      · isplitl [Hf0_dst Hf0]
        · iexists f0
          isplitl [Hf0_dst]; · iexact Hf0_dst
          iexact Hf0
        isplitl [Ht0]; · iexact Ht0
        iexact HD0
      isplitl [Hf1_dst Hf1 Ht1 HD1]
      · isplitl [Hf1_dst Hf1]
        · iexists f1
          isplitl [Hf1_dst]; · iexact Hf1_dst
          iexact Hf1
        isplitl [Ht1]; · iexact Ht1
        iexact HD1
      isplitl [HB Ha2 Hb2 Hg2]
      · isplitl [HB Ha2 Hb2]
        · iexists w2
          isplitl [HB]; · iexact HB
          isplitl [Ha2]; · iexact Ha2
          iexact Hb2
        iexact Hg2
      isplitl [HC Ha3 Hb3]
      · iexists w3
        isplitl [HC]; · iexact HC
        isplitl [Ha3]; · iexact Ha3
        iexact Hb3
      iexact Hg3
    isplitl [Hxc Hsx Hsg Hsu]
    · isplitl [Hxc]; · iexact Hxc
      isplitl [Hsx]; · iexact Hsx
      isplitl [Hsg]; · iexact Hsg
      iexact Hsu
    isplitl [Hmm Ham]
    · isplitl [Hmm]
      · iexists _
        isplitl [Hmm]; · iexact Hmm
        ipureintro; exact mm_after xc sx sg su h0 h1 hmm
      · iexists _
        isplitl [Ham]; · iexact Ham
        ipureintro; exact am_after xc sx sg su h0 h1 ham
    iexists _
    iexact HW

end Cert.KernelIdeal.Hand
end
-- ==== Proof.Ideal.StepD.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.StepValue
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The steps of down -/

set_option maxHeartbeats 16000000 in
/-- Steps 0 and 1 of down, which issue blocks of the same layer's down weights. -/
theorem stepsD_dn (l i : ℕ) (hl : l < 2) (h2 : i < 2) (hi : i < 5) : StepOkD F l i hl hi := by
  intro c w dc sx sd arg44 v225 v414 v415
  have hB := fun w2 => Transfers.mixedBatch_alloc' (Lvl := ℕ) (countersEmb (U := Pipeline.UD sig nD τ)) (c : Thread nD τ) () AD
    (delivD c (sG (15 * l + 10 + i + 3)) (cG (15 * l + 10 + i + 3)) w2 ⟨l, hl⟩ ⟨i + 3, by omega⟩ 0 w.d) (sm := SemLoc.dma (cG (15 * l + 10 + i + 3))) (E := Set.univ)
  have hC := fun w2 => Transfers.mixedBatch_alloc' (Lvl := ℕ) (countersEmb (U := Pipeline.UD sig nD τ)) (c : Thread nD τ) () AD
    (delivD c (sU (15 * l + 10 + i + 3)) (cU (15 * l + 10 + i + 3)) w2 ⟨l, hl⟩ ⟨i + 3, by omega⟩ 1 w.d) (sm := SemLoc.dma (cU (15 * l + 10 + i + 3))) (E := Set.univ)
  have key := fun f f1 f' f1' o => o_after c w.d dc sx sd (sG (15 * l + 10 + i)) (sU (15 * l + 10 + i)) f f1 f' f1' ⟨l, hl⟩ ⟨i, hi⟩ (o := o)
  interval_cases l <;> interval_cases i
  all_goals
    obtain rfl : hl = (by decide) := rfl
    obtain rfl : h2 = (by decide) := rfl
    obtain rfl : hi = (by decide) := rfl
    simp only [Nat.reduceMul, Nat.reduceAdd, Nat.reduceSub] at hB hC
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busyD free0 flyingD toksD operandsD prodD
    iintro ⟨⟨⟨⟨%f0, HF, Hr0, Hr1⟩, Hg⟩, ⟨⟨%f1, HE, Hr2, Hr3⟩, Hu⟩, ⟨⟨%w2, Hs2, Hq2⟩, Hg2, Ht2⟩, ⟨%w3, Hs3, Hq3⟩, Hg3, Ht3⟩, ⟨Hdc, Hsx, Hsd⟩, ⟨%o, Ho, %ho⟩, %W, HW⟩
    imod (hB w2) $$ Hq2 with HB
    imod (hC w3) $$ Hq3 with HC
    ihave Hx2 := (halves_split c _ w2) $$ Hs2
    ihave Hx3 := (halves_split c _ w3) $$ Hs3
    icases Hx2 with ⟨Hx0, Hx1⟩
    icases Hx3 with ⟨Hx2, Hx3⟩
    icases Ht2 with ⟨Ha2, Hb2⟩
    icases Ht3 with ⟨Ha3, Hb3⟩
    unfold body4 k0_t4_body delivD
    sl_exec
    sl_step
    sl_unfold_run_names
    ihave HFs := (halves_join c _ _ _) $$ [HF_dst0 HF_dst1]
    · isplitl [HF_dst0]; · iexact HF_dst0
      iexact HF_dst1
    icases HFs with ⟨%hf, HFs⟩
    ihave HEs := (halves_join c _ _ _) $$ [HE_dst0 HE_dst1]
    · isplitl [HE_dst0]; · iexact HE_dst0
      iexact HE_dst1
    icases HEs with ⟨%he, HEs⟩
    isplitl [HFs HF Hr0 Hr1 Hg HEs HE Hr2 Hr3 Hu HB Ha2 Hb2 Hg2 HC Ha3 Hb3 Hg3]
    · isplitl [HFs HF Hr0 Hr1 Hg]
      · isplitl [HFs HF]
        · iexists hf
          isplitl [HFs]; · iexact HFs
          iexact HF
        isplitl [Hg]; · iexact Hg
        isplitl [Hr0]; · iexact Hr0
        iexact Hr1
      isplitl [HEs HE Hr2 Hr3 Hu]
      · isplitl [HEs HE]
        · iexists he
          isplitl [HEs]; · iexact HEs
          iexact HE
        isplitl [Hu]; · iexact Hu
        isplitl [Hr2]; · iexact Hr2
        iexact Hr3
      isplitl [HB Ha2 Hb2 Hg2]
      · isplitl [HB Ha2 Hb2]
        · iexists w2
          isplitl [HB]; · iexact HB
          isplitl [Ha2]; · iexact Ha2
          iexact Hb2
        iexact Hg2
      isplitl [HC Ha3 Hb3]
      · iexists w3
        isplitl [HC]; · iexact HC
        isplitl [Ha3]; · iexact Ha3
        iexact Hb3
      iexact Hg3
    isplitl [Hdc Hsx Hsd]
    · isplitl [Hdc]; · iexact Hdc
      isplitl [Hsx]; · iexact Hsx
      iexact Hsd
    isplitl [Ho]
    · iexists _
      isplitl [Ho]; · iexact Ho
      ipureintro; exact key _ _ _ _ _ ho
    iexists _
    iexact HW

set_option maxHeartbeats 12000000 in
/-- Steps 2 to 4 of down of the first layer, which issue the gate and up blocks of the second. -/
theorem stepsD_gu (i : ℕ) (h2 : 2 ≤ i) (hi : i < 5) : StepOkD F 0 i (by decide) hi := by
  intro c w dc sx sd arg44 v225 v414 v415
  have key := fun f f1 f' f1' o => o_after c w.d dc sx sd (sG (10 + i)) (sU (10 + i)) f f1 f' f1' ⟨0, by decide⟩ ⟨i, hi⟩ (o := o)
  interval_cases i
  all_goals
    obtain rfl : h2 = (by decide) := rfl
    obtain rfl : hi = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busyD busy free0 flying flyingD toksD operandsD prodD
    iintro ⟨⟨⟨⟨%f0, HF, Hr0, Hr1⟩, Hg⟩, ⟨⟨%f1, HE, Hr2, Hr3⟩, Hu⟩, ⟨⟨%w2, Hs2, Hq2⟩, Hg2, Ht2⟩, ⟨%w3, Hs3, Hq3⟩, Hg3, Ht3⟩, ⟨Hdc, Hsx, Hsd⟩, ⟨%o, Ho, %ho⟩, %W, HW⟩
    unfold body4 k0_t4_body delivD
    sl_exec
    sl_step
    sl_unfold_run_names
    ihave HFs := (halves_join c _ _ _) $$ [HF_dst0 HF_dst1]
    · isplitl [HF_dst0]; · iexact HF_dst0
      iexact HF_dst1
    icases HFs with ⟨%hf, HFs⟩
    ihave HEs := (halves_join c _ _ _) $$ [HE_dst0 HE_dst1]
    · isplitl [HE_dst0]; · iexact HE_dst0
      iexact HE_dst1
    icases HEs with ⟨%he, HEs⟩
    isplitl [HFs HF Hr0 Hr1 Hg HEs HE Hr2 Hr3 Hu Hq2 Hg2 Ht2 Hq3 Hg3 Ht3]
    · isplitl [HFs HF Hr0 Hr1 Hg]
      · isplitl [HFs HF]
        · iexists hf
          isplitl [HFs]; · iexact HFs
          iexact HF
        isplitl [Hg]; · iexact Hg
        isplitl [Hr0]; · iexact Hr0
        iexact Hr1
      isplitl [HEs HE Hr2 Hr3 Hu]
      · isplitl [HEs HE]
        · iexists he
          isplitl [HEs]; · iexact HEs
          iexact HE
        isplitl [Hu]; · iexact Hu
        isplitl [Hr2]; · iexact Hr2
        iexact Hr3
      isplitl [Hq2 Hg2 Ht2]
      · isplitl [Hq2 Hg2]
        · iexists _
          isplitl [Hq2 Hg2]
          · isplitl [Hq2]; · iexact Hq2
            iexact Hg2
          · ipureintro; exact holds_landed' _ _ _ _ _ _ _ _ _ rfl
        · iexact Ht2
      isplitl [Hq3 Hg3]
      · iexists _
        isplitl [Hq3 Hg3]
        · isplitl [Hq3]; · iexact Hq3
          iexact Hg3
        · ipureintro; exact holds_landed' _ _ _ _ _ _ _ _ _ rfl
      · iexact Ht3
    isplitl [Hdc Hsx Hsd]
    · isplitl [Hdc]; · iexact Hdc
      isplitl [Hsx]; · iexact Hsx
      iexact Hsd
    isplitl [Ho]
    · iexists _
      isplitl [Ho]; · iexact Ho
      ipureintro; exact key _ _ _ _ _ ho
    iexists _
    iexact HW

set_option maxHeartbeats 12000000 in
/-- Steps 2 to 4 of down of the second layer, after which nothing is left to issue. -/
theorem stepsD_end (i : ℕ) (h2 : 2 ≤ i) (hi : i < 5) : StepOkD F 1 i (by decide) hi := by
  intro c w dc sx sd arg44 v225 v414 v415
  have key := fun f f1 f' f1' o => o_after c w.d dc sx sd (sG (25 + i)) (sU (25 + i)) f f1 f' f1' ⟨1, by decide⟩ ⟨i, hi⟩ (o := o)
  interval_cases i
  all_goals
    obtain rfl : h2 = (by decide) := rfl
    obtain rfl : hi = (by decide) := rfl
    unfold ringIn ringOut cellG cellU
    simp only [cell_gu, cell_dn, cell_ge, Nat.reduceMul, Nat.reduceAdd, Nat.reduceMod, Nat.reduceDiv, Nat.reduceLT, Nat.reduceLeDiff,
      Nat.reduceSub, Nat.reduceEqDiff, not_false_eq_true, not_true_eq_false, ↓reduceIte, le_refl, one_ne_zero, Bool.false_eq_true,
      decide_true, decide_false, lt_self_iff_false]
    unfold busyD free0 flyingD toksD operandsD prodD
    iintro ⟨⟨⟨⟨%f0, HF, Hr0, Hr1⟩, Hg⟩, ⟨⟨%f1, HE, Hr2, Hr3⟩, Hu⟩, HG3, HU3⟩, ⟨Hdc, Hsx, Hsd⟩, ⟨%o, Ho, %ho⟩, %W, HW⟩
    unfold body4 k0_t4_body delivD
    sl_exec
    sl_step
    sl_unfold_run_names
    ihave HFs := (halves_join c _ _ _) $$ [HF_dst0 HF_dst1]
    · isplitl [HF_dst0]; · iexact HF_dst0
      iexact HF_dst1
    icases HFs with ⟨%hf, HFs⟩
    ihave HEs := (halves_join c _ _ _) $$ [HE_dst0 HE_dst1]
    · isplitl [HE_dst0]; · iexact HE_dst0
      iexact HE_dst1
    icases HEs with ⟨%he, HEs⟩
    isplitl [HFs HF Hr0 Hr1 Hg HEs HE Hr2 Hr3 Hu HG3 HU3]
    · isplitl [HFs HF Hr0 Hr1 Hg]
      · isplitl [HFs HF]
        · iexists hf
          isplitl [HFs]; · iexact HFs
          iexact HF
        isplitl [Hg]; · iexact Hg
        isplitl [Hr0]; · iexact Hr0
        iexact Hr1
      isplitl [HEs HE Hr2 Hr3 Hu]
      · isplitl [HEs HE]
        · iexists he
          isplitl [HEs]; · iexact HEs
          iexact HE
        isplitl [Hu]; · iexact Hu
        isplitl [Hr2]; · iexact Hr2
        iexact Hr3
      isplitl [HG3]; · iexact HG3
      iexact HU3
    isplitl [Hdc Hsx Hsd]
    · isplitl [Hdc]; · iexact Hdc
      isplitl [Hsx]; · iexact Hsx
      iexact Hsd
    isplitl [Ho]
    · iexists _
      isplitl [Ho]; · iexact Ho
      ipureintro; exact key _ _ _ _ _ ho
    iexists _
    iexact HW

end Cert.KernelIdeal.Hand
end
-- ==== Proof.Ideal.Steps.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.StepA
public import proofs.«01_k».proof.Proof.Ideal.StepB
public import proofs.«01_k».proof.Proof.Ideal.StepC
public import proofs.«01_k».proof.Proof.Ideal.StepD
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Every step of a layer, at the loop's invariant -/

theorem stepOk_all (l i : ℕ) (hl : l < 2) (hi : i < 10) : StepOk F l i hl hi := by
  rcases Nat.eq_zero_or_pos i with rfl | h1
  · exact stepsA l hl
  rcases Nat.lt_or_ge i 7 with h7 | h7
  · exact stepsB l i hl h1 h7 hi
  · exact stepsC l i hl h7 hi

theorem stepOkD_all (l i : ℕ) (hl : l < 2) (hi : i < 5) : StepOkD F l i hl hi := by
  rcases Nat.lt_or_ge i 2 with h2 | h2
  · exact stepsD_dn l i hl h2 hi
  interval_cases l
  · exact stepsD_gu i h2 hi
  · exact stepsD_end i h2 hi

/-- The ring before a step is what the step finds, beside what it leaves alone, -/
theorem ring_in (c : Dev nD) (w : Wts F c) (p : ℕ) (e : Bool) : ring c w p e ⊢ iprop(ringIn c w p e ∗ ringMid c w p) := by
  unfold ring ringIn
  iintro ⟨H1, H2, H3, H4, H5⟩
  isplitr [H5]
  · isplitl [H1]; · iexact H1
    isplitl [H2]; · iexact H2
    isplitl [H3]; · iexact H3
    iexact H4
  · iexact H5

/-- and what the step leaves, beside that, is the ring before the next one. -/
theorem ring_out (c : Dev nD) (w : Wts F c) (p : ℕ) : iprop(ringOut c w p ∗ ringMid c w p) ⊢ ring c w (p + 1) false := by
  have e4 : sG (p + 1 + 3) = sG p := Fin.ext (by simp only []; omega)
  have e5 : sU (p + 1 + 3) = sU p := Fin.ext (by simp only []; omega)
  have e6 : cG (p + 1 + 3) = cG p := Fin.ext (by simp only []; omega)
  have e7 : cU (p + 1 + 3) = cU p := Fin.ext (by simp only []; omega)
  unfold ring ringOut ringMid cellG cellU
  simp only [Bool.false_eq_true, if_false]
  rw [e4, e5, e6, e7]
  iintro ⟨⟨H1, H2, H3, H4⟩, H9, H10, H11, H12⟩
  isplitl [H9]; · iexact H9
  isplitl [H10]; · iexact H10
  isplitl [H1]; · iexact H1
  isplitl [H2]; · iexact H2
  isplitl [H11]; · iexact H11
  isplitl [H12]; · iexact H12
  isplitl [H3]; · iexact H3
  iexact H4

/-- Before step `i` of layer `l`, of gate and up, -/
def stepInv (c : Dev nD) (w : Wts F c) (xc : BufOf F c vXc) (sx : BufOf F c vSx) (sg : BufOf F c vSg)
    (su : BufOf F c vSu) (l : Fin 2) (i : ℕ) : sProp 𝕄 :=
  iprop(ring c w (15 * l.val + i) (decide (i = 0)) ∗ operands c xc sx sg su ∗ prod c (tileAt c w.g w.u xc sx sg su l) i
    ∗ ∃ W, owes (c : Thread nD τ) 0 W)

/-- and of down. -/
def stepInvD (c : Dev nD) (w : Wts F c) (dc : BufOf F c vDc) (sx : BufOf F c vSx) (sd : BufOf F c vSd) (l : Fin 2) (i : ℕ) : sProp 𝕄 :=
  iprop(ring c w (15 * l.val + 10 + i) false ∗ operandsD c dc sx sd ∗ prodD c (downAt c w.d dc sx sd l) i
    ∗ ∃ W, owes (c : Thread nD τ) 0 W)

theorem step_inv (c : Dev nD) (w : Wts F c) (xc : BufOf F c vXc) (sx : BufOf F c vSx) (sg : BufOf F c vSg)
    (su : BufOf F c vSu) (arg44 v225 : BitVec 32) (v385 : FVec F S1x48 .f32) (l i : ℕ) (hl : l < 2) (hi : i < 10) :
    stepInv c w xc sx sg su ⟨l, hl⟩ i
    ⊢ wp frame (wpE (defs₀ (F := F)) Variants.none c none) Set.univ
        (body2 (F := F) ⟨l, trips1 ▸ hl⟩ arg44 v225 v385 ⟨i, trips2 ▸ hi⟩ ())
        (fun _ => stepInv c w xc sx sg su ⟨l, hl⟩ (i + 1)) := by
  have hs := stepOk_all (F := F) l i hl hi c w xc sx sg su arg44 v225 v385
  refine BIBase.Entails.trans ?_ ((BIClass.sep_mono hs (Entails.refl (ringMid c w (15 * l + i)))).trans
    ((wp_frame_r _ _ _).trans (wp_mono _ _ _ fun _ => ?_)))
  · unfold stepInv
    iintro ⟨Hr, H6, H7, H8⟩
    ihave Hr := (ring_in c w _ _) $$ Hr
    icases Hr with ⟨H1, H5⟩
    isplitr [H5]
    · isplitl [H1]; · iexact H1
      isplitl [H6]; · iexact H6
      isplitl [H7]; · iexact H7
      iexact H8
    · iexact H5
  · unfold stepInv
    simp only [Nat.succ_ne_zero, decide_false]
    rw [show 15 * l + (i + 1) = 15 * l + i + 1 from rfl]
    iintro ⟨⟨H1, H6, H7, H8⟩, H9⟩
    isplitl [H1 H9]
    · iapply (ring_out c w (15 * l + i))
      isplitl [H1]; · iexact H1
      iexact H9
    isplitl [H6]; · iexact H6
    isplitl [H7]; · iexact H7
    iexact H8

theorem stepD_inv (c : Dev nD) (w : Wts F c) (dc : BufOf F c vDc) (sx : BufOf F c vSx) (sd : BufOf F c vSd) (arg44 v225 : BitVec 32)
    (v414 v415 : FVec F S48x1 .f32) (l i : ℕ) (hl : l < 2) (hi : i < 5) :
    stepInvD c w dc sx sd ⟨l, hl⟩ i
    ⊢ wp frame (wpE (defs₀ (F := F)) Variants.none c none) Set.univ
        (body4 (F := F) ⟨l, trips1 ▸ hl⟩ arg44 v225 v414 v415 ⟨i, trips4 ▸ hi⟩ ())
        (fun _ => stepInvD c w dc sx sd ⟨l, hl⟩ (i + 1)) := by
  have hs := stepOkD_all (F := F) l i hl hi c w dc sx sd arg44 v225 v414 v415
  refine BIBase.Entails.trans ?_ ((BIClass.sep_mono hs (Entails.refl (ringMid c w (15 * l + 10 + i)))).trans
    ((wp_frame_r _ _ _).trans (wp_mono _ _ _ fun _ => ?_)))
  · unfold stepInvD
    iintro ⟨Hr, H6, H7, H8⟩
    ihave Hr := (ring_in c w _ _) $$ Hr
    icases Hr with ⟨H1, H5⟩
    isplitr [H5]
    · isplitl [H1]; · iexact H1
      isplitl [H6]; · iexact H6
      isplitl [H7]; · iexact H7
      iexact H8
    · iexact H5
  · unfold stepInvD
    rw [show 15 * l + 10 + (i + 1) = 15 * l + 10 + i + 1 from rfl]
    iintro ⟨⟨H1, H6, H7, H8⟩, H9⟩
    isplitl [H1 H9]
    · iapply (ring_out c w (15 * l + 10 + i))
      isplitl [H1]; · iexact H1
      iexact H9
    isplitl [H6]; · iexact H6
    isplitl [H7]; · iexact H7
    iexact H8

end Cert.KernelIdeal.Hand
end
-- ==== Proof.Ideal.Quant.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.RingState
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The second loop of a layer: the gated product quantised, 1024 columns a trip -/

abbrev body3 (k0_t1 : Fin k0_t1_loop.trips) (arg44 v225 : BitVec 32) (v414 v415 : FVec F S48x1 .f32) :=
  k0_t3_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24 k0_t1 arg44 v225 v414 v415

theorem trips3 : k0_t3_loop.trips = 10 := by decide

/-- One tile of the gated product, as loaded. -/
abbrev ldMm (c : Dev nD) (mm : BufOf F c vMm) (q : Fin 40) : FVec F S48x256 .f32 :=
  View.readAt (Elt F) vMm.view (Rect.unit (s := S48x10240) ![0, 256 * q.val] S48x256.size (inbM q)).toLoadRect mm

/-- Tile `q` of the codes: the product's tile over the row scales, rounded and clipped; as a result, -/
def cdTile (c : Dev nD) (mm : BufOf F c vMm) (sx : BufOf F c vSx) (q : Fin 40) : S48x256.Idx → Elt F .i8 :=
  k0_pay31 (ldMm c mm q) (View.readAt (Elt F) vSx.view (Rect.unit (s := S48x128) ![0, 0] S48x1.size inb_S48x128_S48x1_0_0).toLoadRect sx)

/-- and as multiplied. -/
def dcTile (c : Dev nD) (mm : BufOf F c vMm) (sx : BufOf F c vSx) (q : Fin 40) : S48x256.Idx → Elt F .bf16 :=
  k0_pay30 (ldMm c mm q) (View.readAt (Elt F) vSx.view (Rect.unit (s := S48x128) ![0, 0] S48x1.size inb_S48x128_S48x1_0_0).toLoadRect sx)

/-- Before trip `i` of the loop. -/
def quantInv (c : Dev nD) (mm : BufOf F c vMm) (sx : BufOf F c vSx) (i : ℕ) : sProp 𝕄 :=
  iprop(pt c vMm mm ∗ pt c vSx sx
    ∗ (∃ dc, pt c vDc dc ∗ ⌜∀ y : S48x10240.Idx, (y 1).val < 1024 * i → View.read (Elt F) vDc.view dc y = ofTiles (dcTile c mm sx) y⌝)
    ∗ (∃ cd, pt c vCd cd ∗ ⌜∀ y : S48x10240.Idx, (y 1).val < 1024 * i → View.read (Elt F) vCd.view cd y = ofTiles (cdTile c mm sx) y⌝)
    ∗ ∃ W, owes (c : Thread nD τ) 0 W)

/-- One trip, at an explicit number. -/
def QuantOk (F : FTy → Type) [FloatOps F] (i : ℕ) (hi : i < 10) : Prop :=
  ∀ (c : Dev nD) (mm : BufOf F c vMm) (sx : BufOf F c vSx) (k0_t1 : Fin k0_t1_loop.trips) (arg44 v225 : BitVec 32) (v414 v415 : FVec F S48x1 .f32),
    quantInv c mm sx i ⊢ wp frame (wpE (defs₀ (F := F)) Variants.none c none) Set.univ
      (body3 (F := F) k0_t1 arg44 v225 v414 v415 ⟨i, trips3 ▸ hi⟩ ()) (fun _ => quantInv c mm sx (i + 1))

/-- The buffer of the codes after a trip, -/
theorem cd_after {c : Dev nD} {mm : BufOf F c vMm} {sx : BufOf F c vSx} {i : ℕ} (hi : i < 10) {cd : BufOf F c vCd}
    (h : ∀ y : S48x10240.Idx, (y 1).val < 1024 * i → View.read (Elt F) vCd.view cd y = ofTiles (cdTile c mm sx) y) :
    ∀ y : S48x10240.Idx, (y 1).val < 1024 * (i + 1) → View.read (Elt F) vCd.view (vCd.view.writes (Elt F) cd
      [⟨Rect.unit (s := S48x10240) ![0, 256 * (4 * i + 3)] S48x256.size (inbM ⟨4 * i + 3, by omega⟩),
          k0_pay73 (ldMm c mm ⟨4 * i + 3, by omega⟩) (View.readAt (Elt F) vSx.view (Rect.unit (s := S48x128) ![0, 0] S48x1.size inb_S48x128_S48x1_0_0).toLoadRect sx)⟩,
       ⟨Rect.unit (s := S48x10240) ![0, 256 * (4 * i + 2)] S48x256.size (inbM ⟨4 * i + 2, by omega⟩),
          k0_pay31 (ldMm c mm ⟨4 * i + 2, by omega⟩) (View.readAt (Elt F) vSx.view (Rect.unit (s := S48x128) ![0, 0] S48x1.size inb_S48x128_S48x1_0_0).toLoadRect sx)⟩,
       ⟨Rect.unit (s := S48x10240) ![0, 256 * (4 * i + 1)] S48x256.size (inbM ⟨4 * i + 1, by omega⟩),
          k0_pay28 (k0_pay24 (ldMm c mm ⟨4 * i + 1, by omega⟩) (View.readAt (Elt F) vSx.view (Rect.unit (s := S48x128) ![0, 0] S48x1.size inb_S48x128_S48x1_0_0).toLoadRect sx)) 127#32 k0_pay25⟩,
       ⟨Rect.unit (s := S48x10240) ![0, 256 * (4 * i + 0)] S48x256.size (inbM ⟨4 * i + 0, by omega⟩),
          k0_pay23 (ldMm c mm ⟨4 * i + 0, by omega⟩) (View.readAt (Elt F) vSx.view (Rect.unit (s := S48x128) ![0, 0] S48x1.size inb_S48x128_S48x1_0_0).toLoadRect sx)⟩]) y
      = ofTiles (cdTile c mm sx) y :=
  prefix_step vCd.view cd (cdTile c mm sx) ⟨i, hi⟩ _ _ _ _ h rfl rfl rfl rfl

/-- and that of the codes as multiplied. -/
theorem dc_after {c : Dev nD} {mm : BufOf F c vMm} {sx : BufOf F c vSx} {i : ℕ} (hi : i < 10) {dc : BufOf F c vDc}
    (h : ∀ y : S48x10240.Idx, (y 1).val < 1024 * i → View.read (Elt F) vDc.view dc y = ofTiles (dcTile c mm sx) y) :
    ∀ y : S48x10240.Idx, (y 1).val < 1024 * (i + 1) → View.read (Elt F) vDc.view (vDc.view.writes (Elt F) dc
      [⟨Rect.unit (s := S48x10240) ![0, 256 * (4 * i + 3)] S48x256.size (inbM ⟨4 * i + 3, by omega⟩),
          k0_pay72 (ldMm c mm ⟨4 * i + 3, by omega⟩) (View.readAt (Elt F) vSx.view (Rect.unit (s := S48x128) ![0, 0] S48x1.size inb_S48x128_S48x1_0_0).toLoadRect sx)⟩,
       ⟨Rect.unit (s := S48x10240) ![0, 256 * (4 * i + 2)] S48x256.size (inbM ⟨4 * i + 2, by omega⟩),
          k0_pay30 (ldMm c mm ⟨4 * i + 2, by omega⟩) (View.readAt (Elt F) vSx.view (Rect.unit (s := S48x128) ![0, 0] S48x1.size inb_S48x128_S48x1_0_0).toLoadRect sx)⟩,
       ⟨Rect.unit (s := S48x10240) ![0, 256 * (4 * i + 1)] S48x256.size (inbM ⟨4 * i + 1, by omega⟩),
          k0_pay27 (k0_pay24 (ldMm c mm ⟨4 * i + 1, by omega⟩) (View.readAt (Elt F) vSx.view (Rect.unit (s := S48x128) ![0, 0] S48x1.size inb_S48x128_S48x1_0_0).toLoadRect sx)) 127#32 k0_pay25⟩,
       ⟨Rect.unit (s := S48x10240) ![0, 256 * (4 * i + 0)] S48x256.size (inbM ⟨4 * i + 0, by omega⟩),
          k0_pay22 (ldMm c mm ⟨4 * i + 0, by omega⟩) (View.readAt (Elt F) vSx.view (Rect.unit (s := S48x128) ![0, 0] S48x1.size inb_S48x128_S48x1_0_0).toLoadRect sx)⟩]) y
      = ofTiles (dcTile c mm sx) y :=
  prefix_step vDc.view dc (dcTile c mm sx) ⟨i, hi⟩ _ _ _ _ h rfl rfl rfl rfl

set_option maxHeartbeats 4000000 in
theorem quants : QuantOk F 0 (by decide) ∧ QuantOk F 1 (by decide) ∧ QuantOk F 2 (by decide) ∧ QuantOk F 3 (by decide)
    ∧ QuantOk F 4 (by decide) ∧ QuantOk F 5 (by decide) ∧ QuantOk F 6 (by decide) ∧ QuantOk F 7 (by decide)
    ∧ QuantOk F 8 (by decide) ∧ QuantOk F 9 (by decide) := by
  refine ⟨?_, ?_, ?_, ?_, ?_, ?_, ?_, ?_, ?_, ?_⟩ <;>
  · intro c mm sx k0_t1 arg44 v225 v414 v415
    unfold quantInv
    iintro ⟨Hmm, Hsx, ⟨%dc, Hdc, %hdc⟩, ⟨%cd, Hcd, %hcd⟩, %W, HW⟩
    unfold body3 k0_t3_body
    sl_exec
    sl_step
    sl_unfold_run_names
    isplitl [Hmm]; · iexact Hmm
    isplitl [Hsx]; · iexact Hsx
    isplitl [Hdc]
    · iexists _
      isplitl [Hdc]; · iexact Hdc
      ipureintro; exact dc_after (by decide) hdc
    isplitl [Hcd]
    · iexists _
      isplitl [Hcd]; · iexact Hcd
      ipureintro; exact cd_after (by decide) hcd
    iexists _
    iexact HW

theorem quant_inv (c : Dev nD) (mm : BufOf F c vMm) (sx : BufOf F c vSx) (k0_t1 : Fin k0_t1_loop.trips) (arg44 v225 : BitVec 32)
    (v414 v415 : FVec F S48x1 .f32) (i : ℕ) (hi : i < 10) :
    quantInv c mm sx i ⊢ wp frame (wpE (defs₀ (F := F)) Variants.none c none) Set.univ
      (body3 (F := F) k0_t1 arg44 v225 v414 v415 ⟨i, trips3 ▸ hi⟩ ()) (fun _ => quantInv c mm sx (i + 1)) := by
  have h : QuantOk F i hi := by
    obtain ⟨q0, q1, q2, q3, q4, q5, q6, q7, q8, q9⟩ := quants (F := F)
    interval_cases i <;> with_reducible assumption
  exact h c mm sx k0_t1 arg44 v225 v414 v415

end Cert.KernelIdeal.Hand
end
-- ==== Proof.Ideal.LayerVal.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.Steps
public import proofs.«01_k».proof.Proof.Ideal.Quant
public import Idealize.ShloMosaic.Lib.ValueLayout
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What a layer computes, from the arrays it reads

`X` are the activations, `N` and `M` the norm weights before and after, `G`, `U` and `D` the weight scales, `WG`, `WU` and `WD` the weight
codes; all of both layers. -/

/-- Sixteen rows of a layer's activations. -/
def hRows (X : S2x48x2560.Idx → Elt F .f32) (l : Fin 2) (r : Fin 3) : FVec F S16x2560 .f32 := fun y =>
  X (ix3 l (⟨16 * r.val + (y 0).val, by have h : (y 0).val < 16 := (y 0).isLt; omega⟩ : Fin 48) (⟨(y 1).val, (y 1).isLt⟩ : Fin 2560))

/-- A layer's norm weights. -/
def nRow (N : S2x2560.Idx → Elt F .f32) (l : Fin 2) : FVec F S1x2560 .f32 := fun y => N (ix2 l (⟨(y 1).val, (y 1).isLt⟩ : Fin 2560))

/-- The scales of 256 columns. -/
def sTile (G : S2x10240.Idx → Elt F .f32) (l : Fin 2) (q : Fin 40) : FVec F S1x256 .f32 := fun y =>
  G (ix2 l (⟨256 * q.val + (y 1).val, by have h : (y 1).val < 256 := (y 1).isLt; omega⟩ : Fin 10240))

/-- The scales of 256 columns of the down projection. -/
def sTileD (D : S2x2560.Idx → Elt F .f32) (l : Fin 2) (q : Fin 10) : FVec F S1x256 .f32 := fun y =>
  D (ix2 l (⟨256 * q.val + (y 1).val, by have h : (y 1).val < 256 := (y 1).isLt; omega⟩ : Fin 2560))

/-- A chunk of 2560 columns. -/
def chunk {α : Type} (v : S48x10240.Idx → α) (k : Fin 4) : S48x2560.Idx → α := fun y =>
  v (ix2 (⟨(y 0).val, (y 0).isLt⟩ : Fin 48) (⟨2560 * k.val + (y 1).val, by have h : (y 1).val < 2560 := (y 1).isLt; omega⟩ : Fin 10240))

/-- Sixteen rows. -/
def rows16 {α : Type} (v : S48x2560.Idx → α) (r : Fin 3) : S16x2560.Idx → α := fun y =>
  v (ix2 (⟨16 * r.val + (y 0).val, by have h : (y 0).val < 16 := (y 0).isLt; omega⟩ : Fin 48) (⟨(y 1).val, (y 1).isLt⟩ : Fin 2560))

/-- Sixteen rows normed, their codes and their scales (in every lane). -/
def normBlk (a : FVec F S16x2560 .f32) (n : FVec F S1x2560 .f32) : FVec F S16x2560 .f32 := k0_pay55 a n
def xcBlk (a : FVec F S16x2560 .f32) (n : FVec F S1x2560 .f32) : S16x2560.Idx → Elt F .bf16 := k0_pay58 (normBlk a n)
def cfBlk (a : FVec F S16x2560 .f32) (n : FVec F S1x2560 .f32) : S16x2560.Idx → Elt F .i8 := k0_pay59 (normBlk a n)
def sxBlk (a : FVec F S16x2560 .f32) (n : FVec F S1x2560 .f32) : S16x128.Idx → Elt F .f32 := k0_pay60 (normBlk a n)

/-- Sixteen rows of the layer's result: the activations and the normed down projection. -/
def yBlk (h o : FVec F S16x2560 .f32) (n : FVec F S1x2560 .f32) : S16x2560.Idx → Elt F .bf16 := k0_pay86 (k0_pay85 h o n)

/-- Forty-eight rows from three blocks of sixteen. -/
def ofRows {α : Type} (T : Fin 3 → S16x2560.Idx → α) : S48x2560.Idx → α := fun y =>
  T ⟨(y 0).val / 16, by have h : (y 0).val < 48 := (y 0).isLt; omega⟩
    (ix2 (⟨(y 0).val % 16, Nat.mod_lt _ (by decide)⟩ : Fin 16) (⟨(y 1).val, (y 1).isLt⟩ : Fin 2560))

/-- The same for rows of 128 lanes. -/
def ofRowsS {α : Type} (T : Fin 3 → S16x128.Idx → α) : S48x128.Idx → α := fun y =>
  T ⟨(y 0).val / 16, by have h : (y 0).val < 48 := (y 0).isLt; omega⟩
    (ix2 (⟨(y 0).val % 16, Nat.mod_lt _ (by decide)⟩ : Fin 16) (⟨(y 1).val, (y 1).isLt⟩ : Fin 128))

/-- The first lane of each row. -/
def col0 {α : Type} (v : S48x128.Idx → α) : S48x1.Idx → α := fun y => v (ix2 (⟨(y 0).val, (y 0).isLt⟩ : Fin 48) (0 : Fin 128))

section
variable (X : S2x48x2560.Idx → Elt F .f32) (N : S2x2560.Idx → Elt F .f32) (G U : S2x10240.Idx → Elt F .f32)
  (WG WU : S2x2560x10240.Idx → Elt F .i8) (l : Fin 2)

/-- The normed activations' codes (as multiplied, and as results) and their scales. -/
def xcA : S48x2560.Idx → Elt F .bf16 := ofRows fun r => xcBlk (hRows X l r) (nRow N l)
def cfA : S48x2560.Idx → Elt F .i8 := ofRows fun r => cfBlk (hRows X l r) (nRow N l)
def sxA : S48x1.Idx → Elt F .f32 := col0 (ofRowsS fun r => sxBlk (hRows X l r) (nRow N l))
def sfA : S1x48.Idx → Elt F .f32 := k0_pay61 (sxA X N l)

/-- The tiles of the gated product, their largest absolute values lane by lane, their codes and scales. -/
def tileA (q : Fin 40) : FVec F S48x256 .f32 :=
  tileVal (xcA X N l) (sxA X N l) (wTile WG l q) (wTile WU l q) (sTile G l q) (sTile U l q)
def amA : FVec F S48x128 .f32 := amAfter (tileA X N G U WG WU l) 40
def sdCol : FVec F S48x1 .f32 := col0 (k0_pay69 (k0_pay68 (amA X N G U WG WU l)))
def cdA : S48x10240.Idx → Elt F .i8 := ofTiles fun q => k0_pay31 (tileA X N G U WG WU l q) (sdCol X N G U WG WU l)
def sdA : S1x48.Idx → Elt F .f32 := k0_pay61 (k0_pay67 (amA X N G U WG WU l))

/-- The codes as multiplied by the down weights, the tiles of the down projection, and the layer's result. -/
def dcA : S48x10240.Idx → Elt F .bf16 := ofTiles fun q => k0_pay30 (tileA X N G U WG WU l q) (sdCol X N G U WG WU l)
variable (D M : S2x2560.Idx → Elt F .f32) (WD : S2x10240x2560.Idx → Elt F .i8)
def dTileA (q : Fin 10) : FVec F S48x256 .f32 :=
  downVal (chunk (dcA X N G U WG WU l) 0) (chunk (dcA X N G U WG WU l) 1) (chunk (dcA X N G U WG WU l) 2) (chunk (dcA X N G U WG WU l) 3)
    (sdCol X N G U WG WU l) (dTile WD l 0 q) (dTile WD l 1 q) (dTile WD l 2 q) (dTile WD l 3 q) (sTileD D l q)
def oA : S48x2560.Idx → Elt F .f32 := ofTilesD (dTileA X N G U WG WU l D WD)
def yA : S48x2560.Idx → Elt F .bf16 := ofRows fun r => yBlk (hRows X l r) (rows16 (oA X N G U WG WU l D WD) r) (nRow M l)
end

/-! ### The three spellings of a block are one -/

theorem xc0_eq (a : FVec F S16x2560 .f32) (n : FVec F S1x2560 .f32) : k0_pay43 (k0_pay40 a n) (k0_pay41 (F := F)) = xcBlk a n := rfl
theorem cf0_eq (a : FVec F S16x2560 .f32) (n : FVec F S1x2560 .f32) : k0_pay44 (k0_pay40 a n) (k0_pay41 (F := F)) = cfBlk a n := rfl
theorem sx0_eq (a : FVec F S16x2560 .f32) (n : FVec F S1x2560 .f32) : k0_pay45 (k0_pay39 a n) = sxBlk a n := rfl
theorem xc1_eq (a : FVec F S16x2560 .f32) (n : FVec F S1x2560 .f32) :
    k0_pay52 (k0_pay46 a n) (k0_pay48 a n) (k0_pay49 a n) (FloatOps.ofBits .f32 0x3F800000#32) = xcBlk a n := rfl
theorem cf1_eq (a : FVec F S16x2560 .f32) (n : FVec F S1x2560 .f32) :
    k0_pay53 (k0_pay46 a n) (k0_pay48 a n) (k0_pay49 a n) (FloatOps.ofBits .f32 0x3F800000#32) = cfBlk a n := rfl
theorem sx1_eq (a : FVec F S16x2560 .f32) (n : FVec F S1x2560 .f32) :
    k0_pay54 (k0_pay48 a n) (k0_pay49 a n) (FloatOps.ofBits .f32 0x3F800000#32) = sxBlk a n := rfl

theorem y0_eq (h o : FVec F S16x2560 .f32) (n : FVec F S1x2560 .f32) : k0_pay77 h o n = yBlk h o n := rfl
theorem y1_eq (h o : FVec F S16x2560 .f32) (n : FVec F S1x2560 .f32) : k0_pay82 h o n (k0_pay78 o) (k0_pay79 (F := F)) = yBlk h o n := rfl

/-! ### Three stores of sixteen rows -/

theorem inbR (r : Fin 3) : ∀ a, (![16 * r.val, 0] : Fin 2 → ℕ) a + S16x2560.size a ≤ S48x2560.size a := by
  revert r; decide
theorem inbRS (r : Fin 3) : ∀ a, (![16 * r.val, 0] : Fin 2 → ℕ) a + S16x128.size a ≤ S48x128.size a := by
  revert r; decide

theorem rows_written {κ : Kind} {sp : Space} {e : EltTy} (v : View sig κ sp S48x2560 e) (f : v.ty.Contents (Elt F))
    (T : Fin 3 → S16x2560.Idx → Elt F e) :
    v.read (Elt F) (v.writes (Elt F) f [⟨Rect.unit (s := S48x2560) ![16 * (2 : Fin 3).val, 0] S16x2560.size (inbR 2), T 2⟩,
      ⟨Rect.unit (s := S48x2560) ![16 * (1 : Fin 3).val, 0] S16x2560.size (inbR 1), T 1⟩,
      ⟨Rect.unit (s := S48x2560) ![16 * (0 : Fin 3).val, 0] S16x2560.size (inbR 0), T 0⟩]) = ofRows T := by
  have key : ∀ (r : Fin 3) (x : S16x2560.Idx), ofRows T ((Rect.unit (s := S48x2560) ![16 * r.val, 0] S16x2560.size (inbR r)).emb x) = T r x := by
    intro r x
    have h0 : (x 0).val < 16 := (x 0).isLt
    unfold ofRows
    congr 1
    · apply Fin.ext; show (16 * r.val + 1 * (x 0).val) / 16 = r.val; omega
    · funext a; fin_cases a <;> apply Fin.ext <;> simp [ix2]
      exact h0
  funext y
  refine View.read_writes_apply_of_pieces v f (ofRows T) _ ?_ y ?_
  · intro p hp
    simp only [List.mem_cons, List.not_mem_nil, or_false] at hp
    rcases hp with rfl | rfl | rfl <;> intro x <;> exact (key _ x).symm
  · have h0 : (y 0).val < 48 := (y 0).isLt
    have h1 : (y 1).val < 2560 := (y 1).isLt
    by_cases c2 : 32 ≤ (y 0).val
    · refine ⟨_, List.mem_cons_self, ?_⟩
      rw [Rect.mem_set_unit]; intro a; fin_cases a <;> simp <;> omega
    by_cases c1 : 16 ≤ (y 0).val
    · refine ⟨_, List.mem_cons_of_mem _ List.mem_cons_self, ?_⟩
      rw [Rect.mem_set_unit]; intro a; fin_cases a <;> simp <;> omega
    · refine ⟨_, List.mem_cons_of_mem _ (List.mem_cons_of_mem _ List.mem_cons_self), ?_⟩
      rw [Rect.mem_set_unit]; intro a; fin_cases a <;> simp <;> omega

theorem rowsS_written {κ : Kind} {sp : Space} {e : EltTy} (v : View sig κ sp S48x128 e) (f : v.ty.Contents (Elt F))
    (T : Fin 3 → S16x128.Idx → Elt F e) :
    v.read (Elt F) (v.writes (Elt F) f [⟨Rect.unit (s := S48x128) ![16 * (2 : Fin 3).val, 0] S16x128.size (inbRS 2), T 2⟩,
      ⟨Rect.unit (s := S48x128) ![16 * (1 : Fin 3).val, 0] S16x128.size (inbRS 1), T 1⟩,
      ⟨Rect.unit (s := S48x128) ![16 * (0 : Fin 3).val, 0] S16x128.size (inbRS 0), T 0⟩]) = ofRowsS T := by
  have key : ∀ (r : Fin 3) (x : S16x128.Idx), ofRowsS T ((Rect.unit (s := S48x128) ![16 * r.val, 0] S16x128.size (inbRS r)).emb x) = T r x := by
    intro r x
    have h0 : (x 0).val < 16 := (x 0).isLt
    unfold ofRowsS
    congr 1
    · apply Fin.ext; show (16 * r.val + 1 * (x 0).val) / 16 = r.val; omega
    · funext a; fin_cases a <;> apply Fin.ext <;> simp [ix2]
      exact h0
  funext y
  refine View.read_writes_apply_of_pieces v f (ofRowsS T) _ ?_ y ?_
  · intro p hp
    simp only [List.mem_cons, List.not_mem_nil, or_false] at hp
    rcases hp with rfl | rfl | rfl <;> intro x <;> exact (key _ x).symm
  · have h0 : (y 0).val < 48 := (y 0).isLt
    have h1 : (y 1).val < 128 := (y 1).isLt
    by_cases c2 : 32 ≤ (y 0).val
    · refine ⟨_, List.mem_cons_self, ?_⟩
      rw [Rect.mem_set_unit]; intro a; fin_cases a <;> simp <;> omega
    by_cases c1 : 16 ≤ (y 0).val
    · refine ⟨_, List.mem_cons_of_mem _ List.mem_cons_self, ?_⟩
      rw [Rect.mem_set_unit]; intro a; fin_cases a <;> simp <;> omega
    · refine ⟨_, List.mem_cons_of_mem _ (List.mem_cons_of_mem _ List.mem_cons_self), ?_⟩
      rw [Rect.mem_set_unit]; intro a; fin_cases a <;> simp <;> omega

/-! ### What the loads of a layer read -/

theorem inbX (l : Fin 2) : ∀ a, (![l.val, 0, 0] : Fin 3 → ℕ) a + S1x48x2560.size a ≤ S2x48x2560.size a := by
  revert l; decide
theorem inbN (l : Fin 2) : ∀ a, (![l.val, 0] : Fin 2 → ℕ) a + S1x2560.size a ≤ S2x2560.size a := by
  revert l; decide

/-- The layer's activations, once copied. -/
theorem h_read {c : Dev nD} (x : BufOf F c vX) (h : vH.view.ty.Contents (Elt F)) (l : Fin 2) (y : S48x2560.Idx) :
    vH.view.read (Elt F) (vH.view.writes (Elt F) h [⟨Rect.unit (s := S48x2560) ![0, 0] S48x2560.size inb_S48x2560_S48x2560_0_0,
      k0_pay37 (View.readAt (Elt F) vX.view (Rect.unit (s := S2x48x2560) ![l.val, 0, 0] S1x48x2560.size (inbX l)).toLoadRect x)⟩]) y
    = View.read (Elt F) vX.view x (ix3 l (⟨(y 0).val, (y 0).isLt⟩ : Fin 48) (⟨(y 1).val, (y 1).isLt⟩ : Fin 2560)) := by
  rw [View.read_writes_full]
  unfold k0_pay37
  rw [shapeCast_self]
  refine (shapeCast_apply _ _ y (ix3 (0 : Fin 1) (⟨(y 0).val, (y 0).isLt⟩ : Fin 48) (⟨(y 1).val, (y 1).isLt⟩ : Fin 2560)) ?_).trans ?_
  · rw [Shape.rowMajor_val_three, Shape.rowMajor_val_two]
    show (0 * 48 + (y 0).val) * 2560 + (y 1).val = (y 0).val * 2560 + (y 1).val
    omega
  rw [View.readAt_apply]
  refine congrArg _ ?_
  funext a; fin_cases a <;> apply Fin.ext <;> simp [LoadRect.idx, ix3]

theorem hRows_loaded {c : Dev nD} (x : BufOf F c vX) (h : vH.view.ty.Contents (Elt F)) (l : Fin 2) (r : Fin 3) :
    View.readAt (Elt F) vH.view (Rect.unit (s := S48x2560) ![16 * r.val, 0] S16x2560.size (inbR r)).toLoadRect
      (vH.view.writes (Elt F) h [⟨Rect.unit (s := S48x2560) ![0, 0] S48x2560.size inb_S48x2560_S48x2560_0_0,
        k0_pay37 (View.readAt (Elt F) vX.view (Rect.unit (s := S2x48x2560) ![l.val, 0, 0] S1x48x2560.size (inbX l)).toLoadRect x)⟩])
    = hRows (View.read (Elt F) vX.view x) l r := by
  funext y
  rw [View.readAt_apply, h_read]
  refine congrArg _ ?_
  funext a; fin_cases a <;> apply Fin.ext <;> simp [LoadRect.idx, ix3]

theorem nRow_loaded {c : Dev nD} (n : BufOf F c vN3) (l : Fin 2) :
    View.readAt (Elt F) vN3.view (Rect.unit (s := S2x2560) ![l.val, 0] S1x2560.size (inbN l)).toLoadRect n = nRow (View.read (Elt F) vN3.view n) l := by
  funext y
  have h0 : (y 0).val = 0 := by have := (y 0).isLt; simp at this; omega
  rw [View.readAt_apply]
  refine congrArg _ ?_
  funext a; fin_cases a <;> apply Fin.ext <;> simp [LoadRect.idx, ix2, h0]

theorem sTile_loaded {sp : Space} (v : View sig .tc sp S2x10240 .f32) (g : v.ty.Contents (Elt F)) (l : Fin 2) (q : Fin 40) :
    View.readAt (Elt F) v (Rect.unit (s := S2x10240) ![l.val, 256 * q.val] S1x256.size (inbS l q)).toLoadRect g
      = sTile (View.read (Elt F) v g) l q := by
  funext y
  have h0 : (y 0).val = 0 := by have := (y 0).isLt; simp at this; omega
  rw [View.readAt_apply]
  refine congrArg _ ?_
  funext a; fin_cases a <;> apply Fin.ext <;> simp [LoadRect.idx, ix2, h0]

theorem sTileD_loaded {sp : Space} (v : View sig .tc sp S2x2560 .f32) (g : v.ty.Contents (Elt F)) (l : Fin 2) (q : Fin 10) :
    View.readAt (Elt F) v (Rect.unit (s := S2x2560) ![l.val, 256 * q.val] S1x256.size (inbSd l q)).toLoadRect g
      = sTileD (View.read (Elt F) v g) l q := by
  funext y
  have h0 : (y 0).val = 0 := by have := (y 0).isLt; simp at this; omega
  rw [View.readAt_apply]
  refine congrArg _ ?_
  funext a; fin_cases a <;> apply Fin.ext <;> simp [LoadRect.idx, ix2, h0]

theorem nRow4_loaded {c : Dev nD} (n : BufOf F c vN4) (l : Fin 2) :
    View.readAt (Elt F) vN4.view (Rect.unit (s := S2x2560) ![l.val, 0] S1x2560.size (inbN l)).toLoadRect n = nRow (View.read (Elt F) vN4.view n) l := by
  funext y
  have h0 : (y 0).val = 0 := by have := (y 0).isLt; simp at this; omega
  rw [View.readAt_apply]
  refine congrArg _ ?_
  funext a; fin_cases a <;> apply Fin.ext <;> simp [LoadRect.idx, ix2, h0]

theorem rows16_loaded {sp : Space} {e : EltTy} (v : View sig .tc sp S48x2560 e) (f : v.ty.Contents (Elt F)) (r : Fin 3) :
    View.readAt (Elt F) v (Rect.unit (s := S48x2560) ![16 * r.val, 0] S16x2560.size (inbR r)).toLoadRect f = rows16 (View.read (Elt F) v f) r := by
  funext y
  rw [View.readAt_apply]
  refine congrArg _ ?_
  funext a; fin_cases a <;> apply Fin.ext <;> simp [LoadRect.idx, ix2]

theorem chunk_loaded {sp : Space} {e : EltTy} (v : View sig .tc sp S48x10240 e) (f : v.ty.Contents (Elt F)) (k : Fin 4) :
    View.readAt (Elt F) v (Rect.unit (s := S48x10240) ![0, 2560 * k.val] S48x2560.size (inbDc k)).toLoadRect f = chunk (View.read (Elt F) v f) k := by
  funext y
  rw [View.readAt_apply]
  refine congrArg _ ?_
  funext a; fin_cases a <;> apply Fin.ext <;> simp [LoadRect.idx, ix2]

theorem col0_loaded {sp : Space} (v : View sig .tc sp S48x128 .f32) (s : v.ty.Contents (Elt F)) :
    View.readAt (Elt F) v (Rect.unit (s := S48x128) ![0, 0] S48x1.size inb_S48x128_S48x1_0_0).toLoadRect s = col0 (View.read (Elt F) v s) := by
  funext y
  have h1 : (y 1).val = 0 := by have := (y 1).isLt; simp at this; omega
  rw [View.readAt_apply]
  refine congrArg _ ?_
  funext a; fin_cases a <;> apply Fin.ext <;> simp [LoadRect.idx, ix2, h1]

/-- A tile of a `48 × 10240` buffer that holds tiles. -/
theorem ldMm_eq {c : Dev nD} {mm : BufOf F c vMm} {T : Fin 40 → FVec F S48x256 .f32} (h : View.read (Elt F) vMm.view mm = ofTiles T) (q : Fin 40) :
    ldMm c mm q = T q := by
  funext y
  show View.read (Elt F) vMm.view mm ((Rect.unit (s := S48x10240) ![0, 256 * q.val] S48x256.size (inbM q)).emb y) = _
  rw [h]
  exact ofTiles_emb T q y

/-- The layer's tiles, once its operands are in place. -/
theorem tileAt_eq {c : Dev nD} (wg : BufOf F c mWg) (wu : BufOf F c mWu) {xc : BufOf F c vXc} {sx : BufOf F c vSx} (sg : BufOf F c vSg)
    (su : BufOf F c vSu) (x : BufOf F c vX) (n : BufOf F c vN3) (l : Fin 2)
    (hxc : View.read (Elt F) vXc.view xc = xcA (View.read (Elt F) vX.view x) (View.read (Elt F) vN3.view n) l)
    (hsx : View.read (Elt F) vSx.view sx = ofRowsS fun r => sxBlk (hRows (View.read (Elt F) vX.view x) l r) (nRow (View.read (Elt F) vN3.view n) l)) :
    tileAt c wg wu xc sx sg su l = tileA (View.read (Elt F) vX.view x) (View.read (Elt F) vN3.view n) (View.read (Elt F) vSg.view sg)
      (View.read (Elt F) vSu.view su) (View.read (Elt F) mWg.view wg) (View.read (Elt F) mWu.view wu) l := by
  funext q
  unfold tileAt tileA
  rw [View.readAt_full, hxc, col0_loaded, hsx, sTile_loaded, sTile_loaded]
  rfl

/-- The tiles of the layer's down projection, once the codes are in place. -/
theorem downAt_eq {c : Dev nD} (wd : BufOf F c mWd) {dc : BufOf F c vDc} {sx : BufOf F c vSx} (sd : BufOf F c vSd)
    {T : Fin 40 → FVec F S48x256 .f32} {s : FVec F S48x128 .f32} (l : Fin 2)
    (hdc : View.read (Elt F) vDc.view dc = ofTiles fun q => k0_pay30 (T q) (col0 s)) (hsx : View.read (Elt F) vSx.view sx = s) :
    downAt c wd dc sx sd l = fun q => downVal (chunk (ofTiles fun q => k0_pay30 (T q) (col0 s)) 0) (chunk (ofTiles fun q => k0_pay30 (T q) (col0 s)) 1)
      (chunk (ofTiles fun q => k0_pay30 (T q) (col0 s)) 2) (chunk (ofTiles fun q => k0_pay30 (T q) (col0 s)) 3) (col0 s)
      (dTile (View.read (Elt F) mWd.view wd) l 0 q) (dTile (View.read (Elt F) mWd.view wd) l 1 q) (dTile (View.read (Elt F) mWd.view wd) l 2 q)
      (dTile (View.read (Elt F) mWd.view wd) l 3 q) (sTileD (View.read (Elt F) vSd.view sd) l q) := by
  funext q
  unfold downAt ldDc
  rw [chunk_loaded, chunk_loaded, chunk_loaded, chunk_loaded, hdc, col0_loaded, hsx, sTileD_loaded]

end Cert.KernelIdeal.Hand
end
-- ==== Proof.Ideal.KernSide.lean ====
module

public import proofs.«01_k».proof.Proof.Ideal.LayerVal
public import proofs.«01_k».proof.Proof.Spec
@[expose] public section

set_option maxRecDepth 16000

noncomputable section

/-! ## What the kernel computes is the layer's mathematics -/

namespace Cert.KernelIdeal.Hand

open Cert.KernelIdeal Cert.KernelIdeal.Gen
open Cert.Spec hiding nRow
open Idealize.ShloMosaic Idealize.ShloMosaic.ValueIdx

/-! ### A block of sixteen rows -/

theorem norm_blk (a : FVec Ideal S16x2560 .f32) (n : FVec Ideal S1x2560 .f32) (p : Fin 16) (k : Fin 2560) :
    normBlk a n (ix2 p k) = normR (fun k => a (ix2 p k)) (fun k => n (ix2 (0 : Fin 1) k)) k :=
  norm_apply a n _ _ _ _ _ _ p k

theorem scale_blk (v : FVec Ideal S16x2560 .f32) (p : Fin 16) : k0_pay56 v (ix2 p (0 : Fin 1)) = scaleR fun k => v (ix2 p k) :=
  scale_apply (absf v) _ _ _ _ p

theorem code_blk (v : FVec Ideal S16x2560 .f32) (p : Fin 16) (k : Fin 2560) :
    k0_pay57 v (ix2 p k) = code (v (ix2 p k)) (scaleR fun k => v (ix2 p k)) :=
  (code_apply v (k0_pay56 v) _ p k).trans (congrArg (code _) (scale_blk v p))

theorem xc_blk (a : FVec Ideal S16x2560 .f32) (n : FVec Ideal S1x2560 .f32) (p : Fin 16) (k : Fin 2560) :
    xcBlk a n (ix2 p k) = codesR (fun k => a (ix2 p k)) (fun k => n (ix2 (0 : Fin 1) k)) k := by
  refine (congrFun (shapeCast_self (truncf .bf16 (k0_pay57 (normBlk a n)) bitsLt_bf16_f32) _) (ix2 p k)).trans ?_
  refine (code_blk (normBlk a n) p k).trans ?_
  simp only [norm_blk]; rfl

theorem cf_blk (a : FVec Ideal S16x2560 .f32) (n : FVec Ideal S1x2560 .f32) (p : Fin 16) (k : Fin 2560) :
    cfBlk a n (ix2 p k) = codeI (normR (fun k => a (ix2 p k)) (fun k => n (ix2 (0 : Fin 1) k)) k)
      (scaleR (normR (fun k => a (ix2 p k)) (fun k => n (ix2 (0 : Fin 1) k)))) := by
  refine (congrFun (shapeCast_self (trunci 8 (fptosi 32 (k0_pay57 (normBlk a n))) natLt_8_32) _) (ix2 p k)).trans ?_
  show (Ideal.fptosi 32 (k0_pay57 (F := Ideal) (normBlk a n) (ix2 p k))).setWidth 8 = _
  rw [code_blk]
  simp only [norm_blk]
  exact code_narrow _ _

theorem sx_lanes (v : FVec Ideal S16x2560 .f32) : k0_pay60 (F := Ideal) v = broadcastTo S16x128 (k0_pay56 (F := Ideal) v) broadcasts_S16x1_S16x128 := by
  unfold k0_pay60; simp only [shapeCast_self]

theorem sx_blk (a : FVec Ideal S16x2560 .f32) (n : FVec Ideal S1x2560 .f32) (p : Fin 16) (c : Fin 128) :
    sxBlk (F := Ideal) a n (ix2 p c) = scaleR (normR (fun k => a (ix2 p k)) (fun k => n (ix2 (0 : Fin 1) k))) := by
  unfold sxBlk
  rw [sx_lanes, bcast_col, scale_blk]
  simp only [norm_blk]

theorem y_blk (h o : FVec Ideal S16x2560 .f32) (n : FVec Ideal S1x2560 .f32) (p : Fin 16) (k : Fin 2560) :
    yBlk h o n (ix2 p k) = h (ix2 p k) + normR (fun k => o (ix2 p k)) (fun k => n (ix2 (0 : Fin 1) k)) k := by
  refine (congrFun (shapeCast_self (truncf .bf16 (k0_pay83 (F := Ideal) h o n) bitsLt_bf16_f32) _) (ix2 p k)).trans ?_
  exact congrArg (h (ix2 p k) + ·) (norm_blk o n p k)

/-! ### All rows -/

section
variable (X : S2x48x2560.Idx → EReal) (N : S2x2560.Idx → EReal) (G U : S2x10240.Idx → EReal)
  (WG WU : S2x2560x10240.Idx → BitVec 8) (l : Fin 2) (p : Fin 48)

theorem row_of : (fun k : Fin 2560 => hRows (F := Ideal) X l (⟨p.val / 16, by omega⟩ : Fin 3) (ix2 (⟨p.val % 16, by omega⟩ : Fin 16) k)) = xRow X l p := by
  funext k
  refine congrArg (fun r => X (ix3 l r k)) (Fin.ext ?_)
  show 16 * (p.val / 16) + p.val % 16 = p.val
  omega

theorem xcA_val (k : Fin 2560) : xcA (F := Ideal) X N l (ix2 p k) = codesR (xRow X l p) (Spec.nRow N l) k := by
  refine (xc_blk _ _ _ _).trans ?_
  exact congrArg (fun f => codesR f (Spec.nRow N l) k) (row_of X l p)

theorem cfA_val (k : Fin 2560) : cfA (F := Ideal) X N l (ix2 p k) = cfS X N l p k := by
  refine (cf_blk _ _ _ _).trans ?_
  exact congrArg (fun f => codeI (normR f (Spec.nRow N l) k) (scaleR (normR f (Spec.nRow N l)))) (row_of X l p)

theorem sxA_val : sxA (F := Ideal) X N l (ix2 p (0 : Fin 1)) = sfS X N l p := by
  unfold sxA col0 ofRowsS
  refine (sx_blk (hRows (F := Ideal) X l (⟨p.val / 16, by omega⟩ : Fin 3)) (nRow (F := Ideal) N l) (⟨p.val % 16, by omega⟩ : Fin 16) (0 : Fin 128)).trans ?_
  exact congrArg (fun f => scaleR (normR f (Spec.nRow N l))) (row_of X l p)

/-- Scales are widened, padded, transposed and cut to be stored. -/
theorem tr_val (v : FVec Ideal S48x1 .f32) : k0_pay61 (F := Ideal) v (ix2 (0 : Fin 1) p) = v (ix2 p (0 : Fin 1)) := by
  refine (extractStridedSlice_apply (s := S128x128) (t := S1x48) ![0, 0]
    (transpose S128x128 [1, 0] (concatenate S128x128 0 [⟨S48x128, broadcastTo S48x128 (shapeCast S48x1 v shapeCasts_S48x1_S48x1) broadcasts_S48x1_S48x128⟩,
      ⟨S80x128, broadcast S80x128 (Scalar.ofBits (F := Ideal) .f32 0x00000000#32)⟩] concatenates_S48x128_S80x128_S128x128_d0)
      transposes_S128x128_p1_0_S128x128) slices_S128x128_o0_0_S1x48 (ix2 (0 : Fin 1) p)
    (ix2 (0 : Fin 128) (⟨p.val, by omega⟩ : Fin 128)) ?_).trans ?_
  · intro a; fin_cases a <;> simp [ix2]
  refine (transpose_ix2_apply (concatenate S128x128 0 [⟨S48x128, broadcastTo S48x128 (shapeCast S48x1 v shapeCasts_S48x1_S48x1) broadcasts_S48x1_S48x128⟩,
    ⟨S80x128, broadcast S80x128 (Scalar.ofBits (F := Ideal) .f32 0x00000000#32)⟩] concatenates_S48x128_S80x128_S128x128_d0)
    transposes_S128x128_p1_0_S128x128 (0 : Fin 128) (⟨p.val, by omega⟩ : Fin 128)).trans ?_
  refine (concatenate_pair_apply_left (t := S128x128) (s₁ := S48x128) (s₂ := S80x128) 0 _ _ _ _ rfl (ix2 p (0 : Fin 128)) ?_).trans ?_
  · intro b; fin_cases b <;> simp [ix2]
  refine (bcast_col _ _ p (0 : Fin 128)).trans ?_
  rw [shapeCast_self]

theorem sfA_val : sfA (F := Ideal) X N l (ix2 (0 : Fin 1) p) = sfS X N l p := (tr_val p _).trans (sxA_val X N l p)

/-! ### The gated product, tile by tile -/

/-- The plain product of one tile of 256 columns: 48 rows of codes times the codes of a weight tile. -/
abbrev dotT (xc : FVec Ideal S48x2560 .bf16) (w : Vec Ideal S1x2560x256 .i8) : FVec Ideal S48x256 .f32 :=
  matmul dot_S48x2560_S2560x256_S48x256_1_0_0_1_n_n none xc
    (sitofp (F := Ideal) .bf16 (shapeCast S2560x256 w shapeCasts_S1x2560x256_S2560x256)) (constant (F := Ideal) S48x256 .f32 0x00000000#32)

theorem tile_val (xc : FVec Ideal S48x2560 .bf16) (sx : FVec Ideal S48x1 .f32) (wg wu : Vec Ideal S1x2560x256 .i8) (sg su : FVec Ideal S1x256 .f32)
    (j : Fin 256) : tileVal xc sx wg wu sg su (ix2 p j)
      = gated (dotR (fun k => xc (ix2 p k)) (fun k => wg (ix3 (0 : Fin 1) k j)) * sx (ix2 p (0 : Fin 1)) * sg (ix2 (0 : Fin 1) j))
        (dotR (fun k => xc (ix2 p k)) (fun k => wu (ix3 (0 : Fin 1) k j)) * sx (ix2 p (0 : Fin 1)) * su (ix2 (0 : Fin 1) j)) := by
  refine (gated_apply (mulf (mulf (dotT xc wg) (broadcastTo S48x256 sx broadcasts_S48x1_S48x256)) (broadcastTo S48x256 sg broadcasts_S1x256_S48x256))
    (mulf (mulf (dotT xc wu) (broadcastTo S48x256 sx broadcasts_S48x1_S48x256)) (broadcastTo S48x256 su broadcasts_S1x256_S48x256)) (ix2 p j)).trans ?_
  have h : ∀ w : Vec Ideal S1x2560x256 .i8, dotT xc w (ix2 p j) = dotR (fun k => xc (ix2 p k)) (fun k => w (ix3 (0 : Fin 1) k j)) :=
    fun w => dot_apply _ rfl none xc w _ p j
  rw [scaled_apply, scaled_apply, h, h]

theorem tileA_val (q : Fin 40) (j : Fin 256) : tileA (F := Ideal) X N G U WG WU l q (ix2 p j)
    = mmS X N WG WU G U l p (⟨256 * q.val + j.val, by omega⟩ : Fin 10240) := by
  refine (tile_val p _ _ _ _ _ _ j).trans ?_
  simp only [xcA_val, sxA_val]
  rfl

/-! ### The largest absolute value of a row -/

theorem amMax_val (am : FVec Ideal S48x128 .f32) (v : FVec Ideal S48x256 .f32) (c : Fin 128) : amMax am v (ix2 p c)
    = max (am (ix2 p c)) (max (max (v (ix2 p (⟨c.val, by omega⟩ : Fin 256))) (-(v (ix2 p (⟨c.val, by omega⟩ : Fin 256)))))
        (max (v (ix2 p (⟨128 + c.val, by omega⟩ : Fin 256))) (-(v (ix2 p (⟨128 + c.val, by omega⟩ : Fin 256)))))) := by
  have h0 := extractStridedSlice_apply (s := S48x256) (t := S48x128) ![0, 0] (absf v) slices_S48x256_o0_0_S48x128 (ix2 p c)
    (ix2 p (⟨c.val, by omega⟩ : Fin 256)) (by intro a; fin_cases a <;> simp [ix2])
  have h1 := extractStridedSlice_apply (s := S48x256) (t := S48x128) ![0, 128] (absf v) slices_S48x256_o0_128_S48x128 (ix2 p c)
    (ix2 p (⟨128 + c.val, by omega⟩ : Fin 256)) (by intro a; fin_cases a <;> simp [ix2])
  exact congrArg (max (am (ix2 p c))) (congrArg₂ max h0 h1)

/-- The running maximum after `n` tiles lies below `b` exactly when every absolute value seen does (and zero, its start). -/
theorem amAfter_le (T : Fin 40 → FVec Ideal S48x256 .f32) (c : Fin 128) (b : EReal) (n : ℕ) (hn : n ≤ 40) : amAfter T n (ix2 p c) ≤ b ↔ 0 ≤ b ∧
    ∀ q : Fin 40, q.val < n → max (T q (ix2 p (⟨c.val, by omega⟩ : Fin 256))) (-(T q (ix2 p (⟨c.val, by omega⟩ : Fin 256)))) ≤ b ∧
      max (T q (ix2 p (⟨128 + c.val, by omega⟩ : Fin 256))) (-(T q (ix2 p (⟨128 + c.val, by omega⟩ : Fin 256)))) ≤ b := by
  induction n with
  | zero =>
    show Ideal.ofBits .f32 0x00000000#32 ≤ b ↔ _
    rw [zero_val]
    exact ⟨fun h => ⟨h, fun q hq => absurd hq (Nat.not_lt_zero _)⟩, fun h => h.1⟩
  | succ n ih =>
    have hq : (⟨n % 40, Nat.mod_lt _ (by decide)⟩ : Fin 40) = ⟨n, by omega⟩ := Fin.ext (Nat.mod_eq_of_lt (by omega))
    show amMax (amAfter T n) (T ⟨n % 40, Nat.mod_lt _ (by decide)⟩) (ix2 p c) ≤ b ↔ _
    rw [hq, amMax_val, max_le_iff, ih (by omega), max_le_iff]
    constructor
    · rintro ⟨⟨h0, h⟩, h1⟩
      refine ⟨h0, fun q hlt => ?_⟩
      rcases Nat.lt_succ_iff_lt_or_eq.mp hlt with hlt | heq
      · exact h q hlt
      · have : q = ⟨n, by omega⟩ := Fin.ext heq
        rw [this]; exact h1
    · rintro ⟨h0, h⟩
      exact ⟨⟨h0, fun q hlt => h q (by omega)⟩, h ⟨n, by omega⟩ (Nat.lt_succ_self n)⟩

/-- The largest of the lanes' maxima is the row's. -/
theorem am_val : rowMax (fun c : Fin 128 => amA (F := Ideal) X N G U WG WU l (ix2 p c))
    = rowMax fun j : Fin 10240 => max (mmS X N WG WU G U l p j) (-(mmS X N WG WU G U l p j)) := by
  refine eq_of_forall_ge_iff fun b => ?_
  rw [rowMax_le, rowMax_le]
  unfold amA
  simp only [amAfter_le p _ _ b 40 le_rfl, tileA_val]
  constructor
  · intro h j
    have hj := j.isLt
    by_cases hc : j.val % 256 < 128
    · have := ((h ⟨j.val % 256, hc⟩).2 ⟨j.val / 256, by omega⟩ (by show j.val / 256 < 40; omega)).1
      have e : (⟨256 * (j.val / 256) + j.val % 256, by omega⟩ : Fin 10240) = j := Fin.ext (by show 256 * (j.val / 256) + j.val % 256 = j.val; omega)
      simp only [e] at this
      exact this
    · have := ((h ⟨j.val % 256 - 128, by omega⟩).2 ⟨j.val / 256, by omega⟩ (by show j.val / 256 < 40; omega)).2
      have e : (⟨256 * (j.val / 256) + (128 + (j.val % 256 - 128)), by omega⟩ : Fin 10240) = j :=
        Fin.ext (by show 256 * (j.val / 256) + (128 + (j.val % 256 - 128)) = j.val; omega)
      simp only [e] at this
      exact this
  · intro h c
    exact ⟨(abs_nonneg _).trans (h 0), fun q _ => ⟨h _, h _⟩⟩

theorem sd_col (v : FVec Ideal S48x128 .f32) : k0_pay67 (F := Ideal) v (ix2 p (0 : Fin 1)) = scaleOf (rowMax fun c => v (ix2 p c)) :=
  scale_apply v _ _ _ _ p

theorem sdA_val : sdA (F := Ideal) X N G U WG WU l (ix2 (0 : Fin 1) p) = sdS X N WG WU G U l p :=
  (tr_val p _).trans ((sd_col p _).trans (congrArg scaleOf (am_val X N G U WG WU l p)))

theorem sdCol_val : sdCol (F := Ideal) X N G U WG WU l (ix2 p (0 : Fin 1)) = sdS X N WG WU G U l p := by
  refine (congrFun (shapeCast_self (broadcastTo S48x128 (k0_pay68 (F := Ideal) (amA (F := Ideal) X N G U WG WU l)) broadcasts_S48x1_S48x128) _) (ix2 p (0 : Fin 128))).trans ?_
  refine (bcast_col _ _ p (0 : Fin 128)).trans ?_
  refine (congrFun (shapeCast_self (k0_pay67 (F := Ideal) (amA (F := Ideal) X N G U WG WU l)) _) (ix2 p (0 : Fin 1))).trans ?_
  exact (sd_col p _).trans (congrArg scaleOf (am_val X N G U WG WU l p))

theorem cd_tile (v : FVec Ideal S48x256 .f32) (s : FVec Ideal S48x1 .f32) (j : Fin 256) :
    k0_pay31 (F := Ideal) v s (ix2 p j) = codeI (v (ix2 p j)) (s (ix2 p (0 : Fin 1))) := by
  refine (congrFun (shapeCast_self (trunci 8 (fptosi 32 (k0_pay29 (F := Ideal) v s)) natLt_8_32) _) (ix2 p j)).trans ?_
  exact (congrArg (fun t => (Ideal.fptosi 32 t).setWidth 8) (code_apply v s _ p j)).trans (code_narrow _ _)

theorem cdA_val (j : Fin 10240) : cdA (F := Ideal) X N G U WG WU l (ix2 p j) = cdS X N WG WU G U l p j := by
  refine (cd_tile p _ _ _).trans ?_
  rw [tileA_val, sdCol_val]
  refine congrArg (fun i => codeI (mmS X N WG WU G U l p i) (sdS X N WG WU G U l p)) (Fin.ext ?_)
  show 256 * (j.val / 256) + j.val % 256 = j.val
  omega

/-! ### The down projection, tile by tile -/

theorem dc_tile (v : FVec Ideal S48x256 .f32) (s : FVec Ideal S48x1 .f32) (j : Fin 256) :
    k0_pay30 (F := Ideal) v s (ix2 p j) = code (v (ix2 p j)) (s (ix2 p (0 : Fin 1))) := by
  refine (congrFun (shapeCast_self (truncf .bf16 (k0_pay29 (F := Ideal) v s) bitsLt_bf16_f32) _) (ix2 p j)).trans ?_
  exact code_apply v s _ p j

theorem dcA_val (j : Fin 10240) : dcA (F := Ideal) X N G U WG WU l (ix2 p j) = code (mmS X N WG WU G U l p j) (sdS X N WG WU G U l p) := by
  refine (dc_tile p _ _ _).trans ?_
  rw [tileA_val, sdCol_val]
  refine congrArg (fun i => code (mmS X N WG WU G U l p i) (sdS X N WG WU G U l p)) (Fin.ext ?_)
  show 256 * (j.val / 256) + j.val % 256 = j.val
  omega

theorem down_val (d0 d1 d2 d3 : FVec Ideal S48x2560 .bf16) (sx : FVec Ideal S48x1 .f32) (w0 w1 w2 w3 : Vec Ideal S1x2560x256 .i8)
    (sw : FVec Ideal S1x256 .f32) (j : Fin 256) : downVal d0 d1 d2 d3 sx w0 w1 w2 w3 sw (ix2 p j)
      = (Ideal.ofBits .f32 0x00000000#32 + dotR (fun k => d0 (ix2 p k)) (fun k => w0 (ix3 (0 : Fin 1) k j)) + dotR (fun k => d1 (ix2 p k)) (fun k => w1 (ix3 (0 : Fin 1) k j))
        + dotR (fun k => d2 (ix2 p k)) (fun k => w2 (ix3 (0 : Fin 1) k j)) + dotR (fun k => d3 (ix2 p k)) (fun k => w3 (ix3 (0 : Fin 1) k j)))
        * sx (ix2 p (0 : Fin 1)) * sw (ix2 (0 : Fin 1) j) := by
  refine (congrFun (shapeCast_self (mulf (mulf (addf (addf (addf (addf (broadcast S48x256 (Scalar.ofBits (F := Ideal) .f32 0x00000000#32)) (dotT d0 w0))
    (dotT d1 w1)) (dotT d2 w2)) (dotT d3 w3)) (broadcastTo S48x256 sx broadcasts_S48x1_S48x256)) (broadcastTo S48x256 sw broadcasts_S1x256_S48x256)) _) (ix2 p j)).trans ?_
  have h : ∀ (d : FVec Ideal S48x2560 .bf16) (w : Vec Ideal S1x2560x256 .i8), dotT d w (ix2 p j) = dotR (fun k => d (ix2 p k)) (fun k => w (ix3 (0 : Fin 1) k j)) :=
    fun d w => dot_apply _ rfl none d w _ p j
  rw [scaled_apply]
  show (_ + dotT d0 w0 (ix2 p j) + dotT d1 w1 (ix2 p j) + dotT d2 w2 (ix2 p j) + dotT d3 w3 (ix2 p j)) * _ * _ = _
  rw [h, h, h, h]
  rfl

variable (D M : S2x2560.Idx → EReal) (WD : S2x10240x2560.Idx → BitVec 8)

theorem dTileA_val (q : Fin 10) (j : Fin 256) : dTileA (F := Ideal) X N G U WG WU l D WD q (ix2 p j)
    = downS X N WG WU G U l D WD p (⟨256 * q.val + j.val, by omega⟩ : Fin 2560) := by
  refine (down_val p _ _ _ _ _ _ _ _ _ _ j).trans ?_
  have hc : ∀ (k : Fin 4) (i : Fin 2560), chunk (dcA (F := Ideal) X N G U WG WU l) k (ix2 p i)
      = code (mmS X N WG WU G U l p (inChunk k i)) (sdS X N WG WU G U l p) := fun k i => dcA_val X N G U WG WU l p (inChunk k i)
  simp only [hc, sdCol_val]
  exact congrArg (· * sdS X N WG WU G U l p * D (ix2 l (⟨256 * q.val + j.val, by omega⟩ : Fin 2560)))
    (dot_chunks (fun j => code (mmS X N WG WU G U l p j) (sdS X N WG WU G U l p)) (wColD l WD (⟨256 * q.val + j.val, by omega⟩ : Fin 2560)))

theorem oA_val (k : Fin 2560) : oA (F := Ideal) X N G U WG WU l D WD (ix2 p k) = downS X N WG WU G U l D WD p k := by
  refine (dTileA_val X N G U WG WU l p D WD _ _).trans ?_
  refine congrArg (downS X N WG WU G U l D WD p) (Fin.ext ?_)
  show 256 * (k.val / 256) + k.val % 256 = k.val
  omega

theorem yA_val (k : Fin 2560) : yA (F := Ideal) X N G U WG WU l D M WD (ix2 p k) = yS X N WG WU G U l D M WD p k := by
  refine (y_blk _ _ _ _ _).trans ?_
  have ho : (fun k : Fin 2560 => rows16 (oA (F := Ideal) X N G U WG WU l D WD) (⟨p.val / 16, by omega⟩ : Fin 3) (ix2 (⟨p.val % 16, by omega⟩ : Fin 16) k))
      = downS X N WG WU G U l D WD p := by
    funext k
    refine Eq.trans ?_ (oA_val X N G U WG WU l p D WD k)
    refine congrArg (fun r => oA (F := Ideal) X N G U WG WU l D WD (ix2 r k)) (Fin.ext ?_)
    show 16 * (p.val / 16) + p.val % 16 = p.val
    omega
  exact congrArg₂ (fun x f => x + normR f (Spec.nRow M l) k) (congrFun (row_of X l p) k) ho
end

end Cert.KernelIdeal.Hand
end
-- ==== Proof.Ideal.LayerInv.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.LayerVal
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The state between layers, and one layer -/

abbrev body1 :=
  k0_t1_body (F := F) mX (Memref.isWhole_whole _) mSg (Memref.isWhole_whole _) mSu (Memref.isWhole_whole _) mSd (Memref.isWhole_whole _) mN3 (Memref.isWhole_whole _) mN4 (Memref.isWhole_whole _) mWg (Memref.isWhole_whole _) mWu (Memref.isWhole_whole _) mWd (Memref.isWhole_whole _) oY0 (Memref.isWhole_whole _) oY1 (Memref.isWhole_whole _) oCf0 (Memref.isWhole_whole _) oSf0 (Memref.isWhole_whole _) oCd0 (Memref.isWhole_whole _) oSd0 (Memref.isWhole_whole _) oCf1 (Memref.isWhole_whole _) oSf1 (Memref.isWhole_whole _) oCd1 (Memref.isWhole_whole _) oSd1 (Memref.isWhole_whole _) vX (Memref.isWhole_whole _) vSg (Memref.isWhole_whole _) vSu (Memref.isWhole_whole _) vSd (Memref.isWhole_whole _) vN3 (Memref.isWhole_whole _) vN4 (Memref.isWhole_whole _) vW (Memref.isWhole_whole _) vH (Memref.isWhole_whole _) vXc (Memref.isWhole_whole _) vSx (Memref.isWhole_whole _) vO (Memref.isWhole_whole _) vMm (Memref.isWhole_whole _) vDc (Memref.isWhole_whole _) vAm (Memref.isWhole_whole _) vCf (Memref.isWhole_whole _) vCd (Memref.isWhole_whole _) vSc (Memref.isWhole_whole _) vY (Memref.isWhole_whole _) cc0_scratch18 cc0_scratch19 cc0_scratch20 cc0_scratch21 cc0_scratch22 cc0_scratch23 cc0_scratch24

section
variable (c : Dev nD) (w : Wts F c) (x : BufOf F c vX) (sg : BufOf F c vSg) (su : BufOf F c vSu) (n3 : BufOf F c vN3)
  (sd : BufOf F c vSd) (n4 : BufOf F c vN4)

/-- The buffers every layer overwrites. -/
def scratch : sProp 𝕄 :=
  iprop((∃ f, pt c vH f) ∗ (∃ f, pt c vXc f) ∗ (∃ f, pt c vSx f) ∗ (∃ f, pt c vO f) ∗ (∃ f, pt c vMm f) ∗ (∃ f, pt c vDc f) ∗ (∃ f, pt c vAm f) ∗ (∃ f, pt c vCf f)
    ∗ (∃ f, pt c vCd f) ∗ (∃ f, pt c vSc f) ∗ (∃ f, pt c vY f))

/-- The five semaphores of the results. -/
def outSems : sProp 𝕄 :=
  iprop(semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0 ∗ semVal ((c : Thread nD τ), SemLoc.dma 13) 0)

/-- A result that holds `v` once `b`. -/
def outPt {S : Shape} {e : EltTy} (M : Memref sig .tc .hbm S e) (b : Prop) (v : S.Idx → Elt F e) : sProp 𝕄 :=
  iprop(∃ f, pt c M f ∗ ⌜b → View.read (Elt F) M.view f = v⌝)

/-- The results of one layer, there once `b`. -/
def outs0 (b : Prop) : sProp 𝕄 :=
  iprop(outPt c oY0 b (yA (View.read (Elt F) vX.view x) (View.read (Elt F) vN3.view n3) (View.read (Elt F) vSg.view sg)
        (View.read (Elt F) vSu.view su) (View.read (Elt F) mWg.view w.g) (View.read (Elt F) mWu.view w.u) 0
        (View.read (Elt F) vSd.view sd) (View.read (Elt F) vN4.view n4) (View.read (Elt F) mWd.view w.d))
    ∗ outPt c oCf0 b (cfA (View.read (Elt F) vX.view x) (View.read (Elt F) vN3.view n3) 0)
    ∗ outPt c oSf0 b (sfA (View.read (Elt F) vX.view x) (View.read (Elt F) vN3.view n3) 0)
    ∗ outPt c oCd0 b (cdA (View.read (Elt F) vX.view x) (View.read (Elt F) vN3.view n3) (View.read (Elt F) vSg.view sg)
        (View.read (Elt F) vSu.view su) (View.read (Elt F) mWg.view w.g) (View.read (Elt F) mWu.view w.u) 0)
    ∗ outPt c oSd0 b (sdA (View.read (Elt F) vX.view x) (View.read (Elt F) vN3.view n3) (View.read (Elt F) vSg.view sg)
        (View.read (Elt F) vSu.view su) (View.read (Elt F) mWg.view w.g) (View.read (Elt F) mWu.view w.u) 0))

def outs1 (b : Prop) : sProp 𝕄 :=
  iprop(outPt c oY1 b (yA (View.read (Elt F) vX.view x) (View.read (Elt F) vN3.view n3) (View.read (Elt F) vSg.view sg)
        (View.read (Elt F) vSu.view su) (View.read (Elt F) mWg.view w.g) (View.read (Elt F) mWu.view w.u) 1
        (View.read (Elt F) vSd.view sd) (View.read (Elt F) vN4.view n4) (View.read (Elt F) mWd.view w.d))
    ∗ outPt c oCf1 b (cfA (View.read (Elt F) vX.view x) (View.read (Elt F) vN3.view n3) 1)
    ∗ outPt c oSf1 b (sfA (View.read (Elt F) vX.view x) (View.read (Elt F) vN3.view n3) 1)
    ∗ outPt c oCd1 b (cdA (View.read (Elt F) vX.view x) (View.read (Elt F) vN3.view n3) (View.read (Elt F) vSg.view sg)
        (View.read (Elt F) vSu.view su) (View.read (Elt F) mWg.view w.g) (View.read (Elt F) mWu.view w.u) 1)
    ∗ outPt c oSd1 b (sdA (View.read (Elt F) vX.view x) (View.read (Elt F) vN3.view n3) (View.read (Elt F) vSg.view sg)
        (View.read (Elt F) vSu.view su) (View.read (Elt F) mWg.view w.g) (View.read (Elt F) mWu.view w.u) 1))

/-- Before layer `l`. -/
def layerInv (l : ℕ) : sProp 𝕄 :=
  iprop(pt c vX x ∗ pt c vSg sg ∗ pt c vSu su ∗ pt c vSd sd ∗ pt c vN3 n3 ∗ pt c vN4 n4 ∗ scratch c ∗ outSems c ∗ ring c w (15 * l) true
    ∗ outs0 c w x sg su n3 sd n4 (1 ≤ l) ∗ outs1 c w x sg su n3 sd n4 (2 ≤ l) ∗ ∃ W, owes (c : Thread nD τ) 0 W)

/-- The steps of a layer, with the codes and scales as its norm left them. -/
def gateInv (l : Fin 2) (i : ℕ) : sProp 𝕄 :=
  iprop(∃ xc sx, ⌜View.read (Elt F) vXc.view xc = xcA (View.read (Elt F) vX.view x) (View.read (Elt F) vN3.view n3) l
      ∧ View.read (Elt F) vSx.view sx = ofRowsS fun r => sxBlk (hRows (View.read (Elt F) vX.view x) l r) (nRow (View.read (Elt F) vN3.view n3) l)⌝
    ∗ stepInv c w xc sx sg su l i)

/-- The second loop of a layer, with the product and the scale column as the first left them. -/
def codeInv (T : Fin 40 → FVec F S48x256 .f32) (s : FVec F S48x128 .f32) (i : ℕ) : sProp 𝕄 :=
  iprop(∃ mm sx, ⌜View.read (Elt F) vMm.view mm = ofTiles T ∧ View.read (Elt F) vSx.view sx = s⌝ ∗ quantInv c mm sx i)

/-- The third loop of a layer, with the codes and the scale column as the second left them. -/
def downInv (T : Fin 40 → FVec F S48x256 .f32) (s : FVec F S48x128 .f32) (l : Fin 2) (i : ℕ) : sProp 𝕄 :=
  iprop(∃ dc sx, ⌜View.read (Elt F) vDc.view dc = (ofTiles fun q => k0_pay30 (T q) (col0 s)) ∧ View.read (Elt F) vSx.view sx = s⌝
    ∗ stepInvD c w dc sx sd l i)

theorem gate_step (arg44 v225 : BitVec 32) (v385 : FVec F S1x48 .f32) (l : Fin 2) (i : Fin k0_t2_loop.trips) :
    gateInv c w x sg su n3 l i.val
    ⊢ wp frame (wpE (defs₀ (F := F)) Variants.none c none) Set.univ
        (body2 (F := F) ⟨l.val, lt_of_lt_of_eq l.isLt trips1.symm⟩ arg44 v225 v385 i ()) (fun _ => gateInv c w x sg su n3 l (i.val + 1)) := by
  unfold gateInv
  iintro ⟨%xc, %sx, %h, HS⟩
  have hk : stepInv c w xc sx sg su l (i.val + 1) ⊢ gateInv c w x sg su n3 l (i.val + 1) := by
    unfold gateInv
    iintro HS
    iexists xc
    iexists sx
    isplitr [HS]
    · ipureintro; exact h
    · iexact HS
  have hi : i.val < 10 := lt_of_lt_of_eq i.isLt trips2
  iapply (step_inv c w xc sx sg su arg44 v225 v385 l.val i.val l.isLt hi).trans (wp_mono _ _ _ fun _ => hk)
  iexact HS

theorem code_step (k0_t1 : Fin k0_t1_loop.trips) (arg44 v225 : BitVec 32) (v414 v415 : FVec F S48x1 .f32) (T : Fin 40 → FVec F S48x256 .f32) (s : FVec F S48x128 .f32)
    (i : Fin k0_t3_loop.trips) :
    codeInv c T s i.val
    ⊢ wp frame (wpE (defs₀ (F := F)) Variants.none c none) Set.univ
        (body3 (F := F) k0_t1 arg44 v225 v414 v415 i ()) (fun _ => codeInv c T s (i.val + 1)) := by
  unfold codeInv
  iintro ⟨%mm, %sx, %h, HS⟩
  have hk : quantInv c mm sx (i.val + 1) ⊢ codeInv c T s (i.val + 1) := by
    unfold codeInv
    iintro HS
    iexists mm
    iexists sx
    isplitr [HS]
    · ipureintro; exact h
    · iexact HS
  have hi : i.val < 10 := lt_of_lt_of_eq i.isLt trips3
  iapply (quant_inv c mm sx k0_t1 arg44 v225 v414 v415 i.val hi).trans (wp_mono _ _ _ fun _ => hk)
  iexact HS

theorem down_step (arg44 v225 : BitVec 32) (v414 v415 : FVec F S48x1 .f32) (T : Fin 40 → FVec F S48x256 .f32) (s : FVec F S48x128 .f32)
    (l : Fin 2) (i : Fin k0_t4_loop.trips) :
    downInv c w sd T s l i.val
    ⊢ wp frame (wpE (defs₀ (F := F)) Variants.none c none) Set.univ
        (body4 (F := F) ⟨l.val, lt_of_lt_of_eq l.isLt trips1.symm⟩ arg44 v225 v414 v415 i ()) (fun _ => downInv c w sd T s l (i.val + 1)) := by
  unfold downInv
  iintro ⟨%dc, %sx, %h, HS⟩
  have hk : stepInvD c w dc sx sd l (i.val + 1) ⊢ downInv c w sd T s l (i.val + 1) := by
    unfold downInv
    iintro HS
    iexists dc
    iexists sx
    isplitr [HS]
    · ipureintro; exact h
    · iexact HS
  have hi : i.val < 5 := lt_of_lt_of_eq i.isLt trips4
  iapply (stepD_inv c w dc sx sd arg44 v225 v414 v415 l.val i.val l.isLt hi).trans (wp_mono _ _ _ fun _ => hk)
  iexact HS

end

end Cert.KernelIdeal.Hand
end
-- ==== Proof.Ideal.LayerRead.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.LayerInv
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What a layer's stores and copies leave, as the values it computes -/

section
variable {c : Dev nD} (x : BufOf F c vX) (n3 : BufOf F c vN3) (l : Fin 2)
  (offX : Fin 3 → ℕ) (inX : ∀ a, offX a + S1x48x2560.size a ≤ S2x48x2560.size a)
  (offN : Fin 2 → ℕ) (inN : ∀ a, offN a + S1x2560.size a ≤ S2x2560.size a)

/-- Sixteen rows of the layer's activations, as loaded after the copy. -/
abbrev ldH (o : Fin 2 → ℕ) (ino : ∀ a, o a + S16x2560.size a ≤ S48x2560.size a) : FVec F S16x2560 .f32 :=
  View.readCov (Val := Elt F) vH.view [⟨Rect.unit (s := S48x2560) ![0, 0] S48x2560.size inb_S48x2560_S48x2560_0_0,
      k0_pay37 (View.readAt (Elt F) vX.view (Rect.unit (s := S2x48x2560) offX S1x48x2560.size inX).toLoadRect x)⟩]
    (Rect.unit (s := S48x2560) o S16x2560.size ino).toLoadRect

/-- The layer's norm weights, as loaded. -/
abbrev ldN : FVec F S1x2560 .f32 := View.readAt (Elt F) vN3.view (Rect.unit (s := S2x2560) offN S1x2560.size inN).toLoadRect n3

theorem ldH_eq (hX : offX = ![l.val, 0, 0]) (o : Fin 2 → ℕ) (ino : ∀ a, o a + S16x2560.size a ≤ S48x2560.size a) (r : Fin 3)
    (ho : o = ![16 * r.val, 0]) : ldH x offX inX o ino = hRows (View.read (Elt F) vX.view x) l r := by
  subst hX ho
  exact hRows_loaded x _ l r

theorem ldN_eq (hN : offN = ![l.val, 0]) : ldN n3 offN inN = nRow (View.read (Elt F) vN3.view n3) l := by
  subst hN
  exact nRow_loaded n3 l

theorem xc_written (hX : offX = ![l.val, 0, 0]) (hN : offN = ![l.val, 0]) (f : vXc.view.ty.Contents (Elt F)) :
    View.read (Elt F) vXc.view (vXc.view.writes (Elt F) f
      [⟨Rect.unit (s := S48x2560) ![32, 0] S16x2560.size inb_S48x2560_S16x2560_32_0,
        k0_pay58 (k0_pay55 (ldH x offX inX ![32, 0] inb_S48x2560_S16x2560_32_0) (ldN n3 offN inN))⟩,
       ⟨Rect.unit (s := S48x2560) ![16, 0] S16x2560.size inb_S48x2560_S16x2560_16_0,
        k0_pay52 (k0_pay46 (ldH x offX inX ![16, 0] inb_S48x2560_S16x2560_16_0) (ldN n3 offN inN))
          (k0_pay48 (ldH x offX inX ![16, 0] inb_S48x2560_S16x2560_16_0) (ldN n3 offN inN))
          (k0_pay49 (ldH x offX inX ![16, 0] inb_S48x2560_S16x2560_16_0) (ldN n3 offN inN)) (FloatOps.ofBits .f32 0x3F800000#32)⟩,
       ⟨Rect.unit (s := S48x2560) ![0, 0] S16x2560.size inb_S48x2560_S16x2560_0_0,
        k0_pay43 (k0_pay40 (ldH x offX inX ![0, 0] inb_S48x2560_S16x2560_0_0) (ldN n3 offN inN)) k0_pay41⟩])
    = xcA (View.read (Elt F) vX.view x) (View.read (Elt F) vN3.view n3) l := by
  rw [ldH_eq x l offX inX hX ![0, 0] inb_S48x2560_S16x2560_0_0 0 rfl, ldH_eq x l offX inX hX ![16, 0] inb_S48x2560_S16x2560_16_0 1 rfl, ldH_eq x l offX inX hX ![32, 0] inb_S48x2560_S16x2560_32_0 2 rfl, ldN_eq n3 l offN inN hN, xc0_eq, xc1_eq]
  exact rows_written vXc.view f fun r => xcBlk (hRows (View.read (Elt F) vX.view x) l r) (nRow (View.read (Elt F) vN3.view n3) l)

theorem cf_written (hX : offX = ![l.val, 0, 0]) (hN : offN = ![l.val, 0]) (f : vCf.view.ty.Contents (Elt F)) :
    View.read (Elt F) vCf.view (vCf.view.writes (Elt F) f
      [⟨Rect.unit (s := S48x2560) ![32, 0] S16x2560.size inb_S48x2560_S16x2560_32_0,
        k0_pay59 (k0_pay55 (ldH x offX inX ![32, 0] inb_S48x2560_S16x2560_32_0) (ldN n3 offN inN))⟩,
       ⟨Rect.unit (s := S48x2560) ![16, 0] S16x2560.size inb_S48x2560_S16x2560_16_0,
        k0_pay53 (k0_pay46 (ldH x offX inX ![16, 0] inb_S48x2560_S16x2560_16_0) (ldN n3 offN inN))
          (k0_pay48 (ldH x offX inX ![16, 0] inb_S48x2560_S16x2560_16_0) (ldN n3 offN inN))
          (k0_pay49 (ldH x offX inX ![16, 0] inb_S48x2560_S16x2560_16_0) (ldN n3 offN inN)) (FloatOps.ofBits .f32 0x3F800000#32)⟩,
       ⟨Rect.unit (s := S48x2560) ![0, 0] S16x2560.size inb_S48x2560_S16x2560_0_0,
        k0_pay44 (k0_pay40 (ldH x offX inX ![0, 0] inb_S48x2560_S16x2560_0_0) (ldN n3 offN inN)) k0_pay41⟩])
    = cfA (View.read (Elt F) vX.view x) (View.read (Elt F) vN3.view n3) l := by
  rw [ldH_eq x l offX inX hX ![0, 0] inb_S48x2560_S16x2560_0_0 0 rfl, ldH_eq x l offX inX hX ![16, 0] inb_S48x2560_S16x2560_16_0 1 rfl, ldH_eq x l offX inX hX ![32, 0] inb_S48x2560_S16x2560_32_0 2 rfl, ldN_eq n3 l offN inN hN, cf0_eq, cf1_eq]
  exact rows_written vCf.view f fun r => cfBlk (hRows (View.read (Elt F) vX.view x) l r) (nRow (View.read (Elt F) vN3.view n3) l)

/-- The stores of the scales. -/
abbrev sxList : List (View.Piece (Elt F) S48x128 .f32) :=
  [⟨Rect.unit (s := S48x128) ![32, 0] S16x128.size inb_S48x128_S16x128_32_0,
    k0_pay60 (k0_pay55 (ldH x offX inX ![32, 0] inb_S48x2560_S16x2560_32_0) (ldN n3 offN inN))⟩,
   ⟨Rect.unit (s := S48x128) ![16, 0] S16x128.size inb_S48x128_S16x128_16_0,
    k0_pay54 (k0_pay48 (ldH x offX inX ![16, 0] inb_S48x2560_S16x2560_16_0) (ldN n3 offN inN))
      (k0_pay49 (ldH x offX inX ![16, 0] inb_S48x2560_S16x2560_16_0) (ldN n3 offN inN)) (FloatOps.ofBits .f32 0x3F800000#32)⟩,
   ⟨Rect.unit (s := S48x128) ![0, 0] S16x128.size inb_S48x128_S16x128_0_0,
    k0_pay45 (k0_pay39 (ldH x offX inX ![0, 0] inb_S48x2560_S16x2560_0_0) (ldN n3 offN inN))⟩]

theorem sx_written (hX : offX = ![l.val, 0, 0]) (hN : offN = ![l.val, 0]) (f : vSx.view.ty.Contents (Elt F)) :
    View.read (Elt F) vSx.view (vSx.view.writes (Elt F) f (sxList x n3 offX inX offN inN))
    = ofRowsS fun r => sxBlk (hRows (View.read (Elt F) vX.view x) l r) (nRow (View.read (Elt F) vN3.view n3) l) := by
  unfold sxList
  rw [ldH_eq x l offX inX hX ![0, 0] inb_S48x2560_S16x2560_0_0 0 rfl, ldH_eq x l offX inX hX ![16, 0] inb_S48x2560_S16x2560_16_0 1 rfl, ldH_eq x l offX inX hX ![32, 0] inb_S48x2560_S16x2560_32_0 2 rfl, ldN_eq n3 l offN inN hN, sx0_eq, sx1_eq]
  exact rowsS_written vSx.view f fun r => sxBlk (hRows (View.read (Elt F) vX.view x) l r) (nRow (View.read (Elt F) vN3.view n3) l)

/-- A row of the two-row buffer of scales, read where it was stored last. -/
theorem row_read' (off : Fin 3 → ℕ) (inb : ∀ a, off a + S1x1x48.size a ≤ S2x1x48.size a) (f : vSc.view.ty.Contents (Elt F))
    (w : S1x1x48.Idx → Elt F .f32) (L : List (View.Piece (Elt F) S2x1x48 .f32)) (z : S1x48.Idx) :
    View.read (Elt F) ((vSc.slice (Rect.unit (s := S2x1x48) off S1x1x48.size inb) (fun _ => rfl)).squeeze S1x48 squeezes_S1x1x48_S1x48).view
      (vSc.view.writes (Elt F) f (⟨Rect.unit (s := S2x1x48) off S1x1x48.size inb, w⟩ :: L)) z
      = w (Shape.reshapeEquiv (squeezes_S1x1x48_S1x48).numel_eq z) :=
  View.read_writes_cons_emb vSc.view f (Rect.unit (s := S2x1x48) off S1x1x48.size inb) w L
    (Shape.reshapeEquiv (squeezes_S1x1x48_S1x48).numel_eq z)

theorem row_read (off : Fin 3 → ℕ) (inb : ∀ a, off a + S1x1x48.size a ≤ S2x1x48.size a) (f : vSc.view.ty.Contents (Elt F))
    (v : FVec F S1x48 .f32) (L : List (View.Piece (Elt F) S2x1x48 .f32)) :
    View.read (Elt F) ((vSc.slice (Rect.unit (s := S2x1x48) off S1x1x48.size inb) (fun _ => rfl)).squeeze S1x48 squeezes_S1x1x48_S1x48).view
      (vSc.view.writes (Elt F) f (⟨Rect.unit (s := S2x1x48) off S1x1x48.size inb, k0_pay62 v⟩ :: L)) = v := by
  funext z
  rw [row_read']
  exact congrFun (shapeCast_shapeCast v shapeCasts_S1x48_S1x1x48 (squeezes_S1x1x48_S1x48).numel_eq) z

/-- The row of the first scales, as copied out. -/
theorem sf_row (hX : offX = ![l.val, 0, 0]) (hN : offN = ![l.val, 0]) (f : vSc.view.ty.Contents (Elt F)) (L : List (View.Piece (Elt F) S2x1x48 .f32)) :
    View.read (Elt F) ((vSc.slice (Rect.unit (s := S2x1x48) ![0, 0, 0] S1x1x48.size inb_S2x1x48_S1x1x48_0_0_0) (fun _ => rfl)).squeeze S1x48 squeezes_S1x1x48_S1x48).view
      (vSc.view.writes (Elt F) f (⟨Rect.unit (s := S2x1x48) ![0, 0, 0] S1x1x48.size inb_S2x1x48_S1x1x48_0_0_0,
        k0_pay62 (k0_pay61 (View.readCov (Val := Elt F) vSx.view (sxList x n3 offX inX offN inN) (Rect.unit (s := S48x128) ![0, 0] S48x1.size inb_S48x128_S48x1_0_0).toLoadRect))⟩ :: L))
    = sfA (View.read (Elt F) vX.view x) (View.read (Elt F) vN3.view n3) l := by
  refine (row_read _ _ f _ L).trans ?_
  unfold View.readCov sfA sxA
  rw [col0_loaded, sx_written x n3 l offX inX offN inN hX hN]

/-- The row of the second scales, as copied out. -/
theorem sd_row (f : vSc.view.ty.Contents (Elt F)) (L : List (View.Piece (Elt F) S2x1x48 .f32)) (am : FVec F S48x128 .f32) :
    View.read (Elt F) ((vSc.slice (Rect.unit (s := S2x1x48) ![1, 0, 0] S1x1x48.size inb_S2x1x48_S1x1x48_1_0_0) (fun _ => rfl)).squeeze S1x48 squeezes_S1x1x48_S1x48).view
      (vSc.view.writes (Elt F) f (⟨Rect.unit (s := S2x1x48) ![1, 0, 0] S1x1x48.size inb_S2x1x48_S1x1x48_1_0_0, k0_pay70 (k0_pay67 am)⟩ :: L))
    = k0_pay61 (k0_pay67 am) :=
  row_read _ _ f _ L

end

/-! ## The layer's result -/

section
variable {c : Dev nD} (x : BufOf F c vX) (n4 : BufOf F c vN4) (l : Fin 2)
  (offX : Fin 3 → ℕ) (inX : ∀ a, offX a + S1x48x2560.size a ≤ S2x48x2560.size a)
  (offN : Fin 2 → ℕ) (inN : ∀ a, offN a + S1x2560.size a ≤ S2x2560.size a)

/-- The copy of the layer's activations. -/
abbrev hCopy : List (View.Piece (Elt F) S48x2560 .f32) :=
  [⟨Rect.unit (s := S48x2560) ![0, 0] S48x2560.size inb_S48x2560_S48x2560_0_0,
      k0_pay37 (View.readAt (Elt F) vX.view (Rect.unit (s := S2x48x2560) offX S1x48x2560.size inX).toLoadRect x)⟩]

/-- The layer's second norm weights, as loaded. -/
abbrev ldN4 : FVec F S1x2560 .f32 := View.readAt (Elt F) vN4.view (Rect.unit (s := S2x2560) offN S1x2560.size inN).toLoadRect n4

/-- Sixteen rows of the down projection, as loaded. -/
abbrev ldO (oo : BufOf F c vO) (o : Fin 2 → ℕ) (ino : ∀ a, o a + S16x2560.size a ≤ S48x2560.size a) : FVec F S16x2560 .f32 :=
  View.readAt (Elt F) vO.view (Rect.unit (s := S48x2560) o S16x2560.size ino).toLoadRect oo

theorem ldN4_eq (hN : offN = ![l.val, 0]) : ldN4 n4 offN inN = nRow (View.read (Elt F) vN4.view n4) l := by
  subst hN
  exact nRow4_loaded n4 l

/-- Rows stored elsewhere do not change what a load reads. -/
theorem h_skip (o o' : Fin 2 → ℕ) (ino : ∀ a, o a + S16x2560.size a ≤ S48x2560.size a) (ino' : ∀ a, o' a + S16x2560.size a ≤ S48x2560.size a)
    (h : o 0 + 16 ≤ o' 0) (w : S16x2560.Idx → Elt F .f32) (L : List (View.Piece (Elt F) S48x2560 .f32)) :
    View.readCov (Val := Elt F) vH.view (⟨Rect.unit (s := S48x2560) o S16x2560.size ino, w⟩ :: L)
      (Rect.unit (s := S48x2560) o' S16x2560.size ino').toLoadRect
    = View.readCov (Val := Elt F) vH.view L (Rect.unit (s := S48x2560) o' S16x2560.size ino').toLoadRect :=
  View.readCov_cons_of_disjoint vH.view _ L _ (Rect.unit_disjoint (inb := ino) (inb' := ino') 0 (.inl h))

theorem y_written {oo : BufOf F c vO} {O : S48x2560.Idx → Elt F .f32} (ho : View.read (Elt F) vO.view oo = O)
    (hX : offX = ![l.val, 0, 0]) (hN : offN = ![l.val, 0]) (w0 w0' w1 : S16x2560.Idx → Elt F .f32) (f : vY.view.ty.Contents (Elt F)) :
    View.read (Elt F) vY.view (vY.view.writes (Elt F) f
      [⟨Rect.unit (s := S48x2560) ![32, 0] S16x2560.size inb_S48x2560_S16x2560_32_0,
        k0_pay86 (k0_pay85 (View.readCov (Val := Elt F) vH.view
            (⟨Rect.unit (s := S48x2560) ![16, 0] S16x2560.size inb_S48x2560_S16x2560_16_0, w1⟩
              :: ⟨Rect.unit (s := S48x2560) ![0, 0] S16x2560.size inb_S48x2560_S16x2560_0_0, w0'⟩ :: hCopy x offX inX)
            (Rect.unit (s := S48x2560) ![32, 0] S16x2560.size inb_S48x2560_S16x2560_32_0).toLoadRect)
          (ldO oo ![32, 0] inb_S48x2560_S16x2560_32_0) (ldN4 n4 offN inN))⟩,
       ⟨Rect.unit (s := S48x2560) ![16, 0] S16x2560.size inb_S48x2560_S16x2560_16_0,
        k0_pay82 (View.readCov (Val := Elt F) vH.view
            (⟨Rect.unit (s := S48x2560) ![0, 0] S16x2560.size inb_S48x2560_S16x2560_0_0, w0⟩ :: hCopy x offX inX)
            (Rect.unit (s := S48x2560) ![16, 0] S16x2560.size inb_S48x2560_S16x2560_16_0).toLoadRect)
          (ldO oo ![16, 0] inb_S48x2560_S16x2560_16_0) (ldN4 n4 offN inN) (k0_pay78 (ldO oo ![16, 0] inb_S48x2560_S16x2560_16_0)) k0_pay79⟩,
       ⟨Rect.unit (s := S48x2560) ![0, 0] S16x2560.size inb_S48x2560_S16x2560_0_0,
        k0_pay77 (View.readCov (Val := Elt F) vH.view (hCopy x offX inX)
            (Rect.unit (s := S48x2560) ![0, 0] S16x2560.size inb_S48x2560_S16x2560_0_0).toLoadRect)
          (ldO oo ![0, 0] inb_S48x2560_S16x2560_0_0) (ldN4 n4 offN inN)⟩])
    = ofRows fun r => yBlk (hRows (View.read (Elt F) vX.view x) l r) (rows16 O r) (nRow (View.read (Elt F) vN4.view n4) l) := by
  have e0 : ldO oo ![0, 0] inb_S48x2560_S16x2560_0_0 = rows16 O 0 := ho ▸ rows16_loaded vO.view oo 0
  have e1 : ldO oo ![16, 0] inb_S48x2560_S16x2560_16_0 = rows16 O 1 := ho ▸ rows16_loaded vO.view oo 1
  have e2 : ldO oo ![32, 0] inb_S48x2560_S16x2560_32_0 = rows16 O 2 := ho ▸ rows16_loaded vO.view oo 2
  have a0 : View.readCov (Val := Elt F) vH.view (hCopy x offX inX)
      (Rect.unit (s := S48x2560) ![0, 0] S16x2560.size inb_S48x2560_S16x2560_0_0).toLoadRect = hRows (View.read (Elt F) vX.view x) l 0 :=
    ldH_eq x l offX inX hX ![0, 0] inb_S48x2560_S16x2560_0_0 0 rfl
  have a1 : View.readCov (Val := Elt F) vH.view (hCopy x offX inX)
      (Rect.unit (s := S48x2560) ![16, 0] S16x2560.size inb_S48x2560_S16x2560_16_0).toLoadRect = hRows (View.read (Elt F) vX.view x) l 1 :=
    ldH_eq x l offX inX hX ![16, 0] inb_S48x2560_S16x2560_16_0 1 rfl
  have a2 : View.readCov (Val := Elt F) vH.view (hCopy x offX inX)
      (Rect.unit (s := S48x2560) ![32, 0] S16x2560.size inb_S48x2560_S16x2560_32_0).toLoadRect = hRows (View.read (Elt F) vX.view x) l 2 :=
    ldH_eq x l offX inX hX ![32, 0] inb_S48x2560_S16x2560_32_0 2 rfl
  rw [h_skip ![16, 0] ![32, 0] _ _ (by decide), h_skip ![0, 0] ![32, 0] _ _ (by decide), h_skip ![0, 0] ![16, 0] _ _ (by decide),
    a0, a1, a2, e0, e1, e2, ldN4_eq n4 l offN inN hN, y0_eq, y1_eq]
  exact rows_written vY.view f fun r => yBlk (hRows (View.read (Elt F) vX.view x) l r) (rows16 O r) (nRow (View.read (Elt F) vN4.view n4) l)

end

/-! ## The ring at the end of a layer -/

/-- The ring before step `p`, but the place of the first block four steps on. -/
def ringRest (c : Dev nD) (w : Wts F c) (p : ℕ) : sProp 𝕄 :=
  iprop(toksD c w.d (cG (p + 3)) ∗ cellG c w p p ∗ cellU c w p p ∗ cellU c w (p + 3) 30 ∗ ringMid c w p)

theorem ring_open (c : Dev nD) (w : Wts F c) (p : ℕ) :
    ring c w p false ⊢ iprop((free0 c (sG (p + 3)) (cG (p + 3)) ∗ tokPt c mWg (cG (p + 3)).val w.g) ∗ ringRest c w p) := by
  unfold ring ringRest
  simp only [Bool.false_eq_true, if_false]
  rw [show cellG c w (p + 3) 30 = _ from cell_ge c mWg w.g w.d 0 (sG (p + 3)) (cG (p + 3)) 30 (le_refl _)]
  iintro ⟨H1, H2, ⟨H3, H6, H7⟩, H4, H5⟩
  isplitl [H3 H6]
  · isplitl [H3]; · iexact H3
    iexact H6
  isplitl [H7]; · iexact H7
  isplitl [H1]; · iexact H1
  isplitl [H2]; · iexact H2
  isplitl [H4]; · iexact H4
  iexact H5

/-- The first layer's last: the next layer's fourth block is on its way. -/
theorem ring_next (c : Dev nD) (w : Wts F c) :
    iprop(busy c mWg w.g 4 5 1 3 ∗ ringRest c w 15) ⊢ ring c w (15 * (0 + 1)) true := by
  unfold ring ringRest
  simp only [if_true]
  rw [show cellG c w (15 * (0 + 1) + 3) (15 * (0 + 1) + 3) = _ from cell_gu c mWg w.g w.d 0 _ _ (15 * (0 + 1) + 3) (by decide) (by decide)]
  iintro ⟨H3, H6, H1, H2, H4, H5⟩
  isplitl [H1]; · iexact H1
  isplitl [H2]; · iexact H2
  isplitl [H3 H6]
  · isplitl [H3]; · iexact H3
    iexact H6
  isplitl [H4]; · iexact H4
  iexact H5

/-- The second layer's last: nothing more is on its way. -/
theorem ring_end (c : Dev nD) (w : Wts F c) :
    iprop((free0 c 2 3 ∗ tokPt c mWg 3 w.g) ∗ ringRest c w 30) ⊢ ring c w (15 * (1 + 1)) true := by
  unfold ring ringRest
  simp only [if_true]
  rw [show cellG c w (15 * (1 + 1) + 3) (15 * (1 + 1) + 3) = _ from cell_ge c mWg w.g w.d 0 _ _ (15 * (1 + 1) + 3) (by decide)]
  iintro ⟨⟨H3, H7⟩, H6, H1, H2, H4, H5⟩
  isplitl [H1]; · iexact H1
  isplitl [H2]; · iexact H2
  isplitl [H3 H6 H7]
  · isplitl [H3]; · iexact H3
    isplitl [H7]; · iexact H7
    iexact H6
  isplitl [H4]; · iexact H4
  iexact H5

end Cert.KernelIdeal.Hand
end
-- ==== Proof.Ideal.LayerEnd.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.LayerRead
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Between the loops of a layer -/

section
variable (c : Dev nD) (w : Wts F c) (x : BufOf F c vX) (sg : BufOf F c vSg) (su : BufOf F c vSu) (n3 : BufOf F c vN3)
  (sd : BufOf F c vSd) (n4 : BufOf F c vN4)

/-- The gated product's tiles of a layer. -/
abbrev tilesOf (l : Fin 2) : Fin 40 → FVec F S48x256 .f32 :=
  tileA (View.read (Elt F) vX.view x) (View.read (Elt F) vN3.view n3) (View.read (Elt F) vSg.view sg)
    (View.read (Elt F) vSu.view su) (View.read (Elt F) mWg.view w.g) (View.read (Elt F) mWu.view w.u) l

/-- After the first loop: the product and its maximum are there. -/
theorem gate_done (l : Fin 2) :
    gateInv c w x sg su n3 l (Scf.trips k0_t2_loop.lb k0_t2_loop.ub k0_t2_loop.st)
    ⊢ iprop(∃ xc sx mm am, ⌜View.read (Elt F) vMm.view mm = ofTiles (tilesOf c w x sg su n3 l)
          ∧ View.read (Elt F) vAm.view am = amAfter (tilesOf c w x sg su n3 l) 40⌝
        ∗ ring c w (15 * l.val + 10) false
        ∗ pt c vXc xc ∗ pt c vSx sx ∗ pt c vSg sg ∗ pt c vSu su ∗ pt c vMm mm ∗ pt c vAm am ∗ ∃ W, owes (c : Thread nD τ) 0 W) := by
  rw [show Scf.trips k0_t2_loop.lb k0_t2_loop.ub k0_t2_loop.st = 10 by decide]
  unfold gateInv stepInv operands prod
  iintro ⟨%xc, %sx, %hs, HR, ⟨Hxc, Hsx, Hsg, Hsu⟩, ⟨⟨%mm, Hmm, %hmm⟩, ⟨%am, Ham, %ham⟩⟩, %W, HW⟩
  rw [tileAt_eq w.g w.u sg su x n3 _ hs.1 hs.2] at hmm ham
  have hmm' := funext fun y : S48x10240.Idx => hmm y (lt_of_lt_of_eq (y 1).isLt (by decide))
  iexists xc
  iexists sx
  iexists mm
  iexists am
  isplitr [HR Hxc Hsx Hsg Hsu Hmm Ham HW]
  · ipureintro; exact ⟨hmm', ham⟩
  isplitl [HR]; · iexact HR
  isplitl [Hxc]; · iexact Hxc
  isplitl [Hsx]; · iexact Hsx
  isplitl [Hsg]; · iexact Hsg
  isplitl [Hsu]; · iexact Hsu
  isplitl [Hmm]; · iexact Hmm
  isplitl [Ham]; · iexact Ham
  iexists W; iexact HW

/-- The scale column as the second loop finds it. -/
theorem sx_after {am : BufOf F c vAm} {a : FVec F S48x128 .f32} (h : View.read (Elt F) vAm.view am = a) (f : vSx.view.ty.Contents (Elt F)) :
    View.read (Elt F) vSx.view (vSx.view.writes (Elt F) f
      [⟨Rect.unit (s := S48x128) ![0, 0] S48x128.size inb_S48x128_S48x128_0_0,
        k0_pay69 (k0_pay68 (View.readAt (Elt F) vAm.view (Rect.unit (s := S48x128) ![0, 0] S48x128.size inb_S48x128_S48x128_0_0).toLoadRect am))⟩])
      = k0_pay69 (k0_pay68 a) := by
  rw [View.read_writes_full, View.readAt_full, h]

/-- After the second loop the codes are there. -/
theorem code_done (T : Fin 40 → FVec F S48x256 .f32) (s : FVec F S48x128 .f32) :
    codeInv c T s (Scf.trips k0_t3_loop.lb k0_t3_loop.ub k0_t3_loop.st)
    ⊢ iprop(∃ mm sx dc cd, ⌜View.read (Elt F) vCd.view cd = (ofTiles fun q => k0_pay31 (T q) (col0 s))
          ∧ View.read (Elt F) vDc.view dc = (ofTiles fun q => k0_pay30 (T q) (col0 s)) ∧ View.read (Elt F) vSx.view sx = s⌝
        ∗ pt c vMm mm ∗ pt c vSx sx ∗ pt c vDc dc ∗ pt c vCd cd ∗ ∃ W, owes (c : Thread nD τ) 0 W) := by
  rw [show Scf.trips k0_t3_loop.lb k0_t3_loop.ub k0_t3_loop.st = 10 by decide]
  unfold codeInv quantInv
  iintro ⟨%mm, %sx, %h, Hmm, Hsx, ⟨%dc, Hdc, %hdc⟩, ⟨%cd, Hcd, %hcd⟩, %W, HW⟩
  have hcd' : View.read (Elt F) vCd.view cd = ofTiles fun q => k0_pay31 (T q) (col0 s) := by
    have e : cdTile c mm sx = fun q => k0_pay31 (T q) (col0 s) := by
      funext q
      unfold cdTile
      rw [ldMm_eq h.1, col0_loaded, h.2]
    rw [← e]
    exact funext fun y => hcd y (lt_of_lt_of_eq (y 1).isLt (by decide))
  have hdc' : View.read (Elt F) vDc.view dc = ofTiles fun q => k0_pay30 (T q) (col0 s) := by
    have e : dcTile c mm sx = fun q => k0_pay30 (T q) (col0 s) := by
      funext q
      unfold dcTile
      rw [ldMm_eq h.1, col0_loaded, h.2]
    rw [← e]
    exact funext fun y => hdc y (lt_of_lt_of_eq (y 1).isLt (by decide))
  iexists mm
  iexists sx
  iexists dc
  iexists cd
  isplitr [Hmm Hsx Hdc Hcd HW]
  · ipureintro; exact ⟨hcd', hdc', h.2⟩
  isplitl [Hmm]; · iexact Hmm
  isplitl [Hsx]; · iexact Hsx
  isplitl [Hdc]; · iexact Hdc
  isplitl [Hcd]; · iexact Hcd
  iexists W; iexact HW

/-- After the third loop the down projection is there, and the place of one more block is open. -/
theorem down_done (l : Fin 2) :
    downInv c w sd (tilesOf c w x sg su n3 l) (k0_pay69 (k0_pay68 (amAfter (tilesOf c w x sg su n3 l) 40))) l
      (Scf.trips k0_t4_loop.lb k0_t4_loop.ub k0_t4_loop.st)
    ⊢ iprop(∃ dc sx o, ⌜View.read (Elt F) vO.view o = oA (View.read (Elt F) vX.view x) (View.read (Elt F) vN3.view n3) (View.read (Elt F) vSg.view sg)
          (View.read (Elt F) vSu.view su) (View.read (Elt F) mWg.view w.g) (View.read (Elt F) mWu.view w.u) l
          (View.read (Elt F) vSd.view sd) (View.read (Elt F) mWd.view w.d)⌝
        ∗ (free0 c (sG (15 * l.val + 15 + 3)) (cG (15 * l.val + 15 + 3)) ∗ tokPt c mWg (cG (15 * l.val + 15 + 3)).val w.g)
        ∗ ringRest c w (15 * l.val + 15)
        ∗ pt c vDc dc ∗ pt c vSx sx ∗ pt c vSd sd ∗ pt c vO o ∗ ∃ W, owes (c : Thread nD τ) 0 W) := by
  rw [show Scf.trips k0_t4_loop.lb k0_t4_loop.ub k0_t4_loop.st = 5 by decide]
  unfold downInv stepInvD operandsD prodD
  iintro ⟨%dc, %sx, %hs, HR, ⟨Hdc, Hsx, Hsd⟩, ⟨%o, Ho, %ho⟩, %W, HW⟩
  rw [downAt_eq w.d sd _ hs.1 hs.2] at ho
  have ho' := funext fun y : S48x2560.Idx => ho y (lt_of_lt_of_eq (y 1).isLt (by decide))
  have hro : ring c w (15 * l.val + 10 + 5) false
      ⊢ iprop((free0 c (sG (15 * l.val + 15 + 3)) (cG (15 * l.val + 15 + 3)) ∗ tokPt c mWg (cG (15 * l.val + 15 + 3)).val w.g)
        ∗ ringRest c w (15 * l.val + 15)) :=
    ring_open c w (15 * l.val + 15)
  ihave HR := hro $$ HR
  icases HR with ⟨Hf, HR⟩
  iexists dc
  iexists sx
  iexists o
  isplitr [Hf HR Hdc Hsx Hsd Ho HW]
  · ipureintro; exact ho'
  isplitl [Hf]; · iexact Hf
  isplitl [HR]; · iexact HR
  isplitl [Hdc]; · iexact Hdc
  isplitl [Hsx]; · iexact Hsx
  isplitl [Hsd]; · iexact Hsd
  isplitl [Ho]; · iexact Ho
  iexists W; iexact HW

end

end Cert.KernelIdeal.Hand
end
-- ==== Proof.Ideal.Layers.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.LayerEnd
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## One layer -/

/-- The running maximum starts at zero. -/
theorem am_zero (T : Fin 40 → FVec F S48x256 .f32) (f : vAm.view.ty.Contents (Elt F)) :
    View.read (Elt F) vAm.view (vAm.view.writes (Elt F) f [⟨Rect.unit (s := S48x128) ![0, 0] S48x128.size inb_S48x128_S48x128_0_0, k0_pay63⟩])
      = amAfter T (4 * 0) := by
  rw [View.read_writes_full]
  exact shapeCast_self _ _

/-- A layer, at an explicit number. -/
def LayerOk (F : FTy → Type) [FloatOps F] (l : ℕ) (hl : l < 2) : Prop :=
  ∀ (c : Dev nD) (w : Wts F c) (x : BufOf F c vX) (sg : BufOf F c vSg) (su : BufOf F c vSu) (n3 : BufOf F c vN3)
    (sd : BufOf F c vSd) (n4 : BufOf F c vN4),
    layerInv c w x sg su n3 sd n4 l
    ⊢ wp frame (wpE (defs₀ (F := F)) Variants.none c none) Set.univ
        (body1 (F := F) ⟨l, trips1 ▸ hl⟩ ()) (fun _ => layerInv c w x sg su n3 sd n4 (l + 1))

/-- The second scales as read for the row that is copied out. -/
theorem sd_read {c : Dev nD} {am : BufOf F c vAm} {a : FVec F S48x128 .f32} (h : View.read (Elt F) vAm.view am = a) :
    k0_pay61 (k0_pay67 (View.readAt (Elt F) vAm.view (Rect.unit (s := S48x128) ![0, 0] S48x128.size inb_S48x128_S48x128_0_0).toLoadRect am))
      = k0_pay61 (k0_pay67 a) := by
  rw [View.readAt_full, h]

theorem layer0 : LayerOk F 0 (by decide) := by
  intro c w x sg su n3 sd n4
  unfold layerInv scratch outSems outs0 outs1 outPt
  iintro ⟨Hx, Hsg, Hsu, Hsd, Hn3, Hn4, ⟨⟨%h, Hh⟩, ⟨%xc, Hxc⟩, ⟨%sx, Hsx⟩, ⟨%o, Ho⟩, ⟨%mm, Hmm⟩, ⟨%dc, Hdc⟩, ⟨%am, Ham⟩, ⟨%cf, Hcf⟩, ⟨%cd, Hcd⟩, ⟨%sc, Hsc⟩, ⟨%ys, Hys⟩⟩,
    ⟨Hq9, Hq10, Hq11, Hq12, Hq13⟩, HR,
    ⟨⟨%o0, Ho0, %p0⟩, ⟨%o1, Ho1, %p1⟩, ⟨%o2, Ho2, %p2⟩, ⟨%o3, Ho3, %p3⟩, ⟨%o4, Ho4, %p4⟩⟩,
    ⟨⟨%o9, Ho9, %p9⟩, ⟨%o5, Ho5, %p5⟩, ⟨%o6, Ho6, %p6⟩, ⟨%o7, Ho7, %p7⟩, ⟨%o8, Ho8, %p8⟩⟩, %W, HW⟩
  unfold body1 k0_t1_body
  sl_exec
  sl_unfold_run_names
  sl_for (fun i _ => gateInv c w x sg su n3 0 i) $$ [HR Hxc Hsx Hsg Hsu Hmm Ham HW]
  case region =>
    intro k _
    exact gate_step c w x sg su n3 _ _ _ 0 k
  · unfold gateInv stepInv operands prod
    iexists _
    iexists _
    isplitr [HR Hxc Hsx Hsg Hsu Hmm Ham HW]
    rotate_left 1
    · isplitl [HR]; · iexact HR
      isplitl [Hxc Hsx Hsg Hsu]
      · isplitl [Hxc]; · iexact Hxc
        isplitl [Hsx]; · iexact Hsx
        isplitl [Hsg]; · iexact Hsg
        iexact Hsu
      isplitl [Hmm Ham]
      · isplitl [Hmm]
        · iexists mm
          isplitl [Hmm]; · iexact Hmm
          ipureintro; intro y hy; exact absurd hy (by simp)
        · iexists _
          isplitl [Ham]; · iexact Ham
          ipureintro; exact am_zero _ _
      iexists _
      iexact HW
    · ipureintro
      refine ⟨?_, ?_⟩
      · exact xc_written x n3 0 _ _ _ _ (by rfl) (by rfl) _
      · exact sx_written x n3 0 _ _ _ _ (by rfl) (by rfl) _
  iintro %acc HI
  ihave HI := (gate_done c w x sg su n3 0) $$ HI
  icases HI with ⟨%xc', %sx', %mm', %am', %hp, HR, Hxc, Hsx, Hsg, Hsu, Hmm, Ham, %W', HW⟩
  sl_exec
  sl_unfold_run_names
  sl_for (fun i _ => codeInv c (tilesOf c w x sg su n3 0) (k0_pay69 (k0_pay68 (amAfter (tilesOf c w x sg su n3 0) 40))) i) $$ [Hmm Hsx Hdc Hcd HW]
  case region =>
    intro k _
    exact code_step c _ _ _ _ _ _ _ k
  · unfold codeInv quantInv
    iexists mm'
    iexists _
    isplitr [Hmm Hsx Hdc Hcd HW]
    rotate_left 1
    · isplitl [Hmm]; · iexact Hmm
      isplitl [Hsx]; · iexact Hsx
      isplitl [Hdc]
      · iexists dc
        isplitl [Hdc]; · iexact Hdc
        ipureintro; intro y hy; exact absurd hy (by simp)
      isplitl [Hcd]
      · iexists cd
        isplitl [Hcd]; · iexact Hcd
        ipureintro; intro y hy; exact absurd hy (by simp)
      iexists _
      iexact HW
    · ipureintro
      exact ⟨hp.1, sx_after c hp.2 _⟩
  iintro %acc2 HI
  ihave HI := (code_done c (tilesOf c w x sg su n3 0) (k0_pay69 (k0_pay68 (amAfter (tilesOf c w x sg su n3 0) 40)))) $$ HI
  icases HI with ⟨%mm2, %sx2, %dc2, %cd2, %hcd, Hmm, Hsx, Hdc, Hcd, %W2, HW⟩
  sl_exec
  sl_unfold_run_names
  sl_for (fun i _ => downInv c w sd (tilesOf c w x sg su n3 0) (k0_pay69 (k0_pay68 (amAfter (tilesOf c w x sg su n3 0) 40))) 0 i) $$ [HR Hdc Hsx Hsd Ho HW]
  case region =>
    intro k _
    exact down_step c w sd _ _ _ _ _ _ 0 k
  · unfold downInv stepInvD operandsD prodD
    iexists dc2
    iexists sx2
    isplitr [HR Hdc Hsx Hsd Ho HW]
    rotate_left 1
    · isplitl [HR]; · iexact HR
      isplitl [Hdc Hsx Hsd]
      · isplitl [Hdc]; · iexact Hdc
        isplitl [Hsx]; · iexact Hsx
        iexact Hsd
      isplitl [Ho]
      · iexists o
        isplitl [Ho]; · iexact Ho
        ipureintro; intro y hy; exact absurd hy (by simp)
      iexists _
      iexact HW
    · ipureintro
      exact hcd.2
  iintro %acc3 HI
  have hd := down_done c w x sg su n3 sd 0
  simp only [sG, sU, cG, cU, free0, Nat.reduceMul, Nat.reduceAdd, Nat.reduceMod, Nat.reduceDiv, Fin.val_zero, Fin.val_one, Fin.isValue, Fin.mk_one, Fin.reduceFinMk, zero_add, mul_zero, mul_one] at hd
  ihave HI := hd $$ HI
  icases HI with ⟨%dc3, %sx3, %oo, %hoo, ⟨⟨%w3, Hs3, Hq3⟩, Hg3⟩, HR, Hdc, Hsx, Hsd, Ho, %W3, HW⟩
  sl_exec
  sl_step
  sl_unfold_run_names
  isplitl [Hx]; · iexact Hx
  isplitl [Hsg]; · iexact Hsg
  isplitl [Hsu]; · iexact Hsu
  isplitl [Hsd]; · iexact Hsd
  isplitl [Hn3]; · iexact Hn3
  isplitl [Hn4]; · iexact Hn4
  isplitl [Hh Hxc Hsx Ho Hmm Hdc Ham Hcf Hcd Hsc Hys]
  · isplitl [Hh]; · iexists _; iexact Hh
    isplitl [Hxc]; · iexists _; iexact Hxc
    isplitl [Hsx]; · iexists _; iexact Hsx
    isplitl [Ho]; · iexists _; iexact Ho
    isplitl [Hmm]; · iexists _; iexact Hmm
    isplitl [Hdc]; · iexists _; iexact Hdc
    isplitl [Ham]; · iexists _; iexact Ham
    isplitl [Hcf]; · iexists _; iexact Hcf
    isplitl [Hcd]; · iexists _; iexact Hcd
    isplitl [Hsc]; · iexists _; iexact Hsc
    iexists _; iexact Hys
  isplitl [Hq9 Hq10 Hq11 Hq12 Hq13]
  · isplitl [Hq9]; · iexact Hq9
    isplitl [Hq10]; · iexact Hq10
    isplitl [Hq11]; · iexact Hq11
    isplitl [Hq12]; · iexact Hq12
    iexact Hq13
  isplitl [HR Hq3 Hg3]
  · iapply ring_next c w
    isplitl [Hq3 Hg3]
    · unfold busy flying
      iexists _
      isplitl [Hq3 Hg3]
      · isplitl [Hq3]
        · iexact Hq3
        · iexact Hg3
      · ipureintro; exact holds_landed' _ _ _ _ _ _ _ _ _ rfl
    iexact HR
  isplitl [Ho0 Ho1 Ho2 Ho3 Ho4]
  · isplitl [Ho0]
    · iexists _
      isplitl [Ho0]; · iexact Ho0
      ipureintro; exact fun _ => (View.read_write_univ _ _).trans (y_written x n4 0 _ _ _ _ hoo (by rfl) (by rfl) _ _ _ _)
    isplitl [Ho1]
    · iexists _
      isplitl [Ho1]; · iexact Ho1
      ipureintro; exact fun _ => (View.read_write_univ _ _).trans (cf_written x n3 0 _ _ _ _ (by rfl) (by rfl) _)
    isplitl [Ho2]
    · iexists _
      isplitl [Ho2]; · iexact Ho2
      ipureintro; exact fun _ => (View.read_write_univ _ _).trans (sf_row x n3 0 _ _ _ _ (by rfl) (by rfl) _ _)
    isplitl [Ho3]
    · iexists _
      isplitl [Ho3]; · iexact Ho3
      ipureintro; exact fun _ => (View.read_write_univ _ _).trans hcd.1
    iexists _
    isplitl [Ho4]; · iexact Ho4
    ipureintro; exact fun _ => (View.read_write_univ _ _).trans ((sd_row _ _ _).trans (sd_read (c := c) hp.2))
  isplitl [Ho9 Ho5 Ho6 Ho7 Ho8]
  · isplitl [Ho9]
    · iexists _
      isplitl [Ho9]; · iexact Ho9
      ipureintro; exact fun h => absurd h (by decide)
    isplitl [Ho5]
    · iexists _
      isplitl [Ho5]; · iexact Ho5
      ipureintro; exact fun h => absurd h (by decide)
    isplitl [Ho6]
    · iexists _
      isplitl [Ho6]; · iexact Ho6
      ipureintro; exact fun h => absurd h (by decide)
    isplitl [Ho7]
    · iexists _
      isplitl [Ho7]; · iexact Ho7
      ipureintro; exact fun h => absurd h (by decide)
    iexists _
    isplitl [Ho8]; · iexact Ho8
    ipureintro; exact fun h => absurd h (by decide)
  iexists _
  iexact HW

theorem layer1 : LayerOk F 1 (by decide) := by
  intro c w x sg su n3 sd n4
  unfold layerInv scratch outSems outs0 outs1 outPt
  iintro ⟨Hx, Hsg, Hsu, Hsd, Hn3, Hn4, ⟨⟨%h, Hh⟩, ⟨%xc, Hxc⟩, ⟨%sx, Hsx⟩, ⟨%o, Ho⟩, ⟨%mm, Hmm⟩, ⟨%dc, Hdc⟩, ⟨%am, Ham⟩, ⟨%cf, Hcf⟩, ⟨%cd, Hcd⟩, ⟨%sc, Hsc⟩, ⟨%ys, Hys⟩⟩,
    ⟨Hq9, Hq10, Hq11, Hq12, Hq13⟩, HR,
    ⟨⟨%o0, Ho0, %p0⟩, ⟨%o1, Ho1, %p1⟩, ⟨%o2, Ho2, %p2⟩, ⟨%o3, Ho3, %p3⟩, ⟨%o4, Ho4, %p4⟩⟩,
    ⟨⟨%o9, Ho9, %p9⟩, ⟨%o5, Ho5, %p5⟩, ⟨%o6, Ho6, %p6⟩, ⟨%o7, Ho7, %p7⟩, ⟨%o8, Ho8, %p8⟩⟩, %W, HW⟩
  unfold body1 k0_t1_body
  sl_exec
  sl_unfold_run_names
  sl_for (fun i _ => gateInv c w x sg su n3 1 i) $$ [HR Hxc Hsx Hsg Hsu Hmm Ham HW]
  case region =>
    intro k _
    exact gate_step c w x sg su n3 _ _ _ 1 k
  · unfold gateInv stepInv operands prod
    iexists _
    iexists _
    isplitr [HR Hxc Hsx Hsg Hsu Hmm Ham HW]
    rotate_left 1
    · isplitl [HR]; · iexact HR
      isplitl [Hxc Hsx Hsg Hsu]
      · isplitl [Hxc]; · iexact Hxc
        isplitl [Hsx]; · iexact Hsx
        isplitl [Hsg]; · iexact Hsg
        iexact Hsu
      isplitl [Hmm Ham]
      · isplitl [Hmm]
        · iexists mm
          isplitl [Hmm]; · iexact Hmm
          ipureintro; intro y hy; exact absurd hy (by simp)
        · iexists _
          isplitl [Ham]; · iexact Ham
          ipureintro; exact am_zero _ _
      iexists _
      iexact HW
    · ipureintro
      refine ⟨?_, ?_⟩
      · exact xc_written x n3 1 _ _ _ _ (by rfl) (by rfl) _
      · exact sx_written x n3 1 _ _ _ _ (by rfl) (by rfl) _
  iintro %acc HI
  ihave HI := (gate_done c w x sg su n3 1) $$ HI
  icases HI with ⟨%xc', %sx', %mm', %am', %hp, HR, Hxc, Hsx, Hsg, Hsu, Hmm, Ham, %W', HW⟩
  sl_exec
  sl_unfold_run_names
  sl_for (fun i _ => codeInv c (tilesOf c w x sg su n3 1) (k0_pay69 (k0_pay68 (amAfter (tilesOf c w x sg su n3 1) 40))) i) $$ [Hmm Hsx Hdc Hcd HW]
  case region =>
    intro k _
    exact code_step c _ _ _ _ _ _ _ k
  · unfold codeInv quantInv
    iexists mm'
    iexists _
    isplitr [Hmm Hsx Hdc Hcd HW]
    rotate_left 1
    · isplitl [Hmm]; · iexact Hmm
      isplitl [Hsx]; · iexact Hsx
      isplitl [Hdc]
      · iexists dc
        isplitl [Hdc]; · iexact Hdc
        ipureintro; intro y hy; exact absurd hy (by simp)
      isplitl [Hcd]
      · iexists cd
        isplitl [Hcd]; · iexact Hcd
        ipureintro; intro y hy; exact absurd hy (by simp)
      iexists _
      iexact HW
    · ipureintro
      exact ⟨hp.1, sx_after c hp.2 _⟩
  iintro %acc2 HI
  ihave HI := (code_done c (tilesOf c w x sg su n3 1) (k0_pay69 (k0_pay68 (amAfter (tilesOf c w x sg su n3 1) 40)))) $$ HI
  icases HI with ⟨%mm2, %sx2, %dc2, %cd2, %hcd, Hmm, Hsx, Hdc, Hcd, %W2, HW⟩
  sl_exec
  sl_unfold_run_names
  sl_for (fun i _ => downInv c w sd (tilesOf c w x sg su n3 1) (k0_pay69 (k0_pay68 (amAfter (tilesOf c w x sg su n3 1) 40))) 1 i) $$ [HR Hdc Hsx Hsd Ho HW]
  case region =>
    intro k _
    exact down_step c w sd _ _ _ _ _ _ 1 k
  · unfold downInv stepInvD operandsD prodD
    iexists dc2
    iexists sx2
    isplitr [HR Hdc Hsx Hsd Ho HW]
    rotate_left 1
    · isplitl [HR]; · iexact HR
      isplitl [Hdc Hsx Hsd]
      · isplitl [Hdc]; · iexact Hdc
        isplitl [Hsx]; · iexact Hsx
        iexact Hsd
      isplitl [Ho]
      · iexists o
        isplitl [Ho]; · iexact Ho
        ipureintro; intro y hy; exact absurd hy (by simp)
      iexists _
      iexact HW
    · ipureintro
      exact hcd.2
  iintro %acc3 HI
  have hd := down_done c w x sg su n3 sd 1
  simp only [sG, sU, cG, cU, free0, Nat.reduceMul, Nat.reduceAdd, Nat.reduceMod, Nat.reduceDiv, Fin.val_zero, Fin.val_one, Fin.isValue, Fin.mk_one, Fin.reduceFinMk, zero_add, mul_zero, mul_one] at hd
  ihave HI := hd $$ HI
  icases HI with ⟨%dc3, %sx3, %oo, %hoo, ⟨⟨%w3, Hs3, Hq3⟩, Hg3⟩, HR, Hdc, Hsx, Hsd, Ho, %W3, HW⟩
  sl_exec
  sl_step
  sl_unfold_run_names
  isplitl [Hx]; · iexact Hx
  isplitl [Hsg]; · iexact Hsg
  isplitl [Hsu]; · iexact Hsu
  isplitl [Hsd]; · iexact Hsd
  isplitl [Hn3]; · iexact Hn3
  isplitl [Hn4]; · iexact Hn4
  isplitl [Hh Hxc Hsx Ho Hmm Hdc Ham Hcf Hcd Hsc Hys]
  · isplitl [Hh]; · iexists _; iexact Hh
    isplitl [Hxc]; · iexists _; iexact Hxc
    isplitl [Hsx]; · iexists _; iexact Hsx
    isplitl [Ho]; · iexists _; iexact Ho
    isplitl [Hmm]; · iexists _; iexact Hmm
    isplitl [Hdc]; · iexists _; iexact Hdc
    isplitl [Ham]; · iexists _; iexact Ham
    isplitl [Hcf]; · iexists _; iexact Hcf
    isplitl [Hcd]; · iexists _; iexact Hcd
    isplitl [Hsc]; · iexists _; iexact Hsc
    iexists _; iexact Hys
  isplitl [Hq9 Hq10 Hq11 Hq12 Hq13]
  · isplitl [Hq9]; · iexact Hq9
    isplitl [Hq10]; · iexact Hq10
    isplitl [Hq11]; · iexact Hq11
    isplitl [Hq12]; · iexact Hq12
    iexact Hq13
  isplitl [HR Hs3 Hq3 Hg3]
  · iapply ring_end c w
    isplitl [Hs3 Hq3 Hg3]
    · isplitl [Hs3 Hq3]
      · unfold free0
        iexists w3
        isplitl [Hs3]; · iexact Hs3
        iexact Hq3
      iexact Hg3
    iexact HR
  isplitl [Ho0 Ho1 Ho2 Ho3 Ho4]
  · isplitl [Ho0]
    · iexists _
      isplitl [Ho0]; · iexact Ho0
      ipureintro; exact fun h => p0 (by decide)
    isplitl [Ho1]
    · iexists _
      isplitl [Ho1]; · iexact Ho1
      ipureintro; exact fun h => p1 (by decide)
    isplitl [Ho2]
    · iexists _
      isplitl [Ho2]; · iexact Ho2
      ipureintro; exact fun h => p2 (by decide)
    isplitl [Ho3]
    · iexists _
      isplitl [Ho3]; · iexact Ho3
      ipureintro; exact fun h => p3 (by decide)
    iexists _
    isplitl [Ho4]; · iexact Ho4
    ipureintro; exact fun h => p4 (by decide)
  isplitl [Ho9 Ho5 Ho6 Ho7 Ho8]
  · isplitl [Ho9]
    · iexists _
      isplitl [Ho9]; · iexact Ho9
      ipureintro; exact fun _ => (View.read_write_univ _ _).trans (y_written x n4 1 _ _ _ _ hoo (by rfl) (by rfl) _ _ _ _)
    isplitl [Ho5]
    · iexists _
      isplitl [Ho5]; · iexact Ho5
      ipureintro; exact fun _ => (View.read_write_univ _ _).trans (cf_written x n3 1 _ _ _ _ (by rfl) (by rfl) _)
    isplitl [Ho6]
    · iexists _
      isplitl [Ho6]; · iexact Ho6
      ipureintro; exact fun _ => (View.read_write_univ _ _).trans (sf_row x n3 1 _ _ _ _ (by rfl) (by rfl) _ _)
    isplitl [Ho7]
    · iexists _
      isplitl [Ho7]; · iexact Ho7
      ipureintro; exact fun _ => (View.read_write_univ _ _).trans hcd.1
    iexists _
    isplitl [Ho8]; · iexact Ho8
    ipureintro; exact fun _ => (View.read_write_univ _ _).trans ((sd_row _ _ _).trans (sd_read (c := c) hp.2))
  iexists _
  iexact HW

end Cert.KernelIdeal.Hand
end
-- ==== Proof.Ideal.BodyParts.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.Layers
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The weight buffer as its eight slots, and a weight array as its read shares -/

theorem slots_disj (s s' : Fin 8) (h : s ≠ s') : Disjoint (slotSet s) (slotSet s') := by
  rw [slot_set, slot_set]
  exact Ring.lead_disjoint (s := S8x2560x1024) (0 : Fin 3) 1 (fun s : Fin 8 => ![s.val, 0, 0]) S1x2560x1024.size inbSlot
    (by decide) (by decide) s s' h

theorem slots_cover : (Finset.univ : Finset (Fin 8)).biUnion slotSet = Finset.univ := by
  refine (Finset.biUnion_congr rfl fun s _ => slot_set s).trans ?_
  exact Ring.lead_cover (s := S8x2560x1024) (0 : Fin 3) 1 (fun s : Fin 8 => ![s.val, 0, 0]) S1x2560x1024.size inbSlot
    (by decide) (by decide) (by decide) (by decide) (by decide)

theorem slots_split (c : Dev nD) (f : BufOf F c vW) :
    pt c vW f ⊢ (iprop(slotPt c 0 f ∗ slotPt c 1 f ∗ slotPt c 2 f ∗ slotPt c 3 f ∗ slotPt c 4 f ∗ slotPt c 5 f ∗ slotPt c 6 f ∗ slotPt c 7 f) : sProp 𝕄) := by
  have h := Ring.pointsTo_blocks (Ix := Unit) (Val := Elt F) (Name := ℕ) (U := Pipeline.UD sig nD τ) (Lvl := ℕ)
    (ℓ := vW.view.loc (c : Thread nD τ)) slotSet slots_disj slots_cover (q := fullShare) f
  rw [BI.bigSep_eq_bigSepL_of_eq [0, 1, 2, 3, 4, 5, 6, 7] (by decide) (by decide)] at h
  exact Entails.of_eq h

theorem slots_join (c : Dev nD) (f : BufOf F c vW) :
    (iprop((∃ f, slotPt c 0 f) ∗ (∃ f, slotPt c 1 f) ∗ (∃ f, slotPt c 2 f) ∗ (∃ f, slotPt c 3 f) ∗ (∃ f, slotPt c 4 f) ∗ (∃ f, slotPt c 5 f)
      ∗ (∃ f, slotPt c 6 f) ∗ (∃ f, slotPt c 7 f)) : sProp 𝕄) ⊢ iprop(∃ f : BufOf F c vW, pt c vW f) := by
  have h := Ring.pointsTo_blocks_join_exists (Ix := Unit) (Val := Elt F) (Name := ℕ) (U := Pipeline.UD sig nD τ) (Lvl := ℕ)
    (ℓ := vW.view.loc (c : Thread nD τ)) slotSet slots_disj slots_cover (q := fullShare) f
  rw [BI.bigSep_eq_bigSepL_of_eq [0, 1, 2, 3, 4, 5, 6, 7] (by decide) (by decide)] at h
  exact h

/-- The shares of a weight array that no transfer borrows. -/
def spare (c : Dev nD) (M : Memref sig .tc .hbm S2x2560x10240 .i8) (w : BufOf F c M) (k : ℕ) : sProp 𝕄 :=
  iprop((M.view.loc (c : Thread nD τ) ↦{Transfers.shareDrop fullShare 9} w) ∗ tokPt c M 0 w ∗ tokPt c M (k + 1) w ∗ tokPt c M (k + 3) w
    ∗ tokPt c M (k + 5) w ∗ tokPt c M (k + 7) w)

theorem toks_eq (c : Dev nD) (M : Memref sig .tc .hbm S2x2560x10240 .i8) (w : BufOf F c M) :
    (pt c M w : sProp 𝕄) ⊣⊢ iprop((M.view.loc (c : Thread nD τ) ↦{Transfers.shareDrop fullShare 9} w) ∗ tokPt c M 0 w ∗ tokPt c M 1 w ∗ tokPt c M 2 w
      ∗ tokPt c M 3 w ∗ tokPt c M 4 w ∗ tokPt c M 5 w ∗ tokPt c M 6 w ∗ tokPt c M 7 w ∗ tokPt c M 8 w) := by
  have h := Transfers.pointsTo_toks_range (Ix := Unit) (Val := Elt F) (Name := ℕ) (U := Pipeline.UD sig nD τ) (Lvl := ℕ)
    (ℓ := M.view.loc (c : Thread nD τ)) (S := Finset.univ) (f := w) fullShare 9
  rw [BI.bigSep_eq_bigSepL_of_eq [0, 1, 2, 3, 4, 5, 6, 7, 8] (by decide) (by decide)] at h
  exact h

theorem toksG (c : Dev nD) (M : Memref sig .tc .hbm S2x2560x10240 .i8) (w : BufOf F c M) :
    (pt c M w : sProp 𝕄) ⊣⊢ iprop(tokPt c M 1 w ∗ tokPt c M 3 w ∗ tokPt c M 5 w ∗ tokPt c M 7 w ∗ spare c M w 1) := by
  unfold spare
  refine ⟨(toks_eq c M w).1.trans ?_, BIBase.Entails.trans ?_ (toks_eq c M w).2⟩
  · iintro ⟨D, H0, H1, H2, H3, H4, H5, H6, H7, H8⟩
    isplitl [H1]; · iexact H1
    isplitl [H3]; · iexact H3
    isplitl [H5]; · iexact H5
    isplitl [H7]; · iexact H7
    isplitl [D]; · iexact D
    isplitl [H0]; · iexact H0
    isplitl [H2]; · iexact H2
    isplitl [H4]; · iexact H4
    isplitl [H6]; · iexact H6
    iexact H8
  · iintro ⟨H1, H3, H5, H7, D, H0, H2, H4, H6, H8⟩
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem toksU (c : Dev nD) (M : Memref sig .tc .hbm S2x2560x10240 .i8) (w : BufOf F c M) :
    (pt c M w : sProp 𝕄) ⊣⊢ iprop(tokPt c M 2 w ∗ tokPt c M 4 w ∗ tokPt c M 6 w ∗ tokPt c M 8 w ∗ spare c M w 0) := by
  unfold spare
  refine ⟨(toks_eq c M w).1.trans ?_, BIBase.Entails.trans ?_ (toks_eq c M w).2⟩
  · iintro ⟨D, H0, H1, H2, H3, H4, H5, H6, H7, H8⟩
    isplitl [H2]; · iexact H2
    isplitl [H4]; · iexact H4
    isplitl [H6]; · iexact H6
    isplitl [H8]; · iexact H8
    isplitl [D]; · iexact D
    isplitl [H0]; · iexact H0
    isplitl [H1]; · iexact H1
    isplitl [H3]; · iexact H3
    isplitl [H5]; · iexact H5
    iexact H7
  · iintro ⟨H2, H4, H6, H8, D, H0, H1, H3, H5, H7⟩
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The shares of the down weights that no transfer borrows. -/
def spareD (c : Dev nD) (w : BufOf F c mWd) : sProp 𝕄 :=
  iprop((mWd.view.loc (c : Thread nD τ) ↦{Transfers.shareDrop fullShare 25} w) ∗ tokPt c mWd 0 w ∗ tokPt c mWd 1 w ∗ tokPt c mWd 2 w ∗ tokPt c mWd 3 w ∗ tokPt c mWd 4 w ∗ tokPt c mWd 5 w ∗ tokPt c mWd 6 w ∗ tokPt c mWd 7 w ∗ tokPt c mWd 8 w)

theorem toksD_eq (c : Dev nD) (w : BufOf F c mWd) :
    (pt c mWd w : sProp 𝕄) ⊣⊢ iprop((mWd.view.loc (c : Thread nD τ) ↦{Transfers.shareDrop fullShare 25} w) ∗ tokPt c mWd 0 w ∗ tokPt c mWd 1 w ∗ tokPt c mWd 2 w ∗ tokPt c mWd 3 w ∗ tokPt c mWd 4 w ∗ tokPt c mWd 5 w ∗ tokPt c mWd 6 w ∗ tokPt c mWd 7 w ∗ tokPt c mWd 8 w ∗ tokPt c mWd 9 w ∗ tokPt c mWd 10 w ∗ tokPt c mWd 11 w ∗ tokPt c mWd 12 w ∗ tokPt c mWd 13 w ∗ tokPt c mWd 14 w ∗ tokPt c mWd 15 w ∗ tokPt c mWd 16 w ∗ tokPt c mWd 17 w ∗ tokPt c mWd 18 w ∗ tokPt c mWd 19 w ∗ tokPt c mWd 20 w ∗ tokPt c mWd 21 w ∗ tokPt c mWd 22 w ∗ tokPt c mWd 23 w ∗ tokPt c mWd 24 w) := by
  have h := Transfers.pointsTo_toks_range (Ix := Unit) (Val := Elt F) (Name := ℕ) (U := Pipeline.UD sig nD τ) (Lvl := ℕ)
    (ℓ := mWd.view.loc (c : Thread nD τ)) (S := Finset.univ) (f := w) fullShare 25
  rw [BI.bigSep_eq_bigSepL_of_eq [0, 1, 2, 3, 4, 5, 6, 7, 8, 9, 10, 11, 12, 13, 14, 15, 16, 17, 18, 19, 20, 21, 22, 23, 24] (by decide) (by decide)] at h
  exact h

theorem toksD_all (c : Dev nD) (w : BufOf F c mWd) :
    (pt c mWd w : sProp 𝕄) ⊣⊢ iprop(toksD c w 1 ∗ toksD c w 2 ∗ toksD c w 3 ∗ toksD c w 4 ∗ toksD c w 5 ∗ toksD c w 6 ∗ toksD c w 7 ∗ toksD c w 8 ∗ spareD c w) := by
  unfold toksD spareD
  refine ⟨(toksD_eq c w).1.trans ?_, BIBase.Entails.trans ?_ (toksD_eq c w).2⟩
  · iintro ⟨D, H0, H1, H2, H3, H4, H5, H6, H7, H8, H9, H10, H11, H12, H13, H14, H15, H16, H17, H18, H19, H20, H21, H22, H23, H24⟩
    isplitl [H9 H10]
    · isplitl [H9]; · iexact H9
      iexact H10
    isplitl [H11 H12]
    · isplitl [H11]; · iexact H11
      iexact H12
    isplitl [H13 H14]
    · isplitl [H13]; · iexact H13
      iexact H14
    isplitl [H15 H16]
    · isplitl [H15]; · iexact H15
      iexact H16
    isplitl [H17 H18]
    · isplitl [H17]; · iexact H17
      iexact H18
    isplitl [H19 H20]
    · isplitl [H19]; · iexact H19
      iexact H20
    isplitl [H21 H22]
    · isplitl [H21]; · iexact H21
      iexact H22
    isplitl [H23 H24]
    · isplitl [H23]; · iexact H23
      iexact H24
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨H9, H10⟩, ⟨H11, H12⟩, ⟨H13, H14⟩, ⟨H15, H16⟩, ⟨H17, H18⟩, ⟨H19, H20⟩, ⟨H21, H22⟩, ⟨H23, H24⟩, D, H0, H1, H2, H3, H4, H5, H6, H7, H8⟩
    isplitl [D]; · iexact D
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

/-! ## The ring at the start and at the end -/

theorem ring_start (c : Dev nD) (w : Wts F c) :
    iprop((busy c mWg w.g 0 1 0 0 ∗ toksD c w.d 1) ∗ (busy c mWu w.u 1 2 0 0 ∗ toksD c w.d 2) ∗ (busy c mWg w.g 6 7 0 3 ∗ toksD c w.d 7)
      ∗ (free0 c 7 8 ∗ tokPt c mWu 8 w.u ∗ toksD c w.d 8)
      ∗ (busy c mWg w.g 2 3 0 1 ∗ toksD c w.d 3) ∗ (busy c mWu w.u 3 4 0 1 ∗ toksD c w.d 4) ∗ (busy c mWg w.g 4 5 0 2 ∗ toksD c w.d 5)
      ∗ (busy c mWu w.u 5 6 0 2 ∗ toksD c w.d 6)) ⊢ ring c w (15 * 0) true := by
  unfold ring ringMid cellG cellU
  rw [cell_gu c mWg w.g w.d 0 _ _ (15 * 0) (by decide) (by decide), cell_gu c mWu w.u w.d 1 _ _ (15 * 0) (by decide) (by decide), if_pos rfl,
    cell_gu c mWg w.g w.d 0 _ _ (15 * 0 + 3) (by decide) (by decide), cell_ge c mWu w.u w.d 1 _ _ 30 (by decide),
    cell_gu c mWg w.g w.d 0 _ _ (15 * 0 + 1) (by decide) (by decide), cell_gu c mWu w.u w.d 1 _ _ (15 * 0 + 1) (by decide) (by decide),
    cell_gu c mWg w.g w.d 0 _ _ (15 * 0 + 2) (by decide) (by decide), cell_gu c mWu w.u w.d 1 _ _ (15 * 0 + 2) (by decide) (by decide)]
  exact Entails.refl _

theorem ring_finish (c : Dev nD) (w : Wts F c) :
    ring c w (15 * 2) true ⊢ iprop((free0 c 4 5 ∗ tokPt c mWg 5 w.g ∗ toksD c w.d 5) ∗ (free0 c 5 6 ∗ tokPt c mWu 6 w.u ∗ toksD c w.d 6)
      ∗ (free0 c 2 3 ∗ tokPt c mWg 3 w.g ∗ toksD c w.d 3) ∗ (free0 c 3 4 ∗ tokPt c mWu 4 w.u ∗ toksD c w.d 4)
      ∗ (free0 c 6 7 ∗ tokPt c mWg 7 w.g ∗ toksD c w.d 7) ∗ (free0 c 7 8 ∗ tokPt c mWu 8 w.u ∗ toksD c w.d 8)
      ∗ (free0 c 0 1 ∗ tokPt c mWg 1 w.g ∗ toksD c w.d 1) ∗ (free0 c 1 2 ∗ tokPt c mWu 2 w.u ∗ toksD c w.d 2)) := by
  unfold ring ringMid cellG cellU
  rw [cell_ge c mWg w.g w.d 0 _ _ (15 * 2) (by decide), cell_ge c mWu w.u w.d 1 _ _ (15 * 2) (by decide), if_pos rfl,
    cell_ge c mWg w.g w.d 0 _ _ (15 * 2 + 3) (by decide), cell_ge c mWu w.u w.d 1 _ _ 30 (by decide),
    cell_ge c mWg w.g w.d 0 _ _ (15 * 2 + 1) (by decide), cell_ge c mWu w.u w.d 1 _ _ (15 * 2 + 1) (by decide),
    cell_ge c mWg w.g w.d 0 _ _ (15 * 2 + 2) (by decide), cell_ge c mWu w.u w.d 1 _ _ (15 * 2 + 2) (by decide)]
  exact Entails.refl _

/-- A layer, at its trip of the loop. -/
theorem layer_step (c : Dev nD) (w : Wts F c) (x : BufOf F c vX) (sg : BufOf F c vSg) (su : BufOf F c vSu) (n3 : BufOf F c vN3)
    (sd : BufOf F c vSd) (n4 : BufOf F c vN4) (k : Fin k0_t1_loop.trips) :
    layerInv c w x sg su n3 sd n4 k.val
    ⊢ wp frame (wpE (defs₀ (F := F)) Variants.none c none) Set.univ
        (body1 (F := F) k ()) (fun _ => layerInv c w x sg su n3 sd n4 (k.val + 1)) := by
  obtain ⟨l, hl⟩ := k
  have hl' : l < 2 := lt_of_lt_of_eq hl trips1
  have h0 := layer0 (F := F)
  have h1 := layer1 (F := F)
  have h : LayerOk F l hl' := by interval_cases l <;> with_reducible assumption
  exact h c w x sg su n3 sd n4

end Cert.KernelIdeal.Hand
end
-- ==== Proof.Ideal.Body.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.BodyParts
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The body: the prologue's transfers, the loop over the layers -/

/-- The amounts of the six transfers of the prologue that share a semaphore, -/
abbrev A0 : Fin 6 → ℕ := ![30720, 2560, 2560, 640, 640, 640]

/-- and what each delivers. -/
def deliv0 (c : Dev nD) (x : BufOf F c mX) (sg : BufOf F c mSg) (su : BufOf F c mSu) (sd : BufOf F c mSd) (n3 : BufOf F c mN3) (n4 : BufOf F c mN4)
   (x' : BufOf F c vX) (sg' : BufOf F c vSg) (su' : BufOf F c vSu) (sd' : BufOf F c vSd) (n3' : BufOf F c vN3) (n4' : BufOf F c vN4) : Fin 6 → sProp 𝕄
  | 0 => iprop((vX.view.loc (c : Thread nD τ) ↦{fullShare} View.write (Elt F) vX.view x' (ReadAs.same.apply (mX.view.read (Elt F) x)) Finset.univ) ∗ (mX.view.loc (c : Thread nD τ) ↦[mX.view.set]{fullShare} x))
  | 1 => iprop((vSg.view.loc (c : Thread nD τ) ↦{fullShare} View.write (Elt F) vSg.view sg' (ReadAs.same.apply (mSg.view.read (Elt F) sg)) Finset.univ) ∗ (mSg.view.loc (c : Thread nD τ) ↦[mSg.view.set]{fullShare} sg))
  | 2 => iprop((vSu.view.loc (c : Thread nD τ) ↦{fullShare} View.write (Elt F) vSu.view su' (ReadAs.same.apply (mSu.view.read (Elt F) su)) Finset.univ) ∗ (mSu.view.loc (c : Thread nD τ) ↦[mSu.view.set]{fullShare} su))
  | 3 => iprop((vSd.view.loc (c : Thread nD τ) ↦{fullShare} View.write (Elt F) vSd.view sd' (ReadAs.same.apply (mSd.view.read (Elt F) sd)) Finset.univ) ∗ (mSd.view.loc (c : Thread nD τ) ↦[mSd.view.set]{fullShare} sd))
  | 4 => iprop((vN3.view.loc (c : Thread nD τ) ↦{fullShare} View.write (Elt F) vN3.view n3' (ReadAs.same.apply (mN3.view.read (Elt F) n3)) Finset.univ) ∗ (mN3.view.loc (c : Thread nD τ) ↦[mN3.view.set]{fullShare} n3))
  | 5 => iprop((vN4.view.loc (c : Thread nD τ) ↦{fullShare} View.write (Elt F) vN4.view n4' (ReadAs.same.apply (mN4.view.read (Elt F) n4)) Finset.univ) ∗ (mN4.view.loc (c : Thread nD τ) ↦[mN4.view.set]{fullShare} n4))

instance deliv0_storable (c : Dev nD) (x : BufOf F c mX) (sg : BufOf F c mSg) (su : BufOf F c mSu) (sd : BufOf F c mSd) (n3 : BufOf F c mN3) (n4 : BufOf F c mN4)
   (x' : BufOf F c vX) (sg' : BufOf F c vSg) (su' : BufOf F c vSu) (sd' : BufOf F c vSd) (n3' : BufOf F c vN3) (n4' : BufOf F c vN4) (t : Fin 6) :
    Storable (upEmb : UEmb _ 𝕄) (deliv0 c x sg su sd n3 n4 x' sg' su' sd' n3' n4' t) := by
  fin_cases t <;> simp only [deliv0] <;> infer_instance

/-- The buffers, each at some contents. -/
def bufs (c : Dev nD) : sProp 𝕄 :=
  iprop((∃ f, pt c vX f) ∗ (∃ f, pt c vSg f) ∗ (∃ f, pt c vSu f) ∗ (∃ f, pt c vSd f) ∗ (∃ f, pt c vN3 f) ∗ (∃ f, pt c vN4 f) ∗ (∃ f, pt c vW f) ∗ scratch c)

/-- The semaphores, each at zero. -/
def sems (c : Dev nD) : sProp 𝕄 :=
  iprop(semVal ((c : Thread nD τ), SemLoc.dma 0) 0
     ∗ semVal ((c : Thread nD τ), SemLoc.dma 1) 0 ∗ semVal ((c : Thread nD τ), SemLoc.dma 2) 0
     ∗ semVal ((c : Thread nD τ), SemLoc.dma 3) 0 ∗ semVal ((c : Thread nD τ), SemLoc.dma 4) 0
     ∗ semVal ((c : Thread nD τ), SemLoc.dma 5) 0 ∗ semVal ((c : Thread nD τ), SemLoc.dma 6) 0
     ∗ semVal ((c : Thread nD τ), SemLoc.dma 7) 0 ∗ semVal ((c : Thread nD τ), SemLoc.dma 8) 0
     ∗ outSems c)

/-- The arguments. -/
def argPts (c : Dev nD) (x : BufOf F c mX) (w : Wts F c) (sg : BufOf F c mSg) (su : BufOf F c mSu)
    (sd : BufOf F c mSd) (n3 : BufOf F c mN3) (n4 : BufOf F c mN4) : sProp 𝕄 :=
  iprop(pt c mX x ∗ pt c mWg w.g ∗ pt c mSg sg ∗ pt c mWu w.u ∗ pt c mSu su ∗ pt c mWd w.d ∗ pt c mSd sd ∗ pt c mN3 n3 ∗ pt c mN4 n4)

/-- The results at some contents, -/
def outAny (c : Dev nD) : sProp 𝕄 :=
  iprop(((∃ f, pt c oY0 f) ∗ (∃ f, pt c oCf0 f) ∗ (∃ f, pt c oSf0 f) ∗ (∃ f, pt c oCd0 f) ∗ (∃ f, pt c oSd0 f))
    ∗ (∃ f, pt c oY1 f) ∗ (∃ f, pt c oCf1 f) ∗ (∃ f, pt c oSf1 f) ∗ (∃ f, pt c oCd1 f) ∗ (∃ f, pt c oSd1 f))

/-- and at their values. -/
def outDone (c : Dev nD) (x : BufOf F c mX) (w : Wts F c) (sg : BufOf F c mSg) (su : BufOf F c mSu)
    (sd : BufOf F c mSd) (n3 : BufOf F c mN3) (n4 : BufOf F c mN4) : sProp 𝕄 :=
  iprop((pt c oY0 (yA x n3 sg su w.g w.u 0 sd n4 w.d) ∗ pt c oCf0 (cfA x n3 0) ∗ pt c oSf0 (sfA x n3 0) ∗ pt c oCd0 (cdA x n3 sg su w.g w.u 0) ∗ pt c oSd0 (sdA x n3 sg su w.g w.u 0))
    ∗ pt c oY1 (yA x n3 sg su w.g w.u 1 sd n4 w.d) ∗ pt c oCf1 (cfA x n3 1) ∗ pt c oSf1 (sfA x n3 1) ∗ pt c oCd1 (cdA x n3 sg su w.g w.u 1) ∗ pt c oSd1 (sdA x n3 sg su w.g w.u 1))

set_option maxHeartbeats 4000000 in
/-- The results of the last layer's invariant are the values of the arguments. -/
theorem outs_done (c : Dev nD) (x : BufOf F c mX) (w : Wts F c) (sg : BufOf F c mSg) (su : BufOf F c mSu)
    (sd : BufOf F c mSd) (n3 : BufOf F c mN3) (n4 : BufOf F c mN4) :
    iprop(outs0 c w (x : BufOf F c vX) (sg : BufOf F c vSg) (su : BufOf F c vSu) (n3 : BufOf F c vN3) (sd : BufOf F c vSd) (n4 : BufOf F c vN4) (1 ≤ 2)
      ∗ outs1 c w (x : BufOf F c vX) (sg : BufOf F c vSg) (su : BufOf F c vSu) (n3 : BufOf F c vN3) (sd : BufOf F c vSd) (n4 : BufOf F c vN4) (2 ≤ 2)) ⊢ outDone c x w sg su sd n3 n4 := by
  unfold outs0 outs1 outPt outDone
  iintro ⟨⟨⟨%o0, Ho0, %p0⟩, ⟨%o1, Ho1, %p1⟩, ⟨%o2, Ho2, %p2⟩, ⟨%o3, Ho3, %p3⟩, ⟨%o4, Ho4, %p4⟩⟩, ⟨⟨%o5, Ho5, %p5⟩, ⟨%o6, Ho6, %p6⟩, ⟨%o7, Ho7, %p7⟩, ⟨%o8, Ho8, %p8⟩, ⟨%o9, Ho9, %p9⟩⟩⟩
  obtain rfl : o0 = yA x n3 sg su w.g w.u 0 sd n4 w.d := p0 (by decide)
  obtain rfl : o1 = cfA x n3 0 := p1 (by decide)
  obtain rfl : o2 = sfA x n3 0 := p2 (by decide)
  obtain rfl : o3 = cdA x n3 sg su w.g w.u 0 := p3 (by decide)
  obtain rfl : o4 = sdA x n3 sg su w.g w.u 0 := p4 (by decide)
  obtain rfl : o5 = yA x n3 sg su w.g w.u 1 sd n4 w.d := p5 (by decide)
  obtain rfl : o6 = cfA x n3 1 := p6 (by decide)
  obtain rfl : o7 = sfA x n3 1 := p7 (by decide)
  obtain rfl : o8 = cdA x n3 sg su w.g w.u 1 := p8 (by decide)
  obtain rfl : o9 = sdA x n3 sg su w.g w.u 1 := p9 (by decide)
  isplitl [Ho0 Ho1 Ho2 Ho3 Ho4]
  · isplitl [Ho0]; · iexact Ho0
    isplitl [Ho1]; · iexact Ho1
    isplitl [Ho2]; · iexact Ho2
    isplitl [Ho3]; · iexact Ho3
    iexact Ho4
  isplitl [Ho5]; · iexact Ho5
  isplitl [Ho6]; · iexact Ho6
  isplitl [Ho7]; · iexact Ho7
  isplitl [Ho8]; · iexact Ho8
  iexact Ho9

/-- What lands in a whole buffer is what was read from the whole source. -/
theorem landed_x (c : Dev nD) (x : BufOf F c mX) (x' : BufOf F c vX) :
    (vX.view.loc (c : Thread nD τ) ↦{fullShare} View.write (Elt F) vX.view x' (ReadAs.same.apply (mX.view.read (Elt F) x)) Finset.univ : sProp 𝕄)
      ⊢ pt c vX x := by
  exact BIBase.Entails.of_eq (congrArg (fun w => pt c vX w) (View.write_whole_univ (Val := Elt F) cc0_scratch0 x' x))

theorem landed_sg (c : Dev nD) (x : BufOf F c mSg) (x' : BufOf F c vSg) :
    (vSg.view.loc (c : Thread nD τ) ↦{fullShare} View.write (Elt F) vSg.view x' (ReadAs.same.apply (mSg.view.read (Elt F) x)) Finset.univ : sProp 𝕄)
      ⊢ pt c vSg x := by
  exact BIBase.Entails.of_eq (congrArg (fun w => pt c vSg w) (View.write_whole_univ (Val := Elt F) cc0_scratch1 x' x))

theorem landed_su (c : Dev nD) (x : BufOf F c mSu) (x' : BufOf F c vSu) :
    (vSu.view.loc (c : Thread nD τ) ↦{fullShare} View.write (Elt F) vSu.view x' (ReadAs.same.apply (mSu.view.read (Elt F) x)) Finset.univ : sProp 𝕄)
      ⊢ pt c vSu x := by
  exact BIBase.Entails.of_eq (congrArg (fun w => pt c vSu w) (View.write_whole_univ (Val := Elt F) cc0_scratch2 x' x))

theorem landed_sd (c : Dev nD) (x : BufOf F c mSd) (x' : BufOf F c vSd) :
    (vSd.view.loc (c : Thread nD τ) ↦{fullShare} View.write (Elt F) vSd.view x' (ReadAs.same.apply (mSd.view.read (Elt F) x)) Finset.univ : sProp 𝕄)
      ⊢ pt c vSd x := by
  exact BIBase.Entails.of_eq (congrArg (fun w => pt c vSd w) (View.write_whole_univ (Val := Elt F) cc0_scratch3 x' x))

theorem landed_n3 (c : Dev nD) (x : BufOf F c mN3) (x' : BufOf F c vN3) :
    (vN3.view.loc (c : Thread nD τ) ↦{fullShare} View.write (Elt F) vN3.view x' (ReadAs.same.apply (mN3.view.read (Elt F) x)) Finset.univ : sProp 𝕄)
      ⊢ pt c vN3 x := by
  exact BIBase.Entails.of_eq (congrArg (fun w => pt c vN3 w) (View.write_whole_univ (Val := Elt F) cc0_scratch4 x' x))

theorem landed_n4 (c : Dev nD) (x : BufOf F c mN4) (x' : BufOf F c vN4) :
    (vN4.view.loc (c : Thread nD τ) ↦{fullShare} View.write (Elt F) vN4.view x' (ReadAs.same.apply (mN4.view.read (Elt F) x)) Finset.univ : sProp 𝕄)
      ⊢ pt c vN4 x := by
  exact BIBase.Entails.of_eq (congrArg (fun w => pt c vN4 w) (View.write_whole_univ (Val := Elt F) cc0_scratch5 x' x))

/-- The whole body: the six small inputs come in on one semaphore, seven blocks of weights are started,
the layers run, and every transfer has been waited for. -/
theorem body_run (c : Dev nD) (x : BufOf F c mX) (w : Wts F c) (sg : BufOf F c mSg) (su : BufOf F c mSu)
    (sd : BufOf F c mSd) (n3 : BufOf F c mN3) (n4 : BufOf F c mN4) (W : Waits sig Unit) :
   iprop(argPts c x w sg su sd n3 n4 ∗ outAny c ∗ bufs c ∗ sems c ∗ owes (c : Thread nD τ) 0 W)
   ⊢ wp frame (wpE (defs₀ (F := F)) Variants.none c none) Set.univ (bodyAt0 (F := F) t0_0)
      (fun _ => iprop(argPts c x w sg su sd n3 n4 ∗ outDone c x w sg su sd n3 n4 ∗ bufs c ∗ sems c ∗ ∃ W, owes (c : Thread nD τ) 0 W)) := by
  unfold argPts outAny bufs sems
  iintro ⟨⟨Hx, Hwg, Hsg, Hwu, Hsu, Hwd, Hsd, Hn3, Hn4⟩, Ho, ⟨⟨%x', Hx'⟩, ⟨%sg', Hsg'⟩, ⟨%su', Hsu'⟩, ⟨%sd', Hsd'⟩, ⟨%n3', Hn3'⟩, ⟨%n4', Hn4'⟩, ⟨%w', Hw'⟩, Hscr⟩,
    ⟨Hq0, Hq1, Hq2, Hq3, Hq4, Hq5, Hq6, Hq7, Hq8, Hqo⟩, HW⟩
  ihave Hwg := (toksG c mWg w.g).1 $$ Hwg
  icases Hwg with ⟨Hg0, Hg2, Hg4, Hg6, HgR⟩
  ihave Hwu := (toksU c mWu w.u).1 $$ Hwu
  icases Hwu with ⟨Hu1, Hu3, Hu5, Hu7, HuR⟩
  ihave Hwd := (toksD_all c w.d).1 $$ Hwd
  icases Hwd with ⟨Hd1, Hd2, Hd3, Hd4, Hd5, Hd6, Hd7, Hd8, HdR⟩
  ihave Hw' := (slots_split c w') $$ Hw'
  icases Hw' with ⟨Hs0, Hs1, Hs2, Hs3, Hs4, Hs5, Hs6, Hs7⟩
  unfold bodyAt0
  simp only [cc0_decode_pair_eq_skeleton]; unfold cc0_decode_pair_skel
  imod (Transfers.mixedBatch_alloc' (Lvl := ℕ) (countersEmb (U := Pipeline.UD sig nD τ)) (c : Thread nD τ) () A0
      (deliv0 c x sg su sd n3 n4 x' sg' su' sd' n3' n4') (sm := SemLoc.dma 0) (E := Set.univ)) $$ Hq0 with HB0
  unfold deliv0
  have hc1 : k0_cond1 = 1#1 := by decide
  have hc2 : k0_cond2 = 0#1 := by decide
  have hc3 : k0_cond3 = 0#1 := by decide
  have hc4 : k0_cond4 = 0#1 := by decide
  have hc5 : k0_cond5 = 0#1 := by decide
  have hc6 : k0_cond6 = 1#1 := by decide
  have hc7 : k0_cond7 = 0#1 := by decide
  have hc8 : k0_cond8 = 0#1 := by decide
  have hc9 : k0_cond9 = 1#1 := by decide
  have hc10 : k0_cond10 = 0#1 := by decide
  have hc11 : k0_cond11 = 0#1 := by decide
  have hc12 : k0_cond12 = 0#1 := by decide
  have hc13 : k0_cond13 = 0#1 := by decide
  have hc14 : k0_cond14 = 1#1 := by decide
  have hc15 : k0_cond15 = 0#1 := by decide
  have hc16 : k0_cond16 = 0#1 := by decide
  have hc17 : k0_cond17 = 1#1 := by decide
  have hc18 : k0_cond18 = 0#1 := by decide
  have hc19 : k0_cond19 = 0#1 := by decide
  have hc20 : k0_cond20 = 0#1 := by decide
  have hc21 : k0_cond21 = 0#1 := by decide
  have hc22 : k0_cond22 = 1#1 := by decide
  have hc23 : k0_cond23 = 0#1 := by decide
  have hc24 : k0_cond24 = 0#1 := by decide
  have hc25 : k0_cond25 = 1#1 := by decide
  have hc26 : k0_cond26 = 0#1 := by decide
  have hc27 : k0_cond27 = 0#1 := by decide
  have hc28 : k0_cond28 = 0#1 := by decide
  sl_exec
  sl_unfold_run_names
  ihave Hvx := (landed_x c x x') $$ HB0_dst0
  ihave Hvsg := (landed_sg c sg sg') $$ HB0_dst1
  ihave Hvsu := (landed_su c su su') $$ HB0_dst2
  ihave Hvsd := (landed_sd c sd sd') $$ HB0_dst3
  ihave Hvn3 := (landed_n3 c n3 n3') $$ HB0_dst4
  ihave Hvn4 := (landed_n4 c n4 n4') $$ HB0_dst5
  sl_for (fun i _ => layerInv c w (x : BufOf F c vX) (sg : BufOf F c vSg) (su : BufOf F c vSu) (n3 : BufOf F c vN3) (sd : BufOf F c vSd) (n4 : BufOf F c vN4) i) $$
    [Hvx Hvsg Hvsu Hvsd Hvn3 Hvn4 Hscr Hqo Hq1 Hq2 Hq3 Hq4 Hq5 Hq6 Hq7 Hq8 Hs7 Hg0 Hg2 Hg4 Hg6 Hu1 Hu3 Hu5 Hu7 Hd1 Hd2 Hd3 Hd4 Hd5 Hd6 Hd7 Hd8 Ho HW]
  case region =>
    intro k _
    exact layer_step c w _ _ _ _ _ _ k
  · unfold layerInv
    isplitl [Hvx]; · iexact Hvx
    isplitl [Hvsg]; · iexact Hvsg
    isplitl [Hvsu]; · iexact Hvsu
    isplitl [Hvsd]; · iexact Hvsd
    isplitl [Hvn3]; · iexact Hvn3
    isplitl [Hvn4]; · iexact Hvn4
    isplitl [Hscr]; · iexact Hscr
    isplitl [Hqo]; · iexact Hqo
    isplitl [Hq1 Hq2 Hq3 Hq4 Hq5 Hq6 Hq7 Hq8 Hs7 Hg0 Hg2 Hg4 Hg6 Hu1 Hu3 Hu5 Hu7 Hd1 Hd2 Hd3 Hd4 Hd5 Hd6 Hd7 Hd8]
    · iapply (ring_start c w)
      isplitl [Hq1 Hg0 Hd1]
      · isplitl [Hq1 Hg0]
        · unfold busy flying
          iexists _
          isplitl [Hq1 Hg0]
          · isplitl [Hq1]; · iexact Hq1
            iexact Hg0
          ipureintro
          exact holds_landed' _ _ _ _ _ _ _ _ _ rfl
        iexact Hd1
      isplitl [Hq2 Hu1 Hd2]
      · isplitl [Hq2 Hu1]
        · unfold busy flying
          iexists _
          isplitl [Hq2 Hu1]
          · isplitl [Hq2]; · iexact Hq2
            iexact Hu1
          ipureintro
          exact holds_landed' _ _ _ _ _ _ _ _ _ rfl
        iexact Hd2
      isplitl [Hq7 Hg6 Hd7]
      · isplitl [Hq7 Hg6]
        · unfold busy flying
          iexists _
          isplitl [Hq7 Hg6]
          · isplitl [Hq7]; · iexact Hq7
            iexact Hg6
          ipureintro
          exact holds_landed' _ _ _ _ _ _ _ _ _ rfl
        iexact Hd7
      isplitl [Hs7 Hq8 Hu7 Hd8]
      · isplitl [Hs7 Hq8]
        · unfold free0
          iexists _
          isplitl [Hs7]; · iexact Hs7
          iexact Hq8
        isplitl [Hu7]; · iexact Hu7
        iexact Hd8
      isplitl [Hq3 Hg2 Hd3]
      · isplitl [Hq3 Hg2]
        · unfold busy flying
          iexists _
          isplitl [Hq3 Hg2]
          · isplitl [Hq3]; · iexact Hq3
            iexact Hg2
          ipureintro
          exact holds_landed' _ _ _ _ _ _ _ _ _ rfl
        iexact Hd3
      isplitl [Hq4 Hu3 Hd4]
      · isplitl [Hq4 Hu3]
        · unfold busy flying
          iexists _
          isplitl [Hq4 Hu3]
          · isplitl [Hq4]; · iexact Hq4
            iexact Hu3
          ipureintro
          exact holds_landed' _ _ _ _ _ _ _ _ _ rfl
        iexact Hd4
      isplitl [Hq5 Hg4 Hd5]
      · isplitl [Hq5 Hg4]
        · unfold busy flying
          iexists _
          isplitl [Hq5 Hg4]
          · isplitl [Hq5]; · iexact Hq5
            iexact Hg4
          ipureintro
          exact holds_landed' _ _ _ _ _ _ _ _ _ rfl
        iexact Hd5
      isplitl [Hq6 Hu5]
      · unfold busy flying
        iexists _
        isplitl [Hq6 Hu5]
        · isplitl [Hq6]; · iexact Hq6
          iexact Hu5
        ipureintro
        exact holds_landed' _ _ _ _ _ _ _ _ _ rfl
      iexact Hd6
    icases Ho with ⟨⟨⟨%o0, Ho0⟩, ⟨%o1, Ho1⟩, ⟨%o2, Ho2⟩, ⟨%o3, Ho3⟩, ⟨%o4, Ho4⟩⟩, ⟨%o5, Ho5⟩, ⟨%o6, Ho6⟩, ⟨%o7, Ho7⟩, ⟨%o8, Ho8⟩, ⟨%o9, Ho9⟩⟩
    isplitl [Ho0 Ho1 Ho2 Ho3 Ho4]
    · unfold outs0 outPt
      isplitl [Ho0]
      · iexists o0
        isplitl [Ho0]; · iexact Ho0
        ipureintro; intro h; omega
      isplitl [Ho1]
      · iexists o1
        isplitl [Ho1]; · iexact Ho1
        ipureintro; intro h; omega
      isplitl [Ho2]
      · iexists o2
        isplitl [Ho2]; · iexact Ho2
        ipureintro; intro h; omega
      isplitl [Ho3]
      · iexists o3
        isplitl [Ho3]; · iexact Ho3
        ipureintro; intro h; omega
      iexists o4
      isplitl [Ho4]; · iexact Ho4
      ipureintro; intro h; omega
    isplitl [Ho5 Ho6 Ho7 Ho8 Ho9]
    · unfold outs1 outPt
      isplitl [Ho5]
      · iexists o5
        isplitl [Ho5]; · iexact Ho5
        ipureintro; intro h; omega
      isplitl [Ho6]
      · iexists o6
        isplitl [Ho6]; · iexact Ho6
        ipureintro; intro h; omega
      isplitl [Ho7]
      · iexists o7
        isplitl [Ho7]; · iexact Ho7
        ipureintro; intro h; omega
      isplitl [Ho8]
      · iexists o8
        isplitl [Ho8]; · iexact Ho8
        ipureintro; intro h; omega
      iexists o9
      isplitl [Ho9]; · iexact Ho9
      ipureintro; intro h; omega
    iexists _; iexact HW
  iintro %acc HI
  have e2 : Scf.trips k0_t1_loop.lb k0_t1_loop.ub k0_t1_loop.st = 2 := by decide
  rw [e2]
  unfold layerInv
  icases HI with ⟨Hvx, Hvsg, Hvsu, Hvsd, Hvn3, Hvn4, Hscr, Hqo, HR, Ho0, Ho1, ⟨%W', HW⟩⟩
  ihave HR := (ring_finish c w) $$ HR
  unfold free0
  icases HR with ⟨⟨⟨%f4, Hs4, Hq5⟩, Hg4, Hd5⟩, ⟨⟨%f5, Hs5, Hq6⟩, Hu5, Hd6⟩, ⟨⟨%f2, Hs2, Hq3⟩, Hg2, Hd3⟩, ⟨⟨%f3, Hs3, Hq4⟩, Hu3, Hd4⟩,
    ⟨⟨%f6, Hs6, Hq7⟩, Hg6, Hd7⟩, ⟨⟨%f7, Hs7, Hq8⟩, Hu7, Hd8⟩, ⟨⟨%f0, Hs0, Hq1⟩, Hg0, Hd1⟩, ⟨⟨%f1, Hs1, Hq2⟩, Hu1, Hd2⟩⟩
  sl_exec
  sl_step
  isplitl [Hx Hsg Hsu Hsd Hn3 Hn4 Hg0 Hg2 Hg4 Hg6 HgR Hu1 Hu3 Hu5 Hu7 HuR Hd1 Hd2 Hd3 Hd4 Hd5 Hd6 Hd7 Hd8 HdR]
  · isplitl [Hx]; · iexact Hx
    isplitl [Hg0 Hg2 Hg4 Hg6 HgR]
    · iapply (toksG c mWg w.g).2
      isplitl [Hg0]; · iexact Hg0
      isplitl [Hg2]; · iexact Hg2
      isplitl [Hg4]; · iexact Hg4
      isplitl [Hg6]; · iexact Hg6
      iexact HgR
    isplitl [Hsg]; · iexact Hsg
    isplitl [Hu1 Hu3 Hu5 Hu7 HuR]
    · iapply (toksU c mWu w.u).2
      isplitl [Hu1]; · iexact Hu1
      isplitl [Hu3]; · iexact Hu3
      isplitl [Hu5]; · iexact Hu5
      isplitl [Hu7]; · iexact Hu7
      iexact HuR
    isplitl [Hsu]; · iexact Hsu
    isplitl [Hd1 Hd2 Hd3 Hd4 Hd5 Hd6 Hd7 Hd8 HdR]
    · iapply (toksD_all c w.d).2
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      iexact HdR
    isplitl [Hsd]; · iexact Hsd
    isplitl [Hn3]; · iexact Hn3
    iexact Hn4
  isplitl [Ho0 Ho1]
  · iapply (outs_done c x w sg su sd n3 n4)
    isplitl [Ho0]; · iexact Ho0
    iexact Ho1
  isplitl [Hvx Hvsg Hvsu Hvsd Hvn3 Hvn4 Hscr Hs0 Hs1 Hs2 Hs3 Hs4 Hs5 Hs6 Hs7]
  · isplitl [Hvx]; · iexists _; iexact Hvx
    isplitl [Hvsg]; · iexists _; iexact Hvsg
    isplitl [Hvsu]; · iexists _; iexact Hvsu
    isplitl [Hvsd]; · iexists _; iexact Hvsd
    isplitl [Hvn3]; · iexists _; iexact Hvn3
    isplitl [Hvn4]; · iexists _; iexact Hvn4
    isplitl [Hs0 Hs1 Hs2 Hs3 Hs4 Hs5 Hs6 Hs7]
    · iapply (slots_join c w')
      isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      iexists _; iexact Hs7
    iexact Hscr
  isplitl [HB0 Hq1 Hq2 Hq3 Hq4 Hq5 Hq6 Hq7 Hq8 Hqo]
  · isplitl [HB0]; · iexact HB0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexact Hqo
  iexists _; iexact HW

end Cert.KernelIdeal.Hand
end
-- ==== Proof.Ideal.Launch.lean ====
module

public import proofs.«01_k».proof.Proof.Gen.KernelIdeal.Frame
public import proofs.«01_k».proof.Proof.Gen.KernelIdeal.Loops
public import Idealize.ShloMosaic.Lib.Pipeline.FrameValue
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ideal.Body
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the body's run as a run of the whole program -/

/-- The arguments the body reads, -/
def H0 : Finset (Ref sig .tc) := {main_arg0, main_arg1, main_arg2, main_arg3, main_arg4, main_arg5, main_arg6, main_arg7, main_arg8}
/-- and the results it writes. -/
def R0 : Finset (Ref sig .tc) := {main_v0_0, main_v0_1, main_v0_2, main_v0_3, main_v0_4, main_v0_5, main_v0_6, main_v0_7, main_v0_8, main_v0_9}

theorem H0_sub : H0 ⊆ Pipeline.restRefs sig cfg0.spec := by decide
theorem R0_sub : R0 ⊆ Pipeline.restRefs sig cfg0.spec \ H0 := by decide

/-- The semaphores of the body's own transfers. -/
abbrev osem0 : Fin 14 → SemLoc sig := fun j =>
  (![SemLoc.dma 0, SemLoc.dma 1, SemLoc.dma 2, SemLoc.dma 3, SemLoc.dma 4, SemLoc.dma 5, SemLoc.dma 6, SemLoc.dma 7, SemLoc.dma 8,
    SemLoc.dma 9, SemLoc.dma 10, SemLoc.dma 11, SemLoc.dma 12, SemLoc.dma 13] : Fin 14 → SemLoc sig) j

theorem ownSemFacts0 : Pipeline.OwnSemFacts cfg0.spec osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = sems c := by
  rw [Pipeline.ownSems0_eq_of_list c osem0 [0, 1, 2, 3, 4, 5, 6, 7, 8, 9, 10, 11, 12, 13] (by decide) (by decide)]; rfl

/-- @main up to the region. -/
abbrev VD (c : Dev nD) (b : Ref sig .tc) : Buf (Elt F) ((c : Thread nD τ).loc b) := m ((c : Thread nD τ).loc b)

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (VD m) :=
  Pipeline.hmain_region cfgs 0 defs₀ 𝒱₀ m main fun c => (main_chain c).trans rfl

/-- The results, by layer: the codes and the scales of the input, -/
abbrev cfOf (c : Dev nD) (l : Fin 2) : S48x2560.Idx → Elt F .i8 := cfA (VD m c main_arg0) (VD m c main_arg7) l
abbrev sfOf (c : Dev nD) (l : Fin 2) : FVec F S1x48 .f32 := sfA (VD m c main_arg0) (VD m c main_arg7) l
/-- of the gated product, -/
abbrev cdOf (c : Dev nD) (l : Fin 2) : S48x10240.Idx → Elt F .i8 :=
  cdA (VD m c main_arg0) (VD m c main_arg7) (VD m c main_arg2) (VD m c main_arg4) (VD m c main_arg1) (VD m c main_arg3) l
abbrev sdOf (c : Dev nD) (l : Fin 2) : FVec F S1x48 .f32 :=
  sdA (VD m c main_arg0) (VD m c main_arg7) (VD m c main_arg2) (VD m c main_arg4) (VD m c main_arg1) (VD m c main_arg3) l
/-- and the layer's output. -/
abbrev yOf (c : Dev nD) (l : Fin 2) : FVec F S48x2560 .bf16 :=
  yA (VD m c main_arg0) (VD m c main_arg7) (VD m c main_arg2) (VD m c main_arg4) (VD m c main_arg1) (VD m c main_arg3) l (VD m c main_arg6) (VD m c main_arg8) (VD m c main_arg5)

/-- The buffers at the end: the results at their values, all others as launched. -/
def GD (c : Dev nD) (b : Ref sig .tc) : Buf (Elt F) ((c : Thread nD τ).loc b) :=
  Function.update (Function.update (Function.update (Function.update (Function.update (Function.update (Function.update (Function.update (Function.update (Function.update (VD m c)
    main_v0_0 (yOf m c 0)) main_v0_1 (yOf m c 1)) main_v0_2 (cfOf m c 0)) main_v0_3 (sfOf m c 0)) main_v0_4 (cdOf m c 0)) main_v0_5 (sdOf m c 0)) main_v0_6 (cfOf m c 1)) main_v0_7 (sfOf m c 1)) main_v0_8 (cdOf m c 1)) main_v0_9 (sdOf m c 1) b

theorem GD_0 (c : Dev nD) : GD m c main_v0_0 = yOf m c 0 := by
  unfold GD
  rw [Function.update_of_ne (by decide),
    Function.update_of_ne (by decide),
    Function.update_of_ne (by decide),
    Function.update_of_ne (by decide),
    Function.update_of_ne (by decide),
    Function.update_of_ne (by decide),
    Function.update_of_ne (by decide),
    Function.update_of_ne (by decide),
    Function.update_of_ne (by decide),
    Function.update_self]
theorem GD_1 (c : Dev nD) : GD m c main_v0_1 = yOf m c 1 := by
  unfold GD
  rw [Function.update_of_ne (by decide),
    Function.update_of_ne (by decide),
    Function.update_of_ne (by decide),
    Function.update_of_ne (by decide),
    Function.update_of_ne (by decide),
    Function.update_of_ne (by decide),
    Function.update_of_ne (by decide),
    Function.update_of_ne (by decide),
    Function.update_self]
theorem GD_2 (c : Dev nD) : GD m c main_v0_2 = cfOf m c 0 := by
  unfold GD
  rw [Function.update_of_ne (by decide),
    Function.update_of_ne (by decide),
    Function.update_of_ne (by decide),
    Function.update_of_ne (by decide),
    Function.update_of_ne (by decide),
    Function.update_of_ne (by decide),
    Function.update_of_ne (by decide),
    Function.update_self]
theorem GD_3 (c : Dev nD) : GD m c main_v0_3 = sfOf m c 0 := by
  unfold GD
  rw [Function.update_of_ne (by decide),
    Function.update_of_ne (by decide),
    Function.update_of_ne (by decide),
    Function.update_of_ne (by decide),
    Function.update_of_ne (by decide),
    Function.update_of_ne (by decide),
    Function.update_self]
theorem GD_4 (c : Dev nD) : GD m c main_v0_4 = cdOf m c 0 := by
  unfold GD
  rw [Function.update_of_ne (by decide),
    Function.update_of_ne (by decide),
    Function.update_of_ne (by decide),
    Function.update_of_ne (by decide),
    Function.update_of_ne (by decide),
    Function.update_self]
theorem GD_5 (c : Dev nD) : GD m c main_v0_5 = sdOf m c 0 := by
  unfold GD
  rw [Function.update_of_ne (by decide),
    Function.update_of_ne (by decide),
    Function.update_of_ne (by decide),
    Function.update_of_ne (by decide),
    Function.update_self]
theorem GD_6 (c : Dev nD) : GD m c main_v0_6 = cfOf m c 1 := by
  unfold GD
  rw [Function.update_of_ne (by decide),
    Function.update_of_ne (by decide),
    Function.update_of_ne (by decide),
    Function.update_self]
theorem GD_7 (c : Dev nD) : GD m c main_v0_7 = sfOf m c 1 := by
  unfold GD
  rw [Function.update_of_ne (by decide),
    Function.update_of_ne (by decide),
    Function.update_self]
theorem GD_8 (c : Dev nD) : GD m c main_v0_8 = cdOf m c 1 := by
  unfold GD
  rw [Function.update_of_ne (by decide),
    Function.update_self]
theorem GD_9 (c : Dev nD) : GD m c main_v0_9 = sdOf m c 1 := by
  unfold GD
  rw [Function.update_self]

/-- The arguments and the results, one by one. -/
theorem argPts_eq (c : Dev nD) :
    (bigSep H0 (fun b => ((c : Thread nD τ).loc b) ↦{fullShare} VD m c b) : sProp 𝕄)
      = argPts c (VD m c main_arg0) ⟨VD m c main_arg1, VD m c main_arg3, VD m c main_arg5⟩ (VD m c main_arg2) (VD m c main_arg4) (VD m c main_arg6) (VD m c main_arg7) (VD m c main_arg8) := by
  rw [BI.bigSep_eq_bigSepL_of_eq [main_arg0, main_arg1, main_arg2, main_arg3, main_arg4, main_arg5, main_arg6, main_arg7, main_arg8] (by decide) (by decide)]; rfl

theorem routed_eq (c : Dev nD) (G : (b : Ref sig .tc) → Buf (Elt F) ((c : Thread nD τ).loc b)) :
    (Pipeline.routed R0 c G : sProp 𝕄)
      = iprop(pt c oY0 (G main_v0_0) ∗ pt c oY1 (G main_v0_1) ∗ pt c oCf0 (G main_v0_2) ∗ pt c oSf0 (G main_v0_3) ∗ pt c oCd0 (G main_v0_4) ∗ pt c oSd0 (G main_v0_5) ∗ pt c oCf1 (G main_v0_6) ∗ pt c oSf1 (G main_v0_7) ∗ pt c oCd1 (G main_v0_8) ∗ pt c oSd1 (G main_v0_9)) := by
  unfold Pipeline.routed
  rw [BI.bigSep_eq_bigSepL_of_eq [main_v0_0, main_v0_1, main_v0_2, main_v0_3, main_v0_4, main_v0_5, main_v0_6, main_v0_7, main_v0_8, main_v0_9] (by decide) (by decide)]; rfl

/-- What the body is handed, and what it hands back. -/
def PhiG (G : (c : Dev nD) → (b : Ref sig .tc) → Buf (Elt F) ((c : Thread nD τ).loc b)) (c : Dev nD) : sProp 𝕄 :=
  Pipeline.ΦDRG osem0 cfg0.spec H0 R0 (VD m) G c

theorem PhiG_eq (G : (c : Dev nD) → (b : Ref sig .tc) → Buf (Elt F) ((c : Thread nD τ).loc b)) (c : Dev nD) :
    PhiG m G c = iprop(bufs c ∗ (∃ r, prngReg c r) ∗ sems c
      ∗ argPts c (VD m c main_arg0) ⟨VD m c main_arg1, VD m c main_arg3, VD m c main_arg5⟩ (VD m c main_arg2) (VD m c main_arg4) (VD m c main_arg6) (VD m c main_arg7) (VD m c main_arg8)
      ∗ (pt c oY0 (G c main_v0_0) ∗ pt c oY1 (G c main_v0_1) ∗ pt c oCf0 (G c main_v0_2) ∗ pt c oSf0 (G c main_v0_3) ∗ pt c oCd0 (G c main_v0_4) ∗ pt c oSd0 (G c main_v0_5) ∗ pt c oCf1 (G c main_v0_6) ∗ pt c oSf1 (G c main_v0_7) ∗ pt c oCd1 (G c main_v0_8) ∗ pt c oSd1 (G c main_v0_9))) := by
  unfold PhiG
  rw [Pipeline.ΦDRG_eq, scopedRest0_eq, ownSems00_eq, argPts_eq, routed_eq]
  rfl

/-- The proof data of the one region: no window, the invariant as handed over before the body and as handed back after. -/
def datsD (_ : Fin 1) (c : Dev nD) : Dat τ (Elt F) Unit ℕ (Pipeline.UD sig nD τ) ℕ cfg0 c where
  A w := VD m c (Pipeline.arrRef cfg0.spec w)
  after w _ := w.elim0
  Φ t := PhiG m (if t.val = 0 then VD m else GD m) c
  q _ := fullShare
  owed _ := 0

theorem Phi_first (c : Dev nD) : (datsD m 0 c).Φ t0_0.castSucc = PhiG m (VD m) c := rfl
theorem Phi_last (c : Dev nD) : (datsD m 0 c).Φ t0_0.succ = PhiG m (GD m) c := rfl

set_option maxHeartbeats 4000000 in
/-- The body's post, with the generator register beside it, is what the invariant asks. -/
theorem handed_back (c : Dev nD) :
    iprop((argPts c (VD m c main_arg0) ⟨VD m c main_arg1, VD m c main_arg3, VD m c main_arg5⟩ (VD m c main_arg2) (VD m c main_arg4) (VD m c main_arg6) (VD m c main_arg7) (VD m c main_arg8)
        ∗ outDone c (VD m c main_arg0) ⟨VD m c main_arg1, VD m c main_arg3, VD m c main_arg5⟩ (VD m c main_arg2) (VD m c main_arg4) (VD m c main_arg6) (VD m c main_arg7) (VD m c main_arg8)
        ∗ bufs c ∗ sems c ∗ ∃ W, owes (c : Thread nD τ) 0 W) ∗ (∃ r, prngReg c r))
      ⊢ iprop((datsD m 0 c).Φ t0_0.succ ∗ (datsD m 0 c).owesAt () t0_0.succ) := by
  rw [Phi_last, PhiG_eq]
  unfold Dat.owesAt Pipeline.owesWithin outDone
  rw [show (datsD m 0 c).owed t0_0.succ = 0 from rfl,
    GD_0, GD_1, GD_2, GD_3, GD_4, GD_5, GD_6, GD_7, GD_8, GD_9]
  iintro ⟨⟨Ha, ⟨⟨Ho0, Ho2, Ho3, Ho4, Ho5⟩, ⟨Ho1, Ho6, Ho7, Ho8, Ho9⟩⟩, Hb, Hq, ⟨%W, HW⟩⟩, Hg⟩
  isplitl [Ha Ho0 Ho1 Ho2 Ho3 Ho4 Ho5 Ho6 Ho7 Ho8 Ho9 Hb Hq Hg]
  · isplitl [Hb]; · iexact Hb
    isplitl [Hg]; · iexact Hg
    isplitl [Hq]; · iexact Hq
    isplitl [Ha]; · iexact Ha
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    iexact Ho9
  iexists W; isplitr
  · ipureintro; exact fun _ _ => Or.inl trivial
  iexact HW

set_option maxHeartbeats 4000000 in
theorem sound_body (c : Dev nD) :
    iprop((datsD m 0 c).Φ t0_0.castSucc ∗ (datsD m 0 c).owesAt () t0_0.castSucc)
      ⊢ wp frame (wpE (defs₀ (F := F)) Variants.none c none) Set.univ (bodyAt0 t0_0)
        (fun _ => iprop((datsD m 0 c).Φ t0_0.succ ∗ (datsD m 0 c).owesAt () t0_0.succ)) := by
  have h : ∀ W, iprop((argPts c (VD m c main_arg0) ⟨VD m c main_arg1, VD m c main_arg3, VD m c main_arg5⟩ (VD m c main_arg2) (VD m c main_arg4) (VD m c main_arg6) (VD m c main_arg7) (VD m c main_arg8)
        ∗ outAny c ∗ bufs c ∗ sems c ∗ owes (c : Thread nD τ) 0 W) ∗ (∃ r, prngReg c r))
      ⊢ wp frame (wpE (defs₀ (F := F)) Variants.none c none) Set.univ (bodyAt0 t0_0)
        (fun _ => iprop((datsD m 0 c).Φ t0_0.succ ∗ (datsD m 0 c).owesAt () t0_0.succ)) := fun W =>
    (BIClass.sep_mono (body_run c _ _ _ _ _ _ _ W) BIBase.Entails.refl).trans
      (BIBase.Entails.trans (wp_frame_r _ _ _) (wp_mono _ _ _ fun _ => handed_back m c))
  generalize hQ : (fun _ : PUnit => iprop((datsD m 0 c).Φ t0_0.succ ∗ (datsD m 0 c).owesAt () t0_0.succ)) = Q at h ⊢
  rw [Phi_first, PhiG_eq]
  unfold Dat.owesAt Pipeline.owesWithin
  rw [show (datsD m 0 c).owed t0_0.castSucc = 0 from rfl]
  iintro ⟨⟨Hb, Hg, Hq, Ha, ⟨Ho0, Ho1, Ho2, Ho3, Ho4, Ho5, Ho6, Ho7, Ho8, Ho9⟩⟩, ⟨%W, -, HW⟩⟩
  iapply (h W)
  unfold outAny
  isplitr [Hg]
  · isplitl [Ha]; · iexact Ha
    isplitl [Ho0 Ho2 Ho3 Ho4 Ho5 Ho1 Ho6 Ho7 Ho8 Ho9]
    · isplitl [Ho0 Ho2 Ho3 Ho4 Ho5]
      · isplitl [Ho0]; · iexists _; iexact Ho0
        isplitl [Ho2]; · iexists _; iexact Ho2
        isplitl [Ho3]; · iexists _; iexact Ho3
        isplitl [Ho4]; · iexists _; iexact Ho4
        iexists _; iexact Ho5
      isplitl [Ho1]; · iexists _; iexact Ho1
      isplitl [Ho6]; · iexists _; iexact Ho6
      isplitl [Ho7]; · iexists _; iexact Ho7
      isplitl [Ho8]; · iexists _; iexact Ho8
      iexists _; iexact Ho9
    isplitl [Hb]; · iexact Hb
    isplitl [Hq]; · iexact Hq
    iexact HW
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (datsD (F := F) m 0 c) (defs₀ (F := F)) Variants.none () Set.univ := fun t => by
  obtain rfl := fin_N0 t
  rw [defs₀_row]
  have hu : (Finset.univ : Finset (Fin cfg0.W)) = ∅ := Finset.eq_empty_of_forall_notMem fun w _ => w.elim0
  rw [hu, bigSep_empty, bigSep_empty]
  refine BIBase.Entails.trans ?_ (BIBase.Entails.trans (sound_body m c) (wp_mono _ _ _ fun _ => ?_))
  · iintro ⟨H1, H2, -⟩
    isplitl [H1]; · iexact H1
    iexact H2
  iintro ⟨H1, H2⟩
  isplitl [H1]; · iexact H1
  isplitl [H2]; · iexact H2
  exact BIBase.Entails.refl

set_option backward.isDefEq.respectTransparency.types false in
/-- Every run ends with the results at their values, all other arrays as launched, and every counter at zero. -/
theorem run_main : θ_run defs (onTc (τ := τ) (main (F := F))) (s₀ m ρ)
    (fun r => Pipeline.FramePostRG cfgs (datsD m) 0 R0 (VD m) (GD m) r ∧ r.2.sem = fun _ => 0) :=
  Pipeline.θ_run_frame_dmaRG (Q' := _) cfgs (datsD m) (0 : Fin 1) launch0 osem0 defs₀ Variants.none ownSemFacts0 H0 R0 H0_sub R0_sub m ρ main
    (hbody := fun c => (body_obligation m c).loose) (hshare := fun c => (datsD m 0 c).share_full fun _ => rfl)
    (howed := fun _ _ => rfl) (V := VD m) (hmain := hmainD m Variants.none) (hA := fun _ _ => rfl) (G := GD m)
    (hin := fun _ => .rfl) (hout := fun _ => .rfl)

/-- The same, array by array. -/
theorem run_all : θ_run defs (onTc (τ := τ) (main (F := F))) ⟨m, fun _ => 0, ρ⟩ (fun r => (∀ c : Dev nD,
      (r.2.mem ((c.tc : Thread nD τ).loc main_v0_0) = yOf m c 0
      ∧ r.2.mem ((c.tc : Thread nD τ).loc main_v0_1) = yOf m c 1
      ∧ r.2.mem ((c.tc : Thread nD τ).loc main_v0_2) = cfOf m c 0
      ∧ r.2.mem ((c.tc : Thread nD τ).loc main_v0_3) = sfOf m c 0
      ∧ r.2.mem ((c.tc : Thread nD τ).loc main_v0_4) = cdOf m c 0
      ∧ r.2.mem ((c.tc : Thread nD τ).loc main_v0_5) = sdOf m c 0
      ∧ r.2.mem ((c.tc : Thread nD τ).loc main_v0_6) = cfOf m c 1
      ∧ r.2.mem ((c.tc : Thread nD τ).loc main_v0_7) = sfOf m c 1
      ∧ r.2.mem ((c.tc : Thread nD τ).loc main_v0_8) = cdOf m c 1
      ∧ r.2.mem ((c.tc : Thread nD τ).loc main_v0_9) = sdOf m c 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨⟨(h.1.2 c main_v0_0 (by decide)).trans (GD_0 m c),
      (h.1.2 c main_v0_1 (by decide)).trans (GD_1 m c),
      (h.1.2 c main_v0_2 (by decide)).trans (GD_2 m c),
      (h.1.2 c main_v0_3 (by decide)).trans (GD_3 m c),
      (h.1.2 c main_v0_4 (by decide)).trans (GD_4 m c),
      (h.1.2 c main_v0_5 (by decide)).trans (GD_5 m c),
      (h.1.2 c main_v0_6 (by decide)).trans (GD_6 m c),
      (h.1.2 c main_v0_7 (by decide)).trans (GD_7 m c),
      (h.1.2 c main_v0_8 (by decide)).trans (GD_8 m c),
      (h.1.2 c main_v0_9 (by decide)).trans (GD_9 m c)⟩,
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩),
      (h.1.1 c).2 main_arg4 (Finset.mem_sdiff.mpr ⟨Pipeline.mem_restRefs_of main_arg4 (by decide) (by decide), by decide⟩),
      (h.1.1 c).2 main_arg5 (Finset.mem_sdiff.mpr ⟨Pipeline.mem_restRefs_of main_arg5 (by decide) (by decide), by decide⟩),
      (h.1.1 c).2 main_arg6 (Finset.mem_sdiff.mpr ⟨Pipeline.mem_restRefs_of main_arg6 (by decide) (by decide), by decide⟩),
      (h.1.1 c).2 main_arg7 (Finset.mem_sdiff.mpr ⟨Pipeline.mem_restRefs_of main_arg7 (by decide) (by decide), by decide⟩),
      (h.1.1 c).2 main_arg8 (Finset.mem_sdiff.mpr ⟨Pipeline.mem_restRefs_of main_arg8 (by decide) (by decide), by decide⟩)⟩, h.2⟩) (run_main m ρ)

end Cert.KernelIdeal.Hand
end
-- ==== Proof.Values.lean ====
module

public import proofs.«01_k».proof.Proof.Gen.ReferenceIdeal.Value
public import proofs.«01_k».proof.Proof.RefSide
public import proofs.«01_k».proof.Proof.Ideal.KernSide
public import proofs.«01_k».proof.Proof.Ideal.Launch
@[expose] public section

set_option maxRecDepth 16000

noncomputable section

/-! ## The results of both programs, as arrays

Every result of the kernel and of the reference is the array of the mathematics' values, from the arguments' contents. -/

namespace Cert.Values

open Idealize.ShloMosaic Idealize.ShloMosaic.ValueIdx Idealize.ShloMosaic.TcCoe Idealize.SL.Sem Cert.Spec

section
variable (X : (⟨3, ![2, 48, 2560]⟩ : Shape).Idx → EReal) (N : (⟨2, ![2, 2560]⟩ : Shape).Idx → EReal)
  (WG WU : (⟨3, ![2, 2560, 10240]⟩ : Shape).Idx → BitVec 8) (G U : (⟨2, ![2, 10240]⟩ : Shape).Idx → EReal) (l : Fin 2)

/-- A layer's five results. -/
def cfV : (⟨2, ![48, 2560]⟩ : Shape).Idx → BitVec 8 := fun y => cfS X N l (y 0) (y 1)
def sfV : (⟨2, ![1, 48]⟩ : Shape).Idx → EReal := fun y => sfS X N l (y 1)
def cdV : (⟨2, ![48, 10240]⟩ : Shape).Idx → BitVec 8 := fun y => cdS X N WG WU G U l (y 0) (y 1)
def sdV : (⟨2, ![1, 48]⟩ : Shape).Idx → EReal := fun y => sdS X N WG WU G U l (y 1)
def yV (D M : (⟨2, ![2, 2560]⟩ : Shape).Idx → EReal) (WD : (⟨3, ![2, 10240, 2560]⟩ : Shape).Idx → BitVec 8) :
    (⟨2, ![48, 2560]⟩ : Shape).Idx → EReal := fun y => yS X N WG WU G U l D M WD (y 0) (y 1)
end

/-- An array of two axes from its elements. -/
theorem ext2 {α : Type} {a b : ℕ} {f g : (⟨2, ![a, b]⟩ : Shape).Idx → α} (h : ∀ p k, f (ix2 p k) = g (ix2 p k)) : f = g := by
  funext y; rw [eq_ix2 y]; exact h _ _

/-- An array of one row from its elements. -/
theorem ext1 {α : Type} {b : ℕ} {f g : (⟨2, ![1, b]⟩ : Shape).Idx → α} (h : ∀ p, f (ix2 (0 : Fin 1) p) = g (ix2 (0 : Fin 1) p)) : f = g := by
  refine ext2 fun p k => ?_
  rw [Subsingleton.elim p (0 : Fin 1)]; exact h k

/-! ### The kernel's -/

section
open Cert.KernelIdeal Cert.KernelIdeal.Hand
variable (X : S2x48x2560.Idx → EReal) (N : S2x2560.Idx → EReal) (G U : S2x10240.Idx → EReal) (WG WU : S2x2560x10240.Idx → BitVec 8) (l : Fin 2)

theorem cf_kern : cfA (F := Ideal) X N l = cfV X N l := ext2 fun p k => cfA_val X N l p k
theorem sf_kern : sfA (F := Ideal) X N l = sfV X N l := ext1 fun p => sfA_val X N l p
theorem cd_kern : cdA (F := Ideal) X N G U WG WU l = cdV X N WG WU G U l := ext2 fun p j => cdA_val X N G U WG WU l p j
theorem sd_kern : sdA (F := Ideal) X N G U WG WU l = sdV X N WG WU G U l := ext1 fun p => sdA_val X N G U WG WU l p
theorem y_kern (D M : S2x2560.Idx → EReal) (WD : S2x10240x2560.Idx → BitVec 8) :
    yA (F := Ideal) X N G U WG WU l D M WD = yV X N WG WU G U l D M WD := ext2 fun p k => yA_val X N G U WG WU l p D M WD k
end

/-! ### The reference's -/

section
open Cert.ReferenceIdeal Cert.ReferenceIdeal.Gen Cert.ReferenceIdeal.Hand Cert.ReferenceIdeal.Value
variable (X : Vec Ideal S2x48x2560 .f32) (G U : Vec Ideal S2x10240 .f32) (D N M : Vec Ideal S2x2560 .f32) (WG WU : Vec Ideal S2x2560x10240 .i8)
  (WD : Vec Ideal S2x10240x2560 .i8)

theorem y0_ref : G9 (F := Ideal) X G U D N M WG WU WD = yV X N WG WU G U 0 D M WD := ext2 fun p k => y0_val X G U D N M WG WU WD p k
theorem cf0_ref : G11 (F := Ideal) X G U D N M WG WU WD = cfV X N 0 := ext2 fun p k => cf0_val X G U D N M WG WU WD p k
theorem sf0_ref : G12 (F := Ideal) X G U D N M WG WU WD = sfV X N 0 := ext1 fun p => sf0_val X G U D N M WG WU WD p
theorem cd0_ref : G13 (F := Ideal) X G U D N M WG WU WD = cdV X N WG WU G U 0 := ext2 fun p j => cd0_val X G U D N M WG WU WD p j
theorem sd0_ref : G14 (F := Ideal) X G U D N M WG WU WD = sdV X N WG WU G U 0 := ext1 fun p => sd0_val X G U D N M WG WU WD p
theorem y1_ref : G10 (F := Ideal) X G U D N M WG WU WD = yV X N WG WU G U 1 D M WD := ext2 fun p k => y1_val X G U D N M WG WU WD p k
theorem cf1_ref : G15 (F := Ideal) X G U D N M WG WU WD = cfV X N 1 := ext2 fun p k => cf1_val X G U D N M WG WU WD p k
theorem sf1_ref : G16 (F := Ideal) X G U D N M WG WU WD = sfV X N 1 := ext1 fun p => sf1_val X G U D N M WG WU WD p
theorem cd1_ref : G17 (F := Ideal) X G U D N M WG WU WD = cdV X N WG WU G U 1 := ext2 fun p j => cd1_val X G U D N M WG WU WD p j
theorem sd1_ref : G18 (F := Ideal) X G U D N M WG WU WD = sdV X N WG WU G U 1 := ext1 fun p => sd1_val X G U D N M WG WU WD p
end

end Cert.Values
end
-- ==== Proof.lean ====
/- The claims: the kernel, its idealization and the reference run, leave their arguments and end with every counter at zero;
   the idealized kernel and the reference end with the same results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

public import proofs.«01_k».proof.Proof.Launch
public import proofs.«01_k».proof.Proof.Values
@[expose] public section

noncomputable section

namespace Cert.Proof

open Idealize.ShloMosaic Idealize.ShloMosaic.TcCoe Idealize.SL.Sem Cert.Values

/-- The kernel's frame. -/
theorem frame_kernel : quiescent_Kernel := fun m g _ =>
  (θ_run _ _ _).mono (fun r h => ⟨fun c => (h.1 c).2, h.2⟩) (Cert.Kernel.Hand.run_all (F := Bits) m g)

/-- The idealized kernel's frame. -/
theorem frame_ideal : quiescent_KernelIdeal := fun m g _ =>
  (θ_run _ _ _).mono (fun r h => ⟨fun c => (h.1 c).2, h.2⟩) (Cert.KernelIdeal.Hand.run_all (F := Ideal) m g)

/-- The reference's frame. -/
theorem frame_reference : quiescent_ReferenceIdeal := fun m g _ => Cert.ReferenceIdeal.Gen.frame (F := Ideal) m g

/-- The kernel and the reference end with the same results. -/
theorem algebraic : algebraic_KernelIdeal_ReferenceIdeal := fun m g m' g' _ hm => by
  refine ⟨fun c => yV (m ((c.tc : Thread Cert.KernelIdeal.nD Cert.KernelIdeal.τ).loc Cert.KernelIdeal.main_arg0)) (m (c.tc.loc Cert.KernelIdeal.main_arg7)) (m (c.tc.loc Cert.KernelIdeal.main_arg1)) (m (c.tc.loc Cert.KernelIdeal.main_arg3)) (m (c.tc.loc Cert.KernelIdeal.main_arg2)) (m (c.tc.loc Cert.KernelIdeal.main_arg4)) 0 (m (c.tc.loc Cert.KernelIdeal.main_arg6)) (m (c.tc.loc Cert.KernelIdeal.main_arg8)) (m (c.tc.loc Cert.KernelIdeal.main_arg5)),
    fun c => yV (m (c.tc.loc Cert.KernelIdeal.main_arg0)) (m (c.tc.loc Cert.KernelIdeal.main_arg7)) (m (c.tc.loc Cert.KernelIdeal.main_arg1)) (m (c.tc.loc Cert.KernelIdeal.main_arg3)) (m (c.tc.loc Cert.KernelIdeal.main_arg2)) (m (c.tc.loc Cert.KernelIdeal.main_arg4)) 1 (m (c.tc.loc Cert.KernelIdeal.main_arg6)) (m (c.tc.loc Cert.KernelIdeal.main_arg8)) (m (c.tc.loc Cert.KernelIdeal.main_arg5)),
    fun c => cfV (m (c.tc.loc Cert.KernelIdeal.main_arg0)) (m (c.tc.loc Cert.KernelIdeal.main_arg7)) 0,
    fun c => sfV (m (c.tc.loc Cert.KernelIdeal.main_arg0)) (m (c.tc.loc Cert.KernelIdeal.main_arg7)) 0,
    fun c => cdV (m (c.tc.loc Cert.KernelIdeal.main_arg0)) (m (c.tc.loc Cert.KernelIdeal.main_arg7)) (m (c.tc.loc Cert.KernelIdeal.main_arg1)) (m (c.tc.loc Cert.KernelIdeal.main_arg3)) (m (c.tc.loc Cert.KernelIdeal.main_arg2)) (m (c.tc.loc Cert.KernelIdeal.main_arg4)) 0,
    fun c => sdV (m (c.tc.loc Cert.KernelIdeal.main_arg0)) (m (c.tc.loc Cert.KernelIdeal.main_arg7)) (m (c.tc.loc Cert.KernelIdeal.main_arg1)) (m (c.tc.loc Cert.KernelIdeal.main_arg3)) (m (c.tc.loc Cert.KernelIdeal.main_arg2)) (m (c.tc.loc Cert.KernelIdeal.main_arg4)) 0,
    fun c => cfV (m (c.tc.loc Cert.KernelIdeal.main_arg0)) (m (c.tc.loc Cert.KernelIdeal.main_arg7)) 1,
    fun c => sfV (m (c.tc.loc Cert.KernelIdeal.main_arg0)) (m (c.tc.loc Cert.KernelIdeal.main_arg7)) 1,
    fun c => cdV (m (c.tc.loc Cert.KernelIdeal.main_arg0)) (m (c.tc.loc Cert.KernelIdeal.main_arg7)) (m (c.tc.loc Cert.KernelIdeal.main_arg1)) (m (c.tc.loc Cert.KernelIdeal.main_arg3)) (m (c.tc.loc Cert.KernelIdeal.main_arg2)) (m (c.tc.loc Cert.KernelIdeal.main_arg4)) 1,
    fun c => sdV (m (c.tc.loc Cert.KernelIdeal.main_arg0)) (m (c.tc.loc Cert.KernelIdeal.main_arg7)) (m (c.tc.loc Cert.KernelIdeal.main_arg1)) (m (c.tc.loc Cert.KernelIdeal.main_arg3)) (m (c.tc.loc Cert.KernelIdeal.main_arg2)) (m (c.tc.loc Cert.KernelIdeal.main_arg4)) 1, ?_, ?_⟩
  · refine (θ_run _ _ _).mono (fun r h c => ?_) (Cert.KernelIdeal.Hand.run_all (F := Ideal) m g)
    obtain ⟨⟨h0, h1, h2, h3, h4, h5, h6, h7, h8, h9⟩, hargs⟩ := h.1 c
    exact ⟨h0.trans (y_kern _ _ _ _ _ _ 0 _ _ _),
      h1.trans (y_kern _ _ _ _ _ _ 1 _ _ _),
      h2.trans (cf_kern _ _ 0),
      h3.trans (sf_kern _ _ 0),
      h4.trans (cd_kern _ _ _ _ _ _ 0),
      h5.trans (sd_kern _ _ _ _ _ _ 0),
      h6.trans (cf_kern _ _ 1),
      h7.trans (sf_kern _ _ 1),
      h8.trans (cd_kern _ _ _ _ _ _ 1),
      h9.trans (sd_kern _ _ _ _ _ _ 1), hargs⟩
  · refine (θ_run _ _ _).mono (fun r h c => ?_) (Cert.ReferenceIdeal.Value.run (F := Ideal) m' g')
    obtain ⟨h0, h1, h2, h3, h4, h5, h6, h7, h8, h9, hargs⟩ := h c
    obtain ⟨e0, e1, e2, e3, e4, e5, e6, e7, e8⟩ := hm c
    rw [e0, e1, e2, e3, e4, e5, e6, e7, e8] at h0 h1 h2 h3 h4 h5 h6 h7 h8 h9
    exact ⟨h0.trans (y0_ref _ _ _ _ _ _ _ _ _),
      h1.trans (y1_ref _ _ _ _ _ _ _ _ _),
      h2.trans (cf0_ref _ _ _ _ _ _ _ _ _),
      h3.trans (sf0_ref _ _ _ _ _ _ _ _ _),
      h4.trans (cd0_ref _ _ _ _ _ _ _ _ _),
      h5.trans (sd0_ref _ _ _ _ _ _ _ _ _),
      h6.trans (cf1_ref _ _ _ _ _ _ _ _ _),
      h7.trans (sf1_ref _ _ _ _ _ _ _ _ _),
      h8.trans (cd1_ref _ _ _ _ _ _ _ _ _),
      h9.trans (sd1_ref _ _ _ _ _ _ _ _ _), hargs⟩

theorem claim : Cert.Claim := ⟨Cert.Kernel.Gen.facts, Cert.KernelIdeal.Gen.facts, Cert.ReferenceIdeal.Gen.facts,
  frame_kernel, frame_ideal, frame_reference, trivial, algebraic⟩

end Cert.Proof

end
